-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v136)) (v1 : (c : Dev Cert.KernelIdeal.nD) → Buf (Elt Ideal) ((c.tc : Thread Cert.KernelIdeal.nD Cert.KernelIdeal.τ).loc Cert.KernelIdeal.main_v138)) (v2 : (c : Dev Cert.KernelIdeal.nD) → Buf (Elt Ideal) ((c.tc : Thread Cert.KernelIdeal.nD Cert.KernelIdeal.τ).loc Cert.KernelIdeal.main_v140)) (v3 : (c : Dev Cert.KernelIdeal.nD) → Buf (Elt Ideal) ((c.tc : Thread Cert.KernelIdeal.nD Cert.KernelIdeal.τ).loc Cert.KernelIdeal.main_v148)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136) = v0 c
          ∧ r.2.mem ((c.tc : Thread Cert.KernelIdeal.nD Cert.KernelIdeal.τ).loc Cert.KernelIdeal.main_v138) = v1 c
          ∧ r.2.mem ((c.tc : Thread Cert.KernelIdeal.nD Cert.KernelIdeal.τ).loc Cert.KernelIdeal.main_v140) = v2 c
          ∧ r.2.mem ((c.tc : Thread Cert.KernelIdeal.nD Cert.KernelIdeal.τ).loc Cert.KernelIdeal.main_v148) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v20)) (v1 : (c : Dev Cert.Kernel2Ideal.nD) → Buf (Elt Ideal) ((c.tc : Thread Cert.Kernel2Ideal.nD Cert.Kernel2Ideal.τ).loc Cert.Kernel2Ideal.main_v21)) (v2 : (c : Dev Cert.Kernel2Ideal.nD) → Buf (Elt Ideal) ((c.tc : Thread Cert.Kernel2Ideal.nD Cert.Kernel2Ideal.τ).loc Cert.Kernel2Ideal.main_v22)) (v3 : (c : Dev Cert.Kernel2Ideal.nD) → Buf (Elt Ideal) ((c.tc : Thread Cert.Kernel2Ideal.nD Cert.Kernel2Ideal.τ).loc Cert.Kernel2Ideal.main_v23)) (v4 : (c : Dev Cert.Kernel2Ideal.nD) → Buf (Elt Ideal) ((c.tc : Thread Cert.Kernel2Ideal.nD Cert.Kernel2Ideal.τ).loc Cert.Kernel2Ideal.main_v25)) (v5 : (c : Dev Cert.Kernel2Ideal.nD) → Buf (Elt Ideal) ((c.tc : Thread Cert.Kernel2Ideal.nD Cert.Kernel2Ideal.τ).loc Cert.Kernel2Ideal.main_v26)) (v6 : (c : Dev Cert.Kernel2Ideal.nD) → Buf (Elt Ideal) ((c.tc : Thread Cert.Kernel2Ideal.nD Cert.Kernel2Ideal.τ).loc Cert.Kernel2Ideal.main_v27)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_v21) = v1 c
          ∧ r.2.mem ((c.tc : Thread Cert.Kernel2Ideal.nD Cert.Kernel2Ideal.τ).loc Cert.Kernel2Ideal.main_v22) = v2 c
          ∧ r.2.mem ((c.tc : Thread Cert.Kernel2Ideal.nD Cert.Kernel2Ideal.τ).loc Cert.Kernel2Ideal.main_v23) = v3 c
          ∧ r.2.mem ((c.tc : Thread Cert.Kernel2Ideal.nD Cert.Kernel2Ideal.τ).loc Cert.Kernel2Ideal.main_v25) = v4 c
          ∧ r.2.mem ((c.tc : Thread Cert.Kernel2Ideal.nD Cert.Kernel2Ideal.τ).loc Cert.Kernel2Ideal.main_v26) = v5 c
          ∧ r.2.mem ((c.tc : Thread Cert.Kernel2Ideal.nD Cert.Kernel2Ideal.τ).loc Cert.Kernel2Ideal.main_v27) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_v25) = v2 c
          ∧ r.2.mem ((c.tc : Thread Cert.Reference2Ideal.nD Cert.Reference2Ideal.τ).loc Cert.Reference2Ideal.main_v29) = v3 c
          ∧ r.2.mem ((c.tc : Thread Cert.Reference2Ideal.nD Cert.Reference2Ideal.τ).loc Cert.Reference2Ideal.main_v30) = v4 c
          ∧ r.2.mem ((c.tc : Thread Cert.Reference2Ideal.nD Cert.Reference2Ideal.τ).loc Cert.Reference2Ideal.main_v27) = v5 c
          ∧ r.2.mem ((c.tc : Thread Cert.Reference2Ideal.nD Cert.Reference2Ideal.τ).loc Cert.Reference2Ideal.main_v24) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "mask" .f32 0xF149F2CA#32 ⊥

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v67)) (v1 : (c : Dev Cert.Kernel3Ideal.nD) → Buf (Elt Ideal) ((c.tc : Thread Cert.Kernel3Ideal.nD Cert.Kernel3Ideal.τ).loc Cert.Kernel3Ideal.main_v69)) (v2 : (c : Dev Cert.Kernel3Ideal.nD) → Buf (Elt Ideal) ((c.tc : Thread Cert.Kernel3Ideal.nD Cert.Kernel3Ideal.τ).loc Cert.Kernel3Ideal.main_v73)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v67) = v0 c
          ∧ r.2.mem ((c.tc : Thread Cert.Kernel3Ideal.nD Cert.Kernel3Ideal.τ).loc Cert.Kernel3Ideal.main_v69) = v1 c
          ∧ r.2.mem ((c.tc : Thread Cert.Kernel3Ideal.nD Cert.Kernel3Ideal.τ).loc Cert.Kernel3Ideal.main_v73) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_v60) = v1 c
          ∧ r.2.mem ((c.tc : Thread Cert.Reference3Ideal.nD Cert.Reference3Ideal.τ).loc Cert.Reference3Ideal.main_v58) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S1x8x4096x64 : Shape := ⟨4, ![1, 8, 4096, 64]⟩
abbrev S1x8x4096 : Shape := ⟨3, ![1, 8, 4096]⟩
abbrev S_ : Shape := ⟨0, ![]⟩
abbrev S1x8x4096x1 : Shape := ⟨4, ![1, 8, 4096, 1]⟩

class Facts : Prop where
  bcast_S_S1x8x4096x64 : S_.BroadcastsInDim S1x8x4096x64 (![] : Fin 0 → Fin S1x8x4096x64.rank)
  bcast_S_S1x8x4096 : S_.BroadcastsInDim S1x8x4096 (![] : Fin 0 → Fin S1x8x4096.rank)
  bcast_S1x8x4096_S1x8x4096x1_0_1_2 : S1x8x4096.BroadcastsInDim S1x8x4096x1 (![0, 1, 2] : Fin 3 → Fin S1x8x4096x1.rank)
  bcast_S1x8x4096x1_S1x8x4096x64_0_1_2_3 : S1x8x4096x1.BroadcastsInDim S1x8x4096x64 (![0, 1, 2, 3] : Fin 4 → Fin S1x8x4096x64.rank)

variable [Facts]

def fn_part1 {F : FTy → Type} [FloatOps F] (main_v14 : IVec S1x8x4096x64 1) (main_v18 : IVec S1x8x4096x1 1) : IVec S1x8x4096x64 1 :=
  let main_v19 : IVec S1x8x4096x64 1 := broadcastInDim S1x8x4096x64 ![0, 1, 2, 3] bcast_S1x8x4096x1_S1x8x4096x64_0_1_2_3 main_v18
  let main_v20 : IVec S1x8x4096x64 1 := andi main_v14 main_v19
  main_v20

def fn {F : FTy → Type} [FloatOps F] (main_arg0 : FVec F S1x8x4096x64 .f32) (main_arg1 : FVec F S1x8x4096x64 .f32) (main_arg2 : FVec F S1x8x4096x64 .f32) (main_arg3 : FVec F S1x8x4096 .f32) (main_arg4 : FVec F S1x8x4096x64 .f32) : IVec S1x8x4096x64 1 :=
  let main_v0 : FVec F S1x8x4096x64 .f32 := Host.absf main_arg0
  let main_cst : FVec F S_ .f32 := constant S_ .f32 0x7F800000#32
  let main_v1 : FVec F S1x8x4096x64 .f32 := broadcastInDim S1x8x4096x64 ![] bcast_S_S1x8x4096x64 main_cst
  let main_v2 : IVec S1x8x4096x64 1 := cmpf .olt main_v0 main_v1
  let main_v3 : FVec F S1x8x4096x64 .f32 := Host.absf main_arg1
  let main_cst_0 : FVec F S_ .f32 := constant S_ .f32 0x7F800000#32
  let main_v4 : FVec F S1x8x4096x64 .f32 := broadcastInDim S1x8x4096x64 ![] bcast_S_S1x8x4096x64 main_cst_0
  let main_v5 : IVec S1x8x4096x64 1 := cmpf .olt main_v3 main_v4
  let main_v6 : IVec S1x8x4096x64 1 := andi main_v2 main_v5
  let main_v7 : FVec F S1x8x4096x64 .f32 := Host.absf main_arg2
  let main_cst_1 : FVec F S_ .f32 := constant S_ .f32 0x7F800000#32
  let main_v8 : FVec F S1x8x4096x64 .f32 := broadcastInDim S1x8x4096x64 ![] bcast_S_S1x8x4096x64 main_cst_1
  let main_v9 : IVec S1x8x4096x64 1 := cmpf .olt main_v7 main_v8
  let main_v10 : IVec S1x8x4096x64 1 := andi main_v6 main_v9
  let main_v11 : FVec F S1x8x4096x64 .f32 := Host.absf main_arg4
  let main_cst_2 : FVec F S_ .f32 := constant S_ .f32 0x7F800000#32
  let main_v12 : FVec F S1x8x4096x64 .f32 := broadcastInDim S1x8x4096x64 ![] bcast_S_S1x8x4096x64 main_cst_2
  let main_v13 : IVec S1x8x4096x64 1 := cmpf .olt main_v11 main_v12
  let main_v14 : IVec S1x8x4096x64 1 := andi main_v10 main_v13
  let main_v15 : FVec F S1x8x4096 .f32 := Host.absf main_arg3
  let main_cst_3 : FVec F S_ .f32 := constant S_ .f32 0x7F800000#32
  let main_v16 : FVec F S1x8x4096 .f32 := broadcastInDim S1x8x4096 ![] bcast_S_S1x8x4096 main_cst_3
  let main_v17 : IVec S1x8x4096 1 := cmpf .olt main_v15 main_v16
  let main_v18 : IVec S1x8x4096x1 1 := broadcastInDim S1x8x4096x1 ![0, 1, 2] bcast_S1x8x4096_S1x8x4096x1_0_1_2 main_v17
  fn_part1 (F := F) main_v14 main_v18
-- ==== Pre_finite2.lean ====
abbrev S1x4096x1024 : Shape := ⟨3, ![1, 4096, 1024]⟩
abbrev S1x4096x256 : Shape := ⟨3, ![1, 4096, 256]⟩
abbrev S1x4096x512 : Shape := ⟨3, ![1, 4096, 512]⟩
abbrev S1x1024x1024 : Shape := ⟨3, ![1, 1024, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x4096x256 : S_.BroadcastsInDim S1x4096x256 (![] : Fin 0 → Fin S1x4096x256.rank)
  reducesTo_S1x4096x256_S_d0_1_2 : S1x4096x256.ReducesTo [0, 1, 2] S_
  bcast_S_S1x4096x512 : S_.BroadcastsInDim S1x4096x512 (![] : Fin 0 → Fin S1x4096x512.rank)
  reducesTo_S1x4096x512_S_d0_1_2 : S1x4096x512.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part1 {F : FTy → Type} [FloatOps F] (main_arg4 : FVec F S1x4096x256 .f32) (main_arg5 : FVec F S1x1024x1024 .f32) (main_arg6 : FVec F S1x4096x1024 .f32) (main_v13 : IVec S_ 1) (main_v16 : IVec S1x4096x512 1) : IVec S_ 1 :=
  let main_c_5 : IVec S_ 1 := constantI S_ 1 1#1
  let main_v17 : IVec S_ 1 := (fun x v => Host.reduce IntOp.andi x v reducesTo_S1x4096x512_S_d0_1_2 h_S_) main_v16 main_c_5
  let main_v18 : IVec S_ 1 := andi main_v13 main_v17
  let main_v19 : FVec F S1x4096x256 .f32 := Host.absf main_arg4
  let main_cst_6 : FVec F S_ .f32 := constant S_ .f32 0x7F800000#32
  let main_v20 : FVec F S1x4096x256 .f32 := broadcastInDim S1x4096x256 ![] bcast_S_S1x4096x256 main_cst_6
  let main_v21 : IVec S1x4096x256 1 := cmpf .olt main_v19 main_v20
  let main_c_7 : IVec S_ 1 := constantI S_ 1 1#1
  let main_v22 : IVec S_ 1 := (fun x v => Host.reduce IntOp.andi x v reducesTo_S1x4096x256_S_d0_1_2 h_S_) main_v21 main_c_7
  let main_v23 : IVec S_ 1 := andi main_v18 main_v22
  let main_v24 : FVec F S1x1024x1024 .f32 := Host.absf main_arg5
  let main_cst_8 : FVec F S_ .f32 := constant S_ .f32 0x7F800000#32
  let main_v25 : FVec F S1x1024x1024 .f32 := broadcastInDim S1x1024x1024 ![] bcast_S_S1x1024x1024 main_cst_8
  let main_v26 : IVec S1x1024x1024 1 := cmpf .olt main_v24 main_v25
  let main_c_9 : IVec S_ 1 := constantI S_ 1 1#1
  let main_v27 : IVec S_ 1 := (fun x v => Host.reduce IntOp.andi x v reducesTo_S1x1024x1024_S_d0_1_2 h_S_) main_v26 main_c_9
  let main_v28 : IVec S_ 1 := andi main_v23 main_v27
  let main_v29 : FVec F S1x4096x1024 .f32 := Host.absf main_arg6
  let main_cst_10 : FVec F S_ .f32 := constant S_ .f32 0x7F800000#32
  let main_v30 : FVec F S1x4096x1024 .f32 := broadcastInDim S1x4096x1024 ![] bcast_S_S1x4096x1024 main_cst_10
  let main_v31 : IVec S1x4096x1024 1 := cmpf .olt main_v29 main_v30
  let main_c_11 : IVec S_ 1 := constantI S_ 1 1#1
  let main_v32 : IVec S_ 1 := (fun x v => Host.reduce IntOp.andi x v reducesTo_S1x4096x1024_S_d0_1_2 h_S_) main_v31 main_c_11
  let main_v33 : IVec S_ 1 := andi main_v28 main_v32
  main_v33

def fn {F : FTy → Type} [FloatOps F] (main_arg0 : FVec F S1x4096x1024 .f32) (main_arg1 : FVec F S1x4096x256 .f32) (main_arg2 : FVec F S1x4096x512 .f32) (main_arg3 : FVec F S1x4096x512 .f32) (main_arg4 : FVec F S1x4096x256 .f32) (main_arg5 : FVec F S1x1024x1024 .f32) (main_arg6 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x4096x256 .f32 := Host.absf main_arg1
  let main_cst_0 : FVec F S_ .f32 := constant S_ .f32 0x7F800000#32
  let main_v5 : FVec F S1x4096x256 .f32 := broadcastInDim S1x4096x256 ![] bcast_S_S1x4096x256 main_cst_0
  let main_v6 : IVec S1x4096x256 1 := cmpf .olt main_v4 main_v5
  let main_c_1 : IVec S_ 1 := constantI S_ 1 1#1
  let main_v7 : IVec S_ 1 := (fun x v => Host.reduce IntOp.andi x v reducesTo_S1x4096x256_S_d0_1_2 h_S_) main_v6 main_c_1
  let main_v8 : IVec S_ 1 := andi main_v3 main_v7
  let main_v9 : FVec F S1x4096x512 .f32 := Host.absf main_arg2
  let main_cst_2 : FVec F S_ .f32 := constant S_ .f32 0x7F800000#32
  let main_v10 : FVec F S1x4096x512 .f32 := broadcastInDim S1x4096x512 ![] bcast_S_S1x4096x512 main_cst_2
  let main_v11 : IVec S1x4096x512 1 := cmpf .olt main_v9 main_v10
  let main_c_3 : IVec S_ 1 := constantI S_ 1 1#1
  let main_v12 : IVec S_ 1 := (fun x v => Host.reduce IntOp.andi x v reducesTo_S1x4096x512_S_d0_1_2 h_S_) main_v11 main_c_3
  let main_v13 : IVec S_ 1 := andi main_v8 main_v12
  let main_v14 : FVec F S1x4096x512 .f32 := Host.absf main_arg3
  let main_cst_4 : FVec F S_ .f32 := constant S_ .f32 0x7F800000#32
  let main_v15 : FVec F S1x4096x512 .f32 := broadcastInDim S1x4096x512 ![] bcast_S_S1x4096x512 main_cst_4
  let main_v16 : IVec S1x4096x512 1 := cmpf .olt main_v14 main_v15
  fn_part1 (F := F) main_arg4 main_arg5 main_arg6 main_v13 main_v16
-- ==== Pre_finite3.lean ====
abbrev S1x8x4096x64 : Shape := ⟨4, ![1, 8, 4096, 64]⟩
abbrev S1x8x4096 : Shape := ⟨3, ![1, 8, 4096]⟩
abbrev S1x4096x512 : Shape := ⟨3, ![1, 4096, 512]⟩
abbrev S_ : Shape := ⟨0, ![]⟩

class Facts : Prop where
  bcast_S_S1x8x4096x64 : S_.BroadcastsInDim S1x8x4096x64 (![] : Fin 0 → Fin S1x8x4096x64.rank)
  reducesTo_S1x8x4096x64_S_d0_1_2_3 : S1x8x4096x64.ReducesTo [0, 1, 2, 3] S_
  h_S_ : 0 < S_.numel
  bcast_S_S1x8x4096 : S_.BroadcastsInDim S1x8x4096 (![] : Fin 0 → Fin S1x8x4096.rank)
  reducesTo_S1x8x4096_S_d0_1_2 : S1x8x4096.ReducesTo [0, 1, 2] S_

variable [Facts]

def fn_part1 {F : FTy → Type} [FloatOps F] (main_v13 : IVec S_ 1) (main_v16 : IVec S1x8x4096 1) : IVec S_ 1 :=
  let main_c_5 : IVec S_ 1 := constantI S_ 1 1#1
  let main_v17 : IVec S_ 1 := (fun x v => Host.reduce IntOp.andi x v reducesTo_S1x8x4096_S_d0_1_2 h_S_) main_v16 main_c_5
  let main_v18 : IVec S_ 1 := andi main_v13 main_v17
  main_v18

def fn {F : FTy → Type} [FloatOps F] (main_arg0 : FVec F S1x8x4096x64 .f32) (main_arg1 : FVec F S1x8x4096x64 .f32) (main_arg2 : FVec F S1x8x4096x64 .f32) (main_arg3 : FVec F S1x8x4096 .f32) (main_arg4 : FVec F S1x4096x512 .f32) : IVec S_ 1 :=
  let main_v0 : FVec F S1x8x4096x64 .f32 := Host.absf main_arg0
  let main_cst : FVec F S_ .f32 := constant S_ .f32 0x7F800000#32
  let main_v1 : FVec F S1x8x4096x64 .f32 := broadcastInDim S1x8x4096x64 ![] bcast_S_S1x8x4096x64 main_cst
  let main_v2 : IVec S1x8x4096x64 1 := cmpf .olt main_v0 main_v1
  let main_c : IVec S_ 1 := constantI S_ 1 1#1
  let main_v3 : IVec S_ 1 := (fun x v => Host.reduce IntOp.andi x v reducesTo_S1x8x4096x64_S_d0_1_2_3 h_S_) main_v2 main_c
  let main_v4 : FVec F S1x8x4096x64 .f32 := Host.absf main_arg1
  let main_cst_0 : FVec F S_ .f32 := constant S_ .f32 0x7F800000#32
  let main_v5 : FVec F S1x8x4096x64 .f32 := broadcastInDim S1x8x4096x64 ![] bcast_S_S1x8x4096x64 main_cst_0
  let main_v6 : IVec S1x8x4096x64 1 := cmpf .olt main_v4 main_v5
  let main_c_1 : IVec S_ 1 := constantI S_ 1 1#1
  let main_v7 : IVec S_ 1 := (fun x v => Host.reduce IntOp.andi x v reducesTo_S1x8x4096x64_S_d0_1_2_3 h_S_) main_v6 main_c_1
  let main_v8 : IVec S_ 1 := andi main_v3 main_v7
  let main_v9 : FVec F S1x8x4096x64 .f32 := Host.absf main_arg2
  let main_cst_2 : FVec F S_ .f32 := constant S_ .f32 0x7F800000#32
  let main_v10 : FVec F S1x8x4096x64 .f32 := broadcastInDim S1x8x4096x64 ![] bcast_S_S1x8x4096x64 main_cst_2
  let main_v11 : IVec S1x8x4096x64 1 := cmpf .olt main_v9 main_v10
  let main_c_3 : IVec S_ 1 := constantI S_ 1 1#1
  let main_v12 : IVec S_ 1 := (fun x v => Host.reduce IntOp.andi x v reducesTo_S1x8x4096x64_S_d0_1_2_3 h_S_) main_v11 main_c_3
  let main_v13 : IVec S_ 1 := andi main_v8 main_v12
  let main_v14 : FVec F S1x8x4096 .f32 := Host.absf main_arg3
  let main_cst_4 : FVec F S_ .f32 := constant S_ .f32 0x7F800000#32
  let main_v15 : FVec F S1x8x4096 .f32 := broadcastInDim S1x8x4096 ![] bcast_S_S1x8x4096 main_cst_4
  let main_v16 : IVec S1x8x4096 1 := cmpf .olt main_v14 main_v15
  fn_part1 (F := F) main_v13 main_v16
-- ==== Kernel.lean ====
abbrev S1x8x4096x64 : Shape := ⟨4, ![1, 8, 4096, 64]⟩
abbrev S1x8x4096 : Shape := ⟨3, ![1, 8, 4096]⟩
abbrev S8x4096x64 : Shape := ⟨3, ![8, 4096, 64]⟩
abbrev S8x4096 : Shape := ⟨2, ![8, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x4096 : Shape := ⟨3, ![8, 4096, 4096]⟩
abbrev S8x1x4096 : Shape := ⟨3, ![8, 1, 4096]⟩
abbrev S8x4096x1 : Shape := ⟨3, ![8, 4096, 1]⟩
abbrev S8x4096x128 : Shape := ⟨3, ![8, 4096, 128]⟩
abbrev S4096x8x128 : Shape := ⟨3, ![4096, 8, 128]⟩
abbrev S4096x1024 : Shape := ⟨2, ![4096, 1024]⟩
abbrev S4x2x8x512 : Shape := ⟨4, ![4, 2, 8, 512]⟩
abbrev S4x8x2x512 : Shape := ⟨4, ![4, 8, 2, 512]⟩
abbrev S4x8x8x512 : Shape := ⟨4, ![4, 8, 8, 512]⟩
abbrev S512x512 : Shape := ⟨2, ![512, 512]⟩
abbrev S4096x512 : Shape := ⟨2, ![4096, 512]⟩
abbrev S2x8x8x512 : Shape := ⟨4, ![2, 8, 8, 512]⟩
abbrev S512x128 : Shape := ⟨2, ![512, 128]⟩
abbrev S1x1x1x512 : Shape := ⟨4, ![1, 1, 1, 512]⟩
abbrev S1x512 : Shape := ⟨2, ![1, 512]⟩
abbrev S4096x128 : Shape := ⟨2, ![4096, 128]⟩
abbrev S4096x8 : Shape := ⟨2, ![4096, 8]⟩

abbrev nBuf : Space → Nat
  | .hbm => 219
  | .vmem => 16
  | .smem => 0
  | _ => 0

abbrev hbmTy0_0 (i : Nat) : BufTy := match i % 128 with
  | 0 => ⟨S1x8x4096x64, .f32⟩
  | 1 => ⟨S1x8x4096x64, .f32⟩
  | 2 => ⟨S1x8x4096x64, .f32⟩
  | 3 => ⟨S1x8x4096, .f32⟩
  | 4 => ⟨S1x8x4096x64, .f32⟩
  | 5 => ⟨S8x4096x64, .f32⟩
  | 6 => ⟨S8x4096x64, .f32⟩
  | 7 => ⟨S8x4096x64, .f32⟩
  | 8 => ⟨S8x4096, .f32⟩
  | 9 => ⟨S8x4096x64, .f32⟩
  | 10 => ⟨S_, .f32⟩
  | 11 => ⟨S_, .f32⟩
  | 12 => ⟨S8x4096, .f32⟩
  | 13 => ⟨S4096, .i32⟩
  | 14 => ⟨S1x4096, .i32⟩
  | 15 => ⟨S4096, .i32⟩
  | 16 => ⟨S4096x1, .i32⟩
  | 17 => ⟨S4096x4096, .i32⟩
  | 18 => ⟨S4096x4096, .i32⟩
  | 19 => ⟨S4096x4096, .i1⟩
  | 20 => ⟨S8x4096x4096, .f32⟩
  | 21 => ⟨S_, .f32⟩
  | 22 => ⟨S8x4096x4096, .f32⟩
  | 23 => ⟨S8x4096x4096, .f32⟩
  | 24 => ⟨S8x1x4096, .f32⟩
  | 25 => ⟨S8x4096x4096, .f32⟩
  | 26 => ⟨S8x4096x4096, .f32⟩
  | 27 => ⟨S_, .f32⟩
  | 28 => ⟨S_, .f32⟩
  | 29 => ⟨S8x4096x4096, .i1⟩
  | 30 => ⟨S8x4096x4096, .f32⟩
  | 31 => ⟨S8x4096x4096, .f32⟩
  | 32 => ⟨S_, .f32⟩
  | 33 => ⟨S8x4096, .f32⟩
  | 34 => ⟨S8x4096x1, .f32⟩
  | 35 => ⟨S8x4096x4096, .f32⟩
  | 36 => ⟨S8x4096x4096, .f32⟩
  | 37 => ⟨S8x4096x4096, .f32⟩
  | 38 => ⟨S_, .f32⟩
  | 39 => ⟨S8x4096, .f32⟩
  | 40 => ⟨S8x4096x1, .f32⟩
  | 41 => ⟨S8x4096x4096, .f32⟩
  | 42 => ⟨S8x4096x4096, .f32⟩
  | 43 => ⟨S8x4096x64, .f32⟩
  | 44 => ⟨S8x4096x1, .f32⟩
  | 45 => ⟨S8x4096x1, .f32⟩
  | 46 => ⟨S8x4096, .f32⟩
  | 47 => ⟨S8x4096x64, .f32⟩
  | 48 => ⟨S_, .f32⟩
  | 49 => ⟨S8x4096, .f32⟩
  | 50 => ⟨S8x4096x128, .i32⟩
  | 51 => ⟨S8x4096x128, .i32⟩
  | 52 => ⟨S_, .i32⟩
  | 53 => ⟨S8x4096x128, .i32⟩
  | 54 => ⟨S8x4096x128, .i1⟩
  | 55 => ⟨S_, .i32⟩
  | 56 => ⟨S8x4096x128, .i32⟩
  | 57 => ⟨S8x4096x128, .i1⟩
  | 58 => ⟨S8x4096x128, .i1⟩
  | 59 => ⟨S_, .f32⟩
  | 60 => ⟨S_, .f32⟩
  | 61 => ⟨S8x4096x128, .f32⟩
  | 62 => ⟨S8x4096x128, .f32⟩
  | 63 => ⟨S8x4096x128, .f32⟩
  | 64 => ⟨S_, .f32⟩
  | 65 => ⟨S8x4096x64, .f32⟩
  | 66 => ⟨S8x4096x64, .f32⟩
  | 67 => ⟨S_, .i32⟩
  | 68 => ⟨S8x4096x128, .i32⟩
  | 69 => ⟨S8x4096x128, .i32⟩
  | 70 => ⟨S8x4096x128, .i1⟩
  | 71 => ⟨S_, .f32⟩
  | 72 => ⟨S8x4096x128, .f32⟩
  | 73 => ⟨S8x4096x128, .f32⟩
  | 74 => ⟨S_, .i32⟩
  | 75 => ⟨S_, .f32⟩
  | 76 => ⟨S8x4096x128, .f32⟩
  | 77 => ⟨S_, .i32⟩
  | 78 => ⟨S8x4096x128, .i32⟩
  | 79 => ⟨S8x4096x128, .i1⟩
  | 80 => ⟨S8x4096x128, .f32⟩
  | 81 => ⟨S8x4096x128, .f32⟩
  | 82 => ⟨S4096x8x128, .f32⟩
  | 83 => ⟨S4096x1024, .f32⟩
  | 84 => ⟨S4096x1024, .bf16⟩
  | 85 => ⟨S_, .i32⟩
  | 86 => ⟨S8x4096x128, .i32⟩
  | 87 => ⟨S8x4096x128, .i32⟩
  | 88 => ⟨S8x4096x128, .i1⟩
  | 89 => ⟨S8x4096, .f32⟩
  | 90 => ⟨S8x4096, .bf16⟩
  | 91 => ⟨S8x4096, .f32⟩
  | 92 => ⟨S8x4096, .f32⟩
  | 93 => ⟨S8x4096, .bf16⟩
  | 94 => ⟨S8x4096, .f32⟩
  | 95 => ⟨S8x4096, .f32⟩
  | 96 => ⟨S8x4096, .bf16⟩
  | 97 => ⟨S8x4096, .f32⟩
  | 98 => ⟨S_, .i32⟩
  | 99 => ⟨S8x4096x128, .i32⟩
  | 100 => ⟨S8x4096x128, .i1⟩
  | 101 => ⟨S8x4096x1, .f32⟩
  | 102 => ⟨S_, .i32⟩
  | 103 => ⟨S8x4096x128, .i32⟩
  | 104 => ⟨S8x4096x128, .i1⟩
  | 105 => ⟨S8x4096x1, .f32⟩
  | 106 => ⟨S_, .i32⟩
  | 107 => ⟨S8x4096x128, .i32⟩
  | 108 => ⟨S8x4096x128, .i1⟩
  | 109 => ⟨S8x4096x1, .f32⟩
  | 110 => ⟨S_, .f32⟩
  | 111 => ⟨S_, .f32⟩
  | 112 => ⟨S8x4096x128, .f32⟩
  | 113 => ⟨S8x4096x128, .f32⟩
  | 114 => ⟨S8x4096x128, .f32⟩
  | 115 => ⟨S8x4096x128, .f32⟩
  | 116 => ⟨S8x4096x128, .f32⟩
  | 117 => ⟨S8x4096x128, .f32⟩
  | 118 => ⟨S8x4096x128, .f32⟩
  | 119 => ⟨S_, .f32⟩
  | 120 => ⟨S_, .f32⟩
  | 121 => ⟨S8x4096x128, .f32⟩
  | 122 => ⟨S8x4096x128, .f32⟩
  | 123 => ⟨S_, .i32⟩
  | 124 => ⟨S_, .f32⟩
  | 125 => ⟨S8x4096x128, .f32⟩
  | 126 => ⟨S_, .i32⟩
  | 127 => ⟨S8x4096x128, .i32⟩
  | _ => ⟨S1x8x4096x64, .f32⟩

abbrev hbmTy0_1 (i : Nat) : BufTy := match i % 128 with
  | 0 => ⟨S8x4096x128, .i1⟩
  | 1 => ⟨S8x4096x128, .f32⟩
  | 2 => ⟨S4096x8x128, .f32⟩
  | 3 => ⟨S4096x1024, .f32⟩
  | 4 => ⟨S4096x1024, .bf16⟩
  | 5 => ⟨S_, .i32⟩
  | 6 => ⟨S_, .f32⟩
  | 7 => ⟨S8x4096x128, .f32⟩
  | 8 => ⟨S_, .i32⟩
  | 9 => ⟨S8x4096x128, .i32⟩
  | 10 => ⟨S8x4096x128, .i1⟩
  | 11 => ⟨S8x4096x128, .f32⟩
  | 12 => ⟨S8x4096x128, .f32⟩
  | 13 => ⟨S4096x8x128, .f32⟩
  | 14 => ⟨S4096x1024, .f32⟩
  | 15 => ⟨S4096x1024, .bf16⟩
  | 16 => ⟨S8x4096, .f32⟩
  | 17 => ⟨S8x4096, .bf16⟩
  | 18 => ⟨S8x4096, .f32⟩
  | 19 => ⟨S8x4096, .f32⟩
  | 20 => ⟨S8x4096, .bf16⟩
  | 21 => ⟨S8x4096, .f32⟩
  | 22 => ⟨S8x4096, .f32⟩
  | 23 => ⟨S8x4096, .bf16⟩
  | 24 => ⟨S8x4096, .f32⟩
  | 25 => ⟨S_, .i32⟩
  | 26 => ⟨S8x4096x128, .i32⟩
  | 27 => ⟨S8x4096x128, .i1⟩
  | 28 => ⟨S8x4096x1, .f32⟩
  | 29 => ⟨S_, .i32⟩
  | 30 => ⟨S8x4096x128, .i32⟩
  | 31 => ⟨S8x4096x128, .i1⟩
  | 32 => ⟨S8x4096x1, .f32⟩
  | 33 => ⟨S_, .i32⟩
  | 34 => ⟨S8x4096x128, .i32⟩
  | 35 => ⟨S8x4096x128, .i1⟩
  | 36 => ⟨S8x4096x1, .f32⟩
  | 37 => ⟨S_, .f32⟩
  | 38 => ⟨S_, .f32⟩
  | 39 => ⟨S8x4096x128, .f32⟩
  | 40 => ⟨S8x4096x128, .f32⟩
  | 41 => ⟨S8x4096x128, .f32⟩
  | 42 => ⟨S8x4096x128, .f32⟩
  | 43 => ⟨S8x4096x128, .f32⟩
  | 44 => ⟨S8x4096x128, .f32⟩
  | 45 => ⟨S8x4096x128, .f32⟩
  | 46 => ⟨S_, .i32⟩
  | 47 => ⟨S_, .f32⟩
  | 48 => ⟨S8x4096x128, .f32⟩
  | 49 => ⟨S_, .i32⟩
  | 50 => ⟨S8x4096x128, .i32⟩
  | 51 => ⟨S8x4096x128, .i1⟩
  | 52 => ⟨S8x4096x128, .f32⟩
  | 53 => ⟨S4096x8x128, .f32⟩
  | 54 => ⟨S4096x1024, .f32⟩
  | 55 => ⟨S4096x1024, .bf16⟩
  | 56 => ⟨S4x2x8x512, .f32⟩
  | 57 => ⟨S4x8x2x512, .f32⟩
  | 58 => ⟨S_, .i32⟩
  | 59 => ⟨S_, .f32⟩
  | 60 => ⟨S4x8x8x512, .f32⟩
  | 61 => ⟨S4096x1024, .f32⟩
  | 62 => ⟨S4096x1024, .f32⟩
  | 63 => ⟨S4096x1024, .f32⟩
  | 64 => ⟨S4096x8x128, .f32⟩
  | 65 => ⟨S8x4096x128, .f32⟩
  | 66 => ⟨S4096x8x128, .f32⟩
  | 67 => ⟨S8x4096x128, .f32⟩
  | 68 => ⟨S4096x8x128, .f32⟩
  | 69 => ⟨S8x4096x128, .f32⟩
  | 70 => ⟨S8x4096x64, .f32⟩
  | 71 => ⟨S1x8x4096x64, .f32⟩
  | 72 => ⟨S_, .f32⟩
  | 73 => ⟨S1x8x4096x64, .f32⟩
  | 74 => ⟨S1x8x4096x64, .f32⟩
  | 75 => ⟨S8x4096x64, .f32⟩
  | 76 => ⟨S1x8x4096x64, .f32⟩
  | 77 => ⟨S8x4096x64, .f32⟩
  | 78 => ⟨S1x8x4096x64, .f32⟩
  | 79 => ⟨S_, .f32⟩
  | 80 => ⟨S4096x128, .f32⟩
  | 81 => ⟨S4096x8, .f32⟩
  | 82 => ⟨S_, .f32⟩
  | 83 => ⟨S4096x128, .f32⟩
  | 84 => ⟨S4096x8, .f32⟩
  | 85 => ⟨S4096x8, .f32⟩
  | 86 => ⟨S8x4096, .f32⟩
  | 87 => ⟨S_, .f32⟩
  | 88 => ⟨S_, .f32⟩
  | 89 => ⟨S8x4096, .f32⟩
  | 90 => ⟨S1x8x4096, .f32⟩
  | _ => ⟨S1x8x4096x64, .f32⟩

abbrev hbmTy (i : Nat) : BufTy := match i / 128 with
  | 0 => hbmTy0_0 i
  | 1 => hbmTy0_1 i
  | _ => ⟨S1x8x4096x64, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S2x8x8x512, .f32⟩
  | .local _ .vmem, ⟨9, _⟩ => ⟨S2x8x8x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S4096x512, .f32⟩
  | .local _ .vmem, ⟨15, _⟩ => ⟨S4096x512, .f32⟩
  | _, _ => ⟨S1x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_call0_cst : Ref sig .tc := ⟨.hbm, 10, rfl⟩
abbrev main_call0_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c : Ref sig .tc := ⟨.hbm, 52, rfl⟩
abbrev main_v37 : Ref sig .tc := ⟨.hbm, 53, rfl⟩
abbrev main_v38 : Ref sig .tc := ⟨.hbm, 54, rfl⟩
abbrev main_c_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_cst_6 : Ref sig .tc := ⟨.hbm, 60, rfl⟩
abbrev main_call2_v0 : Ref sig .tc := ⟨.hbm, 61, rfl⟩
abbrev main_call2_v1 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_call3_v0 : Ref sig .tc := ⟨.hbm, 72, rfl⟩
abbrev main_v48 : Ref sig .tc := ⟨.hbm, 73, rfl⟩
abbrev main_c_10 : Ref sig .tc := ⟨.hbm, 74, rfl⟩
abbrev main_call4_v0 : Ref sig .tc := ⟨.hbm, 75, rfl⟩
abbrev main_v49 : Ref sig .tc := ⟨.hbm, 76, rfl⟩
abbrev main_c_11 : Ref sig .tc := ⟨.hbm, 77, rfl⟩
abbrev main_v50 : Ref sig .tc := ⟨.hbm, 78, rfl⟩
abbrev main_v51 : Ref sig .tc := ⟨.hbm, 79, rfl⟩
abbrev main_call5_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_12 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_16 : Ref sig .tc := ⟨.hbm, 110, rfl⟩
abbrev main_call6_v0 : Ref sig .tc := ⟨.hbm, 111, rfl⟩
abbrev main_call6_v1 : Ref sig .tc := ⟨.hbm, 112, rfl⟩
abbrev main_call6_v2 : Ref sig .tc := ⟨.hbm, 113, rfl⟩
abbrev main_v77 : Ref sig .tc := ⟨.hbm, 114, rfl⟩
abbrev main_call7_v0 : Ref sig .tc := ⟨.hbm, 115, rfl⟩
abbrev main_v78 : Ref sig .tc := ⟨.hbm, 116, rfl⟩
abbrev main_call8_v0 : Ref sig .tc := ⟨.hbm, 117, rfl⟩
abbrev main_v79 : Ref sig .tc := ⟨.hbm, 118, rfl⟩
abbrev main_cst_17 : Ref sig .tc := ⟨.hbm, 119, rfl⟩
abbrev main_call9_v0 : Ref sig .tc := ⟨.hbm, 120, rfl⟩
abbrev main_call9_v1 : Ref sig .tc := ⟨.hbm, 121, rfl⟩
abbrev main_v80 : Ref sig .tc := ⟨.hbm, 122, rfl⟩
abbrev main_c_18 : Ref sig .tc := ⟨.hbm, 123, rfl⟩
abbrev main_call10_v0 : Ref sig .tc := ⟨.hbm, 124, rfl⟩
abbrev main_v81 : Ref sig .tc := ⟨.hbm, 125, rfl⟩
abbrev main_c_19 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_c_20 : Ref sig .tc := ⟨.hbm, 133, rfl⟩
abbrev main_call12_v0 : Ref sig .tc := ⟨.hbm, 134, rfl⟩
abbrev main_v88 : Ref sig .tc := ⟨.hbm, 135, rfl⟩
abbrev main_c_21 : Ref sig .tc := ⟨.hbm, 136, rfl⟩
abbrev main_v89 : Ref sig .tc := ⟨.hbm, 137, rfl⟩
abbrev main_v90 : Ref sig .tc := ⟨.hbm, 138, rfl⟩
abbrev main_call13_v0 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_c_22 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_c_23 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_c_24 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_cst_25 : Ref sig .tc := ⟨.hbm, 165, rfl⟩
abbrev main_call14_v0 : Ref sig .tc := ⟨.hbm, 166, rfl⟩
abbrev main_call14_v1 : Ref sig .tc := ⟨.hbm, 167, rfl⟩
abbrev main_call14_v2 : Ref sig .tc := ⟨.hbm, 168, rfl⟩
abbrev main_v113 : Ref sig .tc := ⟨.hbm, 169, rfl⟩
abbrev main_call15_v0 : Ref sig .tc := ⟨.hbm, 170, rfl⟩
abbrev main_v114 : Ref sig .tc := ⟨.hbm, 171, rfl⟩
abbrev main_call16_v0 : Ref sig .tc := ⟨.hbm, 172, rfl⟩
abbrev main_v115 : Ref sig .tc := ⟨.hbm, 173, rfl⟩
abbrev main_c_26 : Ref sig .tc := ⟨.hbm, 174, rfl⟩
abbrev main_call17_v0 : Ref sig .tc := ⟨.hbm, 175, rfl⟩
abbrev main_v116 : Ref sig .tc := ⟨.hbm, 176, rfl⟩
abbrev main_c_27 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_c_28 : Ref sig .tc := ⟨.hbm, 186, rfl⟩
abbrev main_call19_v0 : Ref sig .tc := ⟨.hbm, 187, rfl⟩
abbrev main_v125 : Ref sig .tc := ⟨.hbm, 188, rfl⟩
abbrev main_v126_0 : Ref sig .tc := ⟨.hbm, 189, rfl⟩
abbrev main_v126_1 : Ref sig .tc := ⟨.hbm, 190, rfl⟩
abbrev main_v126_2 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_cst_29 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_cst_30 : Ref sig .tc := ⟨.hbm, 207, rfl⟩
abbrev main_v141 : Ref sig .tc := ⟨.hbm, 208, rfl⟩
abbrev main_v142 : Ref sig .tc := ⟨.hbm, 209, rfl⟩
abbrev main_cst_31 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_call20_cst : Ref sig .tc := ⟨.hbm, 215, rfl⟩
abbrev main_call20_v0 : Ref sig .tc := ⟨.hbm, 216, rfl⟩
abbrev main_v147 : Ref sig .tc := ⟨.hbm, 217, rfl⟩
abbrev main_v148 : Ref sig .tc := ⟨.hbm, 218, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c512_i32 : BitVec 32 := 512#32
  let v23 : BitVec 32 := Scalar.muli arg1 c512_i32
  v23
def k0_off1 (i : grid0.Coords) : Fin 2 → Nat :=
  let arg1 : BitVec 32 := BitVec.ofNat 32 (i 1).val
  let c512_i32 : BitVec 32 := 512#32
  let v23 : BitVec 32 := Scalar.muli arg1 c512_i32
  let v24 : BitVec 32 := v23
  let v25 : Index := Scalar.indexCast v24
  let c0_13 : Index := 0#32
  ![v25.toNat, 0]
def k0_off2 (i : grid0.Coords) : Fin 4 → Nat :=
  let c0_16 : Index := 0#32
  let arg1 : BitVec 32 := BitVec.ofNat 32 (i 1).val
  let v32 : Index := Scalar.indexCast arg1
  let c0_17 : Index := 0#32
  let c0_18 : Index := 0#32
  ![0, v32.toNat, 0, 0]
def k0_off3 (i : grid0.Coords) : Fin 2 → Nat :=
  let arg1 : BitVec 32 := BitVec.ofNat 32 (i 1).val
  let c512_i32 : BitVec 32 := 512#32
  let v23 : BitVec 32 := Scalar.muli arg1 c512_i32
  let v24 : BitVec 32 := v23
  let v55 : Index := Scalar.indexCast v24
  let c128_26 : Index := 128#32
  ![v55.toNat, 128]
def k0_off4 (i : grid0.Coords) : Fin 4 → Nat :=
  let c0_29 : Index := 0#32
  let arg1 : BitVec 32 := BitVec.ofNat 32 (i 1).val
  let v62 : Index := Scalar.indexCast arg1
  let c1 : Index := 1#32
  let c0_30 : Index := 0#32
  ![0, v62.toNat, 1, 0]
def k0_off5 (i : grid0.Coords) : Fin 2 → Nat :=
  let arg1 : BitVec 32 := BitVec.ofNat 32 (i 1).val
  let c512_i32 : BitVec 32 := 512#32
  let v23 : BitVec 32 := Scalar.muli arg1 c512_i32
  let v24 : BitVec 32 := v23
  let v85 : Index := Scalar.indexCast v24
  let c256_38 : Index := 256#32
  ![v85.toNat, 256]
def k0_off6 (i : grid0.Coords) : Fin 4 → Nat :=
  let c1_41 : Index := 1#32
  let arg1 : BitVec 32 := BitVec.ofNat 32 (i 1).val
  let v92 : Index := Scalar.indexCast arg1
  let c0_42 : Index := 0#32
  let c0_43 : Index := 0#32
  ![1, v92.toNat, 0, 0]
def k0_off7 (i : grid0.Coords) : Fin 2 → Nat :=
  let arg1 : BitVec 32 := BitVec.ofNat 32 (i 1).val
  let c512_i32 : BitVec 32 := 512#32
  let v23 : BitVec 32 := Scalar.muli arg1 c512_i32
  let v24 : BitVec 32 := v23
  let v115 : Index := Scalar.indexCast v24
  let c384_51 : Index := 384#32
  ![v115.toNat, 384]
def k0_off8 (i : grid0.Coords) : Fin 4 → Nat :=
  let c1_54 : Index := 1#32
  let arg1 : BitVec 32 := BitVec.ofNat 32 (i 1).val
  let v122 : Index := Scalar.indexCast arg1
  let c1_55 : Index := 1#32
  let c0_56 : Index := 0#32
  ![1, v122.toNat, 1, 0]
@[reducible] def k0_t1_loop (i : grid0.Coords) : Scf.Loop 32 :=
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let c1_i32_65 : BitVec 32 := 1#32
  ⟨v145, v150, c1_i32_65⟩
def k0_mult2 (i : grid0.Coords) (k0_t1 : Fin (k0_t1_loop i).trips) : BitVec 32 :=
  let arg1 : BitVec 32 := BitVec.ofNat 32 (i 1).val
  let c1_i32 : BitVec 32 := 1#32
  let v145 : BitVec 32 := Scalar.addi arg1 c1_i32
  let c1_i32_65 : BitVec 32 := 1#32
  let arg10 : BitVec 32 := Scf.iv v145 c1_i32_65 k0_t1
  let c512_i32_83 : BitVec 32 := 512#32
  let v161 : BitVec 32 := Scalar.muli arg10 c512_i32_83
  v161
def k0_off9 (i : grid0.Coords) (k0_t1 : Fin (k0_t1_loop i).trips) : Fin 2 → Nat :=
  let arg1 : BitVec 32 := BitVec.ofNat 32 (i 1).val
  let c1_i32 : BitVec 32 := 1#32
  let v145 : BitVec 32 := Scalar.addi arg1 c1_i32
  let c1_i32_65 : BitVec 32 := 1#32
  let arg10 : BitVec 32 := Scf.iv v145 c1_i32_65 k0_t1
  let c512_i32_83 : BitVec 32 := 512#32
  let v161 : BitVec 32 := Scalar.muli arg10 c512_i32_83
  let v162 : BitVec 32 := v161
  let v163 : Index := Scalar.indexCast v162
  let c0_84 : Index := 0#32
  ![v163.toNat, 0]
def k0_off10 (i : grid0.Coords) (k0_t1 : Fin (k0_t1_loop i).trips) : Fin 4 → Nat :=
  let c0_87 : Index := 0#32
  let arg1 : BitVec 32 := BitVec.ofNat 32 (i 1).val
  let c1_i32 : BitVec 32 := 1#32
  let v145 : BitVec 32 := Scalar.addi arg1 c1_i32
  let c1_i32_65 : BitVec 32 := 1#32
  let arg10 : BitVec 32 := Scf.iv v145 c1_i32_65 k0_t1
  let v170 : Index := Scalar.indexCast arg10
  let c0_88 : Index := 0#32
  let c0_89 : Index := 0#32
  ![0, v170.toNat, 0, 0]
def k0_off11 (i : grid0.Coords) (k0_t1 : Fin (k0_t1_loop i).trips) : Fin 2 → Nat :=
  let arg1 : BitVec 32 := BitVec.ofNat 32 (i 1).val
  let c1_i32 : BitVec 32 := 1#32
  let v145 : BitVec 32 := Scalar.addi arg1 c1_i32
  let c1_i32_65 : BitVec 32 := 1#32
  let arg10 : BitVec 32 := Scf.iv v145 c1_i32_65 k0_t1
  let c512_i32_83 : BitVec 32 := 512#32
  let v161 : BitVec 32 := Scalar.muli arg10 c512_i32_83
  let v162 : BitVec 32 := v161
  let v191 : Index := Scalar.indexCast v162
  let c128_96 : Index := 128#32
  ![v191.toNat, 128]
def k0_off12 (i : grid0.Coords) (k0_t1 : Fin (k0_t1_loop i).trips) : Fin 4 → Nat :=
  let c0_99 : Index := 0#32
  let arg1 : BitVec 32 := BitVec.ofNat 32 (i 1).val
  let c1_i32 : BitVec 32 := 1#32
  let v145 : BitVec 32 := Scalar.addi arg1 c1_i32
  let c1_i32_65 : BitVec 32 := 1#32
  let arg10 : BitVec 32 := Scf.iv v145 c1_i32_65 k0_t1
  let v198 : Index := Scalar.indexCast arg10
  let c1_100 : Index := 1#32
  let c0_101 : Index := 0#32
  ![0, v198.toNat, 1, 0]
def k0_off13 (i : grid0.Coords) (k0_t1 : Fin (k0_t1_loop i).trips) : Fin 2 → Nat :=
  let arg1 : BitVec 32 := BitVec.ofNat 32 (i 1).val
  let c1_i32 : BitVec 32 := 1#32
  let v145 : BitVec 32 := Scalar.addi arg1 c1_i32
  let c1_i32_65 : BitVec 32 := 1#32
  let arg10 : BitVec 32 := Scf.iv v145 c1_i32_65 k0_t1
  let c512_i32_83 : BitVec 32 := 512#32
  let v161 : BitVec 32 := Scalar.muli arg10 c512_i32_83
  let v162 : BitVec 32 := v161
  let v219 : Index := Scalar.indexCast v162
  let c256_108 : Index := 256#32
  ![v219.toNat, 256]
def k0_off14 (i : grid0.Coords) (k0_t1 : Fin (k0_t1_loop i).trips) : Fin 4 → Nat :=
  let c1_111 : Index := 1#32
  let arg1 : BitVec 32 := BitVec.ofNat 32 (i 1).val
  let c1_i32 : BitVec 32 := 1#32
  let v145 : BitVec 32 := Scalar.addi arg1 c1_i32
  let c1_i32_65 : BitVec 32 := 1#32
  let arg10 : BitVec 32 := Scf.iv v145 c1_i32_65 k0_t1
  let v226 : Index := Scalar.indexCast arg10
  let c0_112 : Index := 0#32
  let c0_113 : Index := 0#32
  ![1, v226.toNat, 0, 0]
def k0_off15 (i : grid0.Coords) (k0_t1 : Fin (k0_t1_loop i).trips) : Fin 2 → Nat :=
  let arg1 : BitVec 32 := BitVec.ofNat 32 (i 1).val
  let c1_i32 : BitVec 32 := 1#32
  let v145 : BitVec 32 := Scalar.addi arg1 c1_i32
  let c1_i32_65 : BitVec 32 := 1#32
  let arg10 : BitVec 32 := Scf.iv v145 c1_i32_65 k0_t1
  let c512_i32_83 : BitVec 32 := 512#32
  let v161 : BitVec 32 := Scalar.muli arg10 c512_i32_83
  let v162 : BitVec 32 := v161
  let v247 : Index := Scalar.indexCast v162
  let c384_120 : Index := 384#32
  ![v247.toNat, 384]
def k0_off16 (i : grid0.Coords) (k0_t1 : Fin (k0_t1_loop i).trips) : Fin 4 → Nat :=
  let c1_123 : Index := 1#32
  let arg1 : BitVec 32 := BitVec.ofNat 32 (i 1).val
  let c1_i32 : BitVec 32 := 1#32
  let v145 : BitVec 32 := Scalar.addi arg1 c1_i32
  let c1_i32_65 : BitVec 32 := 1#32
  let arg10 : BitVec 32 := Scf.iv v145 c1_i32_65 k0_t1
  let v254 : Index := Scalar.indexCast arg10
  let c1_124 : Index := 1#32
  let c0_125 : Index := 0#32
  ![1, v254.toNat, 1, 0]
@[reducible] def k0_t2_loop (i : grid0.Coords) : Scf.Loop 32 :=
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let v147 : BitVec 32 := Scalar.addi v145 v146
  let c1_i32_66 : BitVec 32 := 1#32
  ⟨v150, v147, c1_i32_66⟩
def k0_mult3 (i : grid0.Coords) (k0_t2 : Fin (k0_t2_loop i).trips) : BitVec 32 :=
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let c1_i32_66 : BitVec 32 := 1#32
  let arg10 : BitVec 32 := Scf.iv v150 c1_i32_66 k0_t2
  let c512_i32_83 : BitVec 32 := 512#32
  let v161 : BitVec 32 := Scalar.muli arg10 c512_i32_83
  v161
def k0_off17 (i : grid0.Coords) (k0_t2 : Fin (k0_t2_loop i).trips) : Fin 2 → Nat :=
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let c1_i32_66 : BitVec 32 := 1#32
  let arg10 : BitVec 32 := Scf.iv v150 c1_i32_66 k0_t2
  let c512_i32_83 : BitVec 32 := 512#32
  let v161 : BitVec 32 := Scalar.muli arg10 c512_i32_83
  let v162 : BitVec 32 := v161
  let v163 : Index := Scalar.indexCast v162
  let c0_84 : Index := 0#32
  ![v163.toNat, 0]
def k0_off18 (i : grid0.Coords) (k0_t2 : Fin (k0_t2_loop i).trips) : Fin 4 → Nat :=
  let c0_87 : Index := 0#32
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let c1_i32_66 : BitVec 32 := 1#32
  let arg10 : BitVec 32 := Scf.iv v150 c1_i32_66 k0_t2
  let v170 : Index := Scalar.indexCast arg10
  let c0_88 : Index := 0#32
  let c0_89 : Index := 0#32
  ![0, v170.toNat, 0, 0]
def k0_off19 (i : grid0.Coords) (k0_t2 : Fin (k0_t2_loop i).trips) : Fin 2 → Nat :=
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let c1_i32_66 : BitVec 32 := 1#32
  let arg10 : BitVec 32 := Scf.iv v150 c1_i32_66 k0_t2
  let c512_i32_83 : BitVec 32 := 512#32
  let v161 : BitVec 32 := Scalar.muli arg10 c512_i32_83
  let v162 : BitVec 32 := v161
  let v191 : Index := Scalar.indexCast v162
  let c128_96 : Index := 128#32
  ![v191.toNat, 128]
def k0_off20 (i : grid0.Coords) (k0_t2 : Fin (k0_t2_loop i).trips) : Fin 4 → Nat :=
  let c0_99 : Index := 0#32
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let c1_i32_66 : BitVec 32 := 1#32
  let arg10 : BitVec 32 := Scf.iv v150 c1_i32_66 k0_t2
  let v198 : Index := Scalar.indexCast arg10
  let c1_100 : Index := 1#32
  let c0_101 : Index := 0#32
  ![0, v198.toNat, 1, 0]
def k0_off21 (i : grid0.Coords) (k0_t2 : Fin (k0_t2_loop i).trips) : Fin 2 → Nat :=
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let c1_i32_66 : BitVec 32 := 1#32
  let arg10 : BitVec 32 := Scf.iv v150 c1_i32_66 k0_t2
  let c512_i32_83 : BitVec 32 := 512#32
  let v161 : BitVec 32 := Scalar.muli arg10 c512_i32_83
  let v162 : BitVec 32 := v161
  let v219 : Index := Scalar.indexCast v162
  let c256_108 : Index := 256#32
  ![v219.toNat, 256]
def k0_off22 (i : grid0.Coords) (k0_t2 : Fin (k0_t2_loop i).trips) : Fin 4 → Nat :=
  let c1_111 : Index := 1#32
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let c1_i32_66 : BitVec 32 := 1#32
  let arg10 : BitVec 32 := Scf.iv v150 c1_i32_66 k0_t2
  let v226 : Index := Scalar.indexCast arg10
  let c0_112 : Index := 0#32
  let c0_113 : Index := 0#32
  ![1, v226.toNat, 0, 0]
def k0_off23 (i : grid0.Coords) (k0_t2 : Fin (k0_t2_loop i).trips) : Fin 2 → Nat :=
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let c1_i32_66 : BitVec 32 := 1#32
  let arg10 : BitVec 32 := Scf.iv v150 c1_i32_66 k0_t2
  let c512_i32_83 : BitVec 32 := 512#32
  let v161 : BitVec 32 := Scalar.muli arg10 c512_i32_83
  let v162 : BitVec 32 := v161
  let v247 : Index := Scalar.indexCast v162
  let c384_120 : Index := 384#32
  ![v247.toNat, 384]
def k0_off24 (i : grid0.Coords) (k0_t2 : Fin (k0_t2_loop i).trips) : Fin 4 → Nat :=
  let c1_123 : Index := 1#32
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let c1_i32_66 : BitVec 32 := 1#32
  let arg10 : BitVec 32 := Scf.iv v150 c1_i32_66 k0_t2
  let v254 : Index := Scalar.indexCast arg10
  let c1_124 : Index := 1#32
  let c0_125 : Index := 0#32
  ![1, v254.toNat, 1, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x8x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S1x8x4096x64 : Shape := ⟨4, ![1, 8, 4096, 64]⟩
abbrev S1x8x4096 : Shape := ⟨3, ![1, 8, 4096]⟩
abbrev S_ : Shape := ⟨0, ![]⟩
abbrev S1x8x4096x4096 : Shape := ⟨4, ![1, 8, 4096, 4096]⟩
abbrev S1x8x4096x1 : Shape := ⟨4, ![1, 8, 4096, 1]⟩
abbrev S1x8x1x4096 : Shape := ⟨4, ![1, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x8x64x4096 : Shape := ⟨4, ![1, 8, 64, 4096]⟩
abbrev S8x4096 : Shape := ⟨2, ![8, 4096]⟩

abbrev nBuf : Space → Nat
  | .hbm => 114
  | .vmem => 0
  | .smem => 0
  | _ => 0

abbrev bufTy : (tb : Table) → Fin (tcTables nBuf tb) → BufTy
  | .hbm, ⟨0, _⟩ => ⟨S1x8x4096x64, .f32⟩
  | .hbm, ⟨1, _⟩ => ⟨S1x8x4096x64, .f32⟩
  | .hbm, ⟨2, _⟩ => ⟨S1x8x4096x64, .f32⟩
  | .hbm, ⟨3, _⟩ => ⟨S1x8x4096, .f32⟩
  | .hbm, ⟨4, _⟩ => ⟨S1x8x4096x64, .f32⟩
  | .hbm, ⟨5, _⟩ => ⟨S_, .f32⟩
  | .hbm, ⟨6, _⟩ => ⟨S_, .f32⟩
  | .hbm, ⟨7, _⟩ => ⟨S1x8x4096, .f32⟩
  | .hbm, ⟨8, _⟩ => ⟨S1x8x4096x4096, .f32⟩
  | .hbm, ⟨9, _⟩ => ⟨S_, .f32⟩
  | .hbm, ⟨10, _⟩ => ⟨S1x8x4096x4096, .f32⟩
  | .hbm, ⟨11, _⟩ => ⟨S1x8x4096x4096, .f32⟩
  | .hbm, ⟨12, _⟩ => ⟨S1x8x4096x1, .f32⟩
  | .hbm, ⟨13, _⟩ => ⟨S1x8x4096x4096, .f32⟩
  | .hbm, ⟨14, _⟩ => ⟨S1x8x4096x4096, .f32⟩
  | .hbm, ⟨15, _⟩ => ⟨S1x8x1x4096, .f32⟩
  | .hbm, ⟨16, _⟩ => ⟨S1x8x4096x4096, .f32⟩
  | .hbm, ⟨17, _⟩ => ⟨S1x8x4096x4096, .f32⟩
  | .hbm, ⟨18, _⟩ => ⟨S4096, .i32⟩
  | .hbm, ⟨19, _⟩ => ⟨S1x4096, .i32⟩
  | .hbm, ⟨20, _⟩ => ⟨S4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S1x8x4096x4096, .i1⟩
  | .hbm, ⟨28, _⟩ => ⟨S1x8x4096x4096, .f32⟩
  | .hbm, ⟨29, _⟩ => ⟨S1x8x4096x4096, .f32⟩
  | .hbm, ⟨30, _⟩ => ⟨S_, .f32⟩
  | .hbm, ⟨31, _⟩ => ⟨S1x8x4096x4096, .f32⟩
  | .hbm, ⟨32, _⟩ => ⟨S_, .f32⟩
  | .hbm, ⟨33, _⟩ => ⟨S1x8x4096, .f32⟩
  | .hbm, ⟨34, _⟩ => ⟨S1x8x4096x1, .f32⟩
  | .hbm, ⟨35, _⟩ => ⟨S1x8x4096x4096, .f32⟩
  | .hbm, ⟨36, _⟩ => ⟨S1x8x4096x4096, .i1⟩
  | .hbm, ⟨37, _⟩ => ⟨S1x8x4096x4096, .f32⟩
  | .hbm, ⟨38, _⟩ => ⟨S_, .f32⟩
  | .hbm, ⟨39, _⟩ => ⟨S1x8x4096, .f32⟩
  | .hbm, ⟨40, _⟩ => ⟨S_, .f32⟩
  | .hbm, ⟨41, _⟩ => ⟨S1x8x4096, .f32⟩
  | .hbm, ⟨42, _⟩ => ⟨S1x8x4096, .f32⟩
  | .hbm, ⟨43, _⟩ => ⟨S_, .f32⟩
  | .hbm, ⟨44, _⟩ => ⟨S1x8x4096, .f32⟩
  | .hbm, ⟨45, _⟩ => ⟨S1x8x4096, .i1⟩
  | .hbm, ⟨46, _⟩ => ⟨S_, .f32⟩
  | .hbm, ⟨47, _⟩ => ⟨S1x8x4096, .f32⟩
  | .hbm, ⟨48, _⟩ => ⟨S1x8x4096, .i1⟩
  | .hbm, ⟨49, _⟩ => ⟨S_, .f32⟩
  | .hbm, ⟨50, _⟩ => ⟨S1x8x4096, .f32⟩
  | .hbm, ⟨51, _⟩ => ⟨S_, .f32⟩
  | .hbm, ⟨52, _⟩ => ⟨S1x8x4096, .f32⟩
  | .hbm, ⟨53, _⟩ => ⟨S_, .f32⟩
  | .hbm, ⟨54, _⟩ => ⟨S1x8x4096, .f32⟩
  | .hbm, ⟨55, _⟩ => ⟨S1x8x4096, .f32⟩
  | .hbm, ⟨56, _⟩ => ⟨S1x8x4096, .f32⟩
  | .hbm, ⟨57, _⟩ => ⟨S1x8x4096x1, .f32⟩
  | .hbm, ⟨58, _⟩ => ⟨S1x8x4096x4096, .f32⟩
  | .hbm, ⟨59, _⟩ => ⟨S1x8x4096x4096, .f32⟩
  | .hbm, ⟨60, _⟩ => ⟨S1x8x4096x4096, .f32⟩
  | .hbm, ⟨61, _⟩ => ⟨S_, .f32⟩
  | .hbm, ⟨62, _⟩ => ⟨S1x8x4096, .f32⟩
  | .hbm, ⟨63, _⟩ => ⟨S1x8x4096x1, .f32⟩
  | .hbm, ⟨64, _⟩ => ⟨S1x8x4096x4096, .f32⟩
  | .hbm, ⟨65, _⟩ => ⟨S1x8x4096x4096, .f32⟩
  | .hbm, ⟨66, _⟩ => ⟨S1x8x4096x1, .f32⟩
  | .hbm, ⟨67, _⟩ => ⟨S_, .f32⟩
  | .hbm, ⟨68, _⟩ => ⟨S1x8x4096x1, .f32⟩
  | .hbm, ⟨69, _⟩ => ⟨S1x8x4096x1, .f32⟩
  | .hbm, ⟨70, _⟩ => ⟨S1x8x4096x64, .f32⟩
  | .hbm, ⟨71, _⟩ => ⟨S1x8x64x4096, .f32⟩
  | .hbm, ⟨72, _⟩ => ⟨S1x8x4096x64, .f32⟩
  | .hbm, ⟨73, _⟩ => ⟨S1x8x4096x4096, .f32⟩
  | .hbm, ⟨74, _⟩ => ⟨S1x8x4096x4096, .f32⟩
  | .hbm, ⟨75, _⟩ => ⟨S1x8x4096x4096, .f32⟩
  | .hbm, ⟨76, _⟩ => ⟨S1x8x4096x4096, .f32⟩
  | .hbm, ⟨77, _⟩ => ⟨S_, .f32⟩
  | .hbm, ⟨78, _⟩ => ⟨S1x8x4096, .f32⟩
  | .hbm, ⟨79, _⟩ => ⟨S1x8x4096x1, .f32⟩
  | .hbm, ⟨80, _⟩ => ⟨S1x8x4096x1, .f32⟩
  | .hbm, ⟨81, _⟩ => ⟨S1x8x4096x4096, .f32⟩
  | .hbm, ⟨82, _⟩ => ⟨S1x8x4096x4096, .f32⟩
  | .hbm, ⟨83, _⟩ => ⟨S_, .f32⟩
  | .hbm, ⟨84, _⟩ => ⟨S8x4096, .f32⟩
  | .hbm, ⟨85, _⟩ => ⟨S1x8x4096, .f32⟩
  | .hbm, ⟨86, _⟩ => ⟨S1x8x4096x4096, .f32⟩
  | .hbm, ⟨87, _⟩ => ⟨S1x8x4096x4096, .f32⟩
  | .hbm, ⟨88, _⟩ => ⟨S1x8x4096x4096, .f32⟩
  | .hbm, ⟨89, _⟩ => ⟨S_, .f32⟩
  | .hbm, ⟨90, _⟩ => ⟨S1x8x4096x4096, .f32⟩
  | .hbm, ⟨91, _⟩ => ⟨S1x8x4096x4096, .f32⟩
  | .hbm, ⟨92, _⟩ => ⟨S1x8x4096x4096, .f32⟩
  | .hbm, ⟨93, _⟩ => ⟨S_, .f32⟩
  | .hbm, ⟨94, _⟩ => ⟨S1x8x4096, .f32⟩
  | .hbm, ⟨95, _⟩ => ⟨S1x8x1x4096, .f32⟩
  | .hbm, ⟨96, _⟩ => ⟨S_, .f32⟩
  | .hbm, ⟨97, _⟩ => ⟨S8x4096, .f32⟩
  | .hbm, ⟨98, _⟩ => ⟨S1x8x4096, .f32⟩
  | .hbm, ⟨99, _⟩ => ⟨S_, .f32⟩
  | .hbm, ⟨100, _⟩ => ⟨S1x8x4096, .f32⟩
  | .hbm, ⟨101, _⟩ => ⟨S1x8x4096x1, .f32⟩
  | .hbm, ⟨102, _⟩ => ⟨S_, .f32⟩
  | .hbm, ⟨103, _⟩ => ⟨S8x4096, .f32⟩
  | .hbm, ⟨104, _⟩ => ⟨S1x8x4096, .f32⟩
  | .hbm, ⟨105, _⟩ => ⟨S1x8x4096, .f32⟩
  | .hbm, ⟨106, _⟩ => ⟨S_, .f32⟩
  | .hbm, ⟨107, _⟩ => ⟨S1x8x4096x4096, .f32⟩
  | .hbm, ⟨108, _⟩ => ⟨S1x8x4096x4096, .f32⟩
  | .hbm, ⟨109, _⟩ => ⟨S1x8x4096x64, .f32⟩
  | .hbm, ⟨110, _⟩ => ⟨S1x8x4096x64, .f32⟩
  | .hbm, ⟨111, _⟩ => ⟨S_, .f32⟩
  | .hbm, ⟨112, _⟩ => ⟨S_, .f32⟩
  | .hbm, ⟨113, _⟩ => ⟨S1x8x4096, .f32⟩
  | _, _ => ⟨S1x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_call1_v0 : Ref sig .tc := ⟨.hbm, 26, rfl⟩
abbrev main_v17_1 : Ref sig .tc := ⟨.hbm, 27, rfl⟩
abbrev main_call1_v2 : Ref sig .tc := ⟨.hbm, 28, rfl⟩
abbrev main_v17_0 : Ref sig .tc := ⟨.hbm, 29, rfl⟩
abbrev main_call1_cst : Ref sig .tc := ⟨.hbm, 30, rfl⟩
abbrev main_v17_2 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call2_cst : Ref sig .tc := ⟨.hbm, 89, rfl⟩
abbrev main_call2_v0 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_v68 : Ref sig .tc := ⟨.hbm, 98, rfl⟩
abbrev main_cst_15 : Ref sig .tc := ⟨.hbm, 99, rfl⟩
abbrev main_v69 : Ref sig .tc := ⟨.hbm, 100, rfl⟩
abbrev main_v70 : Ref sig .tc := ⟨.hbm, 101, rfl⟩
abbrev main_cst_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_17 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_call3_call0_cst : Ref sig .tc := ⟨.hbm, 111, rfl⟩
abbrev main_call3_call0_v0 : Ref sig .tc := ⟨.hbm, 112, rfl⟩
abbrev main_v78 : Ref sig .tc := ⟨.hbm, 113, rfl⟩

abbrev nD : Nat := 1
abbrev τ : Topo := Topo.v7x

variable {F : FTy → Type} [FloatOps F]
-- ==== Kernel2.lean ====
abbrev S1x4096x1024 : Shape := ⟨3, ![1, 4096, 1024]⟩
abbrev S1x4096x256 : Shape := ⟨3, ![1, 4096, 256]⟩
abbrev S1x4096x512 : Shape := ⟨3, ![1, 4096, 512]⟩
abbrev S1x1024x1024 : Shape := ⟨3, ![1, 1024, 1024]⟩
abbrev S4096x1024 : Shape := ⟨2, ![4096, 1024]⟩
abbrev S4096x256 : Shape := ⟨2, ![4096, 256]⟩
abbrev S4096x512 : Shape := ⟨2, ![4096, 512]⟩
abbrev S_ : Shape := ⟨0, ![]⟩
abbrev S4x4096x128 : Shape := ⟨3, ![4, 4096, 128]⟩
abbrev S1024x1024 : Shape := ⟨2, ![1024, 1024]⟩
abbrev S1x128 : Shape := ⟨2, ![1, 128]⟩
abbrev S4x8x8x512 : Shape := ⟨4, ![4, 8, 8, 512]⟩
abbrev S512x1024 : Shape := ⟨2, ![512, 1024]⟩
abbrev S512x256 : Shape := ⟨2, ![512, 256]⟩
abbrev S512x512 : Shape := ⟨2, ![512, 512]⟩
abbrev S4x512x128 : Shape := ⟨3, ![4, 512, 128]⟩
abbrev S4x1x8x512 : Shape := ⟨4, ![4, 1, 8, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S512x128 : Shape := ⟨2, ![512, 128]⟩
abbrev S1x512x128 : Shape := ⟨3, ![1, 512, 128]⟩
abbrev S128x512 : Shape := ⟨2, ![128, 512]⟩
abbrev S8x512 : Shape := ⟨2, ![8, 512]⟩
abbrev S1x1x8x512 : Shape := ⟨4, ![1, 1, 8, 512]⟩
abbrev S128x1024 : Shape := ⟨2, ![128, 1024]⟩
abbrev S4096x8x128 : Shape := ⟨3, ![4096, 8, 128]⟩
abbrev S4096x8x64 : Shape := ⟨3, ![4096, 8, 64]⟩

abbrev nBuf : Space → Nat
  | .hbm => 51
  | .vmem => 32
  | .smem => 0
  | _ => 0

abbrev bufTy : (tb : Table) → Fin (tcTables nBuf tb) → BufTy
  | .hbm, ⟨0, _⟩ => ⟨S1x4096x1024, .f32⟩
  | .hbm, ⟨1, _⟩ => ⟨S1x4096x256, .f32⟩
  | .hbm, ⟨2, _⟩ => ⟨S1x4096x512, .f32⟩
  | .hbm, ⟨3, _⟩ => ⟨S1x4096x512, .f32⟩
  | .hbm, ⟨4, _⟩ => ⟨S1x4096x256, .f32⟩
  | .hbm, ⟨5, _⟩ => ⟨S1x1024x1024, .f32⟩
  | .hbm, ⟨6, _⟩ => ⟨S1x4096x1024, .f32⟩
  | .hbm, ⟨7, _⟩ => ⟨S4096x1024, .f32⟩
  | .hbm, ⟨8, _⟩ => ⟨S4096x256, .f32⟩
  | .hbm, ⟨9, _⟩ => ⟨S4096x512, .f32⟩
  | .hbm, ⟨10, _⟩ => ⟨S4096x512, .f32⟩
  | .hbm, ⟨11, _⟩ => ⟨S4096x256, .f32⟩
  | .hbm, ⟨12, _⟩ => ⟨S4096x1024, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .bf16⟩
  | .hbm, ⟨24, _⟩ => ⟨S_, .f32⟩
  | .hbm, ⟨25, _⟩ => ⟨S4x4096x128, .f32⟩
  | .hbm, ⟨26, _⟩ => ⟨S4096x256, .bf16⟩
  | .hbm, ⟨27, _⟩ => ⟨S4096x256, .bf16⟩
  | .hbm, ⟨28, _⟩ => ⟨S1024x1024, .f32⟩
  | .hbm, ⟨29, _⟩ => ⟨S1024x1024, .bf16⟩
  | .hbm, ⟨30, _⟩ => ⟨S4096x1024, .f32⟩
  | .hbm, ⟨31, _⟩ => ⟨S4096x256, .f32⟩
  | .hbm, ⟨32, _⟩ => ⟨S4096x256, .f32⟩
  | .hbm, ⟨33, _⟩ => ⟨S1024x1024, .f32⟩
  | .hbm, ⟨34, _⟩ => ⟨S1x128, .f32⟩
  | .hbm, ⟨35, _⟩ => ⟨S4096x1024, .bf16⟩
  | .hbm, ⟨36, _⟩ => ⟨S4096x512, .bf16⟩
  | .hbm, ⟨37, _⟩ => ⟨S4x8x8x512, .f32⟩
  | .hbm, ⟨38, _⟩ => ⟨S4096x1024, .f32⟩
  | .hbm, ⟨39, _⟩ => ⟨S4096x8x128, .f32⟩
  | .hbm, ⟨40, _⟩ => ⟨S4096x8x64, .f32⟩
  | .hbm, ⟨41, _⟩ => ⟨S4096x512, .f32⟩
  | .hbm, ⟨42, _⟩ => ⟨S1x1, .f32⟩
  | .hbm, ⟨43, _⟩ => ⟨S_, .f32⟩
  | .hbm, ⟨44, _⟩ => ⟨S1x4096x1024, .f32⟩
  | .hbm, ⟨45, _⟩ => ⟨S1x4096x256, .f32⟩
  | .hbm, ⟨46, _⟩ => ⟨S1x4096x512, .f32⟩
  | .hbm, ⟨47, _⟩ => ⟨S4096x512, .f32⟩
  | .hbm, ⟨48, _⟩ => ⟨S1x4096x512, .f32⟩
  | .hbm, ⟨49, _⟩ => ⟨S1x4096x256, .f32⟩
  | .hbm, ⟨50, _⟩ => ⟨S1x1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S512x256, .bf16⟩
  | .local _ .vmem, ⟨9, _⟩ => ⟨S512x256, .bf16⟩
  | .local _ .vmem, ⟨10, _⟩ => ⟨S1024x1024, .bf16⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S4x512x128, .f32⟩
  | .local _ .vmem, ⟨16, _⟩ => ⟨S4x512x128, .f32⟩
  | .local _ .vmem, ⟨17, _⟩ => ⟨S512x1024, .f32⟩
  | .local _ .vmem, ⟨18, _⟩ => ⟨S512x1024, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S1024x1024, .f32⟩
  | .local _ .vmem, ⟨24, _⟩ => ⟨S1x128, .f32⟩
  | .local _ .vmem, ⟨25, _⟩ => ⟨S512x1024, .bf16⟩
  | .local _ .vmem, ⟨26, _⟩ => ⟨S512x1024, .bf16⟩
  | .local _ .vmem, ⟨27, _⟩ => ⟨S512x512, .bf16⟩
  | .local _ .vmem, ⟨28, _⟩ => ⟨S512x512, .bf16⟩
  | .local _ .vmem, ⟨29, _⟩ => ⟨S4x1x8x512, .f32⟩
  | .local _ .vmem, ⟨30, _⟩ => ⟨S4x1x8x512, .f32⟩
  | .local _ .vmem, ⟨31, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev main_v14_3 : Ref sig .tc := ⟨.hbm, 33, rfl⟩
abbrev main_v14_4 : Ref sig .tc := ⟨.hbm, 34, rfl⟩
abbrev main_v14_5 : Ref sig .tc := ⟨.hbm, 35, rfl⟩
abbrev main_v14_6 : Ref sig .tc := ⟨.hbm, 36, rfl⟩
abbrev main_v14_7 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x1x8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S1x4096x1024 : Shape := ⟨3, ![1, 4096, 1024]⟩
abbrev S1x4096x256 : Shape := ⟨3, ![1, 4096, 256]⟩
abbrev S1x4096x512 : Shape := ⟨3, ![1, 4096, 512]⟩
abbrev S1x1024x1024 : Shape := ⟨3, ![1, 1024, 1024]⟩
abbrev S_ : Shape := ⟨0, ![]⟩
abbrev S1024x1024 : Shape := ⟨2, ![1024, 1024]⟩
abbrev S1x4096 : Shape := ⟨2, ![1, 4096]⟩

abbrev nBuf : Space → Nat
  | .hbm => 61
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x256, .f32⟩
  | .hbm, ⟨2, _⟩ => ⟨S1x4096x512, .f32⟩
  | .hbm, ⟨3, _⟩ => ⟨S1x4096x512, .f32⟩
  | .hbm, ⟨4, _⟩ => ⟨S1x4096x256, .f32⟩
  | .hbm, ⟨5, _⟩ => ⟨S1x1024x1024, .f32⟩
  | .hbm, ⟨6, _⟩ => ⟨S1x4096x1024, .f32⟩
  | .hbm, ⟨7, _⟩ => ⟨S1x4096x512, .f32⟩
  | .hbm, ⟨8, _⟩ => ⟨S1x4096x512, .f32⟩
  | .hbm, ⟨9, _⟩ => ⟨S_, .f32⟩
  | .hbm, ⟨10, _⟩ => ⟨S1x4096x512, .f32⟩
  | .hbm, ⟨11, _⟩ => ⟨S1x4096x512, .f32⟩
  | .hbm, ⟨12, _⟩ => ⟨S_, .f32⟩
  | .hbm, ⟨13, _⟩ => ⟨S1x4096x512, .f32⟩
  | .hbm, ⟨14, _⟩ => ⟨S1x4096x512, .f32⟩
  | .hbm, ⟨15, _⟩ => ⟨S_, .f32⟩
  | .hbm, ⟨16, _⟩ => ⟨S1x4096x512, .f32⟩
  | .hbm, ⟨17, _⟩ => ⟨S1x4096x512, .f32⟩
  | .hbm, ⟨18, _⟩ => ⟨S1x4096x512, .f32⟩
  | .hbm, ⟨19, _⟩ => ⟨S1x4096x512, .f32⟩
  | .hbm, ⟨20, _⟩ => ⟨S1x4096x512, .f32⟩
  | .hbm, ⟨21, _⟩ => ⟨S1x4096x1024, .f32⟩
  | .hbm, ⟨22, _⟩ => ⟨S1024x1024, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S_, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S1x4096, .f32⟩
  | .hbm, ⟨32, _⟩ => ⟨S_, .f32⟩
  | .hbm, ⟨33, _⟩ => ⟨S1x4096, .f32⟩
  | .hbm, ⟨34, _⟩ => ⟨S1x4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1x4096, .f32⟩
  | .hbm, ⟨43, _⟩ => ⟨S_, .f32⟩
  | .hbm, ⟨44, _⟩ => ⟨S1x4096, .f32⟩
  | .hbm, ⟨45, _⟩ => ⟨S1x4096, .f32⟩
  | .hbm, ⟨46, _⟩ => ⟨S1x4096x1024, .f32⟩
  | .hbm, ⟨47, _⟩ => ⟨S1x4096x1024, .f32⟩
  | .hbm, ⟨48, _⟩ => ⟨S1024x1024, .f32⟩
  | .hbm, ⟨49, _⟩ => ⟨S1024x1024, .f32⟩
  | .hbm, ⟨50, _⟩ => ⟨S1x4096x1024, .f32⟩
  | .hbm, ⟨51, _⟩ => ⟨S1x1024x1024, .f32⟩
  | .hbm, ⟨52, _⟩ => ⟨S1x4096x256, .f32⟩
  | .hbm, ⟨53, _⟩ => ⟨S1x4096x512, .f32⟩
  | .hbm, ⟨54, _⟩ => ⟨S1x4096x256, .f32⟩
  | .hbm, ⟨55, _⟩ => ⟨S1x4096x512, .f32⟩
  | .hbm, ⟨56, _⟩ => ⟨S1x4096x512, .f32⟩
  | .hbm, ⟨57, _⟩ => ⟨S1x4096x512, .f32⟩
  | .hbm, ⟨58, _⟩ => ⟨S1x4096x512, .f32⟩
  | .hbm, ⟨59, _⟩ => ⟨S1x4096x512, .f32⟩
  | .hbm, ⟨60, _⟩ => ⟨S1x4096x512, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v0_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v0_1 : Ref sig .tc := ⟨.hbm, 18, rfl⟩
abbrev main_v0_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_cst_4 : Ref sig .tc := ⟨.hbm, 39, rfl⟩
abbrev main_cst_5 : Ref sig .tc := ⟨.hbm, 40, rfl⟩
abbrev main_v15 : Ref sig .tc := ⟨.hbm, 41, rfl⟩
abbrev main_v16 : Ref sig .tc := ⟨.hbm, 42, rfl⟩
abbrev main_cst_6 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v30 : Ref sig .tc := ⟨.hbm, 60, rfl⟩

abbrev nD : Nat := 1
abbrev τ : Topo := Topo.v7x

variable {F : FTy → Type} [FloatOps F]
-- ==== Kernel3.lean ====
abbrev S1x8x4096x64 : Shape := ⟨4, ![1, 8, 4096, 64]⟩
abbrev S1x8x4096 : Shape := ⟨3, ![1, 8, 4096]⟩
abbrev S1x4096x512 : Shape := ⟨3, ![1, 4096, 512]⟩
abbrev S8x4096x64 : Shape := ⟨3, ![8, 4096, 64]⟩
abbrev S8x4096 : Shape := ⟨2, ![8, 4096]⟩
abbrev S4096x512 : Shape := ⟨2, ![4096, 512]⟩
abbrev S_ : Shape := ⟨0, ![]⟩
abbrev S8x4096x128 : Shape := ⟨3, ![8, 4096, 128]⟩
abbrev S8x4096x1 : Shape := ⟨3, ![8, 4096, 1]⟩
abbrev S4096x8x128 : Shape := ⟨3, ![4096, 8, 128]⟩
abbrev S4096x1024 : Shape := ⟨2, ![4096, 1024]⟩
abbrev S4x4096x128 : Shape := ⟨3, ![4, 4096, 128]⟩
abbrev S512x512 : Shape := ⟨2, ![512, 512]⟩
abbrev S512x256 : Shape := ⟨2, ![512, 256]⟩
abbrev S2x512x128 : Shape := ⟨3, ![2, 512, 128]⟩
abbrev S512x128 : Shape := ⟨2, ![512, 128]⟩
abbrev S512x1 : Shape := ⟨2, ![512, 1]⟩
abbrev S512 : Shape := ⟨1, ![512]⟩
abbrev S1x512x128 : Shape := ⟨3, ![1, 512, 128]⟩
abbrev S4x4096x2 : Shape := ⟨3, ![4, 4096, 2]⟩
abbrev S4x2x4096 : Shape := ⟨3, ![4, 2, 4096]⟩

abbrev nBuf : Space → Nat
  | .hbm => 117
  | .vmem => 14
  | .smem => 0
  | _ => 0

abbrev bufTy : (tb : Table) → Fin (tcTables nBuf tb) → BufTy
  | .hbm, ⟨0, _⟩ => ⟨S1x8x4096x64, .f32⟩
  | .hbm, ⟨1, _⟩ => ⟨S1x8x4096x64, .f32⟩
  | .hbm, ⟨2, _⟩ => ⟨S1x8x4096x64, .f32⟩
  | .hbm, ⟨3, _⟩ => ⟨S1x8x4096, .f32⟩
  | .hbm, ⟨4, _⟩ => ⟨S1x4096x512, .f32⟩
  | .hbm, ⟨5, _⟩ => ⟨S8x4096x64, .f32⟩
  | .hbm, ⟨6, _⟩ => ⟨S8x4096x64, .f32⟩
  | .hbm, ⟨7, _⟩ => ⟨S8x4096x64, .f32⟩
  | .hbm, ⟨8, _⟩ => ⟨S8x4096, .f32⟩
  | .hbm, ⟨9, _⟩ => ⟨S4096x512, .f32⟩
  | .hbm, ⟨10, _⟩ => ⟨S_, .f32⟩
  | .hbm, ⟨11, _⟩ => ⟨S_, .f32⟩
  | .hbm, ⟨12, _⟩ => ⟨S8x4096, .f32⟩
  | .hbm, ⟨13, _⟩ => ⟨S8x4096x128, .i32⟩
  | .hbm, ⟨14, _⟩ => ⟨S8x4096x128, .i32⟩
  | .hbm, ⟨15, _⟩ => ⟨S_, .i32⟩
  | .hbm, ⟨16, _⟩ => ⟨S8x4096x128, .i32⟩
  | .hbm, ⟨17, _⟩ => ⟨S8x4096x128, .i1⟩
  | .hbm, ⟨18, _⟩ => ⟨S_, .i32⟩
  | .hbm, ⟨19, _⟩ => ⟨S8x4096x128, .i32⟩
  | .hbm, ⟨20, _⟩ => ⟨S8x4096x128, .i1⟩
  | .hbm, ⟨21, _⟩ => ⟨S8x4096x128, .i1⟩
  | .hbm, ⟨22, _⟩ => ⟨S_, .f32⟩
  | .hbm, ⟨23, _⟩ => ⟨S_, .f32⟩
  | .hbm, ⟨24, _⟩ => ⟨S8x4096x128, .f32⟩
  | .hbm, ⟨25, _⟩ => ⟨S8x4096x128, .f32⟩
  | .hbm, ⟨26, _⟩ => ⟨S8x4096x128, .f32⟩
  | .hbm, ⟨27, _⟩ => ⟨S8x4096, .f32⟩
  | .hbm, ⟨28, _⟩ => ⟨S8x4096, .bf16⟩
  | .hbm, ⟨29, _⟩ => ⟨S8x4096, .f32⟩
  | .hbm, ⟨30, _⟩ => ⟨S8x4096, .f32⟩
  | .hbm, ⟨31, _⟩ => ⟨S8x4096, .bf16⟩
  | .hbm, ⟨32, _⟩ => ⟨S8x4096, .f32⟩
  | .hbm, ⟨33, _⟩ => ⟨S8x4096, .f32⟩
  | .hbm, ⟨34, _⟩ => ⟨S8x4096, .bf16⟩
  | .hbm, ⟨35, _⟩ => ⟨S8x4096, .f32⟩
  | .hbm, ⟨36, _⟩ => ⟨S_, .i32⟩
  | .hbm, ⟨37, _⟩ => ⟨S8x4096x128, .i32⟩
  | .hbm, ⟨38, _⟩ => ⟨S8x4096x128, .i1⟩
  | .hbm, ⟨39, _⟩ => ⟨S8x4096x1, .f32⟩
  | .hbm, ⟨40, _⟩ => ⟨S_, .i32⟩
  | .hbm, ⟨41, _⟩ => ⟨S8x4096x128, .i32⟩
  | .hbm, ⟨42, _⟩ => ⟨S8x4096x128, .i1⟩
  | .hbm, ⟨43, _⟩ => ⟨S8x4096x1, .f32⟩
  | .hbm, ⟨44, _⟩ => ⟨S_, .i32⟩
  | .hbm, ⟨45, _⟩ => ⟨S8x4096x128, .i32⟩
  | .hbm, ⟨46, _⟩ => ⟨S8x4096x128, .i1⟩
  | .hbm, ⟨47, _⟩ => ⟨S8x4096x1, .f32⟩
  | .hbm, ⟨48, _⟩ => ⟨S_, .f32⟩
  | .hbm, ⟨49, _⟩ => ⟨S_, .f32⟩
  | .hbm, ⟨50, _⟩ => ⟨S8x4096x128, .f32⟩
  | .hbm, ⟨51, _⟩ => ⟨S8x4096x128, .f32⟩
  | .hbm, ⟨52, _⟩ => ⟨S8x4096x128, .f32⟩
  | .hbm, ⟨53, _⟩ => ⟨S8x4096x128, .f32⟩
  | .hbm, ⟨54, _⟩ => ⟨S8x4096x128, .f32⟩
  | .hbm, ⟨55, _⟩ => ⟨S8x4096x128, .f32⟩
  | .hbm, ⟨56, _⟩ => ⟨S8x4096x128, .f32⟩
  | .hbm, ⟨57, _⟩ => ⟨S_, .f32⟩
  | .hbm, ⟨58, _⟩ => ⟨S8x4096x64, .f32⟩
  | .hbm, ⟨59, _⟩ => ⟨S8x4096x64, .f32⟩
  | .hbm, ⟨60, _⟩ => ⟨S_, .i32⟩
  | .hbm, ⟨61, _⟩ => ⟨S8x4096x128, .i32⟩
  | .hbm, ⟨62, _⟩ => ⟨S8x4096x128, .i32⟩
  | .hbm, ⟨63, _⟩ => ⟨S8x4096x128, .i1⟩
  | .hbm, ⟨64, _⟩ => ⟨S_, .f32⟩
  | .hbm, ⟨65, _⟩ => ⟨S8x4096x128, .f32⟩
  | .hbm, ⟨66, _⟩ => ⟨S8x4096x128, .f32⟩
  | .hbm, ⟨67, _⟩ => ⟨S_, .i32⟩
  | .hbm, ⟨68, _⟩ => ⟨S_, .f32⟩
  | .hbm, ⟨69, _⟩ => ⟨S8x4096x128, .f32⟩
  | .hbm, ⟨70, _⟩ => ⟨S_, .i32⟩
  | .hbm, ⟨71, _⟩ => ⟨S8x4096x128, .i32⟩
  | .hbm, ⟨72, _⟩ => ⟨S8x4096x128, .i1⟩
  | .hbm, ⟨73, _⟩ => ⟨S8x4096x128, .f32⟩
  | .hbm, ⟨74, _⟩ => ⟨S8x4096x128, .f32⟩
  | .hbm, ⟨75, _⟩ => ⟨S4096x8x128, .f32⟩
  | .hbm, ⟨76, _⟩ => ⟨S4096x1024, .f32⟩
  | .hbm, ⟨77, _⟩ => ⟨S4096x1024, .bf16⟩
  | .hbm, ⟨78, _⟩ => ⟨S_, .i32⟩
  | .hbm, ⟨79, _⟩ => ⟨S8x4096x128, .i32⟩
  | .hbm, ⟨80, _⟩ => ⟨S8x4096x128, .i32⟩
  | .hbm, ⟨81, _⟩ => ⟨S8x4096x128, .i1⟩
  | .hbm, ⟨82, _⟩ => ⟨S_, .f32⟩
  | .hbm, ⟨83, _⟩ => ⟨S_, .f32⟩
  | .hbm, ⟨84, _⟩ => ⟨S8x4096x128, .f32⟩
  | .hbm, ⟨85, _⟩ => ⟨S8x4096x128, .f32⟩
  | .hbm, ⟨86, _⟩ => ⟨S_, .i32⟩
  | .hbm, ⟨87, _⟩ => ⟨S_, .f32⟩
  | .hbm, ⟨88, _⟩ => ⟨S8x4096x128, .f32⟩
  | .hbm, ⟨89, _⟩ => ⟨S_, .i32⟩
  | .hbm, ⟨90, _⟩ => ⟨S8x4096x128, .i32⟩
  | .hbm, ⟨91, _⟩ => ⟨S8x4096x128, .i1⟩
  | .hbm, ⟨92, _⟩ => ⟨S8x4096x128, .f32⟩
  | .hbm, ⟨93, _⟩ => ⟨S4096x8x128, .f32⟩
  | .hbm, ⟨94, _⟩ => ⟨S4096x1024, .f32⟩
  | .hbm, ⟨95, _⟩ => ⟨S4096x1024, .bf16⟩
  | .hbm, ⟨96, _⟩ => ⟨S_, .i32⟩
  | .hbm, ⟨97, _⟩ => ⟨S_, .f32⟩
  | .hbm, ⟨98, _⟩ => ⟨S8x4096x128, .f32⟩
  | .hbm, ⟨99, _⟩ => ⟨S_, .i32⟩
  | .hbm, ⟨100, _⟩ => ⟨S8x4096x128, .i32⟩
  | .hbm, ⟨101, _⟩ => ⟨S8x4096x128, .i1⟩
  | .hbm, ⟨102, _⟩ => ⟨S8x4096x128, .f32⟩
  | .hbm, ⟨103, _⟩ => ⟨S8x4096x128, .f32⟩
  | .hbm, ⟨104, _⟩ => ⟨S4096x8x128, .f32⟩
  | .hbm, ⟨105, _⟩ => ⟨S4096x1024, .f32⟩
  | .hbm, ⟨106, _⟩ => ⟨S4096x1024, .bf16⟩
  | .hbm, ⟨107, _⟩ => ⟨S4096x512, .f32⟩
  | .hbm, ⟨108, _⟩ => ⟨S4096x512, .bf16⟩
  | .hbm, ⟨109, _⟩ => ⟨S4x4096x128, .f32⟩
  | .hbm, ⟨110, _⟩ => ⟨S1x4096x512, .f32⟩
  | .hbm, ⟨111, _⟩ => ⟨S4096x512, .f32⟩
  | .hbm, ⟨112, _⟩ => ⟨S1x4096x512, .f32⟩
  | .hbm, ⟨113, _⟩ => ⟨S4x4096x2, .f32⟩
  | .hbm, ⟨114, _⟩ => ⟨S4x2x4096, .f32⟩
  | .hbm, ⟨115, _⟩ => ⟨S8x4096, .f32⟩
  | .hbm, ⟨116, _⟩ => ⟨S1x8x4096, .f32⟩
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .bf16⟩
  | .local _ .vmem, ⟨11, _⟩ => ⟨S512x256, .bf16⟩
  | .local _ .vmem, ⟨12, _⟩ => ⟨S2x512x128, .f32⟩
  | .local _ .vmem, ⟨13, _⟩ => ⟨S2x512x128, .f32⟩
  | _, _ => ⟨S1x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_call0_cst : Ref sig .tc := ⟨.hbm, 10, rfl⟩
abbrev main_call0_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v32 : Ref sig .tc := ⟨.hbm, 52, rfl⟩
abbrev main_call3_v0 : Ref sig .tc := ⟨.hbm, 53, rfl⟩
abbrev main_v33 : Ref sig .tc := ⟨.hbm, 54, rfl⟩
abbrev main_call4_v0 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_call5_v0 : Ref sig .tc := ⟨.hbm, 65, rfl⟩
abbrev main_v40 : Ref sig .tc := ⟨.hbm, 66, rfl⟩
abbrev main_c_9 : Ref sig .tc := ⟨.hbm, 67, rfl⟩
abbrev main_call6_v0 : Ref sig .tc := ⟨.hbm, 68, rfl⟩
abbrev main_v41 : Ref sig .tc := ⟨.hbm, 69, rfl⟩
abbrev main_c_10 : Ref sig .tc := ⟨.hbm, 70, rfl⟩
abbrev main_v42 : Ref sig .tc := ⟨.hbm, 71, rfl⟩
abbrev main_v43 : Ref sig .tc := ⟨.hbm, 72, rfl⟩
abbrev main_call7_v0 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c_11 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_12 : Ref sig .tc := ⟨.hbm, 82, rfl⟩
abbrev main_call8_v0 : Ref sig .tc := ⟨.hbm, 83, rfl⟩
abbrev main_call8_v1 : Ref sig .tc := ⟨.hbm, 84, rfl⟩
abbrev main_v51 : Ref sig .tc := ⟨.hbm, 85, rfl⟩
abbrev main_c_13 : Ref sig .tc := ⟨.hbm, 86, rfl⟩
abbrev main_call9_v0 : Ref sig .tc := ⟨.hbm, 87, rfl⟩
abbrev main_v52 : Ref sig .tc := ⟨.hbm, 88, rfl⟩
abbrev main_c_14 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_c_15 : Ref sig .tc := ⟨.hbm, 96, rfl⟩
abbrev main_call11_v0 : Ref sig .tc := ⟨.hbm, 97, rfl⟩
abbrev main_v59 : Ref sig .tc := ⟨.hbm, 98, rfl⟩
abbrev main_c_16 : Ref sig .tc := ⟨.hbm, 99, rfl⟩
abbrev main_v60 : Ref sig .tc := ⟨.hbm, 100, rfl⟩
abbrev main_v61 : Ref sig .tc := ⟨.hbm, 101, rfl⟩
abbrev main_call12_v0 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66_0 : Ref sig .tc := ⟨.hbm, 107, rfl⟩
abbrev main_v66_1 : Ref sig .tc := ⟨.hbm, 108, rfl⟩
abbrev main_v66_2 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

@[reducible] def k0_t1_loop (i : grid0.Coords) : Scf.Loop 32 :=
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_5 : BitVec 32 := 1#32
  ⟨c0_i32, v20, c1_i32_5⟩
def k0_mult1 (i : grid0.Coords) (k0_t1 : Fin (k0_t1_loop i).trips) : BitVec 32 :=
  let c0_i32 : BitVec 32 := 0#32
  let c1_i32_5 : BitVec 32 := 1#32
  let arg9 : BitVec 32 := Scf.iv c0_i32 c1_i32_5 k0_t1
  let c512_i32_78 : BitVec 32 := 512#32
  let v221 : BitVec 32 := Scalar.muli arg9 c512_i32_78
  v221
def k0_off1 (i : grid0.Coords) (k0_t1 : Fin (k0_t1_loop i).trips) : Fin 2 → Nat :=
  let c0_i32 : BitVec 32 := 0#32
  let c1_i32_5 : BitVec 32 := 1#32
  let arg9 : BitVec 32 := Scf.iv c0_i32 c1_i32_5 k0_t1
  let c512_i32_78 : BitVec 32 := 512#32
  let v221 : BitVec 32 := Scalar.muli arg9 c512_i32_78
  let v222 : BitVec 32 := v221
  let v223 : Index := Scalar.indexCast v222
  let c0_79 : Index := 0#32
  ![v223.toNat, 0]
def k0_off2 (i : grid0.Coords) (k0_t1 : Fin (k0_t1_loop i).trips) : Fin 2 → Nat :=
  let c0_i32 : BitVec 32 := 0#32
  let c1_i32_5 : BitVec 32 := 1#32
  let arg9 : BitVec 32 := Scf.iv c0_i32 c1_i32_5 k0_t1
  let c512_i32_78 : BitVec 32 := 512#32
  let v221 : BitVec 32 := Scalar.muli arg9 c512_i32_78
  let v222 : BitVec 32 := v221
  let v227 : Index := Scalar.indexCast v222
  let c128_81 : Index := 128#32
  ![v227.toNat, 128]
def k0_off3 (i : grid0.Coords) (k0_t1 : Fin (k0_t1_loop i).trips) : Fin 2 → Nat :=
  let c0_i32 : BitVec 32 := 0#32
  let c1_i32_5 : BitVec 32 := 1#32
  let arg9 : BitVec 32 := Scf.iv c0_i32 c1_i32_5 k0_t1
  let c512_i32_78 : BitVec 32 := 512#32
  let v221 : BitVec 32 := Scalar.muli arg9 c512_i32_78
  let v222 : BitVec 32 := v221
  let v247 : Index := Scalar.indexCast v222
  let c256_86 : Index := 256#32
  ![v247.toNat, 256]
def k0_off4 (i : grid0.Coords) (k0_t1 : Fin (k0_t1_loop i).trips) : Fin 2 → Nat :=
  let c0_i32 : BitVec 32 := 0#32
  let c1_i32_5 : BitVec 32 := 1#32
  let arg9 : BitVec 32 := Scf.iv c0_i32 c1_i32_5 k0_t1
  let c512_i32_78 : BitVec 32 := 512#32
  let v221 : BitVec 32 := Scalar.muli arg9 c512_i32_78
  let v222 : BitVec 32 := v221
  let v267 : Index := Scalar.indexCast v222
  let c384_91 : Index := 384#32
  ![v267.toNat, 384]
@[reducible] def k0_t2_loop (i : grid0.Coords) : Scf.Loop 32 :=
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let v17 : BitVec 32 := Scalar.addi c0_i32 v16
  let c1_i32_6 : BitVec 32 := 1#32
  ⟨v20, v17, c1_i32_6⟩
def k0_mult2 (i : grid0.Coords) (k0_t2 : Fin (k0_t2_loop i).trips) : BitVec 32 :=
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_6 : BitVec 32 := 1#32
  let arg9 : BitVec 32 := Scf.iv v20 c1_i32_6 k0_t2
  let c512_i32_78 : BitVec 32 := 512#32
  let v221 : BitVec 32 := Scalar.muli arg9 c512_i32_78
  v221
def k0_off5 (i : grid0.Coords) (k0_t2 : Fin (k0_t2_loop i).trips) : Fin 2 → Nat :=
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_6 : BitVec 32 := 1#32
  let arg9 : BitVec 32 := Scf.iv v20 c1_i32_6 k0_t2
  let c512_i32_78 : BitVec 32 := 512#32
  let v221 : BitVec 32 := Scalar.muli arg9 c512_i32_78
  let v222 : BitVec 32 := v221
  let v223 : Index := Scalar.indexCast v222
  let c0_79 : Index := 0#32
  ![v223.toNat, 0]
def k0_off6 (i : grid0.Coords) (k0_t2 : Fin (k0_t2_loop i).trips) : Fin 2 → Nat :=
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_6 : BitVec 32 := 1#32
  let arg9 : BitVec 32 := Scf.iv v20 c1_i32_6 k0_t2
  let c512_i32_78 : BitVec 32 := 512#32
  let v221 : BitVec 32 := Scalar.muli arg9 c512_i32_78
  let v222 : BitVec 32 := v221
  let v227 : Index := Scalar.indexCast v222
  let c128_81 : Index := 128#32
  ![v227.toNat, 128]
def k0_off7 (i : grid0.Coords) (k0_t2 : Fin (k0_t2_loop i).trips) : Fin 2 → Nat :=
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_6 : BitVec 32 := 1#32
  let arg9 : BitVec 32 := Scf.iv v20 c1_i32_6 k0_t2
  let c512_i32_78 : BitVec 32 := 512#32
  let v221 : BitVec 32 := Scalar.muli arg9 c512_i32_78
  let v222 : BitVec 32 := v221
  let v247 : Index := Scalar.indexCast v222
  let c256_86 : Index := 256#32
  ![v247.toNat, 256]
def k0_off8 (i : grid0.Coords) (k0_t2 : Fin (k0_t2_loop i).trips) : Fin 2 → Nat :=
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_6 : BitVec 32 := 1#32
  let arg9 : BitVec 32 := Scf.iv v20 c1_i32_6 k0_t2
  let c512_i32_78 : BitVec 32 := 512#32
  let v221 : BitVec 32 := Scalar.muli arg9 c512_i32_78
  let v222 : BitVec 32 := v221
  let v267 : Index := Scalar.indexCast v222
  let c384_91 : Index := 384#32
  ![v267.toNat, 384]
def k0_mult3 (i : grid0.Coords) : BitVec 32 :=
  let arg1 : BitVec 32 := BitVec.ofNat 32 (i 1).val
  let c512_i32 : BitVec 32 := 512#32
  let v23 : BitVec 32 := Scalar.muli arg1 c512_i32
  v23
def k0_off9 (i : grid0.Coords) : Fin 2 → Nat :=
  let arg1 : BitVec 32 := BitVec.ofNat 32 (i 1).val
  let c512_i32 : BitVec 32 := 512#32
  let v23 : BitVec 32 := Scalar.muli arg1 c512_i32
  let v24 : BitVec 32 := v23
  let v25 : Index := Scalar.indexCast v24
  let c0_7 : Index := 0#32
  ![v25.toNat, 0]
def k0_off10 (i : grid0.Coords) : Fin 2 → Nat :=
  let arg1 : BitVec 32 := BitVec.ofNat 32 (i 1).val
  let c512_i32 : BitVec 32 := 512#32
  let v23 : BitVec 32 := Scalar.muli arg1 c512_i32
  let v24 : BitVec 32 := v23
  let v31 : Index := Scalar.indexCast v24
  let c128_10 : Index := 128#32
  ![v31.toNat, 128]
def k0_off11 (i : grid0.Coords) : Fin 2 → Nat :=
  let arg1 : BitVec 32 := BitVec.ofNat 32 (i 1).val
  let c512_i32 : BitVec 32 := 512#32
  let v23 : BitVec 32 := Scalar.muli arg1 c512_i32
  let v24 : BitVec 32 := v23
  let v53 : Index := Scalar.indexCast v24
  let c256_16 : Index := 256#32
  ![v53.toNat, 256]
def k0_off12 (i : grid0.Coords) : Fin 2 → Nat :=
  let arg1 : BitVec 32 := BitVec.ofNat 32 (i 1).val
  let c512_i32 : BitVec 32 := 512#32
  let v23 : BitVec 32 := Scalar.muli arg1 c512_i32
  let v24 : BitVec 32 := v23
  let v75 : Index := Scalar.indexCast v24
  let c384_22 : Index := 384#32
  ![v75.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel3Ideal.lean ====
variable {F : FTy → Type} [FloatOps F] [Named F]
def κ : String → Option EReal := fun
  | "mask" => some ⊥
  | _ => none
-- ==== Reference3Ideal.lean ====
abbrev S1x8x4096x64 : Shape := ⟨4, ![1, 8, 4096, 64]⟩
abbrev S1x8x4096 : Shape := ⟨3, ![1, 8, 4096]⟩
abbrev S1x4096x512 : Shape := ⟨3, ![1, 4096, 512]⟩
abbrev S_ : Shape := ⟨0, ![]⟩
abbrev S1x8x4096x4096 : Shape := ⟨4, ![1, 8, 4096, 4096]⟩
abbrev S1x8x4096x1 : Shape := ⟨4, ![1, 8, 4096, 1]⟩
abbrev S1x8x1x4096 : Shape := ⟨4, ![1, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x8x64 : Shape := ⟨4, ![1, 4096, 8, 64]⟩

abbrev nBuf : Space → Nat
  | .hbm => 93
  | .vmem => 0
  | .smem => 0
  | _ => 0

abbrev bufTy : (tb : Table) → Fin (tcTables nBuf tb) → BufTy
  | .hbm, ⟨0, _⟩ => ⟨S1x8x4096x64, .f32⟩
  | .hbm, ⟨1, _⟩ => ⟨S1x8x4096x64, .f32⟩
  | .hbm, ⟨2, _⟩ => ⟨S1x8x4096x64, .f32⟩
  | .hbm, ⟨3, _⟩ => ⟨S1x8x4096, .f32⟩
  | .hbm, ⟨4, _⟩ => ⟨S1x4096x512, .f32⟩
  | .hbm, ⟨5, _⟩ => ⟨S_, .f32⟩
  | .hbm, ⟨6, _⟩ => ⟨S_, .f32⟩
  | .hbm, ⟨7, _⟩ => ⟨S1x8x4096, .f32⟩
  | .hbm, ⟨8, _⟩ => ⟨S1x8x4096x4096, .f32⟩
  | .hbm, ⟨9, _⟩ => ⟨S_, .f32⟩
  | .hbm, ⟨10, _⟩ => ⟨S1x8x4096x4096, .f32⟩
  | .hbm, ⟨11, _⟩ => ⟨S1x8x4096x4096, .f32⟩
  | .hbm, ⟨12, _⟩ => ⟨S1x8x4096x1, .f32⟩
  | .hbm, ⟨13, _⟩ => ⟨S1x8x4096x4096, .f32⟩
  | .hbm, ⟨14, _⟩ => ⟨S1x8x4096x4096, .f32⟩
  | .hbm, ⟨15, _⟩ => ⟨S1x8x1x4096, .f32⟩
  | .hbm, ⟨16, _⟩ => ⟨S1x8x4096x4096, .f32⟩
  | .hbm, ⟨17, _⟩ => ⟨S1x8x4096x4096, .f32⟩
  | .hbm, ⟨18, _⟩ => ⟨S4096, .i32⟩
  | .hbm, ⟨19, _⟩ => ⟨S1x4096, .i32⟩
  | .hbm, ⟨20, _⟩ => ⟨S4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S1x8x4096x4096, .i1⟩
  | .hbm, ⟨28, _⟩ => ⟨S1x8x4096x4096, .f32⟩
  | .hbm, ⟨29, _⟩ => ⟨S1x8x4096x4096, .f32⟩
  | .hbm, ⟨30, _⟩ => ⟨S_, .f32⟩
  | .hbm, ⟨31, _⟩ => ⟨S1x8x4096, .f32⟩
  | .hbm, ⟨32, _⟩ => ⟨S_, .f32⟩
  | .hbm, ⟨33, _⟩ => ⟨S1x8x4096, .f32⟩
  | .hbm, ⟨34, _⟩ => ⟨S1x8x4096, .f32⟩
  | .hbm, ⟨35, _⟩ => ⟨S1x8x4096x1, .f32⟩
  | .hbm, ⟨36, _⟩ => ⟨S1x8x4096x4096, .f32⟩
  | .hbm, ⟨37, _⟩ => ⟨S1x8x4096x4096, .f32⟩
  | .hbm, ⟨38, _⟩ => ⟨S1x8x4096x4096, .f32⟩
  | .hbm, ⟨39, _⟩ => ⟨S_, .f32⟩
  | .hbm, ⟨40, _⟩ => ⟨S1x8x4096, .f32⟩
  | .hbm, ⟨41, _⟩ => ⟨S1x8x4096x1, .f32⟩
  | .hbm, ⟨42, _⟩ => ⟨S1x8x4096x4096, .f32⟩
  | .hbm, ⟨43, _⟩ => ⟨S1x8x4096x4096, .f32⟩
  | .hbm, ⟨44, _⟩ => ⟨S1x8x4096x64, .f32⟩
  | .hbm, ⟨45, _⟩ => ⟨S1x4096x8x64, .f32⟩
  | .hbm, ⟨46, _⟩ => ⟨S1x4096x512, .f32⟩
  | .hbm, ⟨47, _⟩ => ⟨S_, .f32⟩
  | .hbm, ⟨48, _⟩ => ⟨S_, .f32⟩
  | .hbm, ⟨49, _⟩ => ⟨S1x8x4096, .f32⟩
  | .hbm, ⟨50, _⟩ => ⟨S1x8x4096x4096, .f32⟩
  | .hbm, ⟨51, _⟩ => ⟨S_, .f32⟩
  | .hbm, ⟨52, _⟩ => ⟨S1x8x4096x4096, .f32⟩
  | .hbm, ⟨53, _⟩ => ⟨S1x8x4096x4096, .f32⟩
  | .hbm, ⟨54, _⟩ => ⟨S1x8x4096x1, .f32⟩
  | .hbm, ⟨55, _⟩ => ⟨S1x8x4096x4096, .f32⟩
  | .hbm, ⟨56, _⟩ => ⟨S1x8x4096x4096, .f32⟩
  | .hbm, ⟨57, _⟩ => ⟨S1x8x1x4096, .f32⟩
  | .hbm, ⟨58, _⟩ => ⟨S1x8x4096x4096, .f32⟩
  | .hbm, ⟨59, _⟩ => ⟨S1x8x4096x4096, .f32⟩
  | .hbm, ⟨60, _⟩ => ⟨S4096, .i32⟩
  | .hbm, ⟨61, _⟩ => ⟨S1x4096, .i32⟩
  | .hbm, ⟨62, _⟩ => ⟨S4096, .i32⟩
  | .hbm, ⟨63, _⟩ => ⟨S4096x1, .i32⟩
  | .hbm, ⟨64, _⟩ => ⟨S4096x4096, .i32⟩
  | .hbm, ⟨65, _⟩ => ⟨S4096x4096, .i32⟩
  | .hbm, ⟨66, _⟩ => ⟨S4096x4096, .i1⟩
  | .hbm, ⟨67, _⟩ => ⟨S_, .f32⟩
  | .hbm, ⟨68, _⟩ => ⟨S_, .f32⟩
  | .hbm, ⟨69, _⟩ => ⟨S1x8x4096x4096, .i1⟩
  | .hbm, ⟨70, _⟩ => ⟨S1x8x4096x4096, .f32⟩
  | .hbm, ⟨71, _⟩ => ⟨S1x8x4096x4096, .f32⟩
  | .hbm, ⟨72, _⟩ => ⟨S_, .f32⟩
  | .hbm, ⟨73, _⟩ => ⟨S1x8x4096, .f32⟩
  | .hbm, ⟨74, _⟩ => ⟨S1x8x4096x1, .f32⟩
  | .hbm, ⟨75, _⟩ => ⟨S1x8x4096x4096, .f32⟩
  | .hbm, ⟨76, _⟩ => ⟨S1x8x4096x4096, .f32⟩
  | .hbm, ⟨77, _⟩ => ⟨S1x8x4096x4096, .f32⟩
  | .hbm, ⟨78, _⟩ => ⟨S_, .f32⟩
  | .hbm, ⟨79, _⟩ => ⟨S1x8x4096, .f32⟩
  | .hbm, ⟨80, _⟩ => ⟨S1x8x4096, .f32⟩
  | .hbm, ⟨81, _⟩ => ⟨S1x8x4096, .f32⟩
  | .hbm, ⟨82, _⟩ => ⟨S1x8x4096, .f32⟩
  | .hbm, ⟨83, _⟩ => ⟨S1x4096x512, .f32⟩
  | .hbm, ⟨84, _⟩ => ⟨S1x4096x512, .f32⟩
  | .hbm, ⟨85, _⟩ => ⟨S_, .f32⟩
  | .hbm, ⟨86, _⟩ => ⟨S1x4096x512, .f32⟩
  | .hbm, ⟨87, _⟩ => ⟨S1x4096x512, .f32⟩
  | .hbm, ⟨88, _⟩ => ⟨S_, .f32⟩
  | .hbm, ⟨89, _⟩ => ⟨S1x4096x512, .f32⟩
  | .hbm, ⟨90, _⟩ => ⟨S1x4096x512, .f32⟩
  | .hbm, ⟨91, _⟩ => ⟨S1x4096x512, .f32⟩
  | .hbm, ⟨92, _⟩ => ⟨S1x4096x512, .f32⟩
  | _, _ => ⟨S1x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call2_call0_cst : Ref sig .tc := ⟨.hbm, 47, rfl⟩
abbrev main_call2_call0_v0 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call4_v0 : Ref sig .tc := ⟨.hbm, 83, rfl⟩
abbrev main_call4_v1 : Ref sig .tc := ⟨.hbm, 84, rfl⟩
abbrev main_call4_cst : Ref sig .tc := ⟨.hbm, 85, rfl⟩
abbrev main_call4_v2 : Ref sig .tc := ⟨.hbm, 86, rfl⟩
abbrev main_call4_v3 : Ref sig .tc := ⟨.hbm, 87, rfl⟩
abbrev main_call4_cst_0 : Ref sig .tc := ⟨.hbm, 88, rfl⟩
abbrev main_call4_v4 : Ref sig .tc := ⟨.hbm, 89, rfl⟩
abbrev main_call4_v5 : Ref sig .tc := ⟨.hbm, 90, rfl⟩
abbrev main_v59 : Ref sig .tc := ⟨.hbm, 91, rfl⟩
abbrev main_v60 : Ref sig .tc := ⟨.hbm, 92, rfl⟩

abbrev nD : Nat := 1
abbrev τ : Topo := Topo.v7x

variable {F : FTy → Type} [FloatOps F]
-- ==== Proof.Body.MachineFirst.lean ====
module

public import proofs.«01_k».proof.Proof.Gen.Kernel.Frame
public import proofs.«01_k».proof.Proof.Gen.Kernel.Loops
public import proofs.«01_k».proof.Proof.Gen.Kernel.Skeleton
public import Idealize.ShloMosaic.Lib.WholeRead
public import Idealize.ShloMosaic.Lib.Claim

/-! # The kernel as printed, over machine words, runs to its end

Of what it computes nothing is said here: its input blocks are left as they were, its result blocks hold something. -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's test for the first key tile of a group. -/
abbrev atFirst (i : grid0.Coords) : Prop := Scalar.cmpi .ne (Scalar.extui (Scalar.cmpi .eq (BitVec.ofNat 32 (i 1).val) 0#32)) 0#32 = 1#1

/-- The eight buffers of the body: the five inputs at their contents, the three results at some contents. -/
def Buffers (c : Dev nD) (arg2 : Memref sig .tc .vmem S512x512 .bf16) (arg3 : Memref sig .tc .vmem S512x512 .bf16) (arg4 : Memref sig .tc .vmem S4096x512 .bf16) (arg5 : Memref sig .tc .vmem S4096x512 .bf16) (arg6 : Memref sig .tc .vmem S2x8x8x512 .f32) (arg7 : Memref sig .tc .vmem S512x512 .f32) (arg8 : Memref sig .tc .vmem S512x512 .f32) (arg9 : Memref sig .tc .vmem S4096x512 .f32)
    (x0 x1 : Vec F S512x512 .bf16) (x2 x3 : Vec F S4096x512 .bf16) (x4 : Vec F S2x8x8x512 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4
    ∗ (∃ d, owns (c : Thread nD τ) arg7 fullShare d) ∗ (∃ d, owns (c : Thread nD τ) arg8 fullShare d) ∗ (∃ d, owns (c : Thread nD τ) arg9 fullShare d))

set_option maxHeartbeats 1000000 in
/-- The body runs at the first key tile of a group. -/
theorem first_ends (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S2x8x8x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S4096x512 .f32) (harg9 : arg9.IsWhole) (hc0 : atFirst i)
    (x0 x1 : Vec F S512x512 .bf16) (x2 x3 : Vec F S4096x512 .bf16) (x4 : Vec F S2x8x8x512 .f32) (E : Set ℕ) :
    Buffers c arg2 arg3 arg4 arg5 arg6 arg7 arg8 arg9 x0 x1 x2 x3 x4
      ⊢ wp frame (wpE (defs₀ (F := F)) Variants.none c none) E (cc0_fox_bwd i arg2 harg2 arg3 harg3 arg4 harg4 arg5 harg5 arg6 harg6 arg7 harg7 arg8 harg8 arg9 harg9)
          (fun _ => Buffers c arg2 arg3 arg4 arg5 arg6 arg7 arg8 arg9 x0 x1 x2 x3 x4) := by
  simp only [cc0_fox_bwd_eq_skeleton]; unfold cc0_fox_bwd_skel
  simp only [k0_part5_eq_skeleton, k0_part6_eq_skeleton, k0_part7_eq_skeleton, k0_part8_eq_skeleton]
  unfold Buffers owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩⟩
  obtain rfl := harg2.eq_unread hf0
  obtain rfl := harg3.eq_unread hf1
  obtain rfl := harg4.eq_unread hf2
  obtain rfl := harg5.eq_unread hf3
  obtain rfl := harg6.eq_unread hf4
  sl_exec (disch := first | sl_exact hc0)
  sl_step
  isplitl [H0]; · iexists _; isplitr; swap; · iexact H0
                  ipureintro; exact harg2.read_unread _
  isplitl [H1]; · iexists _; isplitr; swap; · iexact H1
                  ipureintro; exact harg3.read_unread _
  isplitl [H2]; · iexists _; isplitr; swap; · iexact H2
                  ipureintro; exact harg4.read_unread _
  isplitl [H3]; · iexists _; isplitr; swap; · iexact H3
                  ipureintro; exact harg5.read_unread _
  isplitl [H4]; · iexists _; isplitr; swap; · iexact H4
                  ipureintro; exact harg6.read_unread _
  isplitl [H5]; · iexists _, _; isplitr; swap; · iexact H5
                  ipureintro; rfl
  isplitl [H6]; · iexists _, _; isplitr; swap; · iexact H6
                  ipureintro; rfl
  iexists _, _; isplitr; swap; · iexact H7
  ipureintro; rfl

end Cert.Kernel.Body
-- ==== Proof.Body.MachineNext.lean ====
module

public import proofs.«01_k».proof.Proof.Body.MachineFirst
public import proofs.«01_k».proof.Proof.Gen.Kernel.Loops
public import proofs.«01_k».proof.Proof.Gen.Kernel.Skeleton
public import Idealize.ShloMosaic.Lib.WholeRead
public import Idealize.ShloMosaic.Lib.Claim

/-! # The kernel as printed, over machine words, runs to its end: the later key tiles -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body runs at a later key tile. -/
theorem next_ends (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S2x8x8x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S4096x512 .f32) (harg9 : arg9.IsWhole) (hc0 : ¬ atFirst i)
    (x0 x1 : Vec F S512x512 .bf16) (x2 x3 : Vec F S4096x512 .bf16) (x4 : Vec F S2x8x8x512 .f32) (E : Set ℕ) :
    Buffers c arg2 arg3 arg4 arg5 arg6 arg7 arg8 arg9 x0 x1 x2 x3 x4
      ⊢ wp frame (wpE (defs₀ (F := F)) Variants.none c none) E (cc0_fox_bwd i arg2 harg2 arg3 harg3 arg4 harg4 arg5 harg5 arg6 harg6 arg7 harg7 arg8 harg8 arg9 harg9)
          (fun _ => Buffers c arg2 arg3 arg4 arg5 arg6 arg7 arg8 arg9 x0 x1 x2 x3 x4) := by
  simp only [cc0_fox_bwd_eq_skeleton]; unfold cc0_fox_bwd_skel
  simp only [k0_part5_eq_skeleton, k0_part6_eq_skeleton, k0_part7_eq_skeleton, k0_part8_eq_skeleton]
  unfold Buffers owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩⟩
  obtain rfl := harg2.eq_unread hf0
  obtain rfl := harg3.eq_unread hf1
  obtain rfl := harg4.eq_unread hf2
  obtain rfl := harg5.eq_unread hf3
  obtain rfl := harg6.eq_unread hf4
  sl_exec (disch := first | sl_exact hc0)
  sl_step
  isplitl [H0]; · iexists _; isplitr; swap; · iexact H0
                  ipureintro; exact harg2.read_unread _
  isplitl [H1]; · iexists _; isplitr; swap; · iexact H1
                  ipureintro; exact harg3.read_unread _
  isplitl [H2]; · iexists _; isplitr; swap; · iexact H2
                  ipureintro; exact harg4.read_unread _
  isplitl [H3]; · iexists _; isplitr; swap; · iexact H3
                  ipureintro; exact harg5.read_unread _
  isplitl [H4]; · iexists _; isplitr; swap; · iexact H4
                  ipureintro; exact harg6.read_unread _
  isplitl [H5]; · iexists _, _; isplitr; swap; · iexact H5
                  ipureintro; rfl
  isplitl [H6]; · iexists _, _; isplitr; swap; · iexact H6
                  ipureintro; rfl
  iexists _, _; isplitr; swap; · iexact H7
  ipureintro; rfl

end Cert.Kernel.Body
-- ==== Proof.Body.Machine.lean ====
module

public import proofs.«01_k».proof.Proof.Body.MachineNext
public import proofs.«01_k».proof.Proof.Gen.Kernel.Loops
public import proofs.«01_k».proof.Proof.Gen.Kernel.Skeleton
public import Idealize.ShloMosaic.Lib.WholeRead
public import Idealize.ShloMosaic.Lib.Claim
public import Idealize.ShloMosaic.Lib.WordCmp

/-! # The kernel as printed, over machine words, runs to its end: the whole grid -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first key tile is the point's number divisible by eight. -/
theorem first_iff (t : Fin cfg0.N) : atFirst (grid0.coords t) ↔ t.val % 8 = 0 := by
  have ht : t.val < 16 := Nat.lt_of_lt_of_eq t.isLt N_0
  have e1 : (grid0.coords t 1).val = t.val / 1 % 8 := Pipeline.Grid.coords_val t 1 (by decide) rfl
  simp only [atFirst, e1]
  word_cmp

/-- The three results' windows, of which nothing is said. -/
def unsaid : Fin 8 → Bool := fun w => decide (5 ≤ w.val)

/-- What the body leaves at a point: the input blocks; the results at contents not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with, -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare d)
    ∗ (∃ d, owns (c : Thread nD τ) (st0_7 t) fullShare d))

/-- and what it returns. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d)
    ∗ (∃ d, owns (c : Thread nD τ) (st0_6 t) fullShare d)
    ∗ (∃ d, owns (c : Thread nD τ) (st0_7 t) fullShare d))

/-- The body at any point, on the buffers it is given. -/
theorem body_ends (c : Dev nD) (t : Fin cfg0.N) :
    Buffers c (st0_0 t) (st0_1 t) (st0_2 t) (st0_3 t) (st0_4 t) (st0_5 t) (st0_6 t) (st0_7 t) (iblk m c 0 t) (iblk m c 1 t) (iblk m c 2 t) (iblk m c 3 t) (iblk m c 4 t)
      ⊢ wp frame (wpE (defs₀ (F := F)) Variants.none c none) Set.univ (bodyAt0 t)
          (fun _ => Buffers c (st0_0 t) (st0_1 t) (st0_2 t) (st0_3 t) (st0_4 t) (st0_5 t) (st0_6 t) (st0_7 t) (iblk m c 0 t) (iblk m c 1 t) (iblk m c 2 t) (iblk m c 3 t) (iblk m c 4 t)) := by
  unfold bodyAt0
  by_cases h : t.val % 8 = 0
  · exact first_ends c (grid0.coords t) _ _ _ _ _ _ _ _ _ _ _ _ _ _ _ _ ((first_iff t).mpr h) (iblk m c 0 t) (iblk m c 1 t) (iblk m c 2 t) (iblk m c 3 t) (iblk m c 4 t) Set.univ
  · exact next_ends c (grid0.coords t) _ _ _ _ _ _ _ _ _ _ _ _ _ _ _ _ (fun h' => h ((first_iff t).mp h')) (iblk m c 0 t) (iblk m c 1 t) (iblk m c 2 t) (iblk m c 3 t) (iblk m c 4 t) Set.univ

/-- A run, with something held beside it. -/
theorem beside {c : Dev nD} {E : Set ℕ} {p : Prog (TpuEff nD τ sig (Elt F) Λ₀ .tc) PUnit} {P Q : sProp 𝕄}
    (h : P ⊢ wp frame (wpE (defs₀ (F := F)) Variants.none c none) E p (fun _ => Q)) (R : sProp 𝕄) :
    iprop(P ∗ R) ⊢ wp frame (wpE (defs₀ (F := F)) Variants.none c none) E p (fun _ => iprop(Q ∗ R)) :=
  (sep_mono h BIBase.Entails.rfl).trans (wp_frame_r _ _ _)

set_option maxHeartbeats 1600000 in
/-- The body at any point. -/
theorem at_point (c : Dev nD) (t : Fin cfg0.N) :
    given m c t ⊢ wp frame (wpE (defs₀ (F := F)) Variants.none c none) Set.univ (bodyAt0 t) (fun _ => returned m c t) := by
  have hb := body_ends m c t
  unfold given returned
  unfold Buffers at hb
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4]
  refine BIBase.Entails.trans ?_ ((beside hb iprop((dats m 0 c).Φ t.castSucc ∗ (dats m 0 c).owesAt () t.castSucc)).trans (wp_mono _ _ _ fun _ => ?_))
  · iintro ⟨HΦ, Ho, ⟨%d0, H0⟩, ⟨%d1, H1⟩, ⟨%d2, H2⟩, ⟨%d3, H3⟩, ⟨%d4, H4⟩, H5, H6, H7⟩
    isplitr [HΦ Ho]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · isplitl [HΦ]; · iexact HΦ
      iexact Ho
  · iintro ⟨⟨H0, H1, H2, H3, H4, H5, H6, H7⟩, HΦ, Ho⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The table's row is the body. -/
theorem row_eq (t : Fin cfg0.N) :
    defs₀ (F := F) .tc cfg0.body (cfg0.bodyArgs t (cfg0.slots t)) = bodyAt0 t := by
  unfold defs₀; rw [Defs.onTc_tc]

/-- The body's obligation. -/
theorem obligation (c : Dev nD) : BodyObligation (dats (F := F) m 0 c) (defs₀ (F := F)) Variants.none () Set.univ unsaid := fun t => by
  rw [bigSep_W0, bigSep_W0, row_eq]
  exact triple_restated (at_point m c t) rfl .rfl fun _ => .rfl

/-- Every buffer but the five arguments. -/
def others : Finset (Ref sig .tc) := Finset.univ \ {main_arg0, main_arg1, main_arg2, main_arg3, main_arg4}

set_option maxHeartbeats 800000 in
/-- The host's operations after the kernel write no argument. -/
theorem tail_writes : ∀ ops ∈ ([hostOps1, hostOps1_1, hostOps1_2] : List (List (HloOp τ sig (Elt F)))), ∀ op ∈ ops,
    ∀ b : Ref sig .tc, Proc.devRef .tc b ∈ op.writes → b ∈ others := by
  have key : ∀ a ∈ ({main_arg0, main_arg1, main_arg2, main_arg3, main_arg4} : Finset (Ref sig .tc)),
      ∀ ops ∈ ([hostOps1, hostOps1_1, hostOps1_2] : List (List (HloOp τ sig (Elt F)))), ops.Forall fun op => Proc.devRef .tc a ∉ op.writes := by
    intro a ha ops hops
    simp only [Finset.mem_insert, Finset.mem_singleton] at ha
    simp only [List.mem_cons, List.mem_nil_iff, or_false] at hops
    rcases hops with rfl | rfl | rfl <;> rcases ha with rfl | rfl | rfl | rfl | rfl <;>
      (simp only [List.Forall, StableHlo.nullary_writes, StableHlo.unary_writes, StableHlo.binary_writes, StableHlo.ternary_writes, StableHlo.quaternary_writes, StableHlo.reshape_writes, StableHlo.binaryIndexed_writes, Finset.mem_singleton]
       repeat' apply And.intro
       all_goals exact StableHlo.devRef_ne_of_ne (by decide))
  intro ops hops op hop b hb
  exact Finset.mem_sdiff.mpr ⟨Finset.mem_univ _, fun ha => List.forall_iff_forall_mem.mp (key b ha ops hops) op hop hb⟩

set_option backward.isDefEq.respectTransparency.types false in
set_option maxHeartbeats 800000 in
/-- Every run ends, the arguments' buffers as the host left them and all counters at zero. -/
theorem whole_run : θ_run defs (onTc (τ := τ) (main (F := F))) (s₀ m ρ)
    (fun r => Pipeline.RDat.FramePostR (cfgs 0) (fun c => (dats m 0 c).toRForget unsaid) others (V m) r ∧ r.2.sem = fun _ => 0) :=
  Pipeline.θ_run_frame_around_T_forget (Q' := _) cfgs (dats m) (0 : Fin 1) launch0 defs₀ Variants.none unsaid others m ρ main
    (hbody := fun c => (obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps) (hT := tail_writes)
    (hmain := hmain m Variants.none) (hA := A_eq m) (hΦ := fun _ _ => rfl)

/-- The five arguments are among the buffers the run speaks of. -/
theorem spoken : ∀ a ∈ ({main_arg0, main_arg1, main_arg2, main_arg3, main_arg4} : Finset (Ref sig .tc)), a ∈ Pipeline.restRefs sig (cfgs 0).spec \ others := by
  intro a ha
  refine Finset.mem_sdiff.mpr ⟨?_, fun h => (Finset.mem_sdiff.mp h).2 ha⟩
  simp only [Finset.mem_insert, Finset.mem_singleton] at ha
  rcases ha with rfl | rfl | rfl | rfl | rfl <;> exact Pipeline.mem_restRefs_of _ (by decide) (by decide)

/-- The arguments end unchanged and the counters at zero. -/
theorem ends_unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨((h.1 c).2 main_arg0 (spoken _ (by decide))).trans (V_main_arg0 m c), ((h.1 c).2 main_arg1 (spoken _ (by decide))).trans (V_main_arg1 m c),
        ((h.1 c).2 main_arg2 (spoken _ (by decide))).trans (V_main_arg2 m c), ((h.1 c).2 main_arg3 (spoken _ (by decide))).trans (V_main_arg3 m c),
        ((h.1 c).2 main_arg4 (spoken _ (by decide))).trans (V_main_arg4 m c)⟩, h.2⟩) (whole_run m ρ)

end Cert.Kernel.Body
-- ==== Proof.Body.Model.lean ====
module

public import proofs.«01_k».proof.Proof.Gen.KernelIdeal.Skeleton
public import Idealize.ShloMosaic.Lib.Pipeline.ValueKit
public import Idealize.ShloMosaic.Lib.Pointwise
public import Idealize.ShloMosaic.Lib.WordCmp

/-! # What one grid point of the kernel adds

The kernel works on tiles of 512 key rows and 512 query rows, on four heads side by side, each in a block of 128 lanes.
This module names, in plain sums over the extended reals, the contribution that the pair of a key tile and a query tile
makes to each of the three results, and the partial sums that a grid point leaves. -/

@[expose] public section

set_option maxRecDepth 16384

noncomputable section

namespace Cert.KernelIdeal.Body

open Idealize.ShloMosaic Idealize.ShloMosaic.TcCoe
open Idealize.SL Idealize.SL.Sem
open Cert.KernelIdeal Cert.KernelIdeal.Gen

/-- Row `b` of tile `i`. -/
def rowOf (i : Fin 8) (b : Fin 512) : Fin 4096 := ⟨512 * i.val + b.val, by omega⟩
/-- Lane `l` of head `h`. -/
def colOf (h : Fin 4) (l : Fin 128) : Fin 512 := ⟨128 * h.val + l.val, by omega⟩
/-- The pair of heads that head `h` belongs to. -/
def pairOf (h : Fin 4) : Fin 2 := ⟨h.val / 2, by omega⟩
/-- The row of that pair's block that head `h` reads. -/
def subOf (h : Fin 4) : Fin 8 := ⟨h.val % 2, by omega⟩

/-- A tile of 512 rows: four heads of 128 lanes. -/
abbrev TileV : Type := S512x512.Idx → EReal
/-- All 4096 rows of four heads. -/
abbrev FullV : Type := S4096x512.Idx → EReal
/-- The log sums of four heads' rows, tile by tile. -/
abbrev RowV : Type := S2x8x8x512.Idx → EReal

/-- The logit of key row `a` against query row `b` of tile `i`, less that query row's log sum. -/
def LG (x0 : TileV) (x2 : FullV) (x4 : RowV) (i : Fin 8) (h : Fin 4) (a b : Fin 512) : EReal :=
  (∑ l : Fin 128, x0 (ix2 a (colOf h l)) * x2 (ix2 (rowOf i b) (colOf h l))) - x4 (ix4 (pairOf h) i (subOf h) b)

/-- The probability that query row `b` of tile `i` gives to key row `a` of tile `j`: nothing to the keys after it. -/
def PP (x0 : TileV) (x2 : FullV) (x4 : RowV) (j i : Fin 8) (h : Fin 4) (a b : Fin 512) : EReal :=
  if 512 * j.val + a.val ≤ 512 * i.val + b.val then Ideal.exp (LG x0 x2 x4 i h a b) else 0

/-- The gradient of that pair's logit. -/
def DD (x0 x1 : TileV) (x2 x3 : FullV) (x4 : RowV) (j i : Fin 8) (h : Fin 4) (a b : Fin 512) : EReal :=
  PP x0 x2 x4 j i h a b * ∑ l : Fin 128, x1 (ix2 a (colOf h l)) * x3 (ix2 (rowOf i b) (colOf h l))

/-- What query tile `i` adds to the gradient of the values. -/
def TV (x0 : TileV) (x2 x3 : FullV) (x4 : RowV) (j i : Fin 8) (h : Fin 4) (a : Fin 512) (l : Fin 128) : EReal :=
  ∑ b : Fin 512, PP x0 x2 x4 j i h a b * x3 (ix2 (rowOf i b) (colOf h l))

/-- What query tile `i` adds to the gradient of the keys. -/
def TK (x0 x1 : TileV) (x2 x3 : FullV) (x4 : RowV) (j i : Fin 8) (h : Fin 4) (a : Fin 512) (l : Fin 128) : EReal :=
  ∑ b : Fin 512, DD x0 x1 x2 x3 x4 j i h a b * x2 (ix2 (rowOf i b) (colOf h l))

/-- What key tile `j` adds to the gradient of the queries of tile `i`. -/
def TQ (x0 x1 : TileV) (x2 x3 : FullV) (x4 : RowV) (j i : Fin 8) (h : Fin 4) (b : Fin 512) (l : Fin 128) : EReal :=
  ∑ a : Fin 512, DD x0 x1 x2 x3 x4 j i h a b * x0 (ix2 a (colOf h l))

/-- The sum of the contributions of the query tiles from `j` up to `n`. -/
def upTo (f : Fin 8 → EReal) (j n : ℕ) : EReal := ∑ i ∈ Finset.univ.filter (fun i : Fin 8 => j ≤ i.val ∧ i.val < n), f i

/-- One more tile. -/
theorem upTo_succ (f : Fin 8 → EReal) (j : ℕ) (n : Fin 8) (h : j ≤ n.val) : upTo f j (n.val + 1) = upTo f j n.val + f n := by
  have e : Finset.univ.filter (fun i : Fin 8 => j ≤ i.val ∧ i.val < n.val + 1)
      = insert n (Finset.univ.filter (fun i : Fin 8 => j ≤ i.val ∧ i.val < n.val)) := by
    ext i
    simp only [Finset.mem_filter, Finset.mem_univ, true_and, Finset.mem_insert, Fin.ext_iff]
    omega
  unfold upTo
  rw [e, Finset.sum_insert (by simp), add_comm]

/-- The first tile alone. -/
theorem upTo_first (f : Fin 8 → EReal) (j : Fin 8) : upTo f j.val (j.val + 1) = 0 + f j := by
  rw [upTo_succ f j.val j le_rfl]
  congr 1
  unfold upTo
  apply Finset.sum_eq_zero
  intro i hi
  simp only [Finset.mem_filter] at hi
  omega

/-- Below the diagonal tile every key comes before every query, so nothing is left out. -/
theorem PP_off (x0 : TileV) (x2 : FullV) (x4 : RowV) (j i : Fin 8) (hji : j.val < i.val) (h : Fin 4) (a b : Fin 512) :
    PP x0 x2 x4 j i h a b = Ideal.exp (LG x0 x2 x4 i h a b) := if_pos (by omega)

/-- On the diagonal tile the rule compares the rows inside the tile. -/
theorem PP_diag (x0 : TileV) (x2 : FullV) (x4 : RowV) (j : Fin 8) (h : Fin 4) (a b : Fin 512) :
    PP x0 x2 x4 j j h a b = Ideal.exp (Scalar.select (IntOp.cmpi CmpIPredicate.sle (BitVec.ofNat 32 a.val) (BitVec.ofNat 32 b.val))
      (LG x0 x2 x4 j h a b) (Named.named (F := Ideal) Cert.KernelIdeal.κ "mask" (φ := .f32) 0xF149F2CA#32)) := by
  have hm : (Named.named (F := Ideal) Cert.KernelIdeal.κ "mask" (φ := .f32) 0xF149F2CA#32 : EReal) = ⊥ := rfl
  by_cases hab : a.val ≤ b.val
  · have hc : IntOp.cmpi CmpIPredicate.sle (BitVec.ofNat 32 a.val) (BitVec.ofNat 32 b.val) = 1#1 := by
      word_cmp
    rw [hc, PP, if_pos (by omega)]; rfl
  · have hc : IntOp.cmpi CmpIPredicate.sle (BitVec.ofNat 32 a.val) (BitVec.ofNat 32 b.val) = 0#1 := by
      word_cmp
    rw [hc, PP, if_neg (by omega)]
    exact (congrArg Ideal.exp hm).symm

end Cert.KernelIdeal.Body
-- ==== Proof.Body.Run.lean ====
module

public import proofs.«01_k».proof.Proof.Gen.KernelIdeal.Frame
public import proofs.«01_k».proof.Proof.Gen.KernelIdeal.Loops
public import proofs.«01_k».proof.Proof.Gen.KernelIdeal.Skeleton
public import proofs.«01_k».proof.Proof.Body.Model
public import Idealize.ShloMosaic.Lib.WholeRead
public import Idealize.ShloMosaic.Lib.LoopRemainder

/-! # The kernel's body, run once

At a grid point the body finds its five inputs in whole buffers and leaves three lists of stores. There are two cases: at
the first key tile of a group of heads the buffer of the third result is zeroed first, at the others it goes on from what
the tile before left. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

/-- The body's test for the first key tile of a group. -/
abbrev atFirst (i : grid0.Coords) : Prop := Scalar.cmpi .ne (Scalar.extui (Scalar.cmpi .eq (BitVec.ofNat 32 (i 1).val) 0#32)) 0#32 = 1#1

/-- The eight buffers of the body: the five inputs, the three results. -/
abbrev Held (c : Dev nD) (arg2 : Memref sig .tc .vmem S512x512 .bf16) (arg3 : Memref sig .tc .vmem S512x512 .bf16) (arg4 : Memref sig .tc .vmem S4096x512 .bf16) (arg5 : Memref sig .tc .vmem S4096x512 .bf16) (arg6 : Memref sig .tc .vmem S2x8x8x512 .f32) (arg7 : Memref sig .tc .vmem S512x512 .f32) (arg8 : Memref sig .tc .vmem S512x512 .f32) (arg9 : Memref sig .tc .vmem S4096x512 .f32)
    (f0 : BufTy.Contents (Elt Ideal) arg2.view.ty) (f1 : BufTy.Contents (Elt Ideal) arg3.view.ty) (f2 : BufTy.Contents (Elt Ideal) arg4.view.ty) (f3 : BufTy.Contents (Elt Ideal) arg5.view.ty) (f4 : BufTy.Contents (Elt Ideal) arg6.view.ty) (f5 : BufTy.Contents (Elt Ideal) arg7.view.ty) (f6 : BufTy.Contents (Elt Ideal) arg8.view.ty) (f7 : BufTy.Contents (Elt Ideal) arg9.view.ty) : sProp 𝕄 :=
  iprop((arg2.view.loc (c : Thread nD τ) ↦[arg2.view.set]{fullShare} f0) ∗ (arg3.view.loc (c : Thread nD τ) ↦[arg3.view.set]{fullShare} f1) ∗ (arg4.view.loc (c : Thread nD τ) ↦[arg4.view.set]{fullShare} f2) ∗ (arg5.view.loc (c : Thread nD τ) ↦[arg5.view.set]{fullShare} f3) ∗ (arg6.view.loc (c : Thread nD τ) ↦[arg6.view.set]{fullShare} f4) ∗ (arg7.view.loc (c : Thread nD τ) ↦[arg7.view.set]{fullShare} f5) ∗ (arg8.view.loc (c : Thread nD τ) ↦[arg8.view.set]{fullShare} f6) ∗ (arg9.view.loc (c : Thread nD τ) ↦[arg9.view.set]{fullShare} f7))

set_option maxHeartbeats 1000000 in
/-- The run at the first key tile of a group. -/
@[irreducible] def runFirst (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S2x8x8x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S4096x512 .f32) (harg9 : arg9.IsWhole) (hc0 : atFirst i)
    (x0 x1 : Vec Ideal S512x512 .bf16) (x2 x3 : Vec Ideal S4096x512 .bf16) (x4 : Vec Ideal S2x8x8x512 .f32) :
    Σ' (L5 : List (View.Piece (Elt Ideal) S512x512 .f32)) (L6 : List (View.Piece (Elt Ideal) S512x512 .f32)), { L7 : List (View.Piece (Elt Ideal) S4096x512 .f32) //
      ∀ (E : Set ℕ) (f5 : BufTy.Contents (Elt Ideal) arg7.view.ty) (f6 : BufTy.Contents (Elt Ideal) arg8.view.ty) (f7 : BufTy.Contents (Elt Ideal) arg9.view.ty),
        Held c arg2 arg3 arg4 arg5 arg6 arg7 arg8 arg9 (harg2.unread x0) (harg3.unread x1) (harg4.unread x2) (harg5.unread x3) (harg6.unread x4) f5 f6 f7
        ⊢ wp frame (wpE (defs₀ (F := Ideal)) Variants.none c none) E (cc0_fox_bwd i arg2 harg2 arg3 harg3 arg4 harg4 arg5 harg5 arg6 harg6 arg7 harg7 arg8 harg8 arg9 harg9)
            (fun _ => Held c arg2 arg3 arg4 arg5 arg6 arg7 arg8 arg9 (harg2.unread x0) (harg3.unread x1) (harg4.unread x2) (harg5.unread x3) (harg6.unread x4)
              (arg7.view.writes (Elt Ideal) f5 L5) (arg8.view.writes (Elt Ideal) f6 L6) (arg9.view.writes (Elt Ideal) arg9.view.junk L7)) } := by
  refine ⟨?_, ?_, ?_, fun E f5 f6 f7 => ?run⟩
  case run =>
    simp only [cc0_fox_bwd_eq_skeleton]; unfold cc0_fox_bwd_skel
    simp only [k0_part5_eq_skeleton, k0_part6_eq_skeleton, k0_part7_eq_skeleton, k0_part8_eq_skeleton]
    iintro ⟨H0, H1, H2, H3, H4, H5, H6, H7⟩
    sl_exec (disch := first | sl_exact hc0)
    sl_step
    sl_close

set_option maxHeartbeats 1000000 in
/-- The run at a later key tile. -/
@[irreducible] def runNext (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S2x8x8x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S4096x512 .f32) (harg9 : arg9.IsWhole) (hc0 : ¬ atFirst i)
    (x0 x1 : Vec Ideal S512x512 .bf16) (x2 x3 : Vec Ideal S4096x512 .bf16) (x4 : Vec Ideal S2x8x8x512 .f32) (x7 : Vec Ideal S4096x512 .f32) :
    Σ' (L5 : List (View.Piece (Elt Ideal) S512x512 .f32)) (L6 : List (View.Piece (Elt Ideal) S512x512 .f32)), { L7 : List (View.Piece (Elt Ideal) S4096x512 .f32) //
      ∀ (E : Set ℕ) (f5 : BufTy.Contents (Elt Ideal) arg7.view.ty) (f6 : BufTy.Contents (Elt Ideal) arg8.view.ty) (f7 : BufTy.Contents (Elt Ideal) arg9.view.ty),
        Held c arg2 arg3 arg4 arg5 arg6 arg7 arg8 arg9 (harg2.unread x0) (harg3.unread x1) (harg4.unread x2) (harg5.unread x3) (harg6.unread x4) f5 f6 (harg9.unread x7)
        ⊢ wp frame (wpE (defs₀ (F := Ideal)) Variants.none c none) E (cc0_fox_bwd i arg2 harg2 arg3 harg3 arg4 harg4 arg5 harg5 arg6 harg6 arg7 harg7 arg8 harg8 arg9 harg9)
            (fun _ => Held c arg2 arg3 arg4 arg5 arg6 arg7 arg8 arg9 (harg2.unread x0) (harg3.unread x1) (harg4.unread x2) (harg5.unread x3) (harg6.unread x4)
              (arg7.view.writes (Elt Ideal) f5 L5) (arg8.view.writes (Elt Ideal) f6 L6) (arg9.view.writes (Elt Ideal) (harg9.unread x7) L7)) } := by
  refine ⟨?_, ?_, ?_, fun E f5 f6 f7 => ?run⟩
  case run =>
    simp only [cc0_fox_bwd_eq_skeleton]; unfold cc0_fox_bwd_skel
    simp only [k0_part5_eq_skeleton, k0_part6_eq_skeleton, k0_part7_eq_skeleton, k0_part8_eq_skeleton]
    iintro ⟨H0, H1, H2, H3, H4, H5, H6, H7⟩
    sl_exec (disch := first | sl_exact hc0)
    sl_step
    sl_close

end Cert.KernelIdeal.Body
-- ==== Proof.Body.Trip.lean ====
module

public import proofs.«01_k».proof.Proof.Gen.KernelIdeal.Frame
public import proofs.«01_k».proof.Proof.Gen.KernelIdeal.Loops
public import proofs.«01_k».proof.Proof.Body.Model
public import Idealize.ShloMosaic.Lib.WholeRead
public import Idealize.ShloMosaic.Lib.WritesUnit

/-! # One trip of the kernel's loop over the query tiles

The loop of a grid point carries the two sums for each of the four heads and adds to the third result in its buffer.
The theorems here say what one trip does to both. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI Idealize.SL.Sem
open Cert.KernelIdeal Cert.KernelIdeal.Gen

/-- A load of one head's lanes of one tile of a memref of 4096 rows. -/
theorem read_tile {e : EltTy} (m : Memref sig .tc .vmem S4096x512 e) (f : BufTy.Contents (Elt Ideal) m.view.ty)
    (off : Fin S4096x512.rank → ℕ) (hin : ∀ a, off a + S512x128.size a ≤ S4096x512.size a) (i : Fin 8) (h : Fin 4)
    (ho : off = ![512 * i.val, 128 * h.val]) (a : Fin 512) (l : Fin 128) :
    View.readAt (Elt Ideal) m.view (Rect.unit off S512x128.size hin).toLoadRect f (ix2 a l)
      = m.view.read (Elt Ideal) f (ix2 (rowOf i a) (colOf h l)) := by
  subst ho
  refine congrArg (m.view.read (Elt Ideal) f) (funext fun d => Fin.ext ?_)
  fin_cases d
  · exact congrArg (512 * i.val + ·) (Nat.one_mul _)
  · exact congrArg (128 * h.val + ·) (Nat.one_mul _)

/-- A load of one head's lanes of a tile of 512 rows. -/
theorem read_head {e : EltTy} (m : Memref sig .tc .vmem S512x512 e) (f : BufTy.Contents (Elt Ideal) m.view.ty)
    (off : Fin S512x512.rank → ℕ) (hin : ∀ a, off a + S512x128.size a ≤ S512x512.size a) (h : Fin 4)
    (ho : off = ![0, 128 * h.val]) (a : Fin 512) (l : Fin 128) :
    View.readAt (Elt Ideal) m.view (Rect.unit off S512x128.size hin).toLoadRect f (ix2 a l)
      = m.view.read (Elt Ideal) f (ix2 a (colOf h l)) := by
  subst ho
  refine congrArg (m.view.read (Elt Ideal) f) (funext fun d => Fin.ext ?_)
  fin_cases d
  · exact (Nat.zero_add _).trans (Nat.one_mul _)
  · exact congrArg (128 * h.val + ·) (Nat.one_mul _)

/-- A load of one head's row of log sums of one query tile. -/
theorem read_row {e : EltTy} (m : Memref sig .tc .vmem S2x8x8x512 e) (f : BufTy.Contents (Elt Ideal) m.view.ty)
    (off : Fin S2x8x8x512.rank → ℕ) (hin : ∀ a, off a + S1x1x1x512.size a ≤ S2x8x8x512.size a) (i : Fin 8) (h : Fin 4)
    (ho : off = ![h.val / 2, i.val, h.val % 2, 0]) (b : Fin 512) :
    View.readAt (Elt Ideal) m.view (Rect.unit off S1x1x1x512.size hin).toLoadRect f (ix4 0 0 0 b)
      = m.view.read (Elt Ideal) f (ix4 (pairOf h) i (subOf h) b) := by
  subst ho
  refine congrArg (m.view.read (Elt Ideal) f) (funext fun d => Fin.ext ?_)
  fin_cases d
  · exact Nat.add_zero _
  · exact Nat.add_zero _
  · exact Nat.add_zero _
  · exact (Nat.zero_add _).trans (Nat.one_mul _)

/-- How many trips the loop makes: one for each query tile after the key tile's own. -/
theorem trips_eq : ∀ i : grid0.Coords, (k0_t1_loop i).trips = 7 - (i 1).val := by decide +kernel

/-- The query tile of trip `k`. -/
def tileOf (i : grid0.Coords) (k : Fin (k0_t1_loop i).trips) : Fin 8 :=
  ⟨(i 1).val + 1 + k.val, by have := k.isLt; have := trips_eq i; omega⟩

/-- The key tile of a grid point. -/
def keyOf (i : grid0.Coords) : Fin 8 := ⟨(i 1).val, (i 1).isLt⟩

/-- What the loop carries from trip to trip: for each head the sum for the keys and the sum for the values. -/
abbrev Acc : Type := FVec Ideal S512x128 .f32 × FVec Ideal S512x128 .f32 × FVec Ideal S512x128 .f32 × FVec Ideal S512x128 .f32 × FVec Ideal S512x128 .f32 × FVec Ideal S512x128 .f32 × FVec Ideal S512x128 .f32 × FVec Ideal S512x128 .f32

variable (𝒱 : Variants) (c : Dev nD) (bd : Option 𝒱.V) (i : grid0.Coords) (arg2 : Memref sig .tc .vmem S512x512 .bf16) (harg2 : arg2.IsWhole) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S2x8x8x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S4096x512 .f32) (harg9 : arg9.IsWhole) (arg1 : BitVec 32) (v5 : IVec S512x512 1) (v7 : FVec Ideal S512x128 .bf16) (v9 : FVec Ideal S512x128 .bf16) (v11 : FVec Ideal S512x128 .bf16) (v13 : FVec Ideal S512x128 .bf16) (v15 : FVec Ideal S512x128 .bf16) (v17 : FVec Ideal S512x128 .bf16) (v19 : FVec Ideal S512x128 .bf16) (v21 : FVec Ideal S512x128 .bf16) (v22 : FVec Ideal S512x128 .f32) (v24 : BitVec 32) (v45 : FVec Ideal S512x128 .f32) (v47 : FVec Ideal S512x128 .f32) (v75 : FVec Ideal S512x128 .f32) (v77 : FVec Ideal S512x128 .f32) (v105 : FVec Ideal S512x128 .f32) (v107 : FVec Ideal S512x128 .f32) (v145 : BitVec 32)  (x2 x3 : Vec Ideal S4096x512 .bf16) (x4 : Vec Ideal S2x8x8x512 .f32)

theorem ld_q0 (k : Fin (k0_t1_loop i).trips) (hin) (a : Fin 512) (l : Fin 128) :
    View.readAt (Elt Ideal) arg4.view (Rect.unit (s := S4096x512) (k0_off9 i k) ![512, 128] hin).toLoadRect (harg4.unread x2) (ix2 a l)
      = x2 (ix2 (rowOf (tileOf i k) a) (colOf 0 l)) := by
  exact (read_tile arg4 _ _ hin (tileOf i k) 0 (by rw [k0_off9_eq]; congr 1; simp only [tileOf]; omega) a l).trans (congrFun (harg4.read_unread _) _)

theorem ld_d0 (k : Fin (k0_t1_loop i).trips) (hin) (a : Fin 512) (l : Fin 128) :
    View.readAt (Elt Ideal) arg5.view (Rect.unit (s := S4096x512) (k0_off9 i k) ![512, 128] hin).toLoadRect (harg5.unread x3) (ix2 a l)
      = x3 (ix2 (rowOf (tileOf i k) a) (colOf 0 l)) := by
  exact (read_tile arg5 _ _ hin (tileOf i k) 0 (by rw [k0_off9_eq]; congr 1; simp only [tileOf]; omega) a l).trans (congrFun (harg5.read_unread _) _)

theorem ld_r0 (k : Fin (k0_t1_loop i).trips) (hin) (b : Fin 512) :
    View.readAt (Elt Ideal) arg6.view (Rect.unit (s := S2x8x8x512) (k0_off10 i k) ![1, 1, 1, 512] hin).toLoadRect (harg6.unread x4) (ix4 0 0 0 b)
      = x4 (ix4 (pairOf 0) (tileOf i k) (subOf 0) b) := by
  exact (read_row arg6 _ _ hin (tileOf i k) 0 (by rw [k0_off10_eq]; refine congrArg₂ Matrix.vecCons rfl (congrArg₂ Matrix.vecCons ?_ rfl); simp only [tileOf]; omega) b).trans (congrFun (harg6.read_unread _) _)

theorem ld_o0 (k : Fin (k0_t1_loop i).trips) (f : BufTy.Contents (Elt Ideal) arg9.view.ty) (hin) (a : Fin 512) (l : Fin 128) :
    View.readAt (Elt Ideal) arg9.view (Rect.unit (s := S4096x512) (k0_off9 i k) ![512, 128] hin).toLoadRect f (ix2 a l)
      = arg9.view.read (Elt Ideal) f (ix2 (rowOf (tileOf i k) a) (colOf 0 l)) := by
  exact read_tile arg9 _ _ hin (tileOf i k) 0 (by rw [k0_off9_eq]; congr 1; simp only [tileOf]; omega) a l

theorem ld_q1 (k : Fin (k0_t1_loop i).trips) (hin) (a : Fin 512) (l : Fin 128) :
    View.readAt (Elt Ideal) arg4.view (Rect.unit (s := S4096x512) (k0_off11 i k) ![512, 128] hin).toLoadRect (harg4.unread x2) (ix2 a l)
      = x2 (ix2 (rowOf (tileOf i k) a) (colOf 1 l)) := by
  exact (read_tile arg4 _ _ hin (tileOf i k) 1 (by rw [k0_off11_eq]; congr 1; simp only [tileOf]; omega) a l).trans (congrFun (harg4.read_unread _) _)

theorem ld_d1 (k : Fin (k0_t1_loop i).trips) (hin) (a : Fin 512) (l : Fin 128) :
    View.readAt (Elt Ideal) arg5.view (Rect.unit (s := S4096x512) (k0_off11 i k) ![512, 128] hin).toLoadRect (harg5.unread x3) (ix2 a l)
      = x3 (ix2 (rowOf (tileOf i k) a) (colOf 1 l)) := by
  exact (read_tile arg5 _ _ hin (tileOf i k) 1 (by rw [k0_off11_eq]; congr 1; simp only [tileOf]; omega) a l).trans (congrFun (harg5.read_unread _) _)

theorem ld_r1 (k : Fin (k0_t1_loop i).trips) (hin) (b : Fin 512) :
    View.readAt (Elt Ideal) arg6.view (Rect.unit (s := S2x8x8x512) (k0_off12 i k) ![1, 1, 1, 512] hin).toLoadRect (harg6.unread x4) (ix4 0 0 0 b)
      = x4 (ix4 (pairOf 1) (tileOf i k) (subOf 1) b) := by
  exact (read_row arg6 _ _ hin (tileOf i k) 1 (by rw [k0_off12_eq]; refine congrArg₂ Matrix.vecCons rfl (congrArg₂ Matrix.vecCons ?_ rfl); simp only [tileOf]; omega) b).trans (congrFun (harg6.read_unread _) _)

theorem ld_o1 (k : Fin (k0_t1_loop i).trips) (f : BufTy.Contents (Elt Ideal) arg9.view.ty) (hin) (a : Fin 512) (l : Fin 128) :
    View.readAt (Elt Ideal) arg9.view (Rect.unit (s := S4096x512) (k0_off11 i k) ![512, 128] hin).toLoadRect f (ix2 a l)
      = arg9.view.read (Elt Ideal) f (ix2 (rowOf (tileOf i k) a) (colOf 1 l)) := by
  exact read_tile arg9 _ _ hin (tileOf i k) 1 (by rw [k0_off11_eq]; congr 1; simp only [tileOf]; omega) a l

theorem ld_q2 (k : Fin (k0_t1_loop i).trips) (hin) (a : Fin 512) (l : Fin 128) :
    View.readAt (Elt Ideal) arg4.view (Rect.unit (s := S4096x512) (k0_off13 i k) ![512, 128] hin).toLoadRect (harg4.unread x2) (ix2 a l)
      = x2 (ix2 (rowOf (tileOf i k) a) (colOf 2 l)) := by
  exact (read_tile arg4 _ _ hin (tileOf i k) 2 (by rw [k0_off13_eq]; congr 1; simp only [tileOf]; omega) a l).trans (congrFun (harg4.read_unread _) _)

theorem ld_d2 (k : Fin (k0_t1_loop i).trips) (hin) (a : Fin 512) (l : Fin 128) :
    View.readAt (Elt Ideal) arg5.view (Rect.unit (s := S4096x512) (k0_off13 i k) ![512, 128] hin).toLoadRect (harg5.unread x3) (ix2 a l)
      = x3 (ix2 (rowOf (tileOf i k) a) (colOf 2 l)) := by
  exact (read_tile arg5 _ _ hin (tileOf i k) 2 (by rw [k0_off13_eq]; congr 1; simp only [tileOf]; omega) a l).trans (congrFun (harg5.read_unread _) _)

theorem ld_r2 (k : Fin (k0_t1_loop i).trips) (hin) (b : Fin 512) :
    View.readAt (Elt Ideal) arg6.view (Rect.unit (s := S2x8x8x512) (k0_off14 i k) ![1, 1, 1, 512] hin).toLoadRect (harg6.unread x4) (ix4 0 0 0 b)
      = x4 (ix4 (pairOf 2) (tileOf i k) (subOf 2) b) := by
  exact (read_row arg6 _ _ hin (tileOf i k) 2 (by rw [k0_off14_eq]; refine congrArg₂ Matrix.vecCons rfl (congrArg₂ Matrix.vecCons ?_ rfl); simp only [tileOf]; omega) b).trans (congrFun (harg6.read_unread _) _)

theorem ld_o2 (k : Fin (k0_t1_loop i).trips) (f : BufTy.Contents (Elt Ideal) arg9.view.ty) (hin) (a : Fin 512) (l : Fin 128) :
    View.readAt (Elt Ideal) arg9.view (Rect.unit (s := S4096x512) (k0_off13 i k) ![512, 128] hin).toLoadRect f (ix2 a l)
      = arg9.view.read (Elt Ideal) f (ix2 (rowOf (tileOf i k) a) (colOf 2 l)) := by
  exact read_tile arg9 _ _ hin (tileOf i k) 2 (by rw [k0_off13_eq]; congr 1; simp only [tileOf]; omega) a l

theorem ld_q3 (k : Fin (k0_t1_loop i).trips) (hin) (a : Fin 512) (l : Fin 128) :
    View.readAt (Elt Ideal) arg4.view (Rect.unit (s := S4096x512) (k0_off15 i k) ![512, 128] hin).toLoadRect (harg4.unread x2) (ix2 a l)
      = x2 (ix2 (rowOf (tileOf i k) a) (colOf 3 l)) := by
  exact (read_tile arg4 _ _ hin (tileOf i k) 3 (by rw [k0_off15_eq]; congr 1; simp only [tileOf]; omega) a l).trans (congrFun (harg4.read_unread _) _)

theorem ld_d3 (k : Fin (k0_t1_loop i).trips) (hin) (a : Fin 512) (l : Fin 128) :
    View.readAt (Elt Ideal) arg5.view (Rect.unit (s := S4096x512) (k0_off15 i k) ![512, 128] hin).toLoadRect (harg5.unread x3) (ix2 a l)
      = x3 (ix2 (rowOf (tileOf i k) a) (colOf 3 l)) := by
  exact (read_tile arg5 _ _ hin (tileOf i k) 3 (by rw [k0_off15_eq]; congr 1; simp only [tileOf]; omega) a l).trans (congrFun (harg5.read_unread _) _)

theorem ld_r3 (k : Fin (k0_t1_loop i).trips) (hin) (b : Fin 512) :
    View.readAt (Elt Ideal) arg6.view (Rect.unit (s := S2x8x8x512) (k0_off16 i k) ![1, 1, 1, 512] hin).toLoadRect (harg6.unread x4) (ix4 0 0 0 b)
      = x4 (ix4 (pairOf 3) (tileOf i k) (subOf 3) b) := by
  exact (read_row arg6 _ _ hin (tileOf i k) 3 (by rw [k0_off16_eq]; refine congrArg₂ Matrix.vecCons rfl (congrArg₂ Matrix.vecCons ?_ rfl); simp only [tileOf]; omega) b).trans (congrFun (harg6.read_unread _) _)

theorem ld_o3 (k : Fin (k0_t1_loop i).trips) (f : BufTy.Contents (Elt Ideal) arg9.view.ty) (hin) (a : Fin 512) (l : Fin 128) :
    View.readAt (Elt Ideal) arg9.view (Rect.unit (s := S4096x512) (k0_off15 i k) ![512, 128] hin).toLoadRect f (ix2 a l)
      = arg9.view.read (Elt Ideal) f (ix2 (rowOf (tileOf i k) a) (colOf 3 l)) := by
  exact read_tile arg9 _ _ hin (tileOf i k) 3 (by rw [k0_off15_eq]; congr 1; simp only [tileOf]; omega) a l

/-- What a trip yields: each head's two sums, this query tile's contribution added. -/
theorem trip_yields (x0 x1 : TileV)
    (hk0 : ∀ a l, v7 (ix2 a l) = x0 (ix2 a (colOf 0 l))) (hv0 : ∀ a l, v15 (ix2 a l) = x1 (ix2 a (colOf 0 l)))
    (hk1 : ∀ a l, v9 (ix2 a l) = x0 (ix2 a (colOf 1 l))) (hv1 : ∀ a l, v17 (ix2 a l) = x1 (ix2 a (colOf 1 l)))
    (hk2 : ∀ a l, v11 (ix2 a l) = x0 (ix2 a (colOf 2 l))) (hv2 : ∀ a l, v19 (ix2 a l) = x1 (ix2 a (colOf 2 l)))
    (hk3 : ∀ a l, v13 (ix2 a l) = x0 (ix2 a (colOf 3 l))) (hv3 : ∀ a l, v21 (ix2 a l) = x1 (ix2 a (colOf 3 l)))
    (k : Fin (k0_t1_loop i).trips) (acc : Acc) (f : BufTy.Contents (Elt Ideal) arg9.view.ty) :
    tripR_k0_t1 (F := Ideal) 𝒱 c bd i arg2 harg2 arg3 harg3 arg4 harg4 arg5 harg5 arg6 harg6 arg7 harg7 arg8 harg8 arg9 harg9 arg1 v5 v7 v9 v11 v13 v15 v17 v19 v21 v22 v24 v45 v47 v75 v77 v105 v107 v145 (harg4.unread x2) (harg5.unread x3) (harg6.unread x4) k acc f
      = (fun y => acc.1 y + TK x0 x1 x2 x3 x4 (keyOf i) (tileOf i k) 0 (y 0) (y 1),
        fun y => acc.2.1 y + TV x0 x2 x3 x4 (keyOf i) (tileOf i k) 0 (y 0) (y 1),
        fun y => acc.2.2.1 y + TK x0 x1 x2 x3 x4 (keyOf i) (tileOf i k) 1 (y 0) (y 1),
        fun y => acc.2.2.2.1 y + TV x0 x2 x3 x4 (keyOf i) (tileOf i k) 1 (y 0) (y 1),
        fun y => acc.2.2.2.2.1 y + TK x0 x1 x2 x3 x4 (keyOf i) (tileOf i k) 2 (y 0) (y 1),
        fun y => acc.2.2.2.2.2.1 y + TV x0 x2 x3 x4 (keyOf i) (tileOf i k) 2 (y 0) (y 1),
        fun y => acc.2.2.2.2.2.2.1 y + TK x0 x1 x2 x3 x4 (keyOf i) (tileOf i k) 3 (y 0) (y 1),
        fun y => acc.2.2.2.2.2.2.2 y + TV x0 x2 x3 x4 (keyOf i) (tileOf i k) 3 (y 0) (y 1)) := by
  unfold tripR_k0_t1 trip_k0_t1
  dsimp only
  have hlt : (keyOf i).val < (tileOf i k).val := by simp only [keyOf, tileOf]; omega
  refine Prod.ext (funext fun y => ?_) (Prod.ext (funext fun y => ?_) (Prod.ext (funext fun y => ?_) (Prod.ext (funext fun y => ?_) (Prod.ext (funext fun y => ?_) (Prod.ext (funext fun y => ?_) (Prod.ext (funext fun y => ?_) (funext fun y => ?_))))))) <;> dsimp only <;> (idx_vars y)
  all_goals pointwise [trip_k0_t1.sl.arg10, trip_k0_t1.sl.cst_86, trip_k0_t1.sl.cst_91, trip_k0_t1.sl.r, trip_k0_t1.sl.v161, trip_k0_t1.sl.v163, trip_k0_t1.sl.v165, trip_k0_t1.sl.v168, trip_k0_t1.sl.v169, trip_k0_t1.sl.v170, trip_k0_t1.sl.v172, trip_k0_t1.sl.v173, trip_k0_t1.sl.v174, trip_k0_t1.sl.v175, trip_k0_t1.sl.v176, trip_k0_t1.sl.v177, trip_k0_t1.sl.v178, trip_k0_t1.sl.v179, trip_k0_t1.sl.v180, trip_k0_t1.sl.v181, trip_k0_t1.sl.v182, trip_k0_t1.sl.v183, trip_k0_t1.sl.v186, trip_k0_t1.sl.v187, trip_k0_t1.sl.v188, trip_k0_t1.sl.v193, trip_k0_t1.sl.v196, trip_k0_t1.sl.v197, trip_k0_t1.sl.v200, trip_k0_t1.sl.v201, trip_k0_t1.sl.v202, trip_k0_t1.sl.v203, trip_k0_t1.sl.v204, trip_k0_t1.sl.v205, trip_k0_t1.sl.v206, trip_k0_t1.sl.v207, trip_k0_t1.sl.v208, trip_k0_t1.sl.v209, trip_k0_t1.sl.v210, trip_k0_t1.sl.v211, trip_k0_t1.sl.v213, trip_k0_t1.sl.v214, trip_k0_t1.sl.v215, trip_k0_t1.sl.v216, trip_k0_t1.sl.v221, trip_k0_t1.sl.v224, trip_k0_t1.sl.v225, trip_k0_t1.sl.v228, trip_k0_t1.sl.v229, trip_k0_t1.sl.v230, trip_k0_t1.sl.v231, trip_k0_t1.sl.v232, trip_k0_t1.sl.v233, trip_k0_t1.sl.v234, trip_k0_t1.sl.v235, trip_k0_t1.sl.v236, trip_k0_t1.sl.v237, trip_k0_t1.sl.v238, trip_k0_t1.sl.v239, trip_k0_t1.sl.v241, trip_k0_t1.sl.v242, trip_k0_t1.sl.v269, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay86, k0_pay87, k0_pay88, k0_pay89, k0_pay90, k0_pay91, k0_pay92, k0_pay93]
  all_goals simp only [TK, TV, DD, PP_off _ _ _ _ _ hlt, LG, ld_q0, ld_d0, ld_r0, ld_o0, ld_q1, ld_d1, ld_r1, ld_o1, ld_q2, ld_d2, ld_r2, ld_o2, ld_q3, ld_d3, ld_r3, ld_o3, hk0, hk1, hk2, hk3, hv0, hv1, hv2, hv3]

/-- A store of one head's lanes of one tile, read back. -/
theorem read_put (m : Memref sig .tc .vmem S4096x512 .f32) (f : BufTy.Contents (Elt Ideal) m.view.ty)
    (off : Fin S4096x512.rank → ℕ) (hin : ∀ a, off a + S512x128.size a ≤ S4096x512.size a) (i : Fin 8) (h : Fin 4)
    (ho : off = ![512 * i.val, 128 * h.val]) (w : S512x128.Idx → EReal) (L : List (View.Piece (Elt Ideal) S4096x512 .f32))
    (i' : Fin 8) (b : Fin 512) (h' : Fin 4) (l : Fin 128) :
    m.view.read (Elt Ideal) (m.view.writes (Elt Ideal) f (⟨Rect.unit off S512x128.size hin, w⟩ :: L)) (ix2 (rowOf i' b) (colOf h' l))
      = if i' = i ∧ h' = h then w (ix2 b l)
        else m.view.read (Elt Ideal) (m.view.writes (Elt Ideal) f L) (ix2 (rowOf i' b) (colOf h' l)) := by
  by_cases hi : i' = i
  · by_cases hh : h' = h
    · rw [if_pos ⟨hi, hh⟩]
      subst hi hh
      refine View.read_writes_cons_unit_of_mem m.view f hin w L _ (ix2 b l) ho fun d => ?_
      fin_cases d <;> rfl
    · rw [if_neg (fun e => hh e.2)]
      refine View.read_writes_cons_unit_of_not_mem m.view f hin w L _ ho 1 ?_
      have : h'.val ≠ h.val := fun e => hh (Fin.ext e)
      show 128 * h'.val + l.val < 128 * h.val ∨ 128 * h.val + 128 ≤ 128 * h'.val + l.val
      omega
  · rw [if_neg (fun e => hi e.1)]
    refine View.read_writes_cons_unit_of_not_mem m.view f hin w L _ ho 0 ?_
    have : i'.val ≠ i.val := fun e => hi (Fin.ext e)
    show 512 * i'.val + b.val < 512 * i.val ∨ 512 * i.val + 512 ≤ 512 * i'.val + b.val
    omega

/-- What a trip stores: in the rows of its query tile, each head's contribution is added to what was there. -/
theorem trip_stores (x0 x1 : TileV)
    (hk0 : ∀ a l, v7 (ix2 a l) = x0 (ix2 a (colOf 0 l))) (hv0 : ∀ a l, v15 (ix2 a l) = x1 (ix2 a (colOf 0 l)))
    (hk1 : ∀ a l, v9 (ix2 a l) = x0 (ix2 a (colOf 1 l))) (hv1 : ∀ a l, v17 (ix2 a l) = x1 (ix2 a (colOf 1 l)))
    (hk2 : ∀ a l, v11 (ix2 a l) = x0 (ix2 a (colOf 2 l))) (hv2 : ∀ a l, v19 (ix2 a l) = x1 (ix2 a (colOf 2 l)))
    (hk3 : ∀ a l, v13 (ix2 a l) = x0 (ix2 a (colOf 3 l))) (hv3 : ∀ a l, v21 (ix2 a l) = x1 (ix2 a (colOf 3 l)))
    (k : Fin (k0_t1_loop i).trips) (acc : Acc) (f : BufTy.Contents (Elt Ideal) arg9.view.ty)
    (i' : Fin 8) (b : Fin 512) (h : Fin 4) (l : Fin 128) :
    arg9.view.read (Elt Ideal) (arg9.view.writes (Elt Ideal) f (tripL_k0_t1 (F := Ideal) 𝒱 c bd i arg2 harg2 arg3 harg3 arg4 harg4 arg5 harg5 arg6 harg6 arg7 harg7 arg8 harg8 arg9 harg9 arg1 v5 v7 v9 v11 v13 v15 v17 v19 v21 v22 v24 v45 v47 v75 v77 v105 v107 v145 (harg4.unread x2) (harg5.unread x3) (harg6.unread x4) k acc f)) (ix2 (rowOf i' b) (colOf h l))
      = arg9.view.read (Elt Ideal) f (ix2 (rowOf i' b) (colOf h l))
        + (if i' = tileOf i k then TQ x0 x1 x2 x3 x4 (keyOf i) (tileOf i k) h b l else 0) := by
  unfold tripL_k0_t1 trip_k0_t1
  dsimp only
  have hlt : (keyOf i).val < (tileOf i k).val := by simp only [keyOf, tileOf]; omega
  rw [read_put arg9 f _ _ (tileOf i k) 3 (by rw [k0_off15_eq]; congr 1; simp only [tileOf]; omega),
    read_put arg9 f _ _ (tileOf i k) 2 (by rw [k0_off13_eq]; congr 1; simp only [tileOf]; omega),
    read_put arg9 f _ _ (tileOf i k) 1 (by rw [k0_off11_eq]; congr 1; simp only [tileOf]; omega),
    read_put arg9 f _ _ (tileOf i k) 0 (by rw [k0_off9_eq]; congr 1; simp only [tileOf]; omega)]
  by_cases hi : i' = tileOf i k
  · subst hi
    fin_cases h
    all_goals simp only [true_and, Fin.zero_eta, Fin.mk_one, Fin.reduceFinMk, Fin.reduceEq, if_true, if_false, Fin.isValue, reduceIte]
    all_goals pointwise [trip_k0_t1.sl.arg10, trip_k0_t1.sl.cst_86, trip_k0_t1.sl.cst_91, trip_k0_t1.sl.r, trip_k0_t1.sl.v161, trip_k0_t1.sl.v163, trip_k0_t1.sl.v165, trip_k0_t1.sl.v168, trip_k0_t1.sl.v169, trip_k0_t1.sl.v170, trip_k0_t1.sl.v172, trip_k0_t1.sl.v173, trip_k0_t1.sl.v174, trip_k0_t1.sl.v175, trip_k0_t1.sl.v176, trip_k0_t1.sl.v177, trip_k0_t1.sl.v178, trip_k0_t1.sl.v179, trip_k0_t1.sl.v180, trip_k0_t1.sl.v181, trip_k0_t1.sl.v182, trip_k0_t1.sl.v183, trip_k0_t1.sl.v186, trip_k0_t1.sl.v187, trip_k0_t1.sl.v188, trip_k0_t1.sl.v193, trip_k0_t1.sl.v196, trip_k0_t1.sl.v197, trip_k0_t1.sl.v200, trip_k0_t1.sl.v201, trip_k0_t1.sl.v202, trip_k0_t1.sl.v203, trip_k0_t1.sl.v204, trip_k0_t1.sl.v205, trip_k0_t1.sl.v206, trip_k0_t1.sl.v207, trip_k0_t1.sl.v208, trip_k0_t1.sl.v209, trip_k0_t1.sl.v210, trip_k0_t1.sl.v211, trip_k0_t1.sl.v213, trip_k0_t1.sl.v214, trip_k0_t1.sl.v215, trip_k0_t1.sl.v216, trip_k0_t1.sl.v221, trip_k0_t1.sl.v224, trip_k0_t1.sl.v225, trip_k0_t1.sl.v228, trip_k0_t1.sl.v229, trip_k0_t1.sl.v230, trip_k0_t1.sl.v231, trip_k0_t1.sl.v232, trip_k0_t1.sl.v233, trip_k0_t1.sl.v234, trip_k0_t1.sl.v235, trip_k0_t1.sl.v236, trip_k0_t1.sl.v237, trip_k0_t1.sl.v238, trip_k0_t1.sl.v239, trip_k0_t1.sl.v241, trip_k0_t1.sl.v242, trip_k0_t1.sl.v269, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay86, k0_pay87, k0_pay88, k0_pay89, k0_pay90, k0_pay91, k0_pay92, k0_pay93]
    all_goals simp only [TQ, DD, PP_off _ _ _ _ _ hlt, LG, ld_q0, ld_d0, ld_r0, ld_o0, ld_q1, ld_d1, ld_r1, ld_o1, ld_q2, ld_d2, ld_r2, ld_o2, ld_q3, ld_d3, ld_r3, ld_o3, hk0, hk1, hk2, hk3, hv0, hv1, hv2, hv3]
  · simp only [hi, false_and, if_false]
    exact (add_zero _).symm

/-- What the loop carries when the query tiles below `n` are done. -/
def accAt (x0 x1 : TileV) (x2 x3 : FullV) (x4 : RowV) (j : Fin 8) (n : ℕ) : Acc :=
  (fun y => upTo (fun i => TK x0 x1 x2 x3 x4 j i 0 (y 0) (y 1)) j.val n,
    fun y => upTo (fun i => TV x0 x2 x3 x4 j i 0 (y 0) (y 1)) j.val n,
    fun y => upTo (fun i => TK x0 x1 x2 x3 x4 j i 1 (y 0) (y 1)) j.val n,
    fun y => upTo (fun i => TV x0 x2 x3 x4 j i 1 (y 0) (y 1)) j.val n,
    fun y => upTo (fun i => TK x0 x1 x2 x3 x4 j i 2 (y 0) (y 1)) j.val n,
    fun y => upTo (fun i => TV x0 x2 x3 x4 j i 2 (y 0) (y 1)) j.val n,
    fun y => upTo (fun i => TK x0 x1 x2 x3 x4 j i 3 (y 0) (y 1)) j.val n,
    fun y => upTo (fun i => TV x0 x2 x3 x4 j i 3 (y 0) (y 1)) j.val n)

/-- The state of the loop before trip `n`: the carried sums reach up to the query tile of that trip, and the rows of the
tiles done have their contributions added. -/
theorem loop_state (x0 x1 : TileV)
    (hk0 : ∀ a l, v7 (ix2 a l) = x0 (ix2 a (colOf 0 l))) (hv0 : ∀ a l, v15 (ix2 a l) = x1 (ix2 a (colOf 0 l)))
    (hk1 : ∀ a l, v9 (ix2 a l) = x0 (ix2 a (colOf 1 l))) (hv1 : ∀ a l, v17 (ix2 a l) = x1 (ix2 a (colOf 1 l)))
    (hk2 : ∀ a l, v11 (ix2 a l) = x0 (ix2 a (colOf 2 l))) (hv2 : ∀ a l, v19 (ix2 a l) = x1 (ix2 a (colOf 2 l)))
    (hk3 : ∀ a l, v13 (ix2 a l) = x0 (ix2 a (colOf 3 l))) (hv3 : ∀ a l, v21 (ix2 a l) = x1 (ix2 a (colOf 3 l)))
    (G : BufTy.Contents (Elt Ideal) arg9.view.ty) (init : Acc)
    (hinit : init = accAt x0 x1 x2 x3 x4 (keyOf i) ((keyOf i).val + 1)) :
    ∀ n : ℕ, n ≤ (k0_t1_loop i).trips →
      (st_k0_t1 (F := Ideal) 𝒱 c bd i arg2 harg2 arg3 harg3 arg4 harg4 arg5 harg5 arg6 harg6 arg7 harg7 arg8 harg8 arg9 harg9 arg1 v5 v7 v9 v11 v13 v15 v17 v19 v21 v22 v24 v45 v47 v75 v77 v105 v107 v145 (harg4.unread x2) (harg5.unread x3) (harg6.unread x4) G init n).1 = accAt x0 x1 x2 x3 x4 (keyOf i) ((keyOf i).val + 1 + n)
      ∧ ∀ (i' : Fin 8) (b : Fin 512) (h : Fin 4) (l : Fin 128),
        arg9.view.read (Elt Ideal) (arg9.view.writes (Elt Ideal) G (st_k0_t1 (F := Ideal) 𝒱 c bd i arg2 harg2 arg3 harg3 arg4 harg4 arg5 harg5 arg6 harg6 arg7 harg7 arg8 harg8 arg9 harg9 arg1 v5 v7 v9 v11 v13 v15 v17 v19 v21 v22 v24 v45 v47 v75 v77 v105 v107 v145 (harg4.unread x2) (harg5.unread x3) (harg6.unread x4) G init n).2) (ix2 (rowOf i' b) (colOf h l))
          = arg9.view.read (Elt Ideal) G (ix2 (rowOf i' b) (colOf h l))
            + (if (keyOf i).val + 1 ≤ i'.val ∧ i'.val < (keyOf i).val + 1 + n then TQ x0 x1 x2 x3 x4 (keyOf i) i' h b l else 0)
  | 0, _ => ⟨hinit, fun i' b h l => by
      rw [if_neg (by omega), add_zero]; rfl⟩
  | n + 1, hn => by
      obtain ⟨ih1, ih2⟩ := loop_state x0 x1 hk0 hv0 hk1 hv1 hk2 hv2 hk3 hv3 G init hinit n (by omega)
      have hs := st_k0_t1_succ (F := Ideal) 𝒱 c bd i arg2 harg2 arg3 harg3 arg4 harg4 arg5 harg5 arg6 harg6 arg7 harg7 arg8 harg8 arg9 harg9 arg1 v5 v7 v9 v11 v13 v15 v17 v19 v21 v22 v24 v45 v47 v75 v77 v105 v107 v145 (harg4.unread x2) (harg5.unread x3) (harg6.unread x4) G init ⟨n, hn⟩
      have ht : (tileOf i ⟨n, hn⟩).val = (keyOf i).val + 1 + n := rfl
      have hle : (keyOf i).val ≤ (tileOf i ⟨n, hn⟩).val := by omega
      rw [hs]
      dsimp only
      constructor
      · rw [trip_yields (hk0 := hk0) (hv0 := hv0) (hk1 := hk1) (hv1 := hv1) (hk2 := hk2) (hv2 := hv2) (hk3 := hk3) (hv3 := hv3), ih1, ← add_assoc, ← ht]
        unfold accAt
        simp only [upTo_succ _ _ _ hle]
      · intro i' b h l
        rw [View.writes_append, trip_stores (hk0 := hk0) (hv0 := hv0) (hk1 := hk1) (hv1 := hv1) (hk2 := hk2) (hv2 := hv2) (hk3 := hk3) (hv3 := hv3), ih2]
        by_cases hi : i' = tileOf i ⟨n, hn⟩
        · have hv : i'.val = (keyOf i).val + 1 + n := by rw [hi]; exact ht
          rw [if_pos hi, if_neg (by omega), if_pos (by omega), add_zero, hi]
        · have hv : i'.val ≠ (keyOf i).val + 1 + n := fun e => hi (Fin.ext (e.trans ht.symm))
          rw [if_neg hi, add_zero]
          congr 1
          exact if_congr (by omega) rfl rfl

end Cert.KernelIdeal.Body
-- ==== Proof.Body.Point.lean ====
module

public import proofs.«01_k».proof.Proof.Body.Run
public import proofs.«01_k».proof.Proof.Body.Trip

/-! # What one grid point leaves

The stores of the body's run, read back: the two results of the grid point's own key tile, and the third result with this
key tile's contribution added to what was there. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI Idealize.SL.Sem
open Cert.KernelIdeal Cert.KernelIdeal.Gen

/-- The four heads' tiles side by side, as the body stores them. -/
def heads (t0 t1 t2 t3 : FVec Ideal S512x128 .f32) : List (View.Piece (Elt Ideal) S512x512 .f32) :=
  [⟨Rect.unit ![0, 384] S512x128.size inb_S512x512_S512x128_0_384, t3⟩, ⟨Rect.unit ![0, 256] S512x128.size inb_S512x512_S512x128_0_256, t2⟩,
    ⟨Rect.unit ![0, 128] S512x128.size inb_S512x512_S512x128_0_128, t1⟩, ⟨Rect.unit ![0, 0] S512x128.size inb_S512x512_S512x128_0_0, t0⟩]

/-- A store of one head's lanes, read back. -/
theorem read_lanes (m : Memref sig .tc .vmem S512x512 .f32) (f : BufTy.Contents (Elt Ideal) m.view.ty)
    (off : Fin S512x512.rank → ℕ) (hin : ∀ a, off a + S512x128.size a ≤ S512x512.size a) (h : Fin 4)
    (ho : off = ![0, 128 * h.val]) (w : S512x128.Idx → EReal) (L : List (View.Piece (Elt Ideal) S512x512 .f32))
    (a : Fin 512) (h' : Fin 4) (l : Fin 128) :
    m.view.read (Elt Ideal) (m.view.writes (Elt Ideal) f (⟨Rect.unit off S512x128.size hin, w⟩ :: L)) (ix2 a (colOf h' l))
      = if h' = h then w (ix2 a l)
        else m.view.read (Elt Ideal) (m.view.writes (Elt Ideal) f L) (ix2 a (colOf h' l)) := by
  by_cases hh : h' = h
  · rw [if_pos hh]
    subst hh
    refine View.read_writes_cons_unit_of_mem m.view f hin w L _ (ix2 a l) ho fun d => ?_
    fin_cases d
    · exact (Nat.zero_add _).symm
    · rfl
  · rw [if_neg hh]
    refine View.read_writes_cons_unit_of_not_mem m.view f hin w L _ ho 1 ?_
    have : h'.val ≠ h.val := fun e => hh (Fin.ext e)
    show 128 * h'.val + l.val < 128 * h.val ∨ 128 * h.val + 128 ≤ 128 * h'.val + l.val
    omega

/-- The four heads' tiles read back. -/
theorem read_heads (m : Memref sig .tc .vmem S512x512 .f32) (f : BufTy.Contents (Elt Ideal) m.view.ty)
    (t : Fin 4 → FVec Ideal S512x128 .f32) (a : Fin 512) (h : Fin 4) (l : Fin 128) :
    m.view.read (Elt Ideal) (m.view.writes (Elt Ideal) f (heads (t 0) (t 1) (t 2) (t 3))) (ix2 a (colOf h l)) = t h (ix2 a l) := by
  unfold heads
  rw [read_lanes m f ![0, 384] _ 3 rfl, read_lanes m f ![0, 256] _ 2 rfl, read_lanes m f ![0, 128] _ 1 rfl, read_lanes m f ![0, 0] _ 0 rfl]
  fin_cases h <;> rfl

/-- The zeros stored over the whole third result, read back. -/
theorem read_zeros (m : Memref sig .tc .vmem S4096x512 .f32) (f : BufTy.Contents (Elt Ideal) m.view.ty) (i' : Fin 8) (b : Fin 512) (h : Fin 4) (l : Fin 128) :
    m.view.read (Elt Ideal) (m.view.writes (Elt Ideal) f [⟨Rect.unit ![0, 0] S4096x512.size inb_S4096x512_S4096x512_0_0, k0_pay45 (F := Ideal)⟩]) (ix2 (rowOf i' b) (colOf h l)) = 0 := by
  refine (View.read_writes_cons_unit_of_mem m.view f inb_S4096x512_S4096x512_0_0 (k0_pay45 (F := Ideal)) [] _ (ix2 (rowOf i' b) (colOf h l)) rfl fun d => ?_).trans ?_
  · fin_cases d
    · exact (Nat.zero_add _).symm
    · exact (Nat.zero_add _).symm
  · pointwise [k0_pay45]

/-- The offset of the loads of the grid point's own query tile, head by head. -/
theorem own_off (i : grid0.Coords) : k0_off1 i = ![512 * (keyOf i).val, 128 * (0 : Fin 4).val] ∧ k0_off3 i = ![512 * (keyOf i).val, 128 * (1 : Fin 4).val]
    ∧ k0_off5 i = ![512 * (keyOf i).val, 128 * (2 : Fin 4).val] ∧ k0_off7 i = ![512 * (keyOf i).val, 128 * (3 : Fin 4).val] := by
  refine ⟨?_, ?_, ?_, ?_⟩ <;> simp only [k0_off1_eq, k0_off3_eq, k0_off5_eq, k0_off7_eq] <;> rfl

/-- The same of its rows of log sums. -/
theorem own_row (i : grid0.Coords) : k0_off2 i = ![(0 : Fin 4).val / 2, (keyOf i).val, (0 : Fin 4).val % 2, 0] ∧ k0_off4 i = ![(1 : Fin 4).val / 2, (keyOf i).val, (1 : Fin 4).val % 2, 0]
    ∧ k0_off6 i = ![(2 : Fin 4).val / 2, (keyOf i).val, (2 : Fin 4).val % 2, 0] ∧ k0_off8 i = ![(3 : Fin 4).val / 2, (keyOf i).val, (3 : Fin 4).val % 2, 0] := by
  refine ⟨?_, ?_, ?_, ?_⟩ <;> simp only [k0_off2_eq, k0_off4_eq, k0_off6_eq, k0_off8_eq] <;> rfl

/-- The third result of a key tile, added to what was there. -/
def addTile (x0 x1 : TileV) (x2 x3 : FullV) (x4 : RowV) (j : Fin 8) (base : Fin 8 → Fin 512 → Fin 4 → Fin 128 → EReal)
    (i' : Fin 8) (b : Fin 512) (h : Fin 4) (l : Fin 128) : EReal :=
  base i' b h l + (if j.val ≤ i'.val then TQ x0 x1 x2 x3 x4 j i' h b l else 0)

variable (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S2x8x8x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S4096x512 .f32) (harg9 : arg9.IsWhole)
    (x0 x1 : TileV) (x2 x3 : FullV) (x4 : RowV)

theorem own_q0 (hin) (a : Fin 512) (l : Fin 128) :
    View.readAt (Elt Ideal) arg4.view (Rect.unit (s := S4096x512) (k0_off1 i) ![512, 128] hin).toLoadRect (harg4.unread x2) (ix2 a l)
      = x2 (ix2 (rowOf (keyOf i) a) (colOf 0 l)) :=
  (read_tile arg4 _ _ hin (keyOf i) 0 (own_off i).1 a l).trans (congrFun (harg4.read_unread _) _)

theorem own_d0 (hin) (a : Fin 512) (l : Fin 128) :
    View.readAt (Elt Ideal) arg5.view (Rect.unit (s := S4096x512) (k0_off1 i) ![512, 128] hin).toLoadRect (harg5.unread x3) (ix2 a l)
      = x3 (ix2 (rowOf (keyOf i) a) (colOf 0 l)) :=
  (read_tile arg5 _ _ hin (keyOf i) 0 (own_off i).1 a l).trans (congrFun (harg5.read_unread _) _)

theorem own_r0 (hin) (b : Fin 512) :
    View.readAt (Elt Ideal) arg6.view (Rect.unit (s := S2x8x8x512) (k0_off2 i) ![1, 1, 1, 512] hin).toLoadRect (harg6.unread x4) (ix4 0 0 0 b)
      = x4 (ix4 (pairOf 0) (keyOf i) (subOf 0) b) :=
  (read_row arg6 _ _ hin (keyOf i) 0 (own_row i).1 b).trans (congrFun (harg6.read_unread _) _)

theorem own_o0 (f : BufTy.Contents (Elt Ideal) arg9.view.ty) (hin) (a : Fin 512) (l : Fin 128) :
    View.readAt (Elt Ideal) arg9.view (Rect.unit (s := S4096x512) (k0_off1 i) ![512, 128] hin).toLoadRect f (ix2 a l)
      = arg9.view.read (Elt Ideal) f (ix2 (rowOf (keyOf i) a) (colOf 0 l)) :=
  read_tile arg9 _ _ hin (keyOf i) 0 (own_off i).1 a l

theorem own_k0 (m : Memref sig .tc .vmem S512x512 .bf16) (hm : m.IsWhole) (x : TileV) (hin) (a : Fin 512) (l : Fin 128) :
    View.readAt (Elt Ideal) m.view (Rect.unit (s := S512x512) ![0, 0] ![512, 128] hin).toLoadRect (hm.unread x) (ix2 a l)
      = x (ix2 a (colOf 0 l)) :=
  (read_head m _ _ hin 0 rfl a l).trans (congrFun (hm.read_unread _) _)

theorem own_q1 (hin) (a : Fin 512) (l : Fin 128) :
    View.readAt (Elt Ideal) arg4.view (Rect.unit (s := S4096x512) (k0_off3 i) ![512, 128] hin).toLoadRect (harg4.unread x2) (ix2 a l)
      = x2 (ix2 (rowOf (keyOf i) a) (colOf 1 l)) :=
  (read_tile arg4 _ _ hin (keyOf i) 1 (own_off i).2.1 a l).trans (congrFun (harg4.read_unread _) _)

theorem own_d1 (hin) (a : Fin 512) (l : Fin 128) :
    View.readAt (Elt Ideal) arg5.view (Rect.unit (s := S4096x512) (k0_off3 i) ![512, 128] hin).toLoadRect (harg5.unread x3) (ix2 a l)
      = x3 (ix2 (rowOf (keyOf i) a) (colOf 1 l)) :=
  (read_tile arg5 _ _ hin (keyOf i) 1 (own_off i).2.1 a l).trans (congrFun (harg5.read_unread _) _)

theorem own_r1 (hin) (b : Fin 512) :
    View.readAt (Elt Ideal) arg6.view (Rect.unit (s := S2x8x8x512) (k0_off4 i) ![1, 1, 1, 512] hin).toLoadRect (harg6.unread x4) (ix4 0 0 0 b)
      = x4 (ix4 (pairOf 1) (keyOf i) (subOf 1) b) :=
  (read_row arg6 _ _ hin (keyOf i) 1 (own_row i).2.1 b).trans (congrFun (harg6.read_unread _) _)

theorem own_o1 (f : BufTy.Contents (Elt Ideal) arg9.view.ty) (hin) (a : Fin 512) (l : Fin 128) :
    View.readAt (Elt Ideal) arg9.view (Rect.unit (s := S4096x512) (k0_off3 i) ![512, 128] hin).toLoadRect f (ix2 a l)
      = arg9.view.read (Elt Ideal) f (ix2 (rowOf (keyOf i) a) (colOf 1 l)) :=
  read_tile arg9 _ _ hin (keyOf i) 1 (own_off i).2.1 a l

theorem own_k1 (m : Memref sig .tc .vmem S512x512 .bf16) (hm : m.IsWhole) (x : TileV) (hin) (a : Fin 512) (l : Fin 128) :
    View.readAt (Elt Ideal) m.view (Rect.unit (s := S512x512) ![0, 128] ![512, 128] hin).toLoadRect (hm.unread x) (ix2 a l)
      = x (ix2 a (colOf 1 l)) :=
  (read_head m _ _ hin 1 rfl a l).trans (congrFun (hm.read_unread _) _)

theorem own_q2 (hin) (a : Fin 512) (l : Fin 128) :
    View.readAt (Elt Ideal) arg4.view (Rect.unit (s := S4096x512) (k0_off5 i) ![512, 128] hin).toLoadRect (harg4.unread x2) (ix2 a l)
      = x2 (ix2 (rowOf (keyOf i) a) (colOf 2 l)) :=
  (read_tile arg4 _ _ hin (keyOf i) 2 (own_off i).2.2.1 a l).trans (congrFun (harg4.read_unread _) _)

theorem own_d2 (hin) (a : Fin 512) (l : Fin 128) :
    View.readAt (Elt Ideal) arg5.view (Rect.unit (s := S4096x512) (k0_off5 i) ![512, 128] hin).toLoadRect (harg5.unread x3) (ix2 a l)
      = x3 (ix2 (rowOf (keyOf i) a) (colOf 2 l)) :=
  (read_tile arg5 _ _ hin (keyOf i) 2 (own_off i).2.2.1 a l).trans (congrFun (harg5.read_unread _) _)

theorem own_r2 (hin) (b : Fin 512) :
    View.readAt (Elt Ideal) arg6.view (Rect.unit (s := S2x8x8x512) (k0_off6 i) ![1, 1, 1, 512] hin).toLoadRect (harg6.unread x4) (ix4 0 0 0 b)
      = x4 (ix4 (pairOf 2) (keyOf i) (subOf 2) b) :=
  (read_row arg6 _ _ hin (keyOf i) 2 (own_row i).2.2.1 b).trans (congrFun (harg6.read_unread _) _)

theorem own_o2 (f : BufTy.Contents (Elt Ideal) arg9.view.ty) (hin) (a : Fin 512) (l : Fin 128) :
    View.readAt (Elt Ideal) arg9.view (Rect.unit (s := S4096x512) (k0_off5 i) ![512, 128] hin).toLoadRect f (ix2 a l)
      = arg9.view.read (Elt Ideal) f (ix2 (rowOf (keyOf i) a) (colOf 2 l)) :=
  read_tile arg9 _ _ hin (keyOf i) 2 (own_off i).2.2.1 a l

theorem own_k2 (m : Memref sig .tc .vmem S512x512 .bf16) (hm : m.IsWhole) (x : TileV) (hin) (a : Fin 512) (l : Fin 128) :
    View.readAt (Elt Ideal) m.view (Rect.unit (s := S512x512) ![0, 256] ![512, 128] hin).toLoadRect (hm.unread x) (ix2 a l)
      = x (ix2 a (colOf 2 l)) :=
  (read_head m _ _ hin 2 rfl a l).trans (congrFun (hm.read_unread _) _)

theorem own_q3 (hin) (a : Fin 512) (l : Fin 128) :
    View.readAt (Elt Ideal) arg4.view (Rect.unit (s := S4096x512) (k0_off7 i) ![512, 128] hin).toLoadRect (harg4.unread x2) (ix2 a l)
      = x2 (ix2 (rowOf (keyOf i) a) (colOf 3 l)) :=
  (read_tile arg4 _ _ hin (keyOf i) 3 (own_off i).2.2.2 a l).trans (congrFun (harg4.read_unread _) _)

theorem own_d3 (hin) (a : Fin 512) (l : Fin 128) :
    View.readAt (Elt Ideal) arg5.view (Rect.unit (s := S4096x512) (k0_off7 i) ![512, 128] hin).toLoadRect (harg5.unread x3) (ix2 a l)
      = x3 (ix2 (rowOf (keyOf i) a) (colOf 3 l)) :=
  (read_tile arg5 _ _ hin (keyOf i) 3 (own_off i).2.2.2 a l).trans (congrFun (harg5.read_unread _) _)

theorem own_r3 (hin) (b : Fin 512) :
    View.readAt (Elt Ideal) arg6.view (Rect.unit (s := S2x8x8x512) (k0_off8 i) ![1, 1, 1, 512] hin).toLoadRect (harg6.unread x4) (ix4 0 0 0 b)
      = x4 (ix4 (pairOf 3) (keyOf i) (subOf 3) b) :=
  (read_row arg6 _ _ hin (keyOf i) 3 (own_row i).2.2.2 b).trans (congrFun (harg6.read_unread _) _)

theorem own_o3 (f : BufTy.Contents (Elt Ideal) arg9.view.ty) (hin) (a : Fin 512) (l : Fin 128) :
    View.readAt (Elt Ideal) arg9.view (Rect.unit (s := S4096x512) (k0_off7 i) ![512, 128] hin).toLoadRect f (ix2 a l)
      = arg9.view.read (Elt Ideal) f (ix2 (rowOf (keyOf i) a) (colOf 3 l)) :=
  read_tile arg9 _ _ hin (keyOf i) 3 (own_off i).2.2.2 a l

theorem own_k3 (m : Memref sig .tc .vmem S512x512 .bf16) (hm : m.IsWhole) (x : TileV) (hin) (a : Fin 512) (l : Fin 128) :
    View.readAt (Elt Ideal) m.view (Rect.unit (s := S512x512) ![0, 384] ![512, 128] hin).toLoadRect (hm.unread x) (ix2 a l)
      = x (ix2 a (colOf 3 l)) :=
  (read_head m _ _ hin 3 rfl a l).trans (congrFun (hm.read_unread _) _)

theorem next_k0 (a : Fin 512) (l : Fin 128) : runNext.sl.r arg2 harg2 x0 (ix2 a l) = x0 (ix2 a (colOf 0 l)) := by
  pointwise [runNext.sl.cst_33, runNext.sl.r, runNext.sl.r_1, runNext.sl.r_10, runNext.sl.r_11, runNext.sl.r_12, runNext.sl.r_13, runNext.sl.r_14, runNext.sl.r_15, runNext.sl.r_16, runNext.sl.r_17, runNext.sl.r_18, runNext.sl.r_19, runNext.sl.r_2, runNext.sl.r_20, runNext.sl.r_3, runNext.sl.r_4, runNext.sl.r_5, runNext.sl.r_6, runNext.sl.r_7, runNext.sl.r_8, runNext.sl.r_9, runNext.sl.v0, runNext.sl.v1, runNext.sl.v109, runNext.sl.v139, runNext.sl.v145, runNext.sl.v146, runNext.sl.v148, runNext.sl.v149, runNext.sl.v150, runNext.sl.v2, runNext.sl.v23, runNext.sl.v79, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  simp only [own_k0]
theorem next_v0 (a : Fin 512) (l : Fin 128) : runNext.sl.r_4 arg3 harg3 x1 (ix2 a l) = x1 (ix2 a (colOf 0 l)) := by
  pointwise [runNext.sl.cst_33, runNext.sl.r, runNext.sl.r_1, runNext.sl.r_10, runNext.sl.r_11, runNext.sl.r_12, runNext.sl.r_13, runNext.sl.r_14, runNext.sl.r_15, runNext.sl.r_16, runNext.sl.r_17, runNext.sl.r_18, runNext.sl.r_19, runNext.sl.r_2, runNext.sl.r_20, runNext.sl.r_3, runNext.sl.r_4, runNext.sl.r_5, runNext.sl.r_6, runNext.sl.r_7, runNext.sl.r_8, runNext.sl.r_9, runNext.sl.v0, runNext.sl.v1, runNext.sl.v109, runNext.sl.v139, runNext.sl.v145, runNext.sl.v146, runNext.sl.v148, runNext.sl.v149, runNext.sl.v150, runNext.sl.v2, runNext.sl.v23, runNext.sl.v79, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  simp only [own_k0]

theorem next_k1 (a : Fin 512) (l : Fin 128) : runNext.sl.r_1 arg2 harg2 x0 (ix2 a l) = x0 (ix2 a (colOf 1 l)) := by
  pointwise [runNext.sl.cst_33, runNext.sl.r, runNext.sl.r_1, runNext.sl.r_10, runNext.sl.r_11, runNext.sl.r_12, runNext.sl.r_13, runNext.sl.r_14, runNext.sl.r_15, runNext.sl.r_16, runNext.sl.r_17, runNext.sl.r_18, runNext.sl.r_19, runNext.sl.r_2, runNext.sl.r_20, runNext.sl.r_3, runNext.sl.r_4, runNext.sl.r_5, runNext.sl.r_6, runNext.sl.r_7, runNext.sl.r_8, runNext.sl.r_9, runNext.sl.v0, runNext.sl.v1, runNext.sl.v109, runNext.sl.v139, runNext.sl.v145, runNext.sl.v146, runNext.sl.v148, runNext.sl.v149, runNext.sl.v150, runNext.sl.v2, runNext.sl.v23, runNext.sl.v79, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  simp only [own_k1]
theorem next_v1 (a : Fin 512) (l : Fin 128) : runNext.sl.r_5 arg3 harg3 x1 (ix2 a l) = x1 (ix2 a (colOf 1 l)) := by
  pointwise [runNext.sl.cst_33, runNext.sl.r, runNext.sl.r_1, runNext.sl.r_10, runNext.sl.r_11, runNext.sl.r_12, runNext.sl.r_13, runNext.sl.r_14, runNext.sl.r_15, runNext.sl.r_16, runNext.sl.r_17, runNext.sl.r_18, runNext.sl.r_19, runNext.sl.r_2, runNext.sl.r_20, runNext.sl.r_3, runNext.sl.r_4, runNext.sl.r_5, runNext.sl.r_6, runNext.sl.r_7, runNext.sl.r_8, runNext.sl.r_9, runNext.sl.v0, runNext.sl.v1, runNext.sl.v109, runNext.sl.v139, runNext.sl.v145, runNext.sl.v146, runNext.sl.v148, runNext.sl.v149, runNext.sl.v150, runNext.sl.v2, runNext.sl.v23, runNext.sl.v79, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  simp only [own_k1]

theorem next_k2 (a : Fin 512) (l : Fin 128) : runNext.sl.r_2 arg2 harg2 x0 (ix2 a l) = x0 (ix2 a (colOf 2 l)) := by
  pointwise [runNext.sl.cst_33, runNext.sl.r, runNext.sl.r_1, runNext.sl.r_10, runNext.sl.r_11, runNext.sl.r_12, runNext.sl.r_13, runNext.sl.r_14, runNext.sl.r_15, runNext.sl.r_16, runNext.sl.r_17, runNext.sl.r_18, runNext.sl.r_19, runNext.sl.r_2, runNext.sl.r_20, runNext.sl.r_3, runNext.sl.r_4, runNext.sl.r_5, runNext.sl.r_6, runNext.sl.r_7, runNext.sl.r_8, runNext.sl.r_9, runNext.sl.v0, runNext.sl.v1, runNext.sl.v109, runNext.sl.v139, runNext.sl.v145, runNext.sl.v146, runNext.sl.v148, runNext.sl.v149, runNext.sl.v150, runNext.sl.v2, runNext.sl.v23, runNext.sl.v79, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  simp only [own_k2]
theorem next_v2 (a : Fin 512) (l : Fin 128) : runNext.sl.r_6 arg3 harg3 x1 (ix2 a l) = x1 (ix2 a (colOf 2 l)) := by
  pointwise [runNext.sl.cst_33, runNext.sl.r, runNext.sl.r_1, runNext.sl.r_10, runNext.sl.r_11, runNext.sl.r_12, runNext.sl.r_13, runNext.sl.r_14, runNext.sl.r_15, runNext.sl.r_16, runNext.sl.r_17, runNext.sl.r_18, runNext.sl.r_19, runNext.sl.r_2, runNext.sl.r_20, runNext.sl.r_3, runNext.sl.r_4, runNext.sl.r_5, runNext.sl.r_6, runNext.sl.r_7, runNext.sl.r_8, runNext.sl.r_9, runNext.sl.v0, runNext.sl.v1, runNext.sl.v109, runNext.sl.v139, runNext.sl.v145, runNext.sl.v146, runNext.sl.v148, runNext.sl.v149, runNext.sl.v150, runNext.sl.v2, runNext.sl.v23, runNext.sl.v79, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  simp only [own_k2]

theorem next_k3 (a : Fin 512) (l : Fin 128) : runNext.sl.r_3 arg2 harg2 x0 (ix2 a l) = x0 (ix2 a (colOf 3 l)) := by
  pointwise [runNext.sl.cst_33, runNext.sl.r, runNext.sl.r_1, runNext.sl.r_10, runNext.sl.r_11, runNext.sl.r_12, runNext.sl.r_13, runNext.sl.r_14, runNext.sl.r_15, runNext.sl.r_16, runNext.sl.r_17, runNext.sl.r_18, runNext.sl.r_19, runNext.sl.r_2, runNext.sl.r_20, runNext.sl.r_3, runNext.sl.r_4, runNext.sl.r_5, runNext.sl.r_6, runNext.sl.r_7, runNext.sl.r_8, runNext.sl.r_9, runNext.sl.v0, runNext.sl.v1, runNext.sl.v109, runNext.sl.v139, runNext.sl.v145, runNext.sl.v146, runNext.sl.v148, runNext.sl.v149, runNext.sl.v150, runNext.sl.v2, runNext.sl.v23, runNext.sl.v79, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  simp only [own_k3]
theorem next_v3 (a : Fin 512) (l : Fin 128) : runNext.sl.r_7 arg3 harg3 x1 (ix2 a l) = x1 (ix2 a (colOf 3 l)) := by
  pointwise [runNext.sl.cst_33, runNext.sl.r, runNext.sl.r_1, runNext.sl.r_10, runNext.sl.r_11, runNext.sl.r_12, runNext.sl.r_13, runNext.sl.r_14, runNext.sl.r_15, runNext.sl.r_16, runNext.sl.r_17, runNext.sl.r_18, runNext.sl.r_19, runNext.sl.r_2, runNext.sl.r_20, runNext.sl.r_3, runNext.sl.r_4, runNext.sl.r_5, runNext.sl.r_6, runNext.sl.r_7, runNext.sl.r_8, runNext.sl.r_9, runNext.sl.v0, runNext.sl.v1, runNext.sl.v109, runNext.sl.v139, runNext.sl.v145, runNext.sl.v146, runNext.sl.v148, runNext.sl.v149, runNext.sl.v150, runNext.sl.v2, runNext.sl.v23, runNext.sl.v79, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  simp only [own_k3]

/-- What the loop starts from: the grid point's own query tile alone. -/
theorem next_init (h1 h2) :
    ((runNext.sl.r_12 i arg2 harg2 arg3 harg3 arg4 harg4 arg5 harg5 arg6 harg6 x0 x1 x2 x3 x4, runNext.sl.r_11 i arg2 harg2 arg4 harg4 arg5 harg5 arg6 harg6 x0 x2 x3 x4,
        runNext.sl.r_18 i arg2 harg2 arg3 harg3 arg4 harg4 arg5 harg5 arg6 harg6 x0 x1 x2 x3 x4, runNext.sl.r_17 i arg2 harg2 arg4 harg4 arg5 harg5 arg6 harg6 x0 x2 x3 x4,
        runNext.sl.r_20 i arg2 harg2 arg3 harg3 arg4 harg4 arg5 harg5 arg6 harg6 x0 x1 x2 x3 x4, runNext.sl.r_19 i arg2 harg2 arg4 harg4 arg5 harg5 arg6 harg6 x0 x2 x3 x4,
        k0_pay84 k0_pay46 (runNext.sl.r_3 arg2 harg2 x0) (runNext.sl.r_7 arg3 harg3 x1) k0_pay55 (View.readAt (Elt Ideal) arg4.view (Rect.unit (s := S4096x512) (k0_off7 i) S512x128.size h1).toLoadRect (harg4.unread x2)) (View.readAt (Elt Ideal) arg5.view (Rect.unit (s := S4096x512) (k0_off7 i) S512x128.size h1).toLoadRect (harg5.unread x3)) (View.readAt (Elt Ideal) arg6.view (Rect.unit (s := S2x8x8x512) (k0_off8 i) S1x1x1x512.size h2).toLoadRect (harg6.unread x4)),
        k0_pay83 k0_pay46 (runNext.sl.r_3 arg2 harg2 x0) k0_pay55 (View.readAt (Elt Ideal) arg4.view (Rect.unit (s := S4096x512) (k0_off7 i) S512x128.size h1).toLoadRect (harg4.unread x2)) (View.readAt (Elt Ideal) arg5.view (Rect.unit (s := S4096x512) (k0_off7 i) S512x128.size h1).toLoadRect (harg5.unread x3)) (View.readAt (Elt Ideal) arg6.view (Rect.unit (s := S2x8x8x512) (k0_off8 i) S1x1x1x512.size h2).toLoadRect (harg6.unread x4))) : Acc)
      = accAt x0 x1 x2 x3 x4 (keyOf i) ((keyOf i).val + 1) := by
  refine Prod.ext (funext fun y => ?_) (Prod.ext (funext fun y => ?_) (Prod.ext (funext fun y => ?_) (Prod.ext (funext fun y => ?_) (Prod.ext (funext fun y => ?_) (Prod.ext (funext fun y => ?_) (Prod.ext (funext fun y => ?_) (funext fun y => ?_))))))) <;> dsimp only [accAt] <;> (idx_vars y) <;> rw [upTo_first]
  all_goals pointwise [runNext.sl.cst_33, runNext.sl.r, runNext.sl.r_1, runNext.sl.r_10, runNext.sl.r_11, runNext.sl.r_12, runNext.sl.r_13, runNext.sl.r_14, runNext.sl.r_15, runNext.sl.r_16, runNext.sl.r_17, runNext.sl.r_18, runNext.sl.r_19, runNext.sl.r_2, runNext.sl.r_20, runNext.sl.r_3, runNext.sl.r_4, runNext.sl.r_5, runNext.sl.r_6, runNext.sl.r_7, runNext.sl.r_8, runNext.sl.r_9, runNext.sl.v0, runNext.sl.v1, runNext.sl.v109, runNext.sl.v139, runNext.sl.v145, runNext.sl.v146, runNext.sl.v148, runNext.sl.v149, runNext.sl.v150, runNext.sl.v2, runNext.sl.v23, runNext.sl.v79, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  all_goals simp only [TK, TV, DD, PP_diag, LG, own_q0, own_d0, own_r0, own_o0, own_k0, own_q1, own_d1, own_r1, own_o1, own_k1, own_q2, own_d2, own_r2, own_o2, own_k2, own_q3, own_d3, own_r3, own_o3, own_k3]

/-- The loop over the later query tiles, run to its end. -/
theorem next_loop (G : BufTy.Contents (Elt Ideal) arg9.view.ty) (h1 h2) :
    (st_k0_t1 (F := Ideal) Variants.none c none i arg2 harg2 arg3 harg3 arg4 harg4 arg5 harg5 arg6 harg6 arg7 harg7 arg8 harg8 arg9 harg9 (BitVec.ofNat 32 (i 1).val) k0_pay46 (runNext.sl.r arg2 harg2 x0) (runNext.sl.r_1 arg2 harg2 x0) (runNext.sl.r_2 arg2 harg2 x0) (runNext.sl.r_3 arg2 harg2 x0) (runNext.sl.r_4 arg3 harg3 x1) (runNext.sl.r_5 arg3 harg3 x1) (runNext.sl.r_6 arg3 harg3 x1) (runNext.sl.r_7 arg3 harg3 x1) (k0_pay55 (F := Ideal)) (runNext.sl.v23 i) (runNext.sl.r_11 i arg2 harg2 arg4 harg4 arg5 harg5 arg6 harg6 x0 x2 x3 x4) (runNext.sl.r_12 i arg2 harg2 arg3 harg3 arg4 harg4 arg5 harg5 arg6 harg6 x0 x1 x2 x3 x4) (runNext.sl.r_17 i arg2 harg2 arg4 harg4 arg5 harg5 arg6 harg6 x0 x2 x3 x4) (runNext.sl.r_18 i arg2 harg2 arg3 harg3 arg4 harg4 arg5 harg5 arg6 harg6 x0 x1 x2 x3 x4) (runNext.sl.r_19 i arg2 harg2 arg4 harg4 arg5 harg5 arg6 harg6 x0 x2 x3 x4) (runNext.sl.r_20 i arg2 harg2 arg3 harg3 arg4 harg4 arg5 harg5 arg6 harg6 x0 x1 x2 x3 x4) (runNext.sl.v145 i) (harg4.unread x2) (harg5.unread x3) (harg6.unread x4) G (runNext.sl.r_12 i arg2 harg2 arg3 harg3 arg4 harg4 arg5 harg5 arg6 harg6 x0 x1 x2 x3 x4, runNext.sl.r_11 i arg2 harg2 arg4 harg4 arg5 harg5 arg6 harg6 x0 x2 x3 x4,
        runNext.sl.r_18 i arg2 harg2 arg3 harg3 arg4 harg4 arg5 harg5 arg6 harg6 x0 x1 x2 x3 x4, runNext.sl.r_17 i arg2 harg2 arg4 harg4 arg5 harg5 arg6 harg6 x0 x2 x3 x4,
        runNext.sl.r_20 i arg2 harg2 arg3 harg3 arg4 harg4 arg5 harg5 arg6 harg6 x0 x1 x2 x3 x4, runNext.sl.r_19 i arg2 harg2 arg4 harg4 arg5 harg5 arg6 harg6 x0 x2 x3 x4,
        k0_pay84 k0_pay46 (runNext.sl.r_3 arg2 harg2 x0) (runNext.sl.r_7 arg3 harg3 x1) k0_pay55 (View.readAt (Elt Ideal) arg4.view (Rect.unit (s := S4096x512) (k0_off7 i) S512x128.size h1).toLoadRect (harg4.unread x2)) (View.readAt (Elt Ideal) arg5.view (Rect.unit (s := S4096x512) (k0_off7 i) S512x128.size h1).toLoadRect (harg5.unread x3)) (View.readAt (Elt Ideal) arg6.view (Rect.unit (s := S2x8x8x512) (k0_off8 i) S1x1x1x512.size h2).toLoadRect (harg6.unread x4)),
        k0_pay83 k0_pay46 (runNext.sl.r_3 arg2 harg2 x0) k0_pay55 (View.readAt (Elt Ideal) arg4.view (Rect.unit (s := S4096x512) (k0_off7 i) S512x128.size h1).toLoadRect (harg4.unread x2)) (View.readAt (Elt Ideal) arg5.view (Rect.unit (s := S4096x512) (k0_off7 i) S512x128.size h1).toLoadRect (harg5.unread x3)) (View.readAt (Elt Ideal) arg6.view (Rect.unit (s := S2x8x8x512) (k0_off8 i) S1x1x1x512.size h2).toLoadRect (harg6.unread x4))) (Scf.trips (k0_t1_loop i).lb (k0_t1_loop i).ub (k0_t1_loop i).st)).1 = accAt x0 x1 x2 x3 x4 (keyOf i) 8
    ∧ ∀ (i' : Fin 8) (b : Fin 512) (h : Fin 4) (l : Fin 128),
      arg9.view.read (Elt Ideal) (arg9.view.writes (Elt Ideal) G (st_k0_t1 (F := Ideal) Variants.none c none i arg2 harg2 arg3 harg3 arg4 harg4 arg5 harg5 arg6 harg6 arg7 harg7 arg8 harg8 arg9 harg9 (BitVec.ofNat 32 (i 1).val) k0_pay46 (runNext.sl.r arg2 harg2 x0) (runNext.sl.r_1 arg2 harg2 x0) (runNext.sl.r_2 arg2 harg2 x0) (runNext.sl.r_3 arg2 harg2 x0) (runNext.sl.r_4 arg3 harg3 x1) (runNext.sl.r_5 arg3 harg3 x1) (runNext.sl.r_6 arg3 harg3 x1) (runNext.sl.r_7 arg3 harg3 x1) (k0_pay55 (F := Ideal)) (runNext.sl.v23 i) (runNext.sl.r_11 i arg2 harg2 arg4 harg4 arg5 harg5 arg6 harg6 x0 x2 x3 x4) (runNext.sl.r_12 i arg2 harg2 arg3 harg3 arg4 harg4 arg5 harg5 arg6 harg6 x0 x1 x2 x3 x4) (runNext.sl.r_17 i arg2 harg2 arg4 harg4 arg5 harg5 arg6 harg6 x0 x2 x3 x4) (runNext.sl.r_18 i arg2 harg2 arg3 harg3 arg4 harg4 arg5 harg5 arg6 harg6 x0 x1 x2 x3 x4) (runNext.sl.r_19 i arg2 harg2 arg4 harg4 arg5 harg5 arg6 harg6 x0 x2 x3 x4) (runNext.sl.r_20 i arg2 harg2 arg3 harg3 arg4 harg4 arg5 harg5 arg6 harg6 x0 x1 x2 x3 x4) (runNext.sl.v145 i) (harg4.unread x2) (harg5.unread x3) (harg6.unread x4) G (runNext.sl.r_12 i arg2 harg2 arg3 harg3 arg4 harg4 arg5 harg5 arg6 harg6 x0 x1 x2 x3 x4, runNext.sl.r_11 i arg2 harg2 arg4 harg4 arg5 harg5 arg6 harg6 x0 x2 x3 x4,
        runNext.sl.r_18 i arg2 harg2 arg3 harg3 arg4 harg4 arg5 harg5 arg6 harg6 x0 x1 x2 x3 x4, runNext.sl.r_17 i arg2 harg2 arg4 harg4 arg5 harg5 arg6 harg6 x0 x2 x3 x4,
        runNext.sl.r_20 i arg2 harg2 arg3 harg3 arg4 harg4 arg5 harg5 arg6 harg6 x0 x1 x2 x3 x4, runNext.sl.r_19 i arg2 harg2 arg4 harg4 arg5 harg5 arg6 harg6 x0 x2 x3 x4,
        k0_pay84 k0_pay46 (runNext.sl.r_3 arg2 harg2 x0) (runNext.sl.r_7 arg3 harg3 x1) k0_pay55 (View.readAt (Elt Ideal) arg4.view (Rect.unit (s := S4096x512) (k0_off7 i) S512x128.size h1).toLoadRect (harg4.unread x2)) (View.readAt (Elt Ideal) arg5.view (Rect.unit (s := S4096x512) (k0_off7 i) S512x128.size h1).toLoadRect (harg5.unread x3)) (View.readAt (Elt Ideal) arg6.view (Rect.unit (s := S2x8x8x512) (k0_off8 i) S1x1x1x512.size h2).toLoadRect (harg6.unread x4)),
        k0_pay83 k0_pay46 (runNext.sl.r_3 arg2 harg2 x0) k0_pay55 (View.readAt (Elt Ideal) arg4.view (Rect.unit (s := S4096x512) (k0_off7 i) S512x128.size h1).toLoadRect (harg4.unread x2)) (View.readAt (Elt Ideal) arg5.view (Rect.unit (s := S4096x512) (k0_off7 i) S512x128.size h1).toLoadRect (harg5.unread x3)) (View.readAt (Elt Ideal) arg6.view (Rect.unit (s := S2x8x8x512) (k0_off8 i) S1x1x1x512.size h2).toLoadRect (harg6.unread x4))) (Scf.trips (k0_t1_loop i).lb (k0_t1_loop i).ub (k0_t1_loop i).st)).2) (ix2 (rowOf i' b) (colOf h l))
        = arg9.view.read (Elt Ideal) G (ix2 (rowOf i' b) (colOf h l))
          + (if (keyOf i).val + 1 ≤ i'.val ∧ i'.val < 8 then TQ x0 x1 x2 x3 x4 (keyOf i) i' h b l else 0) := by
  have hn : (keyOf i).val + 1 + (k0_t1_loop i).trips = 8 := by
    have h1 := trips_eq i; have h2 : (keyOf i).val < 8 := (keyOf i).isLt; have h3 : (keyOf i).val = (i 1).val := rfl
    omega
  have hl := loop_state Variants.none c none i arg2 harg2 arg3 harg3 arg4 harg4 arg5 harg5 arg6 harg6 arg7 harg7 arg8 harg8 arg9 harg9 (BitVec.ofNat 32 (i 1).val) k0_pay46 (runNext.sl.r arg2 harg2 x0) (runNext.sl.r_1 arg2 harg2 x0) (runNext.sl.r_2 arg2 harg2 x0) (runNext.sl.r_3 arg2 harg2 x0) (runNext.sl.r_4 arg3 harg3 x1) (runNext.sl.r_5 arg3 harg3 x1) (runNext.sl.r_6 arg3 harg3 x1) (runNext.sl.r_7 arg3 harg3 x1) (k0_pay55 (F := Ideal)) (runNext.sl.v23 i) (runNext.sl.r_11 i arg2 harg2 arg4 harg4 arg5 harg5 arg6 harg6 x0 x2 x3 x4) (runNext.sl.r_12 i arg2 harg2 arg3 harg3 arg4 harg4 arg5 harg5 arg6 harg6 x0 x1 x2 x3 x4) (runNext.sl.r_17 i arg2 harg2 arg4 harg4 arg5 harg5 arg6 harg6 x0 x2 x3 x4) (runNext.sl.r_18 i arg2 harg2 arg3 harg3 arg4 harg4 arg5 harg5 arg6 harg6 x0 x1 x2 x3 x4) (runNext.sl.r_19 i arg2 harg2 arg4 harg4 arg5 harg5 arg6 harg6 x0 x2 x3 x4) (runNext.sl.r_20 i arg2 harg2 arg3 harg3 arg4 harg4 arg5 harg5 arg6 harg6 x0 x1 x2 x3 x4) (runNext.sl.v145 i) x2 x3 x4 x0 x1 (next_k0 arg2 harg2 x0) (next_v0 arg3 harg3 x1) (next_k1 arg2 harg2 x0) (next_v1 arg3 harg3 x1) (next_k2 arg2 harg2 x0) (next_v2 arg3 harg3 x1) (next_k3 arg2 harg2 x0) (next_v3 arg3 harg3 x1) G _ (next_init i arg2 harg2 arg3 harg3 arg4 harg4 arg5 harg5 arg6 harg6 x0 x1 x2 x3 x4 h1 h2) _ (le_refl (k0_t1_loop i).trips)
  rw [hn] at hl
  exact hl

/-- The sums for the keys and the values at the end of the run. -/
theorem next_sums (hc0 : ¬ atFirst i) (x7 : FullV) :
    (runNext c i arg2 harg2 arg3 harg3 arg4 harg4 arg5 harg5 arg6 harg6 arg7 harg7 arg8 harg8 arg9 harg9 hc0 x0 x1 x2 x3 x4 x7).1 = heads (accAt x0 x1 x2 x3 x4 (keyOf i) 8).1 (accAt x0 x1 x2 x3 x4 (keyOf i) 8).2.2.1 (accAt x0 x1 x2 x3 x4 (keyOf i) 8).2.2.2.2.1 (accAt x0 x1 x2 x3 x4 (keyOf i) 8).2.2.2.2.2.2.1
    ∧ (runNext c i arg2 harg2 arg3 harg3 arg4 harg4 arg5 harg5 arg6 harg6 arg7 harg7 arg8 harg8 arg9 harg9 hc0 x0 x1 x2 x3 x4 x7).2.1 = heads (accAt x0 x1 x2 x3 x4 (keyOf i) 8).2.1 (accAt x0 x1 x2 x3 x4 (keyOf i) 8).2.2.2.1 (accAt x0 x1 x2 x3 x4 (keyOf i) 8).2.2.2.2.2.1 (accAt x0 x1 x2 x3 x4 (keyOf i) 8).2.2.2.2.2.2.2 := by
  unfold runNext heads
  dsimp only
  unfold runNext.sl.r_21 runNext.sl.r_22 runNext.sl.r_23 runNext.sl.r_24 runNext.sl.r_25 runNext.sl.r_26 runNext.sl.r_27 runNext.sl.r_28
  simp only [(next_loop c i arg2 harg2 arg3 harg3 arg4 harg4 arg5 harg5 arg6 harg6 arg7 harg7 arg8 harg8 arg9 harg9 x0 x1 x2 x3 x4 _ _ _).1, and_self]

/-- The third result at the end of the run. -/
theorem next_third (hc0 : ¬ atFirst i) (x7 : FullV) (i' : Fin 8) (b : Fin 512) (h : Fin 4) (l : Fin 128) :
    arg9.view.read (Elt Ideal) (arg9.view.writes (Elt Ideal) (harg9.unread x7) (runNext c i arg2 harg2 arg3 harg3 arg4 harg4 arg5 harg5 arg6 harg6 arg7 harg7 arg8 harg8 arg9 harg9 hc0 x0 x1 x2 x3 x4 x7).2.2.val) (ix2 (rowOf i' b) (colOf h l))
      = addTile x0 x1 x2 x3 x4 (keyOf i) (fun i' b h l => x7 (ix2 (rowOf i' b) (colOf h l))) i' b h l := by
  unfold runNext
  dsimp only
  rw [View.writes_append, (next_loop c i arg2 harg2 arg3 harg3 arg4 harg4 arg5 harg5 arg6 harg6 arg7 harg7 arg8 harg8 arg9 harg9 x0 x1 x2 x3 x4 _ _ _).2]
  skip
  have hb : ∀ i' b h l, arg9.view.read (Elt Ideal) (harg9.unread x7) (ix2 (rowOf i' b) (colOf h l)) = (fun i' b h l => x7 (ix2 (rowOf i' b) (colOf h l))) i' b h l := fun i' b h l => congrFun (harg9.read_unread _) _
  rw [read_put arg9 _ _ _ (keyOf i) 3 (own_off i).2.2.2, read_put arg9 _ _ _ (keyOf i) 2 (own_off i).2.2.1,
    read_put arg9 _ _ _ (keyOf i) 1 (own_off i).2.1, read_put arg9 _ _ _ (keyOf i) 0 (own_off i).1]
  unfold addTile
  by_cases hi : i' = keyOf i
  · subst hi
    rw [if_pos le_rfl, if_neg (show ¬((keyOf i).val + 1 ≤ (keyOf i).val ∧ (keyOf i).val < 8) by omega), add_zero]
    fin_cases h
    all_goals simp only [true_and, Fin.zero_eta, Fin.mk_one, Fin.reduceFinMk, Fin.reduceEq, if_true, if_false, Fin.isValue, reduceIte]
    all_goals pointwise [runNext.sl.cst_33, runNext.sl.r, runNext.sl.r_1, runNext.sl.r_10, runNext.sl.r_11, runNext.sl.r_12, runNext.sl.r_13, runNext.sl.r_14, runNext.sl.r_15, runNext.sl.r_16, runNext.sl.r_17, runNext.sl.r_18, runNext.sl.r_19, runNext.sl.r_2, runNext.sl.r_20, runNext.sl.r_3, runNext.sl.r_4, runNext.sl.r_5, runNext.sl.r_6, runNext.sl.r_7, runNext.sl.r_8, runNext.sl.r_9, runNext.sl.v0, runNext.sl.v1, runNext.sl.v109, runNext.sl.v139, runNext.sl.v145, runNext.sl.v146, runNext.sl.v148, runNext.sl.v149, runNext.sl.v150, runNext.sl.v2, runNext.sl.v23, runNext.sl.v79, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
    all_goals simp only [TQ, DD, PP_diag, LG, own_q0, own_d0, own_r0, own_o0, own_k0, own_q1, own_d1, own_r1, own_o1, own_k1, own_q2, own_d2, own_r2, own_o2, own_k2, own_q3, own_d3, own_r3, own_o3, own_k3]
    all_goals simp only [hb]
  · simp only [hi, false_and, if_false, View.writes_nil, hb]
    congr 1
    have h0 : i'.val ≠ (keyOf i).val := fun e => hi (Fin.ext e)
    exact if_congr (by omega) rfl rfl

theorem first_k0 (a : Fin 512) (l : Fin 128) : runFirst.sl.r arg2 harg2 x0 (ix2 a l) = x0 (ix2 a (colOf 0 l)) := by
  pointwise [runFirst.sl.cst_33, runFirst.sl.r, runFirst.sl.r_1, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_2, runFirst.sl.r_20, runFirst.sl.r_3, runFirst.sl.r_4, runFirst.sl.r_5, runFirst.sl.r_6, runFirst.sl.r_7, runFirst.sl.r_8, runFirst.sl.r_9, runFirst.sl.v0, runFirst.sl.v1, runFirst.sl.v145, runFirst.sl.v146, runFirst.sl.v148, runFirst.sl.v149, runFirst.sl.v150, runFirst.sl.v2, runFirst.sl.v23, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  simp only [own_k0]
theorem first_v0 (a : Fin 512) (l : Fin 128) : runFirst.sl.r_4 arg3 harg3 x1 (ix2 a l) = x1 (ix2 a (colOf 0 l)) := by
  pointwise [runFirst.sl.cst_33, runFirst.sl.r, runFirst.sl.r_1, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_2, runFirst.sl.r_20, runFirst.sl.r_3, runFirst.sl.r_4, runFirst.sl.r_5, runFirst.sl.r_6, runFirst.sl.r_7, runFirst.sl.r_8, runFirst.sl.r_9, runFirst.sl.v0, runFirst.sl.v1, runFirst.sl.v145, runFirst.sl.v146, runFirst.sl.v148, runFirst.sl.v149, runFirst.sl.v150, runFirst.sl.v2, runFirst.sl.v23, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  simp only [own_k0]

theorem first_k1 (a : Fin 512) (l : Fin 128) : runFirst.sl.r_1 arg2 harg2 x0 (ix2 a l) = x0 (ix2 a (colOf 1 l)) := by
  pointwise [runFirst.sl.cst_33, runFirst.sl.r, runFirst.sl.r_1, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_2, runFirst.sl.r_20, runFirst.sl.r_3, runFirst.sl.r_4, runFirst.sl.r_5, runFirst.sl.r_6, runFirst.sl.r_7, runFirst.sl.r_8, runFirst.sl.r_9, runFirst.sl.v0, runFirst.sl.v1, runFirst.sl.v145, runFirst.sl.v146, runFirst.sl.v148, runFirst.sl.v149, runFirst.sl.v150, runFirst.sl.v2, runFirst.sl.v23, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  simp only [own_k1]
theorem first_v1 (a : Fin 512) (l : Fin 128) : runFirst.sl.r_5 arg3 harg3 x1 (ix2 a l) = x1 (ix2 a (colOf 1 l)) := by
  pointwise [runFirst.sl.cst_33, runFirst.sl.r, runFirst.sl.r_1, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_2, runFirst.sl.r_20, runFirst.sl.r_3, runFirst.sl.r_4, runFirst.sl.r_5, runFirst.sl.r_6, runFirst.sl.r_7, runFirst.sl.r_8, runFirst.sl.r_9, runFirst.sl.v0, runFirst.sl.v1, runFirst.sl.v145, runFirst.sl.v146, runFirst.sl.v148, runFirst.sl.v149, runFirst.sl.v150, runFirst.sl.v2, runFirst.sl.v23, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  simp only [own_k1]

theorem first_k2 (a : Fin 512) (l : Fin 128) : runFirst.sl.r_2 arg2 harg2 x0 (ix2 a l) = x0 (ix2 a (colOf 2 l)) := by
  pointwise [runFirst.sl.cst_33, runFirst.sl.r, runFirst.sl.r_1, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_2, runFirst.sl.r_20, runFirst.sl.r_3, runFirst.sl.r_4, runFirst.sl.r_5, runFirst.sl.r_6, runFirst.sl.r_7, runFirst.sl.r_8, runFirst.sl.r_9, runFirst.sl.v0, runFirst.sl.v1, runFirst.sl.v145, runFirst.sl.v146, runFirst.sl.v148, runFirst.sl.v149, runFirst.sl.v150, runFirst.sl.v2, runFirst.sl.v23, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  simp only [own_k2]
theorem first_v2 (a : Fin 512) (l : Fin 128) : runFirst.sl.r_6 arg3 harg3 x1 (ix2 a l) = x1 (ix2 a (colOf 2 l)) := by
  pointwise [runFirst.sl.cst_33, runFirst.sl.r, runFirst.sl.r_1, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_2, runFirst.sl.r_20, runFirst.sl.r_3, runFirst.sl.r_4, runFirst.sl.r_5, runFirst.sl.r_6, runFirst.sl.r_7, runFirst.sl.r_8, runFirst.sl.r_9, runFirst.sl.v0, runFirst.sl.v1, runFirst.sl.v145, runFirst.sl.v146, runFirst.sl.v148, runFirst.sl.v149, runFirst.sl.v150, runFirst.sl.v2, runFirst.sl.v23, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  simp only [own_k2]

theorem first_k3 (a : Fin 512) (l : Fin 128) : runFirst.sl.r_3 arg2 harg2 x0 (ix2 a l) = x0 (ix2 a (colOf 3 l)) := by
  pointwise [runFirst.sl.cst_33, runFirst.sl.r, runFirst.sl.r_1, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_2, runFirst.sl.r_20, runFirst.sl.r_3, runFirst.sl.r_4, runFirst.sl.r_5, runFirst.sl.r_6, runFirst.sl.r_7, runFirst.sl.r_8, runFirst.sl.r_9, runFirst.sl.v0, runFirst.sl.v1, runFirst.sl.v145, runFirst.sl.v146, runFirst.sl.v148, runFirst.sl.v149, runFirst.sl.v150, runFirst.sl.v2, runFirst.sl.v23, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  simp only [own_k3]
theorem first_v3 (a : Fin 512) (l : Fin 128) : runFirst.sl.r_7 arg3 harg3 x1 (ix2 a l) = x1 (ix2 a (colOf 3 l)) := by
  pointwise [runFirst.sl.cst_33, runFirst.sl.r, runFirst.sl.r_1, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_2, runFirst.sl.r_20, runFirst.sl.r_3, runFirst.sl.r_4, runFirst.sl.r_5, runFirst.sl.r_6, runFirst.sl.r_7, runFirst.sl.r_8, runFirst.sl.r_9, runFirst.sl.v0, runFirst.sl.v1, runFirst.sl.v145, runFirst.sl.v146, runFirst.sl.v148, runFirst.sl.v149, runFirst.sl.v150, runFirst.sl.v2, runFirst.sl.v23, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  simp only [own_k3]

/-- What the loop starts from: the grid point's own query tile alone. -/
theorem first_init (h1 h2) :
    ((runFirst.sl.r_12 i arg2 harg2 arg3 harg3 arg4 harg4 arg5 harg5 arg6 harg6 x0 x1 x2 x3 x4, runFirst.sl.r_11 i arg2 harg2 arg4 harg4 arg5 harg5 arg6 harg6 x0 x2 x3 x4,
        runFirst.sl.r_18 i arg2 harg2 arg3 harg3 arg4 harg4 arg5 harg5 arg6 harg6 x0 x1 x2 x3 x4, runFirst.sl.r_17 i arg2 harg2 arg4 harg4 arg5 harg5 arg6 harg6 x0 x2 x3 x4,
        runFirst.sl.r_20 i arg2 harg2 arg3 harg3 arg4 harg4 arg5 harg5 arg6 harg6 x0 x1 x2 x3 x4, runFirst.sl.r_19 i arg2 harg2 arg4 harg4 arg5 harg5 arg6 harg6 x0 x2 x3 x4,
        k0_pay84 k0_pay46 (runFirst.sl.r_3 arg2 harg2 x0) (runFirst.sl.r_7 arg3 harg3 x1) k0_pay55 (View.readAt (Elt Ideal) arg4.view (Rect.unit (s := S4096x512) (k0_off7 i) S512x128.size h1).toLoadRect (harg4.unread x2)) (View.readAt (Elt Ideal) arg5.view (Rect.unit (s := S4096x512) (k0_off7 i) S512x128.size h1).toLoadRect (harg5.unread x3)) (View.readAt (Elt Ideal) arg6.view (Rect.unit (s := S2x8x8x512) (k0_off8 i) S1x1x1x512.size h2).toLoadRect (harg6.unread x4)),
        k0_pay83 k0_pay46 (runFirst.sl.r_3 arg2 harg2 x0) k0_pay55 (View.readAt (Elt Ideal) arg4.view (Rect.unit (s := S4096x512) (k0_off7 i) S512x128.size h1).toLoadRect (harg4.unread x2)) (View.readAt (Elt Ideal) arg5.view (Rect.unit (s := S4096x512) (k0_off7 i) S512x128.size h1).toLoadRect (harg5.unread x3)) (View.readAt (Elt Ideal) arg6.view (Rect.unit (s := S2x8x8x512) (k0_off8 i) S1x1x1x512.size h2).toLoadRect (harg6.unread x4))) : Acc)
      = accAt x0 x1 x2 x3 x4 (keyOf i) ((keyOf i).val + 1) := by
  refine Prod.ext (funext fun y => ?_) (Prod.ext (funext fun y => ?_) (Prod.ext (funext fun y => ?_) (Prod.ext (funext fun y => ?_) (Prod.ext (funext fun y => ?_) (Prod.ext (funext fun y => ?_) (Prod.ext (funext fun y => ?_) (funext fun y => ?_))))))) <;> dsimp only [accAt] <;> (idx_vars y) <;> rw [upTo_first]
  all_goals pointwise [runFirst.sl.cst_33, runFirst.sl.r, runFirst.sl.r_1, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_2, runFirst.sl.r_20, runFirst.sl.r_3, runFirst.sl.r_4, runFirst.sl.r_5, runFirst.sl.r_6, runFirst.sl.r_7, runFirst.sl.r_8, runFirst.sl.r_9, runFirst.sl.v0, runFirst.sl.v1, runFirst.sl.v145, runFirst.sl.v146, runFirst.sl.v148, runFirst.sl.v149, runFirst.sl.v150, runFirst.sl.v2, runFirst.sl.v23, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  all_goals simp only [TK, TV, DD, PP_diag, LG, own_q0, own_d0, own_r0, own_o0, own_k0, own_q1, own_d1, own_r1, own_o1, own_k1, own_q2, own_d2, own_r2, own_o2, own_k2, own_q3, own_d3, own_r3, own_o3, own_k3]

/-- The loop over the later query tiles, run to its end. -/
theorem first_loop (G : BufTy.Contents (Elt Ideal) arg9.view.ty) (h1 h2) :
    (st_k0_t1 (F := Ideal) Variants.none c none i arg2 harg2 arg3 harg3 arg4 harg4 arg5 harg5 arg6 harg6 arg7 harg7 arg8 harg8 arg9 harg9 (BitVec.ofNat 32 (i 1).val) k0_pay46 (runFirst.sl.r arg2 harg2 x0) (runFirst.sl.r_1 arg2 harg2 x0) (runFirst.sl.r_2 arg2 harg2 x0) (runFirst.sl.r_3 arg2 harg2 x0) (runFirst.sl.r_4 arg3 harg3 x1) (runFirst.sl.r_5 arg3 harg3 x1) (runFirst.sl.r_6 arg3 harg3 x1) (runFirst.sl.r_7 arg3 harg3 x1) (k0_pay55 (F := Ideal)) (runFirst.sl.v23 i) (runFirst.sl.r_11 i arg2 harg2 arg4 harg4 arg5 harg5 arg6 harg6 x0 x2 x3 x4) (runFirst.sl.r_12 i arg2 harg2 arg3 harg3 arg4 harg4 arg5 harg5 arg6 harg6 x0 x1 x2 x3 x4) (runFirst.sl.r_17 i arg2 harg2 arg4 harg4 arg5 harg5 arg6 harg6 x0 x2 x3 x4) (runFirst.sl.r_18 i arg2 harg2 arg3 harg3 arg4 harg4 arg5 harg5 arg6 harg6 x0 x1 x2 x3 x4) (runFirst.sl.r_19 i arg2 harg2 arg4 harg4 arg5 harg5 arg6 harg6 x0 x2 x3 x4) (runFirst.sl.r_20 i arg2 harg2 arg3 harg3 arg4 harg4 arg5 harg5 arg6 harg6 x0 x1 x2 x3 x4) (runFirst.sl.v145 i) (harg4.unread x2) (harg5.unread x3) (harg6.unread x4) G (runFirst.sl.r_12 i arg2 harg2 arg3 harg3 arg4 harg4 arg5 harg5 arg6 harg6 x0 x1 x2 x3 x4, runFirst.sl.r_11 i arg2 harg2 arg4 harg4 arg5 harg5 arg6 harg6 x0 x2 x3 x4,
        runFirst.sl.r_18 i arg2 harg2 arg3 harg3 arg4 harg4 arg5 harg5 arg6 harg6 x0 x1 x2 x3 x4, runFirst.sl.r_17 i arg2 harg2 arg4 harg4 arg5 harg5 arg6 harg6 x0 x2 x3 x4,
        runFirst.sl.r_20 i arg2 harg2 arg3 harg3 arg4 harg4 arg5 harg5 arg6 harg6 x0 x1 x2 x3 x4, runFirst.sl.r_19 i arg2 harg2 arg4 harg4 arg5 harg5 arg6 harg6 x0 x2 x3 x4,
        k0_pay84 k0_pay46 (runFirst.sl.r_3 arg2 harg2 x0) (runFirst.sl.r_7 arg3 harg3 x1) k0_pay55 (View.readAt (Elt Ideal) arg4.view (Rect.unit (s := S4096x512) (k0_off7 i) S512x128.size h1).toLoadRect (harg4.unread x2)) (View.readAt (Elt Ideal) arg5.view (Rect.unit (s := S4096x512) (k0_off7 i) S512x128.size h1).toLoadRect (harg5.unread x3)) (View.readAt (Elt Ideal) arg6.view (Rect.unit (s := S2x8x8x512) (k0_off8 i) S1x1x1x512.size h2).toLoadRect (harg6.unread x4)),
        k0_pay83 k0_pay46 (runFirst.sl.r_3 arg2 harg2 x0) k0_pay55 (View.readAt (Elt Ideal) arg4.view (Rect.unit (s := S4096x512) (k0_off7 i) S512x128.size h1).toLoadRect (harg4.unread x2)) (View.readAt (Elt Ideal) arg5.view (Rect.unit (s := S4096x512) (k0_off7 i) S512x128.size h1).toLoadRect (harg5.unread x3)) (View.readAt (Elt Ideal) arg6.view (Rect.unit (s := S2x8x8x512) (k0_off8 i) S1x1x1x512.size h2).toLoadRect (harg6.unread x4))) (Scf.trips (k0_t1_loop i).lb (k0_t1_loop i).ub (k0_t1_loop i).st)).1 = accAt x0 x1 x2 x3 x4 (keyOf i) 8
    ∧ ∀ (i' : Fin 8) (b : Fin 512) (h : Fin 4) (l : Fin 128),
      arg9.view.read (Elt Ideal) (arg9.view.writes (Elt Ideal) G (st_k0_t1 (F := Ideal) Variants.none c none i arg2 harg2 arg3 harg3 arg4 harg4 arg5 harg5 arg6 harg6 arg7 harg7 arg8 harg8 arg9 harg9 (BitVec.ofNat 32 (i 1).val) k0_pay46 (runFirst.sl.r arg2 harg2 x0) (runFirst.sl.r_1 arg2 harg2 x0) (runFirst.sl.r_2 arg2 harg2 x0) (runFirst.sl.r_3 arg2 harg2 x0) (runFirst.sl.r_4 arg3 harg3 x1) (runFirst.sl.r_5 arg3 harg3 x1) (runFirst.sl.r_6 arg3 harg3 x1) (runFirst.sl.r_7 arg3 harg3 x1) (k0_pay55 (F := Ideal)) (runFirst.sl.v23 i) (runFirst.sl.r_11 i arg2 harg2 arg4 harg4 arg5 harg5 arg6 harg6 x0 x2 x3 x4) (runFirst.sl.r_12 i arg2 harg2 arg3 harg3 arg4 harg4 arg5 harg5 arg6 harg6 x0 x1 x2 x3 x4) (runFirst.sl.r_17 i arg2 harg2 arg4 harg4 arg5 harg5 arg6 harg6 x0 x2 x3 x4) (runFirst.sl.r_18 i arg2 harg2 arg3 harg3 arg4 harg4 arg5 harg5 arg6 harg6 x0 x1 x2 x3 x4) (runFirst.sl.r_19 i arg2 harg2 arg4 harg4 arg5 harg5 arg6 harg6 x0 x2 x3 x4) (runFirst.sl.r_20 i arg2 harg2 arg3 harg3 arg4 harg4 arg5 harg5 arg6 harg6 x0 x1 x2 x3 x4) (runFirst.sl.v145 i) (harg4.unread x2) (harg5.unread x3) (harg6.unread x4) G (runFirst.sl.r_12 i arg2 harg2 arg3 harg3 arg4 harg4 arg5 harg5 arg6 harg6 x0 x1 x2 x3 x4, runFirst.sl.r_11 i arg2 harg2 arg4 harg4 arg5 harg5 arg6 harg6 x0 x2 x3 x4,
        runFirst.sl.r_18 i arg2 harg2 arg3 harg3 arg4 harg4 arg5 harg5 arg6 harg6 x0 x1 x2 x3 x4, runFirst.sl.r_17 i arg2 harg2 arg4 harg4 arg5 harg5 arg6 harg6 x0 x2 x3 x4,
        runFirst.sl.r_20 i arg2 harg2 arg3 harg3 arg4 harg4 arg5 harg5 arg6 harg6 x0 x1 x2 x3 x4, runFirst.sl.r_19 i arg2 harg2 arg4 harg4 arg5 harg5 arg6 harg6 x0 x2 x3 x4,
        k0_pay84 k0_pay46 (runFirst.sl.r_3 arg2 harg2 x0) (runFirst.sl.r_7 arg3 harg3 x1) k0_pay55 (View.readAt (Elt Ideal) arg4.view (Rect.unit (s := S4096x512) (k0_off7 i) S512x128.size h1).toLoadRect (harg4.unread x2)) (View.readAt (Elt Ideal) arg5.view (Rect.unit (s := S4096x512) (k0_off7 i) S512x128.size h1).toLoadRect (harg5.unread x3)) (View.readAt (Elt Ideal) arg6.view (Rect.unit (s := S2x8x8x512) (k0_off8 i) S1x1x1x512.size h2).toLoadRect (harg6.unread x4)),
        k0_pay83 k0_pay46 (runFirst.sl.r_3 arg2 harg2 x0) k0_pay55 (View.readAt (Elt Ideal) arg4.view (Rect.unit (s := S4096x512) (k0_off7 i) S512x128.size h1).toLoadRect (harg4.unread x2)) (View.readAt (Elt Ideal) arg5.view (Rect.unit (s := S4096x512) (k0_off7 i) S512x128.size h1).toLoadRect (harg5.unread x3)) (View.readAt (Elt Ideal) arg6.view (Rect.unit (s := S2x8x8x512) (k0_off8 i) S1x1x1x512.size h2).toLoadRect (harg6.unread x4))) (Scf.trips (k0_t1_loop i).lb (k0_t1_loop i).ub (k0_t1_loop i).st)).2) (ix2 (rowOf i' b) (colOf h l))
        = arg9.view.read (Elt Ideal) G (ix2 (rowOf i' b) (colOf h l))
          + (if (keyOf i).val + 1 ≤ i'.val ∧ i'.val < 8 then TQ x0 x1 x2 x3 x4 (keyOf i) i' h b l else 0) := by
  have hn : (keyOf i).val + 1 + (k0_t1_loop i).trips = 8 := by
    have h1 := trips_eq i; have h2 : (keyOf i).val < 8 := (keyOf i).isLt; have h3 : (keyOf i).val = (i 1).val := rfl
    omega
  have hl := loop_state Variants.none c none i arg2 harg2 arg3 harg3 arg4 harg4 arg5 harg5 arg6 harg6 arg7 harg7 arg8 harg8 arg9 harg9 (BitVec.ofNat 32 (i 1).val) k0_pay46 (runFirst.sl.r arg2 harg2 x0) (runFirst.sl.r_1 arg2 harg2 x0) (runFirst.sl.r_2 arg2 harg2 x0) (runFirst.sl.r_3 arg2 harg2 x0) (runFirst.sl.r_4 arg3 harg3 x1) (runFirst.sl.r_5 arg3 harg3 x1) (runFirst.sl.r_6 arg3 harg3 x1) (runFirst.sl.r_7 arg3 harg3 x1) (k0_pay55 (F := Ideal)) (runFirst.sl.v23 i) (runFirst.sl.r_11 i arg2 harg2 arg4 harg4 arg5 harg5 arg6 harg6 x0 x2 x3 x4) (runFirst.sl.r_12 i arg2 harg2 arg3 harg3 arg4 harg4 arg5 harg5 arg6 harg6 x0 x1 x2 x3 x4) (runFirst.sl.r_17 i arg2 harg2 arg4 harg4 arg5 harg5 arg6 harg6 x0 x2 x3 x4) (runFirst.sl.r_18 i arg2 harg2 arg3 harg3 arg4 harg4 arg5 harg5 arg6 harg6 x0 x1 x2 x3 x4) (runFirst.sl.r_19 i arg2 harg2 arg4 harg4 arg5 harg5 arg6 harg6 x0 x2 x3 x4) (runFirst.sl.r_20 i arg2 harg2 arg3 harg3 arg4 harg4 arg5 harg5 arg6 harg6 x0 x1 x2 x3 x4) (runFirst.sl.v145 i) x2 x3 x4 x0 x1 (first_k0 arg2 harg2 x0) (first_v0 arg3 harg3 x1) (first_k1 arg2 harg2 x0) (first_v1 arg3 harg3 x1) (first_k2 arg2 harg2 x0) (first_v2 arg3 harg3 x1) (first_k3 arg2 harg2 x0) (first_v3 arg3 harg3 x1) G _ (first_init i arg2 harg2 arg3 harg3 arg4 harg4 arg5 harg5 arg6 harg6 x0 x1 x2 x3 x4 h1 h2) _ (le_refl (k0_t1_loop i).trips)
  rw [hn] at hl
  exact hl

/-- The sums for the keys and the values at the end of the run. -/
theorem first_sums (hc0 : atFirst i) :
    (runFirst c i arg2 harg2 arg3 harg3 arg4 harg4 arg5 harg5 arg6 harg6 arg7 harg7 arg8 harg8 arg9 harg9 hc0 x0 x1 x2 x3 x4).1 = heads (accAt x0 x1 x2 x3 x4 (keyOf i) 8).1 (accAt x0 x1 x2 x3 x4 (keyOf i) 8).2.2.1 (accAt x0 x1 x2 x3 x4 (keyOf i) 8).2.2.2.2.1 (accAt x0 x1 x2 x3 x4 (keyOf i) 8).2.2.2.2.2.2.1
    ∧ (runFirst c i arg2 harg2 arg3 harg3 arg4 harg4 arg5 harg5 arg6 harg6 arg7 harg7 arg8 harg8 arg9 harg9 hc0 x0 x1 x2 x3 x4).2.1 = heads (accAt x0 x1 x2 x3 x4 (keyOf i) 8).2.1 (accAt x0 x1 x2 x3 x4 (keyOf i) 8).2.2.2.1 (accAt x0 x1 x2 x3 x4 (keyOf i) 8).2.2.2.2.2.1 (accAt x0 x1 x2 x3 x4 (keyOf i) 8).2.2.2.2.2.2.2 := by
  unfold runFirst heads
  dsimp only
  unfold runFirst.sl.r_21 runFirst.sl.r_22 runFirst.sl.r_23 runFirst.sl.r_24 runFirst.sl.r_25 runFirst.sl.r_26 runFirst.sl.r_27 runFirst.sl.r_28
  simp only [(first_loop c i arg2 harg2 arg3 harg3 arg4 harg4 arg5 harg5 arg6 harg6 arg7 harg7 arg8 harg8 arg9 harg9 x0 x1 x2 x3 x4 _ _ _).1, and_self]

/-- The third result at the end of the run. -/
theorem first_third (hc0 : atFirst i) (i' : Fin 8) (b : Fin 512) (h : Fin 4) (l : Fin 128) :
    arg9.view.read (Elt Ideal) (arg9.view.writes (Elt Ideal) arg9.view.junk (runFirst c i arg2 harg2 arg3 harg3 arg4 harg4 arg5 harg5 arg6 harg6 arg7 harg7 arg8 harg8 arg9 harg9 hc0 x0 x1 x2 x3 x4).2.2.val) (ix2 (rowOf i' b) (colOf h l))
      = addTile x0 x1 x2 x3 x4 (keyOf i) (fun _ _ _ _ => 0) i' b h l := by
  unfold runFirst
  dsimp only
  rw [View.writes_append, (first_loop c i arg2 harg2 arg3 harg3 arg4 harg4 arg5 harg5 arg6 harg6 arg7 harg7 arg8 harg8 arg9 harg9 x0 x1 x2 x3 x4 _ _ _).2]
  unfold runFirst.sl.H7_4 runFirst.sl.H7_3 runFirst.sl.H7_2 runFirst.sl.H7_1
  have hb : ∀ i' b h l, arg9.view.read (Elt Ideal) (arg9.view.writes (Elt Ideal) arg9.view.junk [⟨Rect.unit ![0, 0] S4096x512.size inb_S4096x512_S4096x512_0_0, k0_pay45 (F := Ideal)⟩]) (ix2 (rowOf i' b) (colOf h l)) = (fun _ _ _ _ => 0) i' b h l := fun i' b h l => read_zeros arg9 _ i' b h l
  rw [read_put arg9 _ _ _ (keyOf i) 3 (own_off i).2.2.2, read_put arg9 _ _ _ (keyOf i) 2 (own_off i).2.2.1,
    read_put arg9 _ _ _ (keyOf i) 1 (own_off i).2.1, read_put arg9 _ _ _ (keyOf i) 0 (own_off i).1]
  unfold addTile
  by_cases hi : i' = keyOf i
  · subst hi
    rw [if_pos le_rfl, if_neg (show ¬((keyOf i).val + 1 ≤ (keyOf i).val ∧ (keyOf i).val < 8) by omega), add_zero]
    fin_cases h
    all_goals simp only [true_and, Fin.zero_eta, Fin.mk_one, Fin.reduceFinMk, Fin.reduceEq, if_true, if_false, Fin.isValue, reduceIte]
    all_goals pointwise [runFirst.sl.cst_33, runFirst.sl.r, runFirst.sl.r_1, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_2, runFirst.sl.r_20, runFirst.sl.r_3, runFirst.sl.r_4, runFirst.sl.r_5, runFirst.sl.r_6, runFirst.sl.r_7, runFirst.sl.r_8, runFirst.sl.r_9, runFirst.sl.v0, runFirst.sl.v1, runFirst.sl.v145, runFirst.sl.v146, runFirst.sl.v148, runFirst.sl.v149, runFirst.sl.v150, runFirst.sl.v2, runFirst.sl.v23, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
    all_goals simp only [TQ, DD, PP_diag, LG, own_q0, own_d0, own_r0, own_o0, own_k0, own_q1, own_d1, own_r1, own_o1, own_k1, own_q2, own_d2, own_r2, own_o2, own_k2, own_q3, own_d3, own_r3, own_o3, own_k3]
    all_goals simp only [read_put arg9 _ _ _ (keyOf i) 2 (own_off i).2.2.1,
      read_put arg9 _ _ _ (keyOf i) 1 (own_off i).2.1, read_put arg9 _ _ _ (keyOf i) 0 (own_off i).1, true_and, Fin.reduceEq, if_false, Fin.isValue, reduceIte, hb, zero_add]
  · simp only [hi, false_and, if_false, hb]
    congr 1
    have h0 : i'.val ≠ (keyOf i).val := fun e => hi (Fin.ext e)
    exact if_congr (by omega) rfl rfl

end Cert.KernelIdeal.Body
-- ==== Proof.Body.Triple.lean ====
module

public import proofs.«01_k».proof.Proof.Body.Point
public import Idealize.ShloMosaic.Lib.Claim
public import Idealize.ShloMosaic.Lib.Pipeline.ValueKit.Geometry

/-! # The whole grid

What every grid point finds and leaves, the run of the program, and what the three results of the kernel hold at its end. -/

@[expose] public section

set_option pp.maxSteps 60
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

/-! ## Rows and lanes -/

/-- The head of a lane of a group. -/
def headIn (x : Fin 512) : Fin 4 := ⟨x.val / 128, by omega⟩
/-- The lane in its head. -/
def laneIn (x : Fin 512) : Fin 128 := ⟨x.val % 128, by omega⟩
/-- The tile of a row. -/
def tileIn (x : Fin 4096) : Fin 8 := ⟨x.val / 512, by omega⟩
/-- The row in its tile. -/
def rowIn (x : Fin 4096) : Fin 512 := ⟨x.val % 512, by omega⟩
/-- The group of a lane of the whole width. -/
def groupIn (x : Fin 1024) : Fin 2 := ⟨x.val / 512, by omega⟩
/-- The lane in its group. -/
def withinGroup (x : Fin 1024) : Fin 512 := ⟨x.val % 512, by omega⟩
/-- Lane `x` of group `p`. -/
def laneOf (p : Fin 2) (x : Fin 512) : Fin 1024 := ⟨512 * p.val + x.val, by omega⟩
/-- Pair `x` of group `p`. -/
def pairAt (p x : Fin 2) : Fin 4 := ⟨2 * p.val + x.val, by omega⟩

theorem colOf_in (x : Fin 512) : colOf (headIn x) (laneIn x) = x := Fin.ext (by simp only [colOf, headIn, laneIn]; omega)
theorem rowOf_in (x : Fin 4096) : rowOf (tileIn x) (rowIn x) = x := Fin.ext (by simp only [rowOf, tileIn, rowIn]; omega)
theorem headIn_colOf (h : Fin 4) (l : Fin 128) : headIn (colOf h l) = h := Fin.ext (by simp only [colOf, headIn]; omega)
theorem laneIn_colOf (h : Fin 4) (l : Fin 128) : laneIn (colOf h l) = l := Fin.ext (by simp only [colOf, laneIn]; omega)
theorem tileIn_rowOf (i : Fin 8) (b : Fin 512) : tileIn (rowOf i b) = i := Fin.ext (by simp only [rowOf, tileIn]; omega)
theorem rowIn_rowOf (i : Fin 8) (b : Fin 512) : rowIn (rowOf i b) = b := Fin.ext (by simp only [rowOf, rowIn]; omega)

/-! ## The blocks -/

/-- An array of 4096 rows and eight heads. -/
abbrev WholeV : Type := S4096x1024.Idx → EReal
/-- The log sums of all heads. -/
abbrev SumsV : Type := S4x8x8x512.Idx → EReal

/-- Tile `j` of group `p`. -/
def kTile (A : WholeV) (p : Fin 2) (j : Fin 8) : TileV := fun y => A (ix2 (rowOf j (y 0)) (laneOf p (y 1)))
/-- All rows of group `p`. -/
def kFull (A : WholeV) (p : Fin 2) : FullV := fun y => A (ix2 (y 0) (laneOf p (y 1)))
/-- The log sums of group `p`. -/
def kRow (A : SumsV) (p : Fin 2) : RowV := fun y => A (ix4 (pairAt p (y 0)) (y 1) (y 2) (y 3))

/-- The keys' result at tile `j` of group `p`. -/
def dK (A0 A1 A2 A3 : WholeV) (A4 : SumsV) (p : Fin 2) (j : Fin 8) : TileV := fun y =>
  upTo (fun i => TK (kTile A0 p j) (kTile A1 p j) (kFull A2 p) (kFull A3 p) (kRow A4 p) j i (headIn (y 1)) (y 0) (laneIn (y 1))) j.val 8
/-- The values' result at tile `j` of group `p`. -/
def dV (A0 A2 A3 : WholeV) (A4 : SumsV) (p : Fin 2) (j : Fin 8) : TileV := fun y =>
  upTo (fun i => TV (kTile A0 p j) (kFull A2 p) (kFull A3 p) (kRow A4 p) j i (headIn (y 1)) (y 0) (laneIn (y 1))) j.val 8
/-- The queries' result of group `p` when the key tiles below `n` are done. -/
def dQ (A0 A1 A2 A3 : WholeV) (A4 : SumsV) (p : Fin 2) (n : ℕ) : FullV := fun y =>
  upTo (fun j => if j.val ≤ (tileIn (y 0)).val then TQ (kTile A0 p j) (kTile A1 p j) (kFull A2 p) (kFull A3 p) (kRow A4 p) j (tileIn (y 0)) (headIn (y 1)) (rowIn (y 0)) (laneIn (y 1)) else 0) 0 n

/-- No key tile done: nothing. -/
theorem dQ_zero (A0 A1 A2 A3 : WholeV) (A4 : SumsV) (p : Fin 2) (y) : dQ A0 A1 A2 A3 A4 p 0 y = 0 := by
  unfold dQ upTo
  apply Finset.sum_eq_zero
  intro i hi
  simp only [Finset.mem_filter] at hi
  omega

/-- One key tile more. -/
theorem dQ_succ (A0 A1 A2 A3 : WholeV) (A4 : SumsV) (p : Fin 2) (j : Fin 8) (i' : Fin 8) (b : Fin 512) (h : Fin 4) (l : Fin 128) :
    dQ A0 A1 A2 A3 A4 p (j.val + 1) (ix2 (rowOf i' b) (colOf h l))
      = addTile (kTile A0 p j) (kTile A1 p j) (kFull A2 p) (kFull A3 p) (kRow A4 p) j (fun i' b h l => dQ A0 A1 A2 A3 A4 p j.val (ix2 (rowOf i' b) (colOf h l))) i' b h l := by
  unfold addTile dQ
  rw [upTo_succ _ 0 j (Nat.zero_le _)]
  simp only [ix2_0, ix2_1, tileIn_rowOf, rowIn_rowOf, headIn_colOf, laneIn_colOf]

/-! ## What a grid point does to its buffers -/

/-- The property of a run at the writes it makes. -/
theorem run_at {A B C : Type _} {P : A → B → C → Prop} (R : Σ' (a : A) (b : B), {x : C // P a b x}) {a : A} {b : B} (h1 : R.1 = a) (h2 : R.2.1 = b) :
    P a b R.2.2.val := by
  subst h1 h2
  exact R.2.2.property

/-- A run from `P` to `Q`, with what follows from `Q`. -/
theorem after_run {c : Dev nD} {E : Set ℕ} {p : Prog (TpuEff nD τ sig (Elt Ideal) Λ₀ .tc) PUnit} {P Q : sProp 𝕄}
    (h : P ⊢ wp frame (wpE (defs₀ (F := Ideal)) Variants.none c none) E p (fun _ => Q)) (K : PUnit → sProp 𝕄) :
    iprop(P ∗ (Q -∗ K ⟨⟩)) ⊢ wp frame (wpE (defs₀ (F := Ideal)) Variants.none c none) E p K :=
  (sep_mono h BIBase.Entails.rfl).trans ((wp_frame_r _ _ _).trans (wp_mono _ _ _ fun _ => by iintro ⟨H, Hk⟩; iapply Hk; iexact H))

/-- The keys' result as the body stores it, read back. -/
theorem keys_read (m : Memref sig .tc .vmem S512x512 .f32) (f : BufTy.Contents (Elt Ideal) m.view.ty) (x0 x1 : TileV) (x2 x3 : FullV) (x4 : RowV) (j : Fin 8) :
    m.view.read (Elt Ideal) (m.view.writes (Elt Ideal) f (heads (accAt x0 x1 x2 x3 x4 j 8).1 (accAt x0 x1 x2 x3 x4 j 8).2.2.1 (accAt x0 x1 x2 x3 x4 j 8).2.2.2.2.1 (accAt x0 x1 x2 x3 x4 j 8).2.2.2.2.2.2.1))
      = fun y => upTo (fun i' => TK x0 x1 x2 x3 x4 j i' (headIn (y 1)) (y 0) (laneIn (y 1))) j.val 8 := by
  funext y
  (idx_vars y)
  have hr := read_heads m f (fun h => fun z => upTo (fun i' => TK x0 x1 x2 x3 x4 j i' h (z 0) (z 1)) j.val 8) y0 (headIn y1) (laneIn y1)
  rw [colOf_in] at hr
  exact hr

/-- The values' result as the body stores it, read back. -/
theorem values_read (m : Memref sig .tc .vmem S512x512 .f32) (f : BufTy.Contents (Elt Ideal) m.view.ty) (x0 x1 : TileV) (x2 x3 : FullV) (x4 : RowV) (j : Fin 8) :
    m.view.read (Elt Ideal) (m.view.writes (Elt Ideal) f (heads (accAt x0 x1 x2 x3 x4 j 8).2.1 (accAt x0 x1 x2 x3 x4 j 8).2.2.2.1 (accAt x0 x1 x2 x3 x4 j 8).2.2.2.2.2.1 (accAt x0 x1 x2 x3 x4 j 8).2.2.2.2.2.2.2))
      = fun y => upTo (fun i' => TV x0 x2 x3 x4 j i' (headIn (y 1)) (y 0) (laneIn (y 1))) j.val 8 := by
  funext y
  (idx_vars y)
  have hr := read_heads m f (fun h => fun z => upTo (fun i' => TV x0 x2 x3 x4 j i' h (z 0) (z 1)) j.val 8) y0 (headIn y1) (laneIn y1)
  rw [colOf_in] at hr
  exact hr

set_option maxHeartbeats 1600000 in
/-- The body's triple at the first key tile of a group. -/
theorem first_triple (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S2x8x8x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S4096x512 .f32) (harg9 : arg9.IsWhole) (hc0 : atFirst i)
    (x0 x1 : TileV) (x2 x3 : FullV) (x4 : RowV) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (fun y => upTo (fun i' => TK x0 x1 x2 x3 x4 (keyOf i) i' (headIn (y 1)) (y 0) (laneIn (y 1))) (keyOf i).val 8)
            ∗ owns (c : Thread nD τ) arg8 fullShare (fun y => upTo (fun i' => TV x0 x2 x3 x4 (keyOf i) i' (headIn (y 1)) (y 0) (laneIn (y 1))) (keyOf i).val 8)
            ∗ owns (c : Thread nD τ) arg9 fullShare (fun y => addTile x0 x1 x2 x3 x4 (keyOf i) (fun _ _ _ _ => 0) (tileIn (y 0)) (rowIn (y 0)) (headIn (y 1)) (laneIn (y 1)))) -∗ K ⟨⟩))
      ⊢ wp frame (wpE (defs₀ (F := Ideal)) Variants.none c none) E (cc0_fox_bwd i arg2 harg2 arg3 harg3 arg4 harg4 arg5 harg5 arg6 harg6 arg7 harg7 arg8 harg8 arg9 harg9) K := by
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3; obtain rfl := harg6.eq_unread hf4
  have hsum := first_sums c i arg2 harg2 arg3 harg3 arg4 harg4 arg5 harg5 arg6 harg6 arg7 harg7 arg8 harg8 arg9 harg9 x0 x1 x2 x3 x4 hc0
  have hthird := first_third c i arg2 harg2 arg3 harg3 arg4 harg4 arg5 harg5 arg6 harg6 arg7 harg7 arg8 harg8 arg9 harg9 x0 x1 x2 x3 x4 hc0
  have hrun := run_at _ hsum.1 hsum.2 E f5 f6 f7
  unfold Held at hrun
  iapply (after_run hrun K)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨H0, H1, H2, H3, H4, H5, H6, H7⟩
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      exact keys_read arg7 _ x0 x1 x2 x3 x4 (keyOf i)
    isplitl [H6]
    · iexists _; isplitr; swap; · iexact H6
      ipureintro
      exact values_read arg8 _ x0 x1 x2 x3 x4 (keyOf i)
    iexists _; isplitr; swap; · iexact H7
    ipureintro
    funext y
    (idx_vars y)
    have := hthird (tileIn y0) (rowIn y0) (headIn y1) (laneIn y1)
    rw [rowOf_in, colOf_in] at this
    exact this

set_option maxHeartbeats 1600000 in
/-- The body's triple at a later key tile. -/
theorem next_triple (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S2x8x8x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S4096x512 .f32) (harg9 : arg9.IsWhole) (hc0 : ¬ atFirst i)
    (x0 x1 : TileV) (x2 x3 : FullV) (x4 : RowV) (x7 : FullV) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare x7
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (fun y => upTo (fun i' => TK x0 x1 x2 x3 x4 (keyOf i) i' (headIn (y 1)) (y 0) (laneIn (y 1))) (keyOf i).val 8)
            ∗ owns (c : Thread nD τ) arg8 fullShare (fun y => upTo (fun i' => TV x0 x2 x3 x4 (keyOf i) i' (headIn (y 1)) (y 0) (laneIn (y 1))) (keyOf i).val 8)
            ∗ owns (c : Thread nD τ) arg9 fullShare (fun y => addTile x0 x1 x2 x3 x4 (keyOf i) (fun i' b h l => x7 (ix2 (rowOf i' b) (colOf h l))) (tileIn (y 0)) (rowIn (y 0)) (headIn (y 1)) (laneIn (y 1)))) -∗ K ⟨⟩))
      ⊢ wp frame (wpE (defs₀ (F := Ideal)) Variants.none c none) E (cc0_fox_bwd i arg2 harg2 arg3 harg3 arg4 harg4 arg5 harg5 arg6 harg6 arg7 harg7 arg8 harg8 arg9 harg9) K := by
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hf7
  have hsum := next_sums c i arg2 harg2 arg3 harg3 arg4 harg4 arg5 harg5 arg6 harg6 arg7 harg7 arg8 harg8 arg9 harg9 x0 x1 x2 x3 x4 hc0 x7
  have hthird := next_third c i arg2 harg2 arg3 harg3 arg4 harg4 arg5 harg5 arg6 harg6 arg7 harg7 arg8 harg8 arg9 harg9 x0 x1 x2 x3 x4 hc0 x7
  have hrun := run_at _ hsum.1 hsum.2 E f5 f6 (harg9.unread x7)
  unfold Held at hrun
  iapply (after_run hrun K)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨H0, H1, H2, H3, H4, H5, H6, H7⟩
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      exact keys_read arg7 _ x0 x1 x2 x3 x4 (keyOf i)
    isplitl [H6]
    · iexists _; isplitr; swap; · iexact H6
      ipureintro
      exact values_read arg8 _ x0 x1 x2 x3 x4 (keyOf i)
    iexists _; isplitr; swap; · iexact H7
    ipureintro
    funext y
    (idx_vars y)
    have := hthird (tileIn y0) (rowIn y0) (headIn y1) (laneIn y1)
    rw [rowOf_in, colOf_in] at this
    exact this

end Cert.KernelIdeal.Body
-- ==== Proof.Body.Data.lean ====
module

public import proofs.«01_k».proof.Proof.Body.Triple
public import proofs.«01_k».proof.Proof.Gen.KernelIdeal.Frame
public import Idealize.ShloMosaic.Lib.Claim
public import Idealize.ShloMosaic.Lib.WordCmp
public import Idealize.ShloMosaic.Lib.Pipeline.ValueKit.Geometry
public import Idealize.ShloMosaic.Lib.Pipeline.ValueKit.Point

/-! # The run over the whole grid

What every grid point finds and leaves, the run of the program, and what the three results of the kernel hold at its end. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## The grid's points -/

/-- The group of a grid point. -/
def pOf (t : Fin cfg0.N) : Fin 2 := ⟨(grid0.coords t 0).val, (grid0.coords t 0).isLt⟩
/-- The key tile of a grid point. -/
def jOf (t : Fin cfg0.N) : Fin 8 := keyOf (grid0.coords t)

/-- The group and the key tile of a point, by its number. -/
theorem point_vals (t : Fin cfg0.N) : (pOf t).val = t.val / 8 ∧ (jOf t).val = t.val % 8 ∧ t.val < 16 := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  exact ⟨e0.trans (by omega), e1.trans (by omega), ht⟩

/-- The index maps. -/
theorem idx : ∀ t : Fin cfg0.N, win0_0.index t = ![(grid0.coords t 1).val, (grid0.coords t 0).val]
    ∧ win0_1.index t = ![(grid0.coords t 1).val, (grid0.coords t 0).val]
    ∧ win0_2.index t = ![0, (grid0.coords t 0).val] ∧ win0_3.index t = ![0, (grid0.coords t 0).val]
    ∧ win0_4.index t = ![(grid0.coords t 0).val, 0, 0, 0]
    ∧ win0_5.index t = ![(grid0.coords t 1).val, (grid0.coords t 0).val]
    ∧ win0_6.index t = ![(grid0.coords t 1).val, (grid0.coords t 0).val]
    ∧ win0_7.index t = ![0, (grid0.coords t 0).val] :=
  (by decide +kernel : ∀ t : Fin grid0.N, _)

/-- The first key tile is the point's number divisible by eight. -/
theorem first_iff (t : Fin cfg0.N) : atFirst (grid0.coords t) ↔ t.val % 8 = 0 := by
  have ht : t.val < 16 := Nat.lt_of_lt_of_eq t.isLt N_0
  have e1 : (grid0.coords t 1).val = t.val / 1 % 8 := Pipeline.Grid.coords_val t 1 (by decide) rfl
  simp only [atFirst, e1]
  word_cmp

/-! ## The input blocks -/

/-- The keys with their decay. -/
abbrev A0 (c : Dev nD) : WholeV := V m c main_v87
/-- The values. -/
abbrev A1 (c : Dev nD) : WholeV := V m c main_v94
/-- The queries with their ones. -/
abbrev A2 (c : Dev nD) : WholeV := V m c main_v55
/-- The cotangents with their row sums. -/
abbrev A3 (c : Dev nD) : WholeV := V m c main_v122
/-- The log sums. -/
abbrev A4 (c : Dev nD) : SumsV := V m c main_v125

theorem block0 (c : Dev nD) (t : Fin cfg0.N) : iblk m c 0 t = kTile (A0 m c) (pOf t) (jOf t) := by
  funext y
  show iblk m c 0 t y = V m c main_v87 _
  blk_ext [iblk, idx t]
  all_goals (simp only [rowOf, laneOf, pairAt, jOf, pOf, keyOf]; omega)
theorem block1 (c : Dev nD) (t : Fin cfg0.N) : iblk m c 1 t = kTile (A1 m c) (pOf t) (jOf t) := by
  funext y
  show iblk m c 1 t y = V m c main_v94 _
  blk_ext [iblk, idx t]
  all_goals (simp only [rowOf, laneOf, pairAt, jOf, pOf, keyOf]; omega)
theorem block2 (c : Dev nD) (t : Fin cfg0.N) : iblk m c 2 t = kFull (A2 m c) (pOf t) := by
  funext y
  show iblk m c 2 t y = V m c main_v55 _
  blk_ext [iblk, idx t]
  all_goals (simp only [rowOf, laneOf, pairAt, jOf, pOf, keyOf]; omega)
theorem block3 (c : Dev nD) (t : Fin cfg0.N) : iblk m c 3 t = kFull (A3 m c) (pOf t) := by
  funext y
  show iblk m c 3 t y = V m c main_v122 _
  blk_ext [iblk, idx t]
  all_goals (simp only [rowOf, laneOf, pairAt, jOf, pOf, keyOf]; omega)
theorem block4 (c : Dev nD) (t : Fin cfg0.N) : iblk m c 4 t = kRow (A4 m c) (pOf t) := by
  funext y
  show iblk m c 4 t y = V m c main_v125 _
  blk_ext [iblk, idx t]
  all_goals (simp only [rowOf, laneOf, pairAt, jOf, pOf, keyOf]; omega)

/-! ## The proof data -/

/-- What the body leaves in its eight buffers at a point: the input blocks, the keys' and values' results of the tile,
the queries' result of the key tiles done. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dK (A0 m c) (A1 m c) (A2 m c) (A3 m c) (A4 m c) (pOf t) (jOf t)
    | ⟨6, _⟩ => dV (A0 m c) (A2 m c) (A3 m c) (A4 m c) (pOf t) (jOf t)
    | ⟨7, _⟩ => dQ (A0 m c) (A1 m c) (A2 m c) (A3 m c) (A4 m c) (pOf t) ((jOf t).val + 1)
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = dK (A0 m c) (A1 m c) (A2 m c) (A3 m c) (A4 m c) (pOf t) (jOf t) := by dsimp only [dats]
theorem after6 (c : Dev nD) (t : Fin cfg0.N) : (dats m 0 c).after 6 t = dV (A0 m c) (A2 m c) (A3 m c) (A4 m c) (pOf t) (jOf t) := by dsimp only [dats]
theorem after7 (c : Dev nD) (t : Fin cfg0.N) : (dats m 0 c).after 7 t = dQ (A0 m c) (A1 m c) (A2 m c) (A3 m c) (A4 m c) (pOf t) ((jOf t).val + 1) := by dsimp only [dats]

theorem before0 (c : Dev nD) (t : Fin cfg0.N) (d) : (dats m 0 c).before 0 t d = kTile (A0 m c) (pOf t) (jOf t) :=
  (before0_0_of m (dats m 0 c) (A_eq m c 0) (after0 m c) t d).trans (block0 m c t)
theorem before1 (c : Dev nD) (t : Fin cfg0.N) (d) : (dats m 0 c).before 1 t d = kTile (A1 m c) (pOf t) (jOf t) :=
  (before0_1_of m (dats m 0 c) (A_eq m c 1) (after1 m c) t d).trans (block1 m c t)
theorem before2 (c : Dev nD) (t : Fin cfg0.N) (d) : (dats m 0 c).before 2 t d = kFull (A2 m c) (pOf t) :=
  (before0_2_of m (dats m 0 c) (A_eq m c 2) (after2 m c) t d).trans (block2 m c t)
theorem before3 (c : Dev nD) (t : Fin cfg0.N) (d) : (dats m 0 c).before 3 t d = kFull (A3 m c) (pOf t) :=
  (before0_3_of m (dats m 0 c) (A_eq m c 3) (after3 m c) t d).trans (block3 m c t)
theorem before4 (c : Dev nD) (t : Fin cfg0.N) (d) : (dats m 0 c).before 4 t d = kRow (A4 m c) (pOf t) :=
  (before0_4_of m (dats m 0 c) (A_eq m c 4) (after4 m c) t d).trans (block4 m c t)

/-- At a later key tile the queries' buffer holds the sum of the tiles before. -/
theorem before7 (c : Dev nD) (t : Fin cfg0.N) (h : ¬ t.val % 8 = 0) (d) :
    (dats m 0 c).before 7 t d = dQ (A0 m c) (A1 m c) (A2 m c) (A3 m c) (A4 m c) (pOf t) (jOf t).val := by
  have h0 : t.val ≠ 0 := fun h' => h (by omega)
  have hlt : t.val - 1 < cfg0.N := Nat.lt_of_le_of_lt (Nat.sub_le _ _) t.isLt
  have hf : (cfg0.win 7).flush ⟨t.val - 1, hlt⟩ = false := by
    rw [Bool.eq_false_iff]
    intro hh
    have := (flush0_7 ⟨t.val - 1, hlt⟩).mp hh
    dsimp only at this
    omega
  rw [(dats m 0 c).before_out_kept 7 rfl t h0 hf (fun _ => rfl) (fun _ _ => rfl) d, after7]
  obtain ⟨p1, j1, -⟩ := point_vals t
  obtain ⟨p2, j2, -⟩ := point_vals ⟨t.val - 1, hlt⟩
  dsimp only at p2 j2
  have hp : pOf ⟨t.val - 1, hlt⟩ = pOf t := Fin.ext (by omega)
  have hj : (jOf ⟨t.val - 1, hlt⟩).val + 1 = (jOf t).val := by omega
  rw [hp, hj]

/-! ## The body at a point -/

/-- What the body is called with, -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The queries' result after the first key tile. -/
theorem third_first (c : Dev nD) (t : Fin cfg0.N) (h : t.val % 8 = 0) :
    (fun y : S4096x512.Idx => addTile (kTile (A0 m c) (pOf t) (jOf t)) (kTile (A1 m c) (pOf t) (jOf t)) (kFull (A2 m c) (pOf t)) (kFull (A3 m c) (pOf t)) (kRow (A4 m c) (pOf t)) (jOf t)
        (fun _ _ _ _ => 0) (tileIn (y 0)) (rowIn (y 0)) (headIn (y 1)) (laneIn (y 1)))
      = dQ (A0 m c) (A1 m c) (A2 m c) (A3 m c) (A4 m c) (pOf t) ((jOf t).val + 1) := by
  funext y
  (idx_vars y)
  have := dQ_succ (A0 m c) (A1 m c) (A2 m c) (A3 m c) (A4 m c) (pOf t) (jOf t) (tileIn y0) (rowIn y0) (headIn y1) (laneIn y1)
  rw [rowOf_in, colOf_in] at this
  have hj : (jOf t).val = 0 := (point_vals t).2.1.trans h
  refine Eq.trans ?_ this.symm
  simp only [hj, dQ_zero]

/-- The queries' result after a later key tile. -/
theorem third_next (c : Dev nD) (t : Fin cfg0.N) :
    (fun y : S4096x512.Idx => addTile (kTile (A0 m c) (pOf t) (jOf t)) (kTile (A1 m c) (pOf t) (jOf t)) (kFull (A2 m c) (pOf t)) (kFull (A3 m c) (pOf t)) (kRow (A4 m c) (pOf t)) (jOf t)
        (fun i' b h l => dQ (A0 m c) (A1 m c) (A2 m c) (A3 m c) (A4 m c) (pOf t) (jOf t).val (ix2 (rowOf i' b) (colOf h l))) (tileIn (y 0)) (rowIn (y 0)) (headIn (y 1)) (laneIn (y 1)))
      = dQ (A0 m c) (A1 m c) (A2 m c) (A3 m c) (A4 m c) (pOf t) ((jOf t).val + 1) := by
  funext y
  (idx_vars y)
  have := dQ_succ (A0 m c) (A1 m c) (A2 m c) (A3 m c) (A4 m c) (pOf t) (jOf t) (tileIn y0) (rowIn y0) (headIn y1) (laneIn y1)
  rw [rowOf_in, colOf_in] at this
  exact this.symm

set_option maxHeartbeats 1600000 in
/-- The body at any point. -/
theorem at_point (c : Dev nD) (t : Fin cfg0.N) :
    given m c t ⊢ wp frame (wpE (defs₀ (F := Ideal)) Variants.none c none) Set.univ (bodyAt0 t) (fun _ => returned m c t) := by
  unfold given returned bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7, block0, block1, block2, block3, block4]
  by_cases h : t.val % 8 = 0
  · rw [← third_first m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (first_triple c (grid0.coords t) _ _ _ _ _ _ _ _ _ _ _ _ _ _ _ _ ((first_iff t).mpr h) (kTile (A0 m c) (pOf t) (jOf t)) (kTile (A1 m c) (pOf t) (jOf t)) (kFull (A2 m c) (pOf t)) (kFull (A3 m c) (pOf t)) (kRow (A4 m c) (pOf t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [← third_next m c t]
    simp only [before7 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (next_triple c (grid0.coords t) _ _ _ _ _ _ _ _ _ _ _ _ _ _ _ _ (fun h' => h ((first_iff t).mp h')) (kTile (A0 m c) (pOf t) (jOf t)) (kTile (A1 m c) (pOf t) (jOf t)) (kFull (A2 m c) (pOf t)) (kFull (A3 m c) (pOf t)) (kRow (A4 m c) (pOf t)) (dQ (A0 m c) (A1 m c) (A2 m c) (A3 m c) (A4 m c) (pOf t) (jOf t).val) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The table's row is the body. -/
theorem row_eq (t : Fin cfg0.N) :
    defs₀ (F := Ideal) .tc cfg0.body (cfg0.bodyArgs t (cfg0.slots t)) = bodyAt0 t := by
  unfold defs₀; rw [Defs.onTc_tc]

/-- The body's obligation. -/
theorem obligation (c : Dev nD) : BodyObligation (dats m 0 c) (defs₀ (F := Ideal)) Variants.none () Set.univ := fun t => by
  rw [bigSep_W0, bigSep_W0, row_eq]
  exact triple_restated (at_point m c t) rfl .rfl fun _ => .rfl

/-! ## The run -/

set_option backward.isDefEq.respectTransparency.types false in
set_option maxHeartbeats 800000 in
/-- Every run ends with the windows' arrays at what the points left, every other buffer as the host left it, and all counters at zero. -/
theorem whole_run : θ_run defs (onTc (τ := τ) (main (F := Ideal))) (s₀ m ρ)
    (fun r => Pipeline.FramePost cfgs (dats m) 0 (Pipeline.afterTail₀ cfgs (dats m) 0 (V0 m) [hostOps1, hostOps1_1, hostOps1_2]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The arguments end unchanged and the counters at zero. -/
theorem ends_unchanged : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (whole_run m ρ)))
    ((θ_run defs _ _).mono (fun _ h => h.2) (whole_run m ρ))

/-! ## The results' arrays -/

/-- The keys' result. -/
def allK (A0 A1 A2 A3 : WholeV) (A4 : SumsV) : WholeV := fun x => dK A0 A1 A2 A3 A4 (groupIn (x 1)) (tileIn (x 0)) (ix2 (rowIn (x 0)) (withinGroup (x 1)))
/-- The values' result. -/
def allV (A0 A2 A3 : WholeV) (A4 : SumsV) : WholeV := fun x => dV A0 A2 A3 A4 (groupIn (x 1)) (tileIn (x 0)) (ix2 (rowIn (x 0)) (withinGroup (x 1)))
/-- The queries' result. -/
def allQ (A0 A1 A2 A3 : WholeV) (A4 : SumsV) : WholeV := fun x => dQ A0 A1 A2 A3 A4 (groupIn (x 1)) 8 (ix2 (x 0) (withinGroup (x 1)))

/-- The keys' array at the end. -/
theorem endK (c : Dev nD) : (dats m 0 c).arrAt 5 cfg0.N = allK (A0 m c) (A1 m c) (A2 m c) (A3 m c) (A4 m c) := by
  refine (dats m 0 c).arrAt_eq_of_covers 5 _ (by decide +kernel) fun t hf y => ?_
  blk_simp
  rw [after5]
  unfold allK
  have h0 : ((win0_5.blk t).view.emb y 0).val = (jOf t).val * 512 + (y 0).val := by blk_simp [idx t]; rfl
  have h1 : ((win0_5.blk t).view.emb y 1).val = (pOf t).val * 512 + (y 1).val := by blk_simp [idx t]; rfl
  idx_bounds y
  have e1 : groupIn ((win0_5.blk t).view.emb y 1) = pOf t := Fin.ext ((congrArg (· / 512) h1).trans (by dsimp only; omega))
  have e2 : tileIn ((win0_5.blk t).view.emb y 0) = jOf t := Fin.ext ((congrArg (· / 512) h0).trans (by dsimp only; omega))
  have e3 : rowIn ((win0_5.blk t).view.emb y 0) = y 0 := Fin.ext ((congrArg (· % 512) h0).trans (by dsimp only; omega))
  have e4 : withinGroup ((win0_5.blk t).view.emb y 1) = y 1 := Fin.ext ((congrArg (· % 512) h1).trans (by dsimp only; omega))
  rw [e1, e2, e3, e4]
  refine congrArg _ ?_
  funext a
  fin_cases a <;> rfl

/-- The values' array at the end. -/
theorem endV (c : Dev nD) : (dats m 0 c).arrAt 6 cfg0.N = allV (A0 m c) (A2 m c) (A3 m c) (A4 m c) := by
  refine (dats m 0 c).arrAt_eq_of_covers 6 _ (by decide +kernel) fun t hf y => ?_
  blk_simp
  rw [after6]
  unfold allV
  have h0 : ((win0_6.blk t).view.emb y 0).val = (jOf t).val * 512 + (y 0).val := by blk_simp [idx t]; rfl
  have h1 : ((win0_6.blk t).view.emb y 1).val = (pOf t).val * 512 + (y 1).val := by blk_simp [idx t]; rfl
  idx_bounds y
  have e1 : groupIn ((win0_6.blk t).view.emb y 1) = pOf t := Fin.ext ((congrArg (· / 512) h1).trans (by dsimp only; omega))
  have e2 : tileIn ((win0_6.blk t).view.emb y 0) = jOf t := Fin.ext ((congrArg (· / 512) h0).trans (by dsimp only; omega))
  have e3 : rowIn ((win0_6.blk t).view.emb y 0) = y 0 := Fin.ext ((congrArg (· % 512) h0).trans (by dsimp only; omega))
  have e4 : withinGroup ((win0_6.blk t).view.emb y 1) = y 1 := Fin.ext ((congrArg (· % 512) h1).trans (by dsimp only; omega))
  rw [e1, e2, e3, e4]
  refine congrArg _ ?_
  funext a
  fin_cases a <;> rfl

/-- The queries' array at the end. -/
theorem endQ (c : Dev nD) : (dats m 0 c).arrAt 7 cfg0.N = allQ (A0 m c) (A1 m c) (A2 m c) (A3 m c) (A4 m c) := by
  refine (dats m 0 c).arrAt_eq_of_covers 7 _ (by decide +kernel) fun t hf y => ?_
  blk_simp
  rw [after7]
  unfold allQ
  have ht := (flush0_7 t).mp hf
  obtain ⟨hp, hj, -⟩ := point_vals t
  have h0 : ((win0_7.blk t).view.emb y 0).val = (y 0).val := by blk_simp [idx t]
  have h1 : ((win0_7.blk t).view.emb y 1).val = (pOf t).val * 512 + (y 1).val := by blk_simp [idx t]; rfl
  idx_bounds y
  have e1 : groupIn ((win0_7.blk t).view.emb y 1) = pOf t := Fin.ext ((congrArg (· / 512) h1).trans (by dsimp only; omega))
  have e3 : (win0_7.blk t).view.emb y 0 = y 0 := Fin.ext h0
  have e4 : withinGroup ((win0_7.blk t).view.emb y 1) = y 1 := Fin.ext ((congrArg (· % 512) h1).trans (by dsimp only; omega))
  have e5 : (jOf t).val + 1 = 8 := by omega
  rw [e1, e3, e4, e5]
  refine congrArg _ ?_
  funext a
  fin_cases a <;> rfl

end Cert.KernelIdeal.Body
-- ==== Proof.Body.Ends.lean ====
module

public import proofs.«01_k».proof.Proof.Gen.ReferenceIdeal.Run
public import proofs.«01_k».proof.Proof.Body.Data
public import Idealize.ShloMosaic.Lib.Quiescent

/-! # The programs run to their end -/

@[expose] public section

noncomputable section

namespace Cert.Ends

open Idealize.ShloMosaic Idealize.ShloMosaic.TcCoe Idealize.SL.Sem

/-- The reference ends with its arguments unchanged and every counter at zero: it declares no semaphore. -/
theorem reference_ends (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono
    (fun r h => ⟨fun c => ⟨(h c).2.2.2.2.1, (h c).2.2.2.2.2.1, (h c).2.2.2.2.2.2.1, (h c).2.2.2.2.2.2.2.1, (h c).2.2.2.2.2.2.2.2⟩,
      sem_eq_zero_of_no_sems (by decide) r.2⟩)
    (Cert.ReferenceIdeal.Value.run m g)

end Cert.Ends
-- ==== Proof.Body.Finite.lean ====
module

public import proofs.«01_k».proof.Pre_finite
public import Idealize.ShloMosaic.Lib.Pointwise
public import Idealize.ShloMosaic.Lib.IdealHost

/-! # What the precondition says: every element of every argument is a real number -/

@[expose] public section

set_option maxRecDepth 16384

noncomputable section

namespace Cert.Finite

open Idealize.ShloMosaic Idealize.ShloMosaic.TcCoe
open Cert.Pre_finite

/-- The comparison the precondition makes of one element. -/
def below (x : EReal) : BitVec 1 := BitVec.ofBool (decide (max x (-x) < Ideal.ofBits .f32 0x7F800000#32))

/-- Only a real number passes it. -/
theorem real_of_below (x : EReal) (h : below x = 1#1) : ∃ r : ℝ, x = (r : EReal) := by
  have ht : Ideal.ofBits .f32 0x7F800000#32 = (⊤ : EReal) := by simp [Ideal.ofBits, Ideal.ieee]
  unfold below at h
  rw [ht] at h
  induction x using EReal.rec with
  | bot => simp at h
  | coe r => exact ⟨r, rfl⟩
  | top => simp at h

theorem fn_at [Facts] (q k v ct : FVec Ideal S1x8x4096x64 .f32) (f : FVec Ideal S1x8x4096 .f32) (h : Fin 8) (t : Fin 4096) (d : Fin 64) :
    fn (F := Ideal) q k v f ct (ix4 0 h t d) = IntOp.andi (IntOp.andi (IntOp.andi (IntOp.andi (below (q (ix4 0 h t d))) (below (k (ix4 0 h t d)))) (below (v (ix4 0 h t d)))) (below (ct (ix4 0 h t d)))) (below (f (ix3 0 h t))) := by
  pointwise [fn, fn_part1]
  rfl

theorem both (a b : BitVec 1) (h : IntOp.andi a b = 1#1) : a = 1#1 ∧ b = 1#1 := by
  revert a b; decide

/-- What the precondition says of the arguments. -/
theorem reals [Facts] (q k v ct : FVec Ideal S1x8x4096x64 .f32) (f : FVec Ideal S1x8x4096 .f32) (e : fn (F := Ideal) q k v f ct = fun _ => 1#1) :
    ∃ (Q K V C : Fin 8 → Fin 4096 → Fin 64 → ℝ) (F : Fin 8 → Fin 4096 → ℝ),
      (∀ h t d, q (ix4 0 h t d) = (Q h t d : EReal)) ∧ (∀ h t d, k (ix4 0 h t d) = (K h t d : EReal)) ∧ (∀ h t d, v (ix4 0 h t d) = (V h t d : EReal))
      ∧ (∀ h t d, ct (ix4 0 h t d) = (C h t d : EReal)) ∧ (∀ h t, f (ix3 0 h t) = (F h t : EReal)) := by
  have a : ∀ h t d, below (q (ix4 0 h t d)) = 1#1 ∧ below (k (ix4 0 h t d)) = 1#1 ∧ below (v (ix4 0 h t d)) = 1#1 ∧ below (ct (ix4 0 h t d)) = 1#1 ∧ below (f (ix3 0 h t)) = 1#1 := by
    intro h t d
    have h0 := (fn_at q k v ct f h t d).symm.trans (congrFun e _)
    obtain ⟨h1, hf⟩ := both _ _ h0
    obtain ⟨h2, hc⟩ := both _ _ h1
    obtain ⟨h3, hv⟩ := both _ _ h2
    obtain ⟨hq, hk⟩ := both _ _ h3
    exact ⟨hq, hk, hv, hc, hf⟩
  choose Q hQ using fun h t d => real_of_below _ (a h t d).1
  choose K hK using fun h t d => real_of_below _ (a h t d).2.1
  choose V hV using fun h t d => real_of_below _ (a h t d).2.2.1
  choose C hC using fun h t d => real_of_below _ (a h t d).2.2.2.1
  choose F hF using fun h t => real_of_below _ (a h t 0).2.2.2.2
  exact ⟨Q, K, V, C, F, hQ, hK, hV, hC, hF⟩

end Cert.Finite
-- ==== Proof.Body.Prep.lean ====
module

public import proofs.«01_k».proof.Proof.Gen.KernelIdeal.Frame
public import Idealize.ShloMosaic.Lib.Claim

/-! # The host operations before the kernel

What the host operations before the kernel compute, stretch by stretch. -/

@[expose] public section

set_option maxRecDepth 16384

noncomputable section

namespace Cert.KernelIdeal.Prep

open Idealize.ShloMosaic Idealize.ShloMosaic.TcCoe Idealize.ShloMosaic.StableHlo Idealize.SL.Sem
open Cert.KernelIdeal Cert.KernelIdeal.Gen

/-- The running sums of the forget gates along each head. -/
def cumF (f : FVec Ideal S8x4096 .f32) : FVec Ideal S8x4096 .f32 :=
  (Host.reduceWindowAdd ![1, 4096] ![1, 1] ![0, 4095] ![0, 0] f (broadcastInDim S_ ![] bcast_S_S_ (constant S_ .f32 0x00000000#32)) reduceWindows_S8x4096_S8x4096_w1s1p0_0_w4096s1p4095_0 h_S_)

/-- Which keys a query may see: those not after it. -/
def causal  : IVec S4096x4096 1 :=
  (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The logits of every query against every key, up to a constant of the query. -/
def logitsOf (q : FVec Ideal S8x4096x64 .f32) (k : FVec Ideal S8x4096x64 .f32) (F : FVec Ideal S8x4096 .f32) : FVec Ideal S8x4096x4096 .f32 :=
  (select (broadcastInDim S8x4096x4096 ![1, 2] bcast_S4096x4096_S8x4096x4096_1_2 causal) (subf (mulf (Host.dotGeneral dot_S8x4096x64_S8x4096x64_S8x4096x4096_2_2_1_1_0_0 none q k) (broadcastInDim S8x4096x4096 ![] bcast_S_S8x4096x4096 (constant S_ .f32 0x3E000000#32))) (broadcastInDim S8x4096x4096 ![0, 1, 2] bcast_S8x1x4096_S8x4096x4096_0_1_2 (broadcastInDim S8x1x4096 ![0, 2] bcast_S8x4096_S8x1x4096_0_2 F))) (broadcastInDim S8x4096x4096 ![] bcast_S_S8x4096x4096 (constant S_ .f32 0xFF800000#32)))

/-- The largest logit of each query. -/
def maxOf (l : FVec Ideal S8x4096x4096 .f32) : FVec Ideal S8x4096x1 .f32 :=
  (broadcastInDim S8x4096x1 ![0, 1] bcast_S8x4096_S8x4096x1_0_1 (Host.reduce FloatOps.maximumf l (constant S_ .f32 0xFF800000#32) reducesTo_S8x4096x4096_S8x4096_d2 h_S_))

/-- The exponentials of the logits, each query against its largest. -/
def expOf (l : FVec Ideal S8x4096x4096 .f32) (mx : FVec Ideal S8x4096x1 .f32) : FVec Ideal S8x4096x4096 .f32 :=
  (Host.exp (subf l (broadcastInDim S8x4096x4096 ![0, 1, 2] bcast_S8x4096x1_S8x4096x4096_0_1_2 mx)))

/-- Their sum over a query's keys. -/
def sumOf (e : FVec Ideal S8x4096x4096 .f32) : FVec Ideal S8x4096x1 .f32 :=
  (broadcastInDim S8x4096x1 ![0, 1] bcast_S8x4096_S8x4096x1_0_1 (Host.reduceAdd e (constant S_ .f32 0x00000000#32) reducesTo_S8x4096x4096_S8x4096_d2 h_S_))

/-- The attention's output. -/
def outOf (e : FVec Ideal S8x4096x4096 .f32) (z : FVec Ideal S8x4096x1 .f32) (v : FVec Ideal S8x4096x64 .f32) : FVec Ideal S8x4096x64 .f32 :=
  (Host.dotGeneral dot_S8x4096x4096_S8x4096x64_S8x4096x64_2_1_1_2_0_0 none (Host.divf e (broadcastInDim S8x4096x4096 ![0, 1, 2] bcast_S8x4096x1_S8x4096x4096_0_1_2 z)) v)

/-- The logarithm of the sum of the exponentials of the logits. -/
def logSumOf (mx : FVec Ideal S8x4096x1 .f32) (z : FVec Ideal S8x4096x1 .f32) : FVec Ideal S8x4096 .f32 :=
  (shapeCast S8x4096 (addf mx (Host.log z)) shapeCasts_S8x4096x1_S8x4096)

/-- The product of each query's output and its gradient. -/
def deltaOf (ct : FVec Ideal S8x4096x64 .f32) (o : FVec Ideal S8x4096x64 .f32) : FVec Ideal S8x4096 .f32 :=
  (Host.reduceAdd (mulf ct o) (constant S_ .f32 0x00000000#32) reducesTo_S8x4096x64_S8x4096_d2 h_S_)

/-- The number of each lane. -/
def lanes  : IVec S8x4096x128 32 :=
  (iotaInDim S8x4096x128 32 2)

/-- The number of each head. -/
def hds  : IVec S8x4096x128 32 :=
  (iotaInDim S8x4096x128 32 0)

/-- One at the lanes 64, 65 and 66, nothing elsewhere. -/
def ones3  : FVec Ideal S8x4096x128 .f32 :=
  (select (andi (cmpi .sge lanes (broadcastInDim S8x4096x128 ![] bcast_S_S8x4096x128 (constantI S_ 32 64#32))) (cmpi .slt lanes (broadcastInDim S8x4096x128 ![] bcast_S_S8x4096x128 (constantI S_ 32 67#32)))) (broadcastInDim S8x4096x128 ![] bcast_S_S8x4096x128 (constant S_ .f32 0x3F800000#32)) (broadcastInDim S8x4096x128 ![] bcast_S_S8x4096x128 (constant S_ .f32 0x00000000#32)))

/-- The queries' lanes, head by head. -/
def headsOf (q : FVec Ideal S8x4096x64 .f32) : FVec Ideal S8x4096x128 .f32 :=
  (select (cmpi .slt lanes (broadcastInDim S8x4096x128 ![] bcast_S_S8x4096x128 (constantI S_ 32 64#32))) (pad S8x4096x128 ![0, 0, 0] ![0, 0, 64] ![0, 0, 0] (mulf q (broadcastInDim S8x4096x64 ![] bcast_S_S8x4096x64 (constant S_ .f32 0x3E000000#32))) (sitofp .f32 (constantI S_ 32 0#32)) pads_S8x4096x64_S8x4096x128_000_000_0640 h_S_) (select (cmpi .eq lanes (addi (broadcastInDim S8x4096x128 ![] bcast_S_S8x4096x128 (constantI S_ 32 80#32)) hds)) (broadcastInDim S8x4096x128 ![] bcast_S_S8x4096x128 (constant S_ .f32 0x3F800000#32)) ones3))

/-- The heads side by side. -/
def flatOf (w : FVec Ideal S8x4096x128 .f32) : FVec Ideal S4096x1024 .bf16 :=
  (truncf .bf16 (shapeCast S4096x1024 (transpose S4096x8x128 [1, 0, 2] w transposes_S8x4096x128_S4096x8x128_1_0_2) shapeCasts_S4096x8x128_S4096x1024) bitsLt_bf16_f32)

/-- The first part of a number. -/
def part1 (x : FVec Ideal S8x4096 .f32) : FVec Ideal S8x4096 .f32 :=
  (extf .f32 (truncf .bf16 x bitsLt_bf16_f32) bitsLt_bf16_f32)

/-- The second part. -/
def part2 (x : FVec Ideal S8x4096 .f32) (y : FVec Ideal S8x4096 .f32) : FVec Ideal S8x4096 .f32 :=
  (extf .f32 (truncf .bf16 (subf x y) bitsLt_bf16_f32) bitsLt_bf16_f32)

/-- The third part. -/
def part3 (x : FVec Ideal S8x4096 .f32) (y : FVec Ideal S8x4096 .f32) (yy : FVec Ideal S8x4096 .f32) : FVec Ideal S8x4096 .f32 :=
  (extf .f32 (truncf .bf16 (subf (subf x y) yy) bitsLt_bf16_f32) bitsLt_bf16_f32)

/-- The opposite. -/
def minus (x : FVec Ideal S8x4096 .f32) : FVec Ideal S8x4096 .f32 :=
  (Host.negf x)

/-- The three parts of a number at the lanes 64, 65 and 66. -/
def threeOf (x : FVec Ideal S8x4096 .f32) : FVec Ideal S8x4096x128 .f32 :=
  (select (cmpi .eq lanes (broadcastInDim S8x4096x128 ![] bcast_S_S8x4096x128 (constantI S_ 32 64#32))) (broadcastInDim S8x4096x128 ![0, 1, 2] bcast_S8x4096x1_S8x4096x128_0_1_2 (broadcastInDim S8x4096x1 ![0, 1] bcast_S8x4096_S8x4096x1_0_1 (part1 x))) (select (cmpi .eq lanes (broadcastInDim S8x4096x128 ![] bcast_S_S8x4096x128 (constantI S_ 32 65#32))) (broadcastInDim S8x4096x128 ![0, 1, 2] bcast_S8x4096x1_S8x4096x128_0_1_2 (broadcastInDim S8x4096x1 ![0, 1] bcast_S8x4096_S8x4096x1_0_1 (part2 x (part1 x)))) (select (cmpi .eq lanes (broadcastInDim S8x4096x128 ![] bcast_S_S8x4096x128 (constantI S_ 32 66#32))) (broadcastInDim S8x4096x128 ![0, 1, 2] bcast_S8x4096x1_S8x4096x128_0_1_2 (broadcastInDim S8x4096x1 ![0, 1] bcast_S8x4096_S8x4096x1_0_1 (part3 x (part1 x) (part2 x (part1 x))))) (broadcastInDim S8x4096x128 ![] bcast_S_S8x4096x128 (constant S_ .f32 0x00000000#32)))))

/-- The keys' lanes, head by head. -/
def keysOf (k : FVec Ideal S8x4096x64 .f32) (w : FVec Ideal S8x4096x128 .f32) : FVec Ideal S8x4096x128 .f32 :=
  (select (cmpi .slt lanes (broadcastInDim S8x4096x128 ![] bcast_S_S8x4096x128 (constantI S_ 32 64#32))) (pad S8x4096x128 ![0, 0, 0] ![0, 0, 64] ![0, 0, 0] k (sitofp .f32 (constantI S_ 32 0#32)) pads_S8x4096x64_S8x4096x128_000_000_0640 h_S_) (select (cmpi .eq lanes (addi (broadcastInDim S8x4096x128 ![] bcast_S_S8x4096x128 (constantI S_ 32 72#32)) hds)) (broadcastInDim S8x4096x128 ![] bcast_S_S8x4096x128 (constant S_ .f32 0x3F800000#32)) w))

/-- The values' lanes, head by head. -/
def valuesOf (v : FVec Ideal S8x4096x64 .f32) : FVec Ideal S8x4096x128 .f32 :=
  (select (cmpi .slt lanes (broadcastInDim S8x4096x128 ![] bcast_S_S8x4096x128 (constantI S_ 32 64#32))) (pad S8x4096x128 ![0, 0, 0] ![0, 0, 64] ![0, 0, 0] v (sitofp .f32 (constantI S_ 32 0#32)) pads_S8x4096x64_S8x4096x128_000_000_0640 h_S_) ones3)

/-- The lanes of the output's gradient, head by head. -/
def gradsOf (ct : FVec Ideal S8x4096x64 .f32) (w : FVec Ideal S8x4096x128 .f32) : FVec Ideal S8x4096x128 .f32 :=
  (select (cmpi .slt lanes (broadcastInDim S8x4096x128 ![] bcast_S_S8x4096x128 (constantI S_ 32 64#32))) (pad S8x4096x128 ![0, 0, 0] ![0, 0, 64] ![0, 0, 0] ct (sitofp .f32 (constantI S_ 32 0#32)) pads_S8x4096x64_S8x4096x128_000_000_0640 h_S_) w)

/-- The log sums, two heads to a block. -/
def pairsOf (r : FVec Ideal S8x4096 .f32) : FVec Ideal S4x8x8x512 .f32 :=
  (pad S4x8x8x512 ![0, 0, 0, 0] ![0, 0, 6, 0] ![0, 0, 0, 0] (transpose S4x8x2x512 [0, 2, 1, 3] (shapeCast S4x2x8x512 r shapeCasts_S8x4096_S4x2x8x512) transposes_S4x2x8x512_S4x8x2x512_0_2_1_3) (sitofp .f32 (constantI S_ 32 0#32)) pads_S4x8x2x512_S4x8x8x512_000_000_060_000 h_S_)

/-- A stretch of the host operations before the kernel. -/
abbrev opsA : List (HloOp τ sig (Elt Ideal)) := hostOps0 ++ (hostOps0_1)

/-- A stretch of the host operations before the kernel. -/
abbrev opsB : List (HloOp τ sig (Elt Ideal)) := hostOps0_2 ++ (hostOps0_3)

/-- A stretch of the host operations before the kernel. -/
abbrev opsC : List (HloOp τ sig (Elt Ideal)) := hostOps0_4 ++ (hostOps0_5)

/-- A stretch of the host operations before the kernel. -/
abbrev opsD : List (HloOp τ sig (Elt Ideal)) := hostOps0_6 ++ (hostOps0_7 ++ (hostOps0_8 ++ (hostOps0_9 ++ (hostOps0_10 ++ (hostOps0_11 ++ (hostOps0_12 ++ (hostOps0_13 ++ (hostOps0_14 ++ (hostOps0_15 ++ (hostOps0_16 ++ (hostOps0_17 ++ (hostOps0_18 ++ (hostOps0_19 ++ (hostOps0_20 ++ (hostOps0_21 ++ (hostOps0_22))))))))))))))))

/-- A stretch of the host operations before the kernel. -/
abbrev opsF : List (HloOp τ sig (Elt Ideal)) := hostOps0_23 ++ (hostOps0_24 ++ (hostOps0_25 ++ (hostOps0_26 ++ (hostOps0_27 ++ (hostOps0_28 ++ (hostOps0_29 ++ (hostOps0_30 ++ (hostOps0_31 ++ (hostOps0_32 ++ (hostOps0_33 ++ (hostOps0_34 ++ (hostOps0_35))))))))))))

variable (W : Valuation τ sig (Elt Ideal))

theorem opsA_v0 : after opsA W (Proc.devRef .tc main_v0) = shapeCast S8x4096x64 (W (Proc.devRef .tc main_arg0)) shapeCasts_S1x8x4096x64_S8x4096x64 := by
  simp only [opsA, hostOps0, hostOps0_1, List.cons_append, List.nil_append]
  after_results_simp
  try rfl

theorem opsA_v1 : after opsA W (Proc.devRef .tc main_v1) = shapeCast S8x4096x64 (W (Proc.devRef .tc main_arg1)) shapeCasts_S1x8x4096x64_S8x4096x64 := by
  simp only [opsA, hostOps0, hostOps0_1, List.cons_append, List.nil_append]
  after_results_simp
  try rfl

theorem opsA_v2 : after opsA W (Proc.devRef .tc main_v2) = shapeCast S8x4096x64 (W (Proc.devRef .tc main_arg2)) shapeCasts_S1x8x4096x64_S8x4096x64 := by
  simp only [opsA, hostOps0, hostOps0_1, List.cons_append, List.nil_append]
  after_results_simp
  try rfl

theorem opsA_v3 : after opsA W (Proc.devRef .tc main_v3) = shapeCast S8x4096 (W (Proc.devRef .tc main_arg3)) shapeCasts_S1x8x4096_S8x4096 := by
  simp only [opsA, hostOps0, hostOps0_1, List.cons_append, List.nil_append]
  after_results_simp
  try rfl

theorem opsA_v4 : after opsA W (Proc.devRef .tc main_v4) = shapeCast S8x4096x64 (W (Proc.devRef .tc main_arg4)) shapeCasts_S1x8x4096x64_S8x4096x64 := by
  simp only [opsA, hostOps0, hostOps0_1, List.cons_append, List.nil_append]
  after_results_simp
  try rfl

theorem opsA_v5 : after opsA W (Proc.devRef .tc main_v5) = cumF (shapeCast S8x4096 (W (Proc.devRef .tc main_arg3)) shapeCasts_S1x8x4096_S8x4096) := by
  simp only [opsA, hostOps0, hostOps0_1, List.cons_append, List.nil_append]
  after_results_simp
  try rfl

theorem opsB_v0 : after opsB W (Proc.devRef .tc main_v0) = (W (Proc.devRef .tc main_v0)) := by
  simp only [opsB, hostOps0_2, hostOps0_3, List.cons_append, List.nil_append]
  after_results_simp
  try rfl

theorem opsB_v1 : after opsB W (Proc.devRef .tc main_v1) = (W (Proc.devRef .tc main_v1)) := by
  simp only [opsB, hostOps0_2, hostOps0_3, List.cons_append, List.nil_append]
  after_results_simp
  try rfl

theorem opsB_v2 : after opsB W (Proc.devRef .tc main_v2) = (W (Proc.devRef .tc main_v2)) := by
  simp only [opsB, hostOps0_2, hostOps0_3, List.cons_append, List.nil_append]
  after_results_simp
  try rfl

theorem opsB_v4 : after opsB W (Proc.devRef .tc main_v4) = (W (Proc.devRef .tc main_v4)) := by
  simp only [opsB, hostOps0_2, hostOps0_3, List.cons_append, List.nil_append]
  after_results_simp
  try rfl

theorem opsB_v5 : after opsB W (Proc.devRef .tc main_v5) = (W (Proc.devRef .tc main_v5)) := by
  simp only [opsB, hostOps0_2, hostOps0_3, List.cons_append, List.nil_append]
  after_results_simp
  try rfl

theorem opsB_v19 : after opsB W (Proc.devRef .tc main_v19) = logitsOf (W (Proc.devRef .tc main_v0)) (W (Proc.devRef .tc main_v1)) (W (Proc.devRef .tc main_v5)) := by
  simp only [opsB, hostOps0_2, hostOps0_3, List.cons_append, List.nil_append]
  after_results_simp
  try rfl

theorem opsC_v0 : after opsC W (Proc.devRef .tc main_v0) = (W (Proc.devRef .tc main_v0)) := by
  simp only [opsC, hostOps0_4, hostOps0_5, List.cons_append, List.nil_append]
  after_results_simp
  try rfl

theorem opsC_v1 : after opsC W (Proc.devRef .tc main_v1) = (W (Proc.devRef .tc main_v1)) := by
  simp only [opsC, hostOps0_4, hostOps0_5, List.cons_append, List.nil_append]
  after_results_simp
  try rfl

theorem opsC_v2 : after opsC W (Proc.devRef .tc main_v2) = (W (Proc.devRef .tc main_v2)) := by
  simp only [opsC, hostOps0_4, hostOps0_5, List.cons_append, List.nil_append]
  after_results_simp
  try rfl

theorem opsC_v4 : after opsC W (Proc.devRef .tc main_v4) = (W (Proc.devRef .tc main_v4)) := by
  simp only [opsC, hostOps0_4, hostOps0_5, List.cons_append, List.nil_append]
  after_results_simp
  try rfl

theorem opsC_v5 : after opsC W (Proc.devRef .tc main_v5) = (W (Proc.devRef .tc main_v5)) := by
  simp only [opsC, hostOps0_4, hostOps0_5, List.cons_append, List.nil_append]
  after_results_simp
  try rfl

theorem opsC_v35 : after opsC W (Proc.devRef .tc main_v35) = lanes := by
  simp only [opsC, hostOps0_4, hostOps0_5, List.cons_append, List.nil_append]
  after_results_simp
  try rfl

theorem opsC_v36 : after opsC W (Proc.devRef .tc main_v36) = hds := by
  simp only [opsC, hostOps0_4, hostOps0_5, List.cons_append, List.nil_append]
  after_results_simp
  try rfl

theorem opsC_v42 : after opsC W (Proc.devRef .tc main_v42) = ones3 := by
  simp only [opsC, hostOps0_4, hostOps0_5, List.cons_append, List.nil_append]
  after_results_simp
  try rfl

theorem opsC_v32 : after opsC W (Proc.devRef .tc main_v32) = logSumOf (maxOf (W (Proc.devRef .tc main_v19))) (sumOf (expOf (W (Proc.devRef .tc main_v19)) (maxOf (W (Proc.devRef .tc main_v19))))) := by
  simp only [opsC, hostOps0_4, hostOps0_5, List.cons_append, List.nil_append]
  after_results_simp
  try rfl

theorem opsC_v34 : after opsC W (Proc.devRef .tc main_v34) = deltaOf (W (Proc.devRef .tc main_v4)) (outOf (expOf (W (Proc.devRef .tc main_v19)) (maxOf (W (Proc.devRef .tc main_v19)))) (sumOf (expOf (W (Proc.devRef .tc main_v19)) (maxOf (W (Proc.devRef .tc main_v19))))) (W (Proc.devRef .tc main_v2))) := by
  simp only [opsC, hostOps0_4, hostOps0_5, List.cons_append, List.nil_append]
  after_results_simp
  try rfl

theorem opsD_v2 : after opsD W (Proc.devRef .tc main_v2) = (W (Proc.devRef .tc main_v2)) := by
  simp only [opsD, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.cons_append, List.nil_append]
  after_results_simp
  try rfl

theorem opsD_v4 : after opsD W (Proc.devRef .tc main_v4) = (W (Proc.devRef .tc main_v4)) := by
  simp only [opsD, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.cons_append, List.nil_append]
  after_results_simp
  try rfl

theorem opsD_v32 : after opsD W (Proc.devRef .tc main_v32) = (W (Proc.devRef .tc main_v32)) := by
  simp only [opsD, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.cons_append, List.nil_append]
  after_results_simp
  try rfl

theorem opsD_v34 : after opsD W (Proc.devRef .tc main_v34) = (W (Proc.devRef .tc main_v34)) := by
  simp only [opsD, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.cons_append, List.nil_append]
  after_results_simp
  try rfl

theorem opsD_v35 : after opsD W (Proc.devRef .tc main_v35) = (W (Proc.devRef .tc main_v35)) := by
  simp only [opsD, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.cons_append, List.nil_append]
  after_results_simp
  try rfl

theorem opsD_v36 : after opsD W (Proc.devRef .tc main_v36) = (W (Proc.devRef .tc main_v36)) := by
  simp only [opsD, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.cons_append, List.nil_append]
  after_results_simp
  try rfl

theorem opsD_v42 : after opsD W (Proc.devRef .tc main_v42) = (W (Proc.devRef .tc main_v42)) := by
  simp only [opsD, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.cons_append, List.nil_append]
  after_results_simp
  try rfl

theorem opsD_c_20 : after opsD W (Proc.devRef .tc main_c_20) = constantI S_ 32 0#32 := by
  simp only [opsD, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.cons_append, List.nil_append]
  after_results_simp
  try rfl

theorem opsD_v55 (h35 : W (Proc.devRef .tc main_v35) = lanes) (h36 : W (Proc.devRef .tc main_v36) = hds) (h42 : W (Proc.devRef .tc main_v42) = ones3) : after opsD W (Proc.devRef .tc main_v55) = flatOf (headsOf (W (Proc.devRef .tc main_v0))) := by
  simp only [opsD, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.cons_append, List.nil_append]
  after_results_simp
  try rw [h35]
  try rw [h36]
  try rw [h42]
  try rw [h20]
  try rfl

theorem opsD_v87 (h35 : W (Proc.devRef .tc main_v35) = lanes) (h36 : W (Proc.devRef .tc main_v36) = hds) (h42 : W (Proc.devRef .tc main_v42) = ones3) : after opsD W (Proc.devRef .tc main_v87) = flatOf (keysOf (W (Proc.devRef .tc main_v1)) (threeOf (minus (W (Proc.devRef .tc main_v5))))) := by
  simp only [opsD, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.cons_append, List.nil_append]
  after_results_simp
  try rw [h35]
  try rw [h36]
  try rw [h42]
  try rw [h20]
  try rfl

theorem opsF_v55 : after opsF W (Proc.devRef .tc main_v55) = (W (Proc.devRef .tc main_v55)) := by
  simp only [opsF, hostOps0_23, hostOps0_24, hostOps0_25, hostOps0_26, hostOps0_27, hostOps0_28, hostOps0_29, hostOps0_30, hostOps0_31, hostOps0_32, hostOps0_33, hostOps0_34, hostOps0_35, List.cons_append, List.nil_append]
  after_results_simp
  try rfl

theorem opsF_v87 : after opsF W (Proc.devRef .tc main_v87) = (W (Proc.devRef .tc main_v87)) := by
  simp only [opsF, hostOps0_23, hostOps0_24, hostOps0_25, hostOps0_26, hostOps0_27, hostOps0_28, hostOps0_29, hostOps0_30, hostOps0_31, hostOps0_32, hostOps0_33, hostOps0_34, hostOps0_35, List.cons_append, List.nil_append]
  after_results_simp
  try rfl

theorem opsF_v94 (h35 : W (Proc.devRef .tc main_v35) = lanes) (h36 : W (Proc.devRef .tc main_v36) = hds) (h42 : W (Proc.devRef .tc main_v42) = ones3) (h20 : W (Proc.devRef .tc main_c_20) = constantI S_ 32 0#32) : after opsF W (Proc.devRef .tc main_v94) = flatOf (valuesOf (W (Proc.devRef .tc main_v2))) := by
  simp only [opsF, hostOps0_23, hostOps0_24, hostOps0_25, hostOps0_26, hostOps0_27, hostOps0_28, hostOps0_29, hostOps0_30, hostOps0_31, hostOps0_32, hostOps0_33, hostOps0_34, hostOps0_35, List.cons_append, List.nil_append]
  after_results_simp
  try rw [h35]
  try rw [h36]
  try rw [h42]
  try rw [h20]
  try rfl

theorem opsF_v122 (h35 : W (Proc.devRef .tc main_v35) = lanes) (h36 : W (Proc.devRef .tc main_v36) = hds) (h42 : W (Proc.devRef .tc main_v42) = ones3) (h20 : W (Proc.devRef .tc main_c_20) = constantI S_ 32 0#32) : after opsF W (Proc.devRef .tc main_v122) = flatOf (gradsOf (W (Proc.devRef .tc main_v4)) (threeOf (minus (W (Proc.devRef .tc main_v34))))) := by
  simp only [opsF, hostOps0_23, hostOps0_24, hostOps0_25, hostOps0_26, hostOps0_27, hostOps0_28, hostOps0_29, hostOps0_30, hostOps0_31, hostOps0_32, hostOps0_33, hostOps0_34, hostOps0_35, List.cons_append, List.nil_append]
  after_results_simp
  try rw [h35]
  try rw [h36]
  try rw [h42]
  try rw [h20]
  try rfl

theorem opsF_v125 : after opsF W (Proc.devRef .tc main_v125) = pairsOf (W (Proc.devRef .tc main_v32)) := by
  simp only [opsF, hostOps0_23, hostOps0_24, hostOps0_25, hostOps0_26, hostOps0_27, hostOps0_28, hostOps0_29, hostOps0_30, hostOps0_31, hostOps0_32, hostOps0_33, hostOps0_34, hostOps0_35, List.cons_append, List.nil_append]
  after_results_simp
  try rfl

/-! ## What the kernel finds -/

variable (m : (ℓ : Loc nD τ sig) → Buf (Elt Ideal) ℓ) (c : Dev nD)

/-- The host operations are the stretches, one after the other. -/
theorem V_eq (b : Ref sig .tc) : V m c b = after opsF (after opsD (after opsC (after opsB (after opsA (fun b => m (c, b)))))) (Proc.devRef .tc b) := by
  simp only [← after_append]
  rfl

/-- An argument of the program, its leading size-one axis dropped. -/
abbrev argQ : FVec Ideal S8x4096x64 .f32 := shapeCast S8x4096x64 (m ((c : Thread nD τ).loc main_arg0)) shapeCasts_S1x8x4096x64_S8x4096x64
@[inherit_doc argQ] abbrev argK : FVec Ideal S8x4096x64 .f32 := shapeCast S8x4096x64 (m ((c : Thread nD τ).loc main_arg1)) shapeCasts_S1x8x4096x64_S8x4096x64
@[inherit_doc argQ] abbrev argV : FVec Ideal S8x4096x64 .f32 := shapeCast S8x4096x64 (m ((c : Thread nD τ).loc main_arg2)) shapeCasts_S1x8x4096x64_S8x4096x64
@[inherit_doc argQ] abbrev argF : FVec Ideal S8x4096 .f32 := shapeCast S8x4096 (m ((c : Thread nD τ).loc main_arg3)) shapeCasts_S1x8x4096_S8x4096
@[inherit_doc argQ] abbrev argC : FVec Ideal S8x4096x64 .f32 := shapeCast S8x4096x64 (m ((c : Thread nD τ).loc main_arg4)) shapeCasts_S1x8x4096x64_S8x4096x64
/-- The logits of the program. -/
abbrev logits : FVec Ideal S8x4096x4096 .f32 := logitsOf (argQ m c) (argK m c) (cumF (argF m c))
/-- Their exponentials. -/
abbrev exps : FVec Ideal S8x4096x4096 .f32 := expOf (logits m c) (maxOf (logits m c))
/-- The product of each query's output and its gradient. -/
abbrev deltas : FVec Ideal S8x4096 .f32 := deltaOf (argC m c) (outOf (exps m c) (sumOf (exps m c)) (argV m c))
/-- The log sums of the program. -/
abbrev logSums : FVec Ideal S8x4096 .f32 := logSumOf (maxOf (logits m c)) (sumOf (exps m c))

/-- The queries, as the kernel finds them. -/
theorem V_v55 : V m c main_v55 = flatOf (headsOf (argQ m c)) := by
  rw [V_eq, opsF_v55, opsD_v55 _ (opsC_v35 _) (opsC_v36 _) (opsC_v42 _), opsC_v0, opsB_v0, opsA_v0]
/-- The keys, as the kernel finds them. -/
theorem V_v87 : V m c main_v87 = flatOf (keysOf (argK m c) (threeOf (minus (cumF (argF m c))))) := by
  rw [V_eq, opsF_v87, opsD_v87 _ (opsC_v35 _) (opsC_v36 _) (opsC_v42 _), opsC_v1, opsB_v1, opsA_v1, opsC_v5, opsB_v5, opsA_v5]
/-- The values, as the kernel finds them. -/
theorem V_v94 : V m c main_v94 = flatOf (valuesOf (argV m c)) := by
  rw [V_eq, opsF_v94 _ ((opsD_v35 _).trans (opsC_v35 _)) ((opsD_v36 _).trans (opsC_v36 _)) ((opsD_v42 _).trans (opsC_v42 _)) (opsD_c_20 _), opsD_v2, opsC_v2, opsB_v2, opsA_v2]
/-- The gradients of the output, as the kernel finds them. -/
theorem V_v122 : V m c main_v122 = flatOf (gradsOf (argC m c) (threeOf (minus (deltas m c)))) := by
  rw [V_eq, opsF_v122 _ ((opsD_v35 _).trans (opsC_v35 _)) ((opsD_v36 _).trans (opsC_v36 _)) ((opsD_v42 _).trans (opsC_v42 _)) (opsD_c_20 _), opsD_v4, opsC_v4, opsB_v4, opsA_v4,
    opsD_v34, opsC_v34, opsB_v19, opsB_v4, opsB_v2, opsA_v0, opsA_v1, opsA_v2, opsA_v4, opsA_v5]
/-- The log sums, as the kernel finds them. -/
theorem V_v125 : V m c main_v125 = pairsOf (logSums m c) := by
  rw [V_eq, opsF_v125, opsD_v32, opsC_v32, opsB_v19, opsA_v0, opsA_v1, opsA_v5]

end Cert.KernelIdeal.Prep
-- ==== Proof.Body.Tail.lean ====
module

public import proofs.«01_k».proof.Proof.Body.Data

/-! # The host operations after the kernel

What the host operations after the kernel make of its three results. -/

@[expose] public section

set_option maxRecDepth 16384

noncomputable section

namespace Cert.KernelIdeal.Tail

open Idealize.ShloMosaic Idealize.ShloMosaic.TcCoe Idealize.ShloMosaic.StableHlo Idealize.SL.Sem
open Cert.KernelIdeal Cert.KernelIdeal.Gen

/-- The heads apart. -/
def backOf (w : FVec Ideal S4096x1024 .f32) : FVec Ideal S8x4096x128 .f32 :=
  (transpose S8x4096x128 [1, 0, 2] (shapeCast S4096x8x128 w shapeCasts_S4096x1024_S4096x8x128) transposes_S4096x8x128_S8x4096x128_1_0_2)

/-- The first 64 lanes of each head. -/
def lowOf (a : FVec Ideal S8x4096x128 .f32) : FVec Ideal S1x8x4096x64 .f32 :=
  (broadcastInDim S1x8x4096x64 ![1, 2, 3] bcast_S8x4096x64_S1x8x4096x64_1_2_3 (extractStridedSlice S8x4096x64 ![0, 0, 0] a slices_S8x4096x128_S8x4096x64_0_0_0))

/-- The first 64 lanes of each head, scaled. -/
def lowScaled (a : FVec Ideal S8x4096x128 .f32) : FVec Ideal S1x8x4096x64 .f32 :=
  (mulf (broadcastInDim S1x8x4096x64 ![1, 2, 3] bcast_S8x4096x64_S1x8x4096x64_1_2_3 (extractStridedSlice S8x4096x64 ![0, 0, 0] a slices_S8x4096x128_S8x4096x64_0_0_0)) (broadcastInDim S1x8x4096x64 ![] bcast_S_S1x8x4096x64 (constant S_ .f32 0x3E000000#32)))

/-- The gradient of the running sums: from the queries, less that from the keys. -/
def gateOf (a : FVec Ideal S8x4096x128 .f32) (b : FVec Ideal S8x4096x128 .f32) : FVec Ideal S8x4096 .f32 :=
  (transpose S8x4096 [1, 0] (subf (extractStridedSlice S4096x8 ![0, 72] (Host.reduceAdd a (constant S_ .f32 0x00000000#32) reducesTo_S8x4096x128_S4096x128_d0 h_S_) slices_S4096x128_S4096x8_0_72) (extractStridedSlice S4096x8 ![0, 80] (Host.reduceAdd b (constant S_ .f32 0x00000000#32) reducesTo_S8x4096x128_S4096x128_d0 h_S_) slices_S4096x128_S4096x8_0_80)) transposes_S4096x8_S8x4096_1_0)

/-- The running sums from the end. -/
def backward (x : FVec Ideal S8x4096 .f32) : FVec Ideal S1x8x4096 .f32 :=
  (broadcastInDim S1x8x4096 ![1, 2] bcast_S8x4096_S1x8x4096_1_2 (Host.reduceWindowAdd ![1, 4096] ![1, 1] ![0, 0] ![0, 4095] x (broadcastInDim S_ ![] bcast_S_S_ (constant S_ .f32 0x00000000#32)) reduceWindows_S8x4096_S8x4096_w1s1p0_0_w4096s1p0_4095 h_S_))

/-- The host operations after the kernel. -/
abbrev opsT : List (HloOp τ sig (Elt Ideal)) := hostOps1 ++ (hostOps1_1 ++ hostOps1_2)

variable (W : Valuation τ sig (Elt Ideal))

theorem opsT_v136 : after opsT W (Proc.devRef .tc main_v136) = lowScaled (backOf (W (Proc.devRef .tc main_v126_2))) := by
  simp only [opsT, hostOps1, hostOps1_1, hostOps1_2, List.cons_append, List.nil_append]
  after_results_simp
  try rfl

theorem opsT_v138 : after opsT W (Proc.devRef .tc main_v138) = lowOf (backOf (W (Proc.devRef .tc main_v126_0))) := by
  simp only [opsT, hostOps1, hostOps1_1, hostOps1_2, List.cons_append, List.nil_append]
  after_results_simp
  try rfl

theorem opsT_v140 : after opsT W (Proc.devRef .tc main_v140) = lowOf (backOf (W (Proc.devRef .tc main_v126_1))) := by
  simp only [opsT, hostOps1, hostOps1_1, hostOps1_2, List.cons_append, List.nil_append]
  after_results_simp
  try rfl

theorem opsT_v148 : after opsT W (Proc.devRef .tc main_v148) = backward (gateOf (backOf (W (Proc.devRef .tc main_v126_2))) (backOf (W (Proc.devRef .tc main_v126_0)))) := by
  simp only [opsT, hostOps1, hostOps1_1, hostOps1_2, List.cons_append, List.nil_append]
  after_results_simp
  try rfl

/-! ## What the program leaves -/

variable (m : (ℓ : Loc nD τ sig) → Buf (Elt Ideal) ℓ) (c : Dev nD)

open Cert.KernelIdeal.Body

/-- The buffers when the kernel has ended. -/
abbrev atEnd : Valuation τ sig (Elt Ideal) := Pipeline.withArrays (cfgs 0).spec c (V0 m c) fun w => (dats m 0 c).arrAt w (cfgs 0).N

theorem tail_eq (b : Ref sig .tc) : Pipeline.afterTail₀ cfgs (dats m) 0 (V0 m) [hostOps1, hostOps1_1, hostOps1_2] c b = after opsT (atEnd m c) (Proc.devRef .tc b) := by
  unfold Pipeline.afterTail₀
  simp only [List.flatten_cons, List.flatten_nil, List.append_nil]

theorem atEnd_K : atEnd m c (Proc.devRef .tc main_v126_0) = allK (A0 m c) (A1 m c) (A2 m c) (A3 m c) (A4 m c) :=
  (Pipeline.withArrays_arr (cfgs 0).spec (by decide) c (V0 m c) (fun w => (dats m 0 c).arrAt w (cfgs 0).N) 5).trans (endK m c)
theorem atEnd_V : atEnd m c (Proc.devRef .tc main_v126_1) = allV (A0 m c) (A2 m c) (A3 m c) (A4 m c) :=
  (Pipeline.withArrays_arr (cfgs 0).spec (by decide) c (V0 m c) (fun w => (dats m 0 c).arrAt w (cfgs 0).N) 6).trans (endV m c)
theorem atEnd_Q : atEnd m c (Proc.devRef .tc main_v126_2) = allQ (A0 m c) (A1 m c) (A2 m c) (A3 m c) (A4 m c) :=
  (Pipeline.withArrays_arr (cfgs 0).spec (by decide) c (V0 m c) (fun w => (dats m 0 c).arrAt w (cfgs 0).N) 7).trans (endQ m c)

end Cert.KernelIdeal.Tail
-- ==== Proof.Body.PrepAt.lean ====
module

public import proofs.«01_k».proof.Proof.Body.Prep
public import proofs.«01_k».proof.Proof.Body.Tail
public import Idealize.ShloMosaic.Lib.Pointwise
public import Idealize.ShloMosaic.Lib.WordCmp
public import Idealize.ShloMosaic.Lib.IdealHost

/-! # The host operations around the kernel, element by element -/

@[expose] public section

set_option maxRecDepth 16384

noncomputable section

namespace Cert.KernelIdeal.Prep

open Idealize.ShloMosaic Idealize.ShloMosaic.TcCoe
open Cert.KernelIdeal Cert.KernelIdeal.Gen

/-- The constant one eighth. -/
theorem eighth : Ideal.ofBits .f32 1040187392#32 = (((1 : ℝ) / 8 : ℝ) : EReal) := by
  simp [Ideal.ofBits, Ideal.ieee, -EReal.coe_mul]; norm_num
/-- The constant negative infinity. -/
theorem lowest : Ideal.ofBits .f32 4286578688#32 = (⊥ : EReal) := by
  simp [Ideal.ofBits, Ideal.ieee]

/-- A comparison of two words, by what it decides. -/
theorem choose_of {P : Prop} [Decidable P] {c : BitVec 1} (h1 : P → c = 1#1) (h0 : ¬P → c = 0#1) (x y : EReal) :
    Scalar.select c x y = if P then x else y := by
  by_cases h : P
  · rw [h1 h, if_pos h]; rfl
  · rw [h0 h, if_neg h]; rfl

/-- A choice by a comparison of two rows. -/
theorem choose_le (a b : Fin 4096) (x y : EReal) :
    Scalar.select (IntOp.cmpi CmpIPredicate.sle (BitVec.ofNat 32 a.val) (BitVec.ofNat 32 b.val)) x y = if a ≤ b then x else y :=
  choose_of (fun h => by rw [Fin.le_def] at h; word_cmp) (fun h => by rw [Fin.le_def] at h; word_cmp) x y
/-- A choice by a lane being below 64. -/
theorem choose_low (l : Fin 128) (x y : EReal) :
    Scalar.select (IntOp.cmpi CmpIPredicate.slt (BitVec.ofNat 32 l.val) 64#32) x y = if l.val < 64 then x else y :=
  choose_of (fun h => by word_cmp) (fun h => by word_cmp) x y
/-- A choice by a lane being 64. -/
theorem choose_64 (l : Fin 128) (x y : EReal) :
    Scalar.select (IntOp.cmpi CmpIPredicate.eq (BitVec.ofNat 32 l.val) 64#32) x y = if l.val = 64 then x else y :=
  choose_of (fun h => by word_cmp) (fun h => by word_cmp) x y
/-- A choice by a lane being 65. -/
theorem choose_65 (l : Fin 128) (x y : EReal) :
    Scalar.select (IntOp.cmpi CmpIPredicate.eq (BitVec.ofNat 32 l.val) 65#32) x y = if l.val = 65 then x else y :=
  choose_of (fun h => by word_cmp) (fun h => by word_cmp) x y
/-- A choice by a lane being 66. -/
theorem choose_66 (l : Fin 128) (x y : EReal) :
    Scalar.select (IntOp.cmpi CmpIPredicate.eq (BitVec.ofNat 32 l.val) 66#32) x y = if l.val = 66 then x else y :=
  choose_of (fun h => by word_cmp) (fun h => by word_cmp) x y
/-- A choice by a lane being the head's, from 80. -/
theorem choose_80 (l : Fin 128) (h : Fin 8) (x y : EReal) :
    Scalar.select (IntOp.cmpi CmpIPredicate.eq (BitVec.ofNat 32 l.val) (IntOp.addi (80#32) (BitVec.ofNat 32 h.val))) x y = if l.val = 80 + h.val then x else y := by
  have e : (IntOp.addi (80#32) (BitVec.ofNat 32 h.val)).toNat = 80 + h.val := by
    change ((80#32 : BitVec 32) + BitVec.ofNat 32 h.val).toNat = _
    rw [BitVec.toNat_add, BitVec.toNat_ofNat, BitVec.toNat_ofNat]
    omega
  exact choose_of (fun h => by word_cmp) (fun h => by word_cmp) x y
/-- A choice by a lane being the head's, from 72. -/
theorem choose_72 (l : Fin 128) (h : Fin 8) (x y : EReal) :
    Scalar.select (IntOp.cmpi CmpIPredicate.eq (BitVec.ofNat 32 l.val) (IntOp.addi (72#32) (BitVec.ofNat 32 h.val))) x y = if l.val = 72 + h.val then x else y := by
  have e : (IntOp.addi (72#32) (BitVec.ofNat 32 h.val)).toNat = 72 + h.val := by
    change ((72#32 : BitVec 32) + BitVec.ofNat 32 h.val).toNat = _
    rw [BitVec.toNat_add, BitVec.toNat_ofNat, BitVec.toNat_ofNat]
    omega
  exact choose_of (fun h => by word_cmp) (fun h => by word_cmp) x y
/-- A choice by a lane being one of 64, 65, 66. -/
theorem choose_ones (l : Fin 128) (x y : EReal) :
    Scalar.select (IntOp.andi (IntOp.cmpi CmpIPredicate.sge (BitVec.ofNat 32 l.val) 64#32) (IntOp.cmpi CmpIPredicate.slt (BitVec.ofNat 32 l.val) 67#32)) x y
      = if 64 ≤ l.val ∧ l.val < 67 then x else y := by
  refine choose_of (fun h => ?_) (fun h => ?_) x y
  · have h1 : IntOp.cmpi CmpIPredicate.sge (BitVec.ofNat 32 l.val) 64#32 = 1#1 := by word_cmp
    have h2 : IntOp.cmpi CmpIPredicate.slt (BitVec.ofNat 32 l.val) 67#32 = 1#1 := by word_cmp
    rw [h1, h2]; rfl
  · by_cases h3 : 64 ≤ l.val
    · have h1 : IntOp.cmpi CmpIPredicate.sge (BitVec.ofNat 32 l.val) 64#32 = 1#1 := by word_cmp
      have h2 : IntOp.cmpi CmpIPredicate.slt (BitVec.ofNat 32 l.val) 67#32 = 0#1 := by
        have : ¬ l.val < 67 := fun e => h ⟨h3, e⟩
        word_cmp
      rw [h1, h2]; rfl
    · have h1 : IntOp.cmpi CmpIPredicate.sge (BitVec.ofNat 32 l.val) 64#32 = 0#1 := by word_cmp
      have h2 : IntOp.cmpi CmpIPredicate.slt (BitVec.ofNat 32 l.val) 67#32 = 1#1 := by word_cmp
      rw [h1, h2]; rfl

theorem logitsOf_at (q k F) (h : Fin 8) (t s : Fin 4096) : logitsOf q k F (ix3 h t s)
    = if s ≤ t then (∑ x, q (ix3 h t x) * k (ix3 h s x)) * (((1 : ℝ) / 8 : ℝ) : EReal) - F (ix2 h s) else ⊥ := by
  pointwise [logitsOf, causal]
  rw [choose_le, eighth, lowest]
theorem maxOf_at (l) (h : Fin 8) (t : Fin 4096) : maxOf l (ix3 h t 0) = Finset.fold max ⊥ (fun x => l (ix3 h t x)) Finset.univ := by
  pointwise [maxOf]
  rw [lowest]
theorem expOf_at (l mx) (h : Fin 8) (t s : Fin 4096) : expOf l mx (ix3 h t s) = Ideal.exp (l (ix3 h t s) - mx (ix3 h t 0)) := by
  pointwise [expOf]
theorem sumOf_at (e) (h : Fin 8) (t : Fin 4096) : sumOf e (ix3 h t 0) = ∑ x, e (ix3 h t x) := by
  pointwise [sumOf]
theorem outOf_at (e z v) (h : Fin 8) (t : Fin 4096) (d : Fin 64) : outOf e z v (ix3 h t d) = ∑ x, Ideal.div (e (ix3 h t x)) (z (ix3 h t 0)) * v (ix3 h x d) := by
  pointwise [outOf]
theorem logSumOf_at (mx z) (h : Fin 8) (t : Fin 4096) : logSumOf mx z (ix2 h t) = mx (ix3 h t 0) + Ideal.log (z (ix3 h t 0)) := by
  pointwise [logSumOf]
theorem deltaOf_at (ct o) (h : Fin 8) (t : Fin 4096) : deltaOf ct o (ix2 h t) = ∑ x, ct (ix3 h t x) * o (ix3 h t x) := by
  pointwise [deltaOf]
theorem minus_at (x) (h : Fin 8) (t : Fin 4096) : minus x (ix2 h t) = -x (ix2 h t) := by
  pointwise [minus]
theorem headsOf_at (q) (h : Fin 8) (t : Fin 4096) (l : Fin 128) : headsOf q (ix3 h t l)
    = if e : l.val < 64 then q (ix3 h t ⟨l.val, e⟩) * (((1 : ℝ) / 8 : ℝ) : EReal) else if l.val = 80 + h.val then 1 else if 64 ≤ l.val ∧ l.val < 67 then 1 else 0 := by
  pointwise [headsOf, ones3, lanes, hds]
  rw [choose_low, choose_80, choose_ones, eighth]
  split <;> simp_all
theorem flatOf_at (w) (t : Fin 4096) (x : Fin 1024) : flatOf w (ix2 t x) = w (ix3 ⟨x.val / 128, by omega⟩ t ⟨x.val % 128, by omega⟩) := by
  pointwise [flatOf]
theorem threeOf_at (x) (h : Fin 8) (t : Fin 4096) (l : Fin 128) : threeOf x (ix3 h t l)
    = if l.val = 64 then x (ix2 h t) else if l.val = 65 then x (ix2 h t) - x (ix2 h t) else if l.val = 66 then x (ix2 h t) - x (ix2 h t) - (x (ix2 h t) - x (ix2 h t)) else 0 := by
  pointwise [threeOf, part1, part2, part3, lanes]
  rw [choose_64, choose_65, choose_66]
theorem keysOf_at (k w) (h : Fin 8) (t : Fin 4096) (l : Fin 128) : keysOf k w (ix3 h t l)
    = if e : l.val < 64 then k (ix3 h t ⟨l.val, e⟩) else if l.val = 72 + h.val then 1 else w (ix3 h t l) := by
  pointwise [keysOf, lanes, hds]
  rw [choose_low, choose_72]
  split <;> simp_all
theorem valuesOf_at (v) (h : Fin 8) (t : Fin 4096) (l : Fin 128) : valuesOf v (ix3 h t l)
    = if e : l.val < 64 then v (ix3 h t ⟨l.val, e⟩) else if 64 ≤ l.val ∧ l.val < 67 then 1 else 0 := by
  pointwise [valuesOf, ones3, lanes]
  rw [choose_low, choose_ones]
  split <;> simp_all
theorem gradsOf_at (ct w) (h : Fin 8) (t : Fin 4096) (l : Fin 128) : gradsOf ct w (ix3 h t l)
    = if e : l.val < 64 then ct (ix3 h t ⟨l.val, e⟩) else w (ix3 h t l) := by
  pointwise [gradsOf, lanes]
  rw [choose_low]
  split <;> simp_all
theorem pairsOf_at (r) (p : Fin 4) (i u : Fin 8) (b : Fin 512) (e : u.val < 2) : pairsOf r (ix4 p i u b) = r (ix2 ⟨p.val * 2 + u.val, by omega⟩ ⟨i.val * 512 + b.val, by omega⟩) := by
  pointwise [pairsOf]
  rw [dif_pos e]

end Cert.KernelIdeal.Prep

namespace Cert.KernelIdeal.Tail

open Idealize.ShloMosaic Idealize.ShloMosaic.TcCoe
open Cert.KernelIdeal Cert.KernelIdeal.Gen

theorem backOf_at (w) (h : Fin 8) (t : Fin 4096) (l : Fin 128) : backOf w (ix3 h t l) = w (ix2 t ⟨h.val * 128 + l.val, by omega⟩) := by
  pointwise [backOf]
theorem lowOf_at (a) (h : Fin 8) (t : Fin 4096) (d : Fin 64) : lowOf a (ix4 0 h t d) = a (ix3 h t ⟨d.val, by omega⟩) := by
  pointwise [lowOf]
theorem lowScaled_at (a) (h : Fin 8) (t : Fin 4096) (d : Fin 64) : lowScaled a (ix4 0 h t d) = a (ix3 h t ⟨d.val, by omega⟩) * (((1 : ℝ) / 8 : ℝ) : EReal) := by
  pointwise [lowScaled]
  rw [Prep.eighth]
theorem gateOf_at (a b) (h : Fin 8) (t : Fin 4096) : gateOf a b (ix2 h t)
    = ∑ x, a (ix3 x t ⟨72 + h.val, by omega⟩) - ∑ x, b (ix3 x t ⟨80 + h.val, by omega⟩) := by
  pointwise [gateOf]

end Cert.KernelIdeal.Tail
-- ==== Proof.Body.Steps.lean ====
module

public import proofs.«01_k».proof.Proof.Gen.ReferenceIdeal.Run
public import Idealize.ShloMosaic.Lib.Claim
public import Idealize.ShloMosaic.PureOps.Ideal

/-! # What the reference computes

The reference's results, in steps. -/

@[expose] public section

set_option maxRecDepth 16384

noncomputable section

namespace Cert.ReferenceIdeal.Steps

open Idealize.ShloMosaic Idealize.ShloMosaic.TcCoe Idealize.ShloMosaic.StableHlo Idealize.SL.Sem
open Cert.ReferenceIdeal Cert.ReferenceIdeal.Gen

/-- The running sums of the forget gates along each head. -/
def cumR (f : FVec Ideal S1x8x4096 .f32) : FVec Ideal S1x8x4096 .f32 :=
  (Host.reduceWindowAdd ![1, 1, 4096] ![1, 1, 1] ![0, 0, 4095] ![0, 0, 0] f (broadcastInDim S_ ![] bcast_S_S_ (constant S_ .f32 0x00000000#32)) reduceWindows_S1x8x4096_S1x8x4096_w1s1p0_0_w1s1p0_0_w4096s1p4095_0 h_S_)

/-- Which keys a query may see: those not after it. -/
def causalR  : IVec S1x8x4096x4096 1 :=
  (broadcastInDim S1x8x4096x4096 ![2, 3] bcast_S4096x4096_S1x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))

/-- The logits of every query against every key. -/
def logitsR (q : FVec Ideal S1x8x4096x64 .f32) (k : FVec Ideal S1x8x4096x64 .f32) (F : FVec Ideal S1x8x4096 .f32) : FVec Ideal S1x8x4096x4096 .f32 :=
  (select causalR (subf (addf (mulf (Host.dotGeneral dot_S1x8x4096x64_S1x8x4096x64_S1x8x4096x4096_3_3_2_2_01_01 none q k) (broadcastInDim S1x8x4096x4096 ![] bcast_S_S1x8x4096x4096 (constant S_ .f32 0x3E000000#32))) (broadcastInDim S1x8x4096x4096 ![0, 1, 2, 3] bcast_S1x8x4096x1_S1x8x4096x4096_0_1_2_3 (broadcastInDim S1x8x4096x1 ![0, 1, 2] bcast_S1x8x4096_S1x8x4096x1_0_1_2 F))) (broadcastInDim S1x8x4096x4096 ![0, 1, 2, 3] bcast_S1x8x1x4096_S1x8x4096x4096_0_1_2_3 (broadcastInDim S1x8x1x4096 ![0, 1, 3] bcast_S1x8x4096_S1x8x1x4096_0_1_3 F))) (broadcastInDim S1x8x4096x4096 ![] bcast_S_S1x8x4096x4096 (constant S_ .f32 0xFF800000#32)))

/-- The largest logit of each query. -/
def topR (l : FVec Ideal S1x8x4096x4096 .f32) : FVec Ideal S1x8x4096 .f32 :=
  (Host.reduce FloatOps.maximumf l (constant S_ .f32 0xFF800000#32) reducesTo_S1x8x4096x4096_S1x8x4096_d3 h_S_)

/-- The larger of it and negative infinity. -/
def maxR (M : FVec Ideal S1x8x4096 .f32) : FVec Ideal S1x8x4096 .f32 :=
  (maximumf (broadcastInDim S1x8x4096 ![] bcast_S_S1x8x4096 (constant S_ .f32 0xFF800000#32)) M)

/-- The exponentials of the logits, each query against its largest. -/
def expR (l : FVec Ideal S1x8x4096x4096 .f32) (M : FVec Ideal S1x8x4096 .f32) : FVec Ideal S1x8x4096x4096 .f32 :=
  (Host.exp (subf l (broadcastInDim S1x8x4096x4096 ![0, 1, 2, 3] bcast_S1x8x4096x1_S1x8x4096x4096_0_1_2_3 (broadcastInDim S1x8x4096x1 ![0, 1, 2] bcast_S1x8x4096_S1x8x4096x1_0_1_2 M))))

/-- Their sum over a query's keys. -/
def sumR (e : FVec Ideal S1x8x4096x4096 .f32) : FVec Ideal S1x8x4096x1 .f32 :=
  (broadcastInDim S1x8x4096x1 ![0, 1, 2] bcast_S1x8x4096_S1x8x4096x1_0_1_2 (Host.reduceAdd e (constant S_ .f32 0x00000000#32) reducesTo_S1x8x4096x4096_S1x8x4096_d3 h_S_))

/-- The probabilities. -/
def probR (e : FVec Ideal S1x8x4096x4096 .f32) (z : FVec Ideal S1x8x4096x1 .f32) : FVec Ideal S1x8x4096x4096 .f32 :=
  (Host.divf e (broadcastInDim S1x8x4096x4096 ![0, 1, 2, 3] bcast_S1x8x4096x1_S1x8x4096x4096_0_1_2_3 z))

/-- The gradient of the values. -/
def dvR (ct : FVec Ideal S1x8x4096x64 .f32) (p : FVec Ideal S1x8x4096x4096 .f32) : FVec Ideal S1x8x4096x64 .f32 :=
  (transpose S1x8x4096x64 [0, 1, 3, 2] (Host.dotGeneral dot_S1x8x4096x64_S1x8x4096x4096_S1x8x64x4096_2_2_3_3_01_01 none ct p) transposes_S1x8x64x4096_S1x8x4096x64_0_1_3_2)

/-- The gradient of the probabilities. -/
def dpR (ct : FVec Ideal S1x8x4096x64 .f32) (v : FVec Ideal S1x8x4096x64 .f32) : FVec Ideal S1x8x4096x4096 .f32 :=
  (Host.dotGeneral dot_S1x8x4096x64_S1x8x4096x64_S1x8x4096x4096_3_3_2_2_01_01 none ct v)

/-- One over the square of the sum. -/
def invR (z : FVec Ideal S1x8x4096x1 .f32) : FVec Ideal S1x8x4096x1 .f32 :=
  (Host.divf (broadcastInDim S1x8x4096x1 ![] bcast_S_S1x8x4096x1 (constant S_ .f32 0x3F800000#32)) (mulf z z))

/-- The gradient of each query's sum, but for its sign. -/
def dlR (dp : FVec Ideal S1x8x4096x4096 .f32) (w : FVec Ideal S1x8x4096x1 .f32) (e : FVec Ideal S1x8x4096x4096 .f32) : FVec Ideal S1x8x4096 .f32 :=
  (Host.reduceAdd (mulf (mulf dp (broadcastInDim S1x8x4096x4096 ![0, 1, 2, 3] bcast_S1x8x4096x1_S1x8x4096x4096_0_1_2_3 w)) e) (constant S_ .f32 0x00000000#32) reducesTo_S1x8x4096x4096_S1x8x4096_d3 h_S_)

/-- The opposite, as a column. -/
def negR (dl : FVec Ideal S1x8x4096 .f32) : FVec Ideal S1x8x4096x1 .f32 :=
  (Host.negf (shapeCast S1x8x4096x1 dl shapeCasts_S1x8x4096_S1x8x4096x1))

/-- A column, its axes of size one dropped. -/
def columnR (n : FVec Ideal S1x8x4096x1 .f32) : FVec Ideal S8x4096 .f32 :=
  (Host.reduceAdd n (constant S_ .f32 0x00000000#32) reducesTo_S1x8x4096x1_S8x4096_d0_3 h_S_)

/-- The gradient of the logits. -/
def dsR (dp : FVec Ideal S1x8x4096x4096 .f32) (z : FVec Ideal S1x8x4096x1 .f32) (nd : FVec Ideal S8x4096 .f32) (e : FVec Ideal S1x8x4096x4096 .f32) : FVec Ideal S1x8x4096x4096 .f32 :=
  (select causalR (mulf (addf (Host.divf dp (broadcastInDim S1x8x4096x4096 ![0, 1, 2, 3] bcast_S1x8x4096x1_S1x8x4096x4096_0_1_2_3 z)) (broadcastInDim S1x8x4096x4096 ![0, 1, 2] bcast_S1x8x4096_S1x8x4096x4096_0_1_2 (broadcastInDim S1x8x4096 ![1, 2] bcast_S8x4096_S1x8x4096_1_2 nd))) e) (broadcastInDim S1x8x4096x4096 ![] bcast_S_S1x8x4096x4096 (constant S_ .f32 0x00000000#32)))

/-- The sum over the queries of the opposite. -/
def keySumR (ds : FVec Ideal S1x8x4096x4096 .f32) : FVec Ideal S1x8x1x4096 .f32 :=
  (shapeCast S1x8x1x4096 (Host.reduceAdd (Host.negf ds) (constant S_ .f32 0x00000000#32) reducesTo_S1x8x4096x4096_S1x8x4096_d2 h_S_) shapeCasts_S1x8x4096_S1x8x1x4096)

/-- A row, its axes of size one dropped. -/
def rowR (u : FVec Ideal S1x8x1x4096 .f32) : FVec Ideal S8x4096 .f32 :=
  (Host.reduceAdd u (constant S_ .f32 0x00000000#32) reducesTo_S1x8x1x4096_S8x4096_d0_2 h_S_)

/-- The sum over the keys. -/
def querySumR (ds : FVec Ideal S1x8x4096x4096 .f32) : FVec Ideal S1x8x4096x1 .f32 :=
  (shapeCast S1x8x4096x1 (Host.reduceAdd ds (constant S_ .f32 0x00000000#32) reducesTo_S1x8x4096x4096_S1x8x4096_d3 h_S_) shapeCasts_S1x8x4096_S1x8x4096x1)

/-- The gradient of the running sums. -/
def gateR (x : FVec Ideal S8x4096 .f32) (y : FVec Ideal S8x4096 .f32) : FVec Ideal S1x8x4096 .f32 :=
  (addf (broadcastInDim S1x8x4096 ![1, 2] bcast_S8x4096_S1x8x4096_1_2 x) (broadcastInDim S1x8x4096 ![1, 2] bcast_S8x4096_S1x8x4096_1_2 y))

/-- The gradient of the keys. -/
def dkR (ds : FVec Ideal S1x8x4096x4096 .f32) (q : FVec Ideal S1x8x4096x64 .f32) : FVec Ideal S1x8x4096x64 .f32 :=
  (Host.dotGeneral dot_S1x8x4096x4096_S1x8x4096x64_S1x8x4096x64_2_2_3_3_01_01 none (mulf ds (broadcastInDim S1x8x4096x4096 ![] bcast_S_S1x8x4096x4096 (constant S_ .f32 0x3E000000#32))) q)

/-- The gradient of the queries. -/
def dqR (ds : FVec Ideal S1x8x4096x4096 .f32) (k : FVec Ideal S1x8x4096x64 .f32) : FVec Ideal S1x8x4096x64 .f32 :=
  (Host.dotGeneral dot_S1x8x4096x4096_S1x8x4096x64_S1x8x4096x64_3_2_2_3_01_01 none (mulf ds (broadcastInDim S1x8x4096x4096 ![] bcast_S_S1x8x4096x4096 (constant S_ .f32 0x3E000000#32))) k)

/-- The running sums from the end. -/
def backR (g : FVec Ideal S1x8x4096 .f32) : FVec Ideal S1x8x4096 .f32 :=
  (Host.reduceWindowAdd ![1, 1, 4096] ![1, 1, 1] ![0, 0, 0] ![0, 0, 4095] g (broadcastInDim S_ ![] bcast_S_S_ (constant S_ .f32 0x00000000#32)) reduceWindows_S1x8x4096_S1x8x4096_w1s1p0_0_w1s1p0_0_w4096s1p0_4095 h_S_)

variable (m : (ℓ : Loc nD τ sig) → Buf (Elt Ideal) ℓ) (c : Dev nD)

/-- The logits of the program. -/
abbrev logitsA : FVec Ideal S1x8x4096x4096 .f32 := logitsR (m ((c : Thread nD τ).loc main_arg0)) (m ((c : Thread nD τ).loc main_arg1)) (cumR (m ((c : Thread nD τ).loc main_arg3)))
/-- Their exponentials. -/
abbrev expsA : FVec Ideal S1x8x4096x4096 .f32 := expR (logitsA m c) (maxR (topR (logitsA m c)))
/-- The gradient of the logits. -/
abbrev dsA : FVec Ideal S1x8x4096x4096 .f32 := dsR (dpR (m ((c : Thread nD τ).loc main_arg4)) (m ((c : Thread nD τ).loc main_arg2))) (sumR (expsA m c)) (columnR (negR (dlR (dpR (m ((c : Thread nD τ).loc main_arg4)) (m ((c : Thread nD τ).loc main_arg2))) (invR (sumR (expsA m c))) (expsA m c)))) (expsA m c)

theorem out0 : Value.res_out0 m c = dqR (dsA m c) (m ((c : Thread nD τ).loc main_arg1)) := rfl
theorem out1 : Value.res_out1 m c = dkR (dsA m c) (m ((c : Thread nD τ).loc main_arg0)) := rfl
theorem out2 : Value.res_out2 m c = dvR (m ((c : Thread nD τ).loc main_arg4)) (probR (expsA m c) (sumR (expsA m c))) := rfl
theorem out3 : Value.res_out3 m c = backR (gateR (rowR (keySumR (dsA m c))) (columnR (querySumR (dsA m c)))) := rfl

end Cert.ReferenceIdeal.Steps
-- ==== Proof.Body.StepsAt.lean ====
module

public import proofs.«01_k».proof.Proof.Body.Steps
public import Idealize.ShloMosaic.Lib.Pointwise
public import Idealize.ShloMosaic.Lib.WordCmp
public import Idealize.ShloMosaic.Lib.IdealHost

/-! # The reference's steps, element by element -/

@[expose] public section

set_option maxRecDepth 16384

noncomputable section

namespace Cert.ReferenceIdeal.Steps

open Idealize.ShloMosaic Idealize.ShloMosaic.TcCoe
open Cert.ReferenceIdeal Cert.ReferenceIdeal.Gen

/-- The constant one eighth. -/
theorem eighth : Ideal.ofBits .f32 1040187392#32 = (((1 : ℝ) / 8 : ℝ) : EReal) := by
  simp [Ideal.ofBits, Ideal.ieee, -EReal.coe_mul]; norm_num
/-- The constant negative infinity. -/
theorem lowest : Ideal.ofBits .f32 4286578688#32 = (⊥ : EReal) := by
  simp [Ideal.ofBits, Ideal.ieee]

/-- A choice by a comparison of two rows. -/
theorem choose_le (a b : Fin 4096) (x y : EReal) :
    Scalar.select (IntOp.cmpi CmpIPredicate.sle (BitVec.ofNat 32 a.val) (BitVec.ofNat 32 b.val)) x y = if a ≤ b then x else y := by
  by_cases h : a.val ≤ b.val
  · have hc : IntOp.cmpi CmpIPredicate.sle (BitVec.ofNat 32 a.val) (BitVec.ofNat 32 b.val) = 1#1 := by
      word_cmp
    rw [hc, if_pos (Fin.le_def.mpr h)]; rfl
  · have hc : IntOp.cmpi CmpIPredicate.sle (BitVec.ofNat 32 a.val) (BitVec.ofNat 32 b.val) = 0#1 := by
      word_cmp
    rw [hc, if_neg (fun e => h (Fin.le_def.mp e))]; rfl

/-- A column, its axes of size one dropped, is read at the same place. -/
theorem drop_column (x : FVec Ideal S1x8x4096x1 .f32) (h : Fin 8) (t : Fin 4096) :
    Ideal.hostReduceAdd reducesTo_S1x8x4096x1_S8x4096_d0_3 x 0 (ix2 h t) = x (ix4 0 h t 0) := by
  unfold Ideal.hostReduceAdd
  rw [zero_add]
  refine Finset.sum_eq_single (ix4 0 h t 0) (fun i hi hne => (hne ?_).elim) (fun hn => (hn ?_).elim)
  · have hd := (Finset.mem_filter.mp hi).2
    have h1 : (i 1).val = h.val := congrArg (fun z : S8x4096.Idx => (z 0).val) hd
    have h2 : (i 2).val = t.val := congrArg (fun z : S8x4096.Idx => (z 1).val) hd
    have h0 : (i 0).val < 1 := (i 0).isLt
    have h3 : (i 3).val < 1 := (i 3).isLt
    funext a
    apply Fin.ext
    match a with
    | ⟨0, _⟩ => exact Nat.lt_one_iff.mp h0
    | ⟨1, _⟩ => exact h1
    | ⟨2, _⟩ => exact h2
    | ⟨3, _⟩ => exact Nat.lt_one_iff.mp h3
  · refine Finset.mem_filter.mpr ⟨Finset.mem_univ _, ?_⟩
    funext a
    apply Fin.ext
    match a with
    | ⟨0, _⟩ => rfl
    | ⟨1, _⟩ => rfl

/-- A row, its axes of size one dropped, is read at the same place. -/
theorem drop_row (x : FVec Ideal S1x8x1x4096 .f32) (h : Fin 8) (t : Fin 4096) :
    Ideal.hostReduceAdd reducesTo_S1x8x1x4096_S8x4096_d0_2 x 0 (ix2 h t) = x (ix4 0 h 0 t) := by
  unfold Ideal.hostReduceAdd
  rw [zero_add]
  refine Finset.sum_eq_single (ix4 0 h 0 t) (fun i hi hne => (hne ?_).elim) (fun hn => (hn ?_).elim)
  · have hd := (Finset.mem_filter.mp hi).2
    have h1 : (i 1).val = h.val := congrArg (fun z : S8x4096.Idx => (z 0).val) hd
    have h2 : (i 3).val = t.val := congrArg (fun z : S8x4096.Idx => (z 1).val) hd
    have h0 : (i 0).val < 1 := (i 0).isLt
    have h3 : (i 2).val < 1 := (i 2).isLt
    funext a
    apply Fin.ext
    match a with
    | ⟨0, _⟩ => exact Nat.lt_one_iff.mp h0
    | ⟨1, _⟩ => exact h1
    | ⟨2, _⟩ => exact Nat.lt_one_iff.mp h3
    | ⟨3, _⟩ => exact h2
  · refine Finset.mem_filter.mpr ⟨Finset.mem_univ _, ?_⟩
    funext a
    apply Fin.ext
    match a with
    | ⟨0, _⟩ => rfl
    | ⟨1, _⟩ => rfl

theorem logitsR_at (q k F) (h : Fin 8) (t s : Fin 4096) : logitsR q k F (ix4 0 h t s)
    = if s ≤ t then (∑ x, q (ix4 0 h t x) * k (ix4 0 h s x)) * (((1 : ℝ) / 8 : ℝ) : EReal) + F (ix3 0 h t) - F (ix3 0 h s) else ⊥ := by
  pointwise [logitsR, causalR]
  rw [choose_le, eighth, lowest]
theorem topR_at (l) (h : Fin 8) (t : Fin 4096) : topR l (ix3 0 h t) = Finset.fold max ⊥ (fun x => l (ix4 0 h t x)) Finset.univ := by
  pointwise [topR]
  rw [lowest]
theorem maxR_at (M) (h : Fin 8) (t : Fin 4096) : maxR M (ix3 0 h t) = max ⊥ (M (ix3 0 h t)) := by
  pointwise [maxR]
  rw [lowest]
theorem expR_at (l mx) (h : Fin 8) (t s : Fin 4096) : expR l mx (ix4 0 h t s) = Ideal.exp (l (ix4 0 h t s) - mx (ix3 0 h t)) := by
  pointwise [expR]
theorem sumR_at (e) (h : Fin 8) (t : Fin 4096) : sumR e (ix4 0 h t 0) = ∑ x, e (ix4 0 h t x) := by
  pointwise [sumR]
theorem probR_at (e z) (h : Fin 8) (t s : Fin 4096) : probR e z (ix4 0 h t s) = Ideal.div (e (ix4 0 h t s)) (z (ix4 0 h t 0)) := by
  pointwise [probR]
theorem dvR_at (ct p) (h : Fin 8) (s : Fin 4096) (d : Fin 64) : dvR ct p (ix4 0 h s d) = ∑ t, ct (ix4 0 h t d) * p (ix4 0 h t s) := by
  pointwise [dvR]
theorem dpR_at (ct v) (h : Fin 8) (t s : Fin 4096) : dpR ct v (ix4 0 h t s) = ∑ d, ct (ix4 0 h t d) * v (ix4 0 h s d) := by
  pointwise [dpR]
theorem invR_at (z) (h : Fin 8) (t : Fin 4096) : invR z (ix4 0 h t 0) = Ideal.div 1 (z (ix4 0 h t 0) * z (ix4 0 h t 0)) := by
  pointwise [invR]
theorem dlR_at (dp w e) (h : Fin 8) (t : Fin 4096) : dlR dp w e (ix3 0 h t) = ∑ x, dp (ix4 0 h t x) * w (ix4 0 h t 0) * e (ix4 0 h t x) := by
  pointwise [dlR]
theorem negR_at (dl) (h : Fin 8) (t : Fin 4096) : negR dl (ix4 0 h t 0) = -dl (ix3 0 h t) := by
  pointwise [negR]
theorem columnR_at (x) (h : Fin 8) (t : Fin 4096) : columnR x (ix2 h t) = x (ix4 0 h t 0) := by
  pointwise [columnR]
  exact drop_column x h t
theorem rowR_at (x) (h : Fin 8) (t : Fin 4096) : rowR x (ix2 h t) = x (ix4 0 h 0 t) := by
  pointwise [rowR]
  exact drop_row x h t
theorem dsR_at (dp z nd e) (h : Fin 8) (t s : Fin 4096) : dsR dp z nd e (ix4 0 h t s)
    = if s ≤ t then (Ideal.div (dp (ix4 0 h t s)) (z (ix4 0 h t 0)) + nd (ix2 h t)) * e (ix4 0 h t s) else 0 := by
  pointwise [dsR, causalR]
  rw [choose_le]
theorem keySumR_at (ds) (h : Fin 8) (s : Fin 4096) : keySumR ds (ix4 0 h 0 s) = ∑ t, -ds (ix4 0 h t s) := by
  pointwise [keySumR]
theorem querySumR_at (ds) (h : Fin 8) (t : Fin 4096) : querySumR ds (ix4 0 h t 0) = ∑ s, ds (ix4 0 h t s) := by
  pointwise [querySumR]
theorem gateR_at (x y) (h : Fin 8) (t : Fin 4096) : gateR x y (ix3 0 h t) = x (ix2 h t) + y (ix2 h t) := by
  pointwise [gateR]
theorem dkR_at (ds q) (h : Fin 8) (s : Fin 4096) (d : Fin 64) : dkR ds q (ix4 0 h s d) = ∑ t, ds (ix4 0 h t s) * (((1 : ℝ) / 8 : ℝ) : EReal) * q (ix4 0 h t d) := by
  pointwise [dkR]
  rw [eighth]
theorem dqR_at (ds k) (h : Fin 8) (t : Fin 4096) (d : Fin 64) : dqR ds k (ix4 0 h t d) = ∑ s, ds (ix4 0 h t s) * (((1 : ℝ) / 8 : ℝ) : EReal) * k (ix4 0 h s d) := by
  pointwise [dqR]
  rw [eighth]

end Cert.ReferenceIdeal.Steps
-- ==== Proof.Body.Running.lean ====
module

public import proofs.«01_k».proof.Proof.Body.PrepAt
public import proofs.«01_k».proof.Proof.Body.StepsAt

/-! # Running sums

The running sums along the rows, from either end, are the same fold whether or not the array has a leading axis of size one. -/

@[expose] public section

set_option maxRecDepth 16384

noncomputable section

namespace Cert.Running

open Idealize.ShloMosaic Idealize.ShloMosaic.TcCoe

/-- The sum of a window of 4096 elements that begins `lo` before `t`, what lies outside counting as nothing. -/
def runs (lo : ℕ) (g : Fin 4096 → EReal) (t : Fin 4096) : EReal :=
  (List.finRange 4096).foldl (fun r n => r + if e : lo ≤ t.val + n.val ∧ t.val + n.val - lo < 4096 then g ⟨t.val + n.val - lo, e.2⟩ else 0) 0

theorem fold_cast {N : ℕ} (hN : N = 4096) (f : EReal → Fin N → EReal) (v : EReal) :
    (List.finRange N).foldl f v = (List.finRange 4096).foldl (fun r n => f r (n.cast hN.symm)) v := by subst hN; rfl

/-- Over an array of two axes. -/
theorem runs2 (lo hi : ℕ) (x : FVec Ideal ⟨2, ![8, 4096]⟩ .f32) {u : Shape} (init : FVec Ideal u .f32) (hu : 0 < u.numel)
    (hinit : init (Shape.Idx.first hu) = (0 : EReal))
    (hw : (⟨2, ![8, 4096]⟩ : Shape).ReduceWindows ![1, 4096] ![1, 1] ![0, lo] ![0, hi] ⟨2, ![8, 4096]⟩) (h : Fin 8) (t : Fin 4096) :
    Host.reduceWindowAdd ![1, 4096] ![1, 1] ![0, lo] ![0, hi] x init hw hu (ix2 h t) = runs lo (fun s => x (ix2 h s)) t := by
  change Ideal.hostReduceWindowAdd ![1, 4096] ![1, 1] ![0, lo] ![0, hi] hw x (init (Shape.Idx.first hu)) (ix2 h t) = _
  rw [hinit]
  unfold Ideal.hostReduceWindowAdd Host.reduceWindow
  have hN : (⟨2, ![1, 4096]⟩ : Shape).numel = 4096 := by simp [Shape.numel, Fin.prod_univ_succ]
  refine (fold_cast hN _ _).trans ?_
  unfold runs
  congr 1
  funext r n
  congr 1
  let f := (⟨2, ![1, 4096]⟩ : Shape).rowMajor.symm (n.cast hN.symm)
  have hrow := rowMajor_val2 f 4096 rfl
  rw [show (⟨2, ![1, 4096]⟩ : Shape).rowMajor f = n.cast hN.symm from Equiv.apply_symm_apply _ _] at hrow
  have f0 : (f 0).val < 1 := (f 0).isLt
  have hn : n.val = (f 0).val * 4096 + (f 1).val := hrow
  have f1 : (f 1).val = n.val := by omega
  have f0' : (f 0).val = 0 := by omega
  have ht := t.isLt
  have hh := h.isLt
  by_cases e : lo ≤ t.val + n.val ∧ t.val + n.val - lo < 4096
  · rw [dif_pos e]; dsimp only; rw [dif_pos]
    · refine congrArg (r + ·) (congrArg x (funext fun a => ?_))
      apply Fin.ext
      match a with
      | ⟨0, _⟩ => show h.val * 1 + (f 0).val - 0 = h.val; omega
      | ⟨1, _⟩ => show t.val * 1 + (f 1).val - lo = t.val + n.val - lo; omega
    · intro a
      match a with
      | ⟨0, _⟩ => show 0 ≤ h.val * 1 + (f 0).val ∧ h.val * 1 + (f 0).val - 0 < 8; omega
      | ⟨1, _⟩ => show lo ≤ t.val * 1 + (f 1).val ∧ t.val * 1 + (f 1).val - lo < 4096; omega
  · rw [dif_neg e]; dsimp only; rw [dif_neg]
    intro hin
    have h1 : lo ≤ t.val * 1 + (f 1).val ∧ t.val * 1 + (f 1).val - lo < 4096 := hin 1
    omega

/-- Over an array of three axes, the first of size one. -/
theorem runs3 (lo hi : ℕ) (x : FVec Ideal ⟨3, ![1, 8, 4096]⟩ .f32) {u : Shape} (init : FVec Ideal u .f32) (hu : 0 < u.numel)
    (hinit : init (Shape.Idx.first hu) = (0 : EReal))
    (hw : (⟨3, ![1, 8, 4096]⟩ : Shape).ReduceWindows ![1, 1, 4096] ![1, 1, 1] ![0, 0, lo] ![0, 0, hi] ⟨3, ![1, 8, 4096]⟩) (h : Fin 8) (t : Fin 4096) :
    Host.reduceWindowAdd ![1, 1, 4096] ![1, 1, 1] ![0, 0, lo] ![0, 0, hi] x init hw hu (ix3 0 h t) = runs lo (fun s => x (ix3 0 h s)) t := by
  change Ideal.hostReduceWindowAdd ![1, 1, 4096] ![1, 1, 1] ![0, 0, lo] ![0, 0, hi] hw x (init (Shape.Idx.first hu)) (ix3 0 h t) = _
  rw [hinit]
  unfold Ideal.hostReduceWindowAdd Host.reduceWindow
  have hN : (⟨3, ![1, 1, 4096]⟩ : Shape).numel = 4096 := by simp [Shape.numel, Fin.prod_univ_succ]
  refine (fold_cast hN _ _).trans ?_
  unfold runs
  congr 1
  funext r n
  congr 1
  let f := (⟨3, ![1, 1, 4096]⟩ : Shape).rowMajor.symm (n.cast hN.symm)
  have hrow := rowMajor_val3 f 4096 4096 rfl rfl
  rw [show (⟨3, ![1, 1, 4096]⟩ : Shape).rowMajor f = n.cast hN.symm from Equiv.apply_symm_apply _ _] at hrow
  have f0 : (f 0).val < 1 := (f 0).isLt
  have f1 : (f 1).val < 1 := (f 1).isLt
  have hn : n.val = (f 0).val * 4096 + (f 1).val * 4096 + (f 2).val := hrow
  have f2 : (f 2).val = n.val := by omega
  have f0' : (f 0).val = 0 := by omega
  have f1' : (f 1).val = 0 := by omega
  have ht := t.isLt
  have hh := h.isLt
  by_cases e : lo ≤ t.val + n.val ∧ t.val + n.val - lo < 4096
  · rw [dif_pos e]; dsimp only; rw [dif_pos]
    · refine congrArg (r + ·) (congrArg x (funext fun a => ?_))
      apply Fin.ext
      match a with
      | ⟨0, _⟩ => show 0 * 1 + (f 0).val - 0 = 0; omega
      | ⟨1, _⟩ => show h.val * 1 + (f 1).val - 0 = h.val; omega
      | ⟨2, _⟩ => show t.val * 1 + (f 2).val - lo = t.val + n.val - lo; omega
    · intro a
      match a with
      | ⟨0, _⟩ => show 0 ≤ 0 * 1 + (f 0).val ∧ 0 * 1 + (f 0).val - 0 < 1; omega
      | ⟨1, _⟩ => show 0 ≤ h.val * 1 + (f 1).val ∧ h.val * 1 + (f 1).val - 0 < 8; omega
      | ⟨2, _⟩ => show lo ≤ t.val * 1 + (f 2).val ∧ t.val * 1 + (f 2).val - lo < 4096; omega
  · rw [dif_neg e]; dsimp only; rw [dif_neg]
    intro hin
    have h1 : lo ≤ t.val * 1 + (f 2).val ∧ t.val * 1 + (f 2).val - lo < 4096 := hin 2
    omega

/-- Such a sum of real numbers is a real number. -/
theorem runs_real (lo : ℕ) (g : Fin 4096 → ℝ) (t : Fin 4096) : ∃ r : ℝ, runs lo (fun s => (g s : EReal)) t = (r : EReal) := by
  unfold runs
  have : ∀ (l : List (Fin 4096)) (a : ℝ), ∃ r : ℝ, l.foldl (fun r n => r + if e : lo ≤ t.val + n.val ∧ t.val + n.val - lo < 4096 then ((g ⟨t.val + n.val - lo, e.2⟩ : ℝ) : EReal) else 0) (a : EReal) = (r : EReal) := by
    intro l
    induction l with
    | nil => exact fun a => ⟨a, rfl⟩
    | cons n l ih =>
      intro a
      rw [List.foldl_cons]
      split
      · rw [← EReal.coe_add]; exact ih _
      · rw [add_zero]; exact ih _
  exact this _ 0

/-- The kernel's running sums of the gates. -/
theorem cumF_at (f) (h : Fin 8) (t : Fin 4096) : Cert.KernelIdeal.Prep.cumF f (ix2 h t) = runs 4095 (fun s => f (ix2 h s)) t :=
  runs2 4095 0 f _ _ (Ideal.ofBits_zero_f32) _ h t
/-- The reference's. -/
theorem cumR_at (f) (h : Fin 8) (t : Fin 4096) : Cert.ReferenceIdeal.Steps.cumR f (ix3 0 h t) = runs 4095 (fun s => f (ix3 0 h s)) t :=
  runs3 4095 0 f _ _ (Ideal.ofBits_zero_f32) _ h t
/-- The kernel's running sums from the end. -/
theorem backward_at (x) (h : Fin 8) (t : Fin 4096) : Cert.KernelIdeal.Tail.backward x (ix3 0 h t) = runs 0 (fun s => x (ix2 h s)) t := by
  refine Eq.trans ?_ (runs2 0 4095 x (broadcastInDim Cert.KernelIdeal.S_ ![] Cert.KernelIdeal.Gen.bcast_S_S_ (constant (F := Ideal) Cert.KernelIdeal.S_ .f32 0x00000000#32)) (by decide) (Ideal.ofBits_zero_f32) (by decide) h t)
  pointwise [Cert.KernelIdeal.Tail.backward]
/-- The reference's. -/
theorem backR_at (g) (h : Fin 8) (t : Fin 4096) : Cert.ReferenceIdeal.Steps.backR g (ix3 0 h t) = runs 0 (fun s => g (ix3 0 h s)) t :=
  runs3 0 4095 g _ _ (Ideal.ofBits_zero_f32) _ h t

end Cert.Running
-- ==== Proof.Body.Reals.lean ====
module

public import Idealize.ShloMosaic.Lib.Pointwise
public import Idealize.ShloMosaic.PureOps.Ideal
public import proofs.«01_k».proof.Proof.Body.Triple

/-! # The gradients over the real numbers

Causal attention with a running gate, and its gradients, in plain real sums; and the same with the gate and the
correction of the logits' gradient carried in spare lanes, as the kernel has them. -/

@[expose] public section

set_option maxRecDepth 16384

noncomputable section

namespace Cert.Reals

open Idealize.ShloMosaic
open Cert.KernelIdeal.Body

/-- A sum of real numbers is the real sum. -/
theorem coe_sum {ι : Type*} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- The largest of values that are real or lowest is real or lowest. -/
theorem fold_cases {ι : Type*} (s : Finset ι) (f : ι → EReal) (hf : ∀ x, f x = ⊥ ∨ ∃ r : ℝ, f x = (r : EReal)) :
    Finset.fold max ⊥ f s = ⊥ ∨ ∃ r : ℝ, Finset.fold max ⊥ f s = (r : EReal) := by
  classical
  induction s using Finset.induction_on with
  | empty => exact Or.inl rfl
  | insert a s ha ih =>
    rw [Finset.fold_insert ha]
    rcases max_choice (f a) (Finset.fold max ⊥ f s) with e | e
    · rw [e]; exact hf a
    · rw [e]; exact ih

/-- The largest of such values, one of them real, is real. -/
theorem fold_real {ι : Type*} [Fintype ι] (f : ι → EReal) (hf : ∀ x, f x = ⊥ ∨ ∃ r : ℝ, f x = (r : EReal)) (a : ι) (ha : f a ≠ ⊥) :
    ∃ r : ℝ, Finset.fold max ⊥ f Finset.univ = (r : EReal) := by
  rcases fold_cases Finset.univ f hf with e | e
  · exfalso
    have h : f a ≤ Finset.fold max ⊥ f Finset.univ := (Finset.le_fold_max _).2 (Or.inr ⟨a, Finset.mem_univ a, le_rfl⟩)
    rw [e] at h
    exact ha (le_bot_iff.1 h)
  · exact e

/-- A sum over the tiles and the rows of each is the sum over all rows. -/
theorem sum_tiles (g : Fin 4096 → ℝ) : ∑ i : Fin 8, ∑ b : Fin 512, g (rowOf i b) = ∑ t, g t := by
  rw [← Fintype.sum_prod_type']
  refine Fintype.sum_bijective (fun x : Fin 8 × Fin 512 => rowOf x.1 x.2) ⟨?_, ?_⟩ _ _ (fun x => rfl)
  · rintro ⟨i, b⟩ ⟨i', b'⟩ e
    have e1 : (rowOf i b).val = (rowOf i' b').val := congrArg Fin.val e
    simp only [rowOf] at e1
    exact Prod.ext (Fin.ext (by dsimp only; omega)) (Fin.ext (by dsimp only; omega))
  · intro t
    exact ⟨(tileIn t, rowIn t), rowOf_in t⟩

section
variable (Q K V C : Fin 8 → Fin 4096 → Fin 64 → ℝ) (F : Fin 8 → Fin 4096 → ℝ)

/-- The logit of key `s` for query `t` in head `h`, up to what depends on the query alone. -/
def lg (h : Fin 8) (t s : Fin 4096) : ℝ := (∑ x, Q h t x * K h s x) * (1 / 8) - F h s
/-- Its exponential; nothing for a key after the query. -/
def wt (h : Fin 8) (t s : Fin 4096) : ℝ := if s ≤ t then Real.exp (lg Q K F h t s) else 0
/-- The sum of a query's weights. -/
def sm (h : Fin 8) (t : Fin 4096) : ℝ := ∑ s, wt Q K F h t s
/-- The probability. -/
def pr (h : Fin 8) (t s : Fin 4096) : ℝ := wt Q K F h t s / sm Q K F h t
/-- The gradient of the probability. -/
def dp (h : Fin 8) (t s : Fin 4096) : ℝ := ∑ d, C h t d * V h s d
/-- The mean of a query's gradients under its probabilities. -/
def dl (h : Fin 8) (t : Fin 4096) : ℝ := ∑ s, pr Q K F h t s * dp V C h t s
/-- The gradient of the logit. -/
def ds (h : Fin 8) (t s : Fin 4096) : ℝ := pr Q K F h t s * (dp V C h t s - dl Q K V C F h t)

theorem wt_nonneg (h t s) : 0 ≤ wt Q K F h t s := by
  unfold wt; split
  · exact (Real.exp_pos _).le
  · exact le_rfl
theorem sm_pos (h t) : 0 < sm Q K F h t := by
  have h1 : 0 < wt Q K F h t t := by unfold wt; rw [if_pos le_rfl]; exact Real.exp_pos _
  exact lt_of_lt_of_le h1 (Finset.single_le_sum (f := fun s => wt Q K F h t s) (fun s _ => wt_nonneg Q K F h t s) (Finset.mem_univ t))
theorem pr_late (h t s) (e : ¬ s ≤ t) : pr Q K F h t s = 0 := by
  unfold pr wt; rw [if_neg e, zero_div]
theorem ds_late (h t s) (e : ¬ s ≤ t) : ds Q K V C F h t s = 0 := by
  unfold ds; rw [pr_late Q K F h t s e, zero_mul]
/-- A probability by the logarithm of the sum. -/
theorem pr_log (h t s) (e : s ≤ t) : pr Q K F h t s = Real.exp (lg Q K F h t s - Real.log (sm Q K F h t)) := by
  unfold pr wt; rw [if_pos e, Real.exp_sub, Real.exp_log (sm_pos Q K F h t)]

/-- The keys' lanes. -/
def kLanes (h : Fin 8) (s : Fin 4096) (l : Fin 128) : ℝ :=
  if e : l.val < 64 then K h s ⟨l.val, e⟩ else if l.val = 72 + h.val then 1 else if l.val = 64 then -F h s else 0
/-- The queries' lanes. -/
def qLanes (h : Fin 8) (t : Fin 4096) (l : Fin 128) : ℝ :=
  if e : l.val < 64 then Q h t ⟨l.val, e⟩ * (1 / 8) else if l.val = 80 + h.val then 1 else if 64 ≤ l.val ∧ l.val < 67 then 1 else 0
/-- The values' lanes. -/
def vLanes (h : Fin 8) (s : Fin 4096) (l : Fin 128) : ℝ :=
  if e : l.val < 64 then V h s ⟨l.val, e⟩ else if 64 ≤ l.val ∧ l.val < 67 then 1 else 0
/-- The gradients' lanes. -/
def cLanes (h : Fin 8) (t : Fin 4096) (l : Fin 128) : ℝ :=
  if e : l.val < 64 then C h t ⟨l.val, e⟩ else if l.val = 64 then -dl Q K V C F h t else 0

/-- A sum over the lanes of which only the lower half and lane 64 count. -/
theorem sum_lanes (f : Fin 128 → ℝ) (hf : ∀ l : Fin 128, 64 < l.val → f l = 0) :
    ∑ l, f l = (∑ x : Fin 64, f ⟨x.val, by omega⟩) + f ⟨64, by omega⟩ := by
  refine (Fin.sum_univ_add (a := 64) (b := 64) f).trans ?_
  refine congrArg₂ (· + ·) (Finset.sum_congr rfl fun x _ => rfl) ?_
  refine (Finset.sum_eq_single (0 : Fin 64) (fun j _ hj => ?_) (fun hj => absurd (Finset.mem_univ _) hj)).trans rfl
  refine hf _ ?_
  have : j.val ≠ 0 := fun e => hj (Fin.ext e)
  simp only [Fin.val_natAdd]
  omega

/-- The lanes' product of a key and a query is the logit. -/
theorem lanes_lg (h t s) : ∑ l, kLanes K F h s l * qLanes Q h t l = lg Q K F h t s := by
  rw [sum_lanes]
  · have e : kLanes K F h s ⟨64, by omega⟩ * qLanes Q h t ⟨64, by omega⟩ = -F h s := by
      have := h.isLt
      rw [kLanes, qLanes, dif_neg (by simp), if_neg (by simp; omega), if_pos rfl, dif_neg (by simp), if_neg (by simp; omega), if_pos (by simp), mul_one]
    rw [e, lg, Finset.sum_mul, sub_eq_add_neg]
    congr 1
    refine Finset.sum_congr rfl fun x _ => ?_
    rw [kLanes, qLanes, dif_pos x.isLt, dif_pos x.isLt]
    ring
  · intro l hl
    have := h.isLt
    by_cases e : l.val = 72 + h.val
    · rw [qLanes, dif_neg (by omega), if_neg (by omega), if_neg (by omega), mul_zero]
    · rw [kLanes, dif_neg (by omega), if_neg e, if_neg (by omega), zero_mul]

/-- The lanes' product of a value and a gradient is the corrected gradient of the probability. -/
theorem lanes_dp (h t s) : ∑ l, vLanes V h s l * cLanes Q K V C F h t l = dp V C h t s - dl Q K V C F h t := by
  rw [sum_lanes]
  · have e : vLanes V h s ⟨64, by omega⟩ * cLanes Q K V C F h t ⟨64, by omega⟩ = -dl Q K V C F h t := by
      rw [vLanes, cLanes, dif_neg (by simp), if_pos (by simp), dif_neg (by simp), if_pos rfl, one_mul]
    rw [e, dp, sub_eq_add_neg]
    congr 1
    refine Finset.sum_congr rfl fun x _ => ?_
    rw [vLanes, cLanes, dif_pos x.isLt, dif_pos x.isLt]
    ring
  · intro l hl
    rw [cLanes, dif_neg (by omega), if_neg (by omega), mul_zero]

end

end Cert.Reals
-- ==== Proof.Body.KernelReals.lean ====
module

public import proofs.«01_k».proof.Proof.Body.Reals
public import proofs.«01_k».proof.Proof.Body.PrepAt
public import proofs.«01_k».proof.Proof.Body.Data

/-! # What the kernel's program holds, in real numbers -/

@[expose] public section

set_option maxRecDepth 16384

noncomputable section

namespace Cert.KernelIdeal.Values

open Idealize.ShloMosaic Idealize.ShloMosaic.TcCoe
open Cert.KernelIdeal Cert.KernelIdeal.Gen Cert.KernelIdeal.Body Cert.KernelIdeal.Prep Cert.Reals

variable (q k v ct : FVec Ideal S8x4096x64 .f32) (f : FVec Ideal S8x4096 .f32)
variable (Q K V C : Fin 8 → Fin 4096 → Fin 64 → ℝ) (F : Fin 8 → Fin 4096 → ℝ)

/-- The logits. -/
theorem logits_real (hq : ∀ h t d, q (ix3 h t d) = (Q h t d : EReal)) (hk : ∀ h t d, k (ix3 h t d) = (K h t d : EReal)) (hf : ∀ h t, f (ix2 h t) = (F h t : EReal))
    (h : Fin 8) (t s : Fin 4096) : logitsOf q k f (ix3 h t s) = if s ≤ t then (lg Q K F h t s : EReal) else ⊥ := by
  rw [logitsOf_at]
  by_cases e : s ≤ t
  · rw [if_pos e, if_pos e, hf]
    simp only [hq, hk, ← EReal.coe_mul, coe_sum, ← EReal.coe_sub]
    rfl
  · rw [if_neg e, if_neg e]

/-- The largest logit of a query. -/
theorem max_real (l : FVec Ideal S8x4096x4096 .f32) (hl : ∀ h t s, l (ix3 h t s) = if s ≤ t then (lg Q K F h t s : EReal) else ⊥) :
    ∃ M : Fin 8 → Fin 4096 → ℝ, ∀ h t, maxOf l (ix3 h t 0) = (M h t : EReal) := by
  have : ∀ h t, ∃ r : ℝ, maxOf l (ix3 h t 0) = (r : EReal) := by
    intro h t
    rw [maxOf_at]
    refine fold_real _ (fun x => ?_) t ?_
    · rw [hl]
      split
      · exact Or.inr ⟨_, rfl⟩
      · exact Or.inl rfl
    · rw [hl, if_pos le_rfl]
      exact EReal.coe_ne_bot _
  choose M hM using this
  exact ⟨M, hM⟩

variable (M : Fin 8 → Fin 4096 → ℝ)

/-- The exponentials. -/
theorem exp_real (l : FVec Ideal S8x4096x4096 .f32) (mx : FVec Ideal S8x4096x1 .f32) (hl : ∀ h t s, l (ix3 h t s) = if s ≤ t then (lg Q K F h t s : EReal) else ⊥)
    (hM : ∀ h t, mx (ix3 h t 0) = (M h t : EReal)) (h : Fin 8) (t s : Fin 4096) :
    expOf l mx (ix3 h t s) = ((wt Q K F h t s * Real.exp (-M h t) : ℝ) : EReal) := by
  rw [expOf_at, hl, hM]
  by_cases e : s ≤ t
  · rw [if_pos e, wt, if_pos e, ← EReal.coe_sub, Ideal.exp_coe, ← Real.exp_add, sub_eq_add_neg]
  · rw [if_neg e, wt, if_neg e, zero_mul, sub_eq_add_neg, EReal.bot_add, Ideal.exp_bot]
    rfl

/-- Their sum. -/
theorem sum_real (e : FVec Ideal S8x4096x4096 .f32) (he : ∀ h t s, e (ix3 h t s) = ((wt Q K F h t s * Real.exp (-M h t) : ℝ) : EReal)) (h : Fin 8) (t : Fin 4096) :
    sumOf e (ix3 h t 0) = ((sm Q K F h t * Real.exp (-M h t) : ℝ) : EReal) := by
  rw [sumOf_at]
  simp only [he, coe_sum]
  rw [← Finset.sum_mul]; rfl

/-- The logarithm of a query's sum, its largest logit put back. -/
theorem logSum_real (mx z : FVec Ideal S8x4096x1 .f32) (hM : ∀ h t, mx (ix3 h t 0) = (M h t : EReal))
    (hz : ∀ h t, z (ix3 h t 0) = ((sm Q K F h t * Real.exp (-M h t) : ℝ) : EReal)) (h : Fin 8) (t : Fin 4096) :
    logSumOf mx z (ix2 h t) = ((Real.log (sm Q K F h t) : ℝ) : EReal) := by
  have h1 := sm_pos Q K F h t
  have h2 := Real.exp_pos (-M h t)
  rw [logSumOf_at, hM, hz, Ideal.log_coe, if_neg (not_le.2 (mul_pos h1 h2)), ← EReal.coe_add, Real.log_mul h1.ne' h2.ne', Real.log_exp]
  congr 1
  ring

/-- The attention's output. -/
theorem out_real (e : FVec Ideal S8x4096x4096 .f32) (z : FVec Ideal S8x4096x1 .f32) (he : ∀ h t s, e (ix3 h t s) = ((wt Q K F h t s * Real.exp (-M h t) : ℝ) : EReal))
    (hz : ∀ h t, z (ix3 h t 0) = ((sm Q K F h t * Real.exp (-M h t) : ℝ) : EReal)) (hv : ∀ h t d, v (ix3 h t d) = (V h t d : EReal))
    (h : Fin 8) (t : Fin 4096) (d : Fin 64) : outOf e z v (ix3 h t d) = ((∑ s, pr Q K F h t s * V h s d : ℝ) : EReal) := by
  have h1 := sm_pos Q K F h t
  have h2 := Real.exp_pos (-M h t)
  rw [outOf_at]
  simp only [he, hz, hv, Ideal.div_coe (mul_pos h1 h2).ne', ← EReal.coe_mul, coe_sum]
  congr 1
  refine Finset.sum_congr rfl fun s _ => ?_
  unfold pr
  field_simp

/-- The mean of the gradients of a query's probabilities. -/
theorem delta_real (o : FVec Ideal S8x4096x64 .f32) (ho : ∀ h t d, o (ix3 h t d) = ((∑ s, pr Q K F h t s * V h s d : ℝ) : EReal)) (hc : ∀ h t d, ct (ix3 h t d) = (C h t d : EReal))
    (h : Fin 8) (t : Fin 4096) : deltaOf ct o (ix2 h t) = ((dl Q K V C F h t : ℝ) : EReal) := by
  rw [deltaOf_at]
  simp only [ho, hc, ← EReal.coe_mul, coe_sum]
  congr 1
  unfold dl dp
  simp only [Finset.mul_sum]
  rw [Finset.sum_comm]
  refine Finset.sum_congr rfl fun s _ => Finset.sum_congr rfl fun d _ => ?_
  ring

theorem three_real (x : FVec Ideal S8x4096 .f32) (g : Fin 8 → Fin 4096 → ℝ) (hx : ∀ h t, x (ix2 h t) = (g h t : EReal)) (h : Fin 8) (t : Fin 4096) (l : Fin 128) :
    threeOf (minus x) (ix3 h t l) = ((if l.val = 64 then -g h t else 0 : ℝ) : EReal) := by
  rw [threeOf_at, minus_at, hx, ← EReal.coe_neg, ← EReal.coe_sub, ← EReal.coe_sub, sub_self, sub_self]
  split_ifs <;> rfl

/-- The queries' lanes. -/
theorem qs_real (hq : ∀ h t d, q (ix3 h t d) = (Q h t d : EReal)) (h : Fin 8) (t : Fin 4096) (l : Fin 128) :
    headsOf q (ix3 h t l) = ((qLanes Q h t l : ℝ) : EReal) := by
  rw [headsOf_at]
  unfold qLanes
  split_ifs with e1 e2 e3
  · rw [hq, EReal.coe_mul]
  · rfl
  · rfl
  · rfl
/-- The keys' lanes. -/
theorem ks_real (hk : ∀ h t d, k (ix3 h t d) = (K h t d : EReal)) (hf : ∀ h t, f (ix2 h t) = (F h t : EReal)) (h : Fin 8) (t : Fin 4096) (l : Fin 128) :
    keysOf k (threeOf (minus f)) (ix3 h t l) = ((kLanes K F h t l : ℝ) : EReal) := by
  rw [keysOf_at, three_real f F hf]
  unfold kLanes
  split_ifs with e1 e2 e3
  · rw [hk]
  · rfl
  · rfl
  · rfl
/-- The values' lanes. -/
theorem vs_real (hv : ∀ h t d, v (ix3 h t d) = (V h t d : EReal)) (h : Fin 8) (t : Fin 4096) (l : Fin 128) :
    valuesOf v (ix3 h t l) = ((vLanes V h t l : ℝ) : EReal) := by
  rw [valuesOf_at]
  unfold vLanes
  split_ifs with e1 e2
  · rw [hv]
  · rfl
  · rfl
/-- The gradients' lanes. -/
theorem cs_real (de : FVec Ideal S8x4096 .f32) (hc : ∀ h t d, ct (ix3 h t d) = (C h t d : EReal)) (hd : ∀ h t, de (ix2 h t) = ((dl Q K V C F h t : ℝ) : EReal))
    (h : Fin 8) (t : Fin 4096) (l : Fin 128) :
    gradsOf ct (threeOf (minus de)) (ix3 h t l) = ((cLanes Q K V C F h t l : ℝ) : EReal) := by
  rw [gradsOf_at, three_real de (fun h t => dl Q K V C F h t) hd]
  unfold cLanes
  split_ifs with e1 e2
  · rw [hc]
  · rfl
  · rfl

/-! ## The kernel's tiles -/

/-- The head of head `x` of group `p`. -/
def headAt (p : Fin 2) (x : Fin 4) : Fin 8 := ⟨4 * p.val + x.val, by omega⟩

theorem flat_lane (w : FVec Ideal S8x4096x128 .f32) (p : Fin 2) (x : Fin 4) (t : Fin 4096) (l : Fin 128) :
    flatOf w (ix2 t (laneOf p (colOf x l))) = w (ix3 (headAt p x) t l) := by
  rw [flatOf_at]
  refine congrArg w ?_
  have e1 : (⟨(laneOf p (colOf x l)).val / 128, by omega⟩ : Fin 8) = headAt p x := Fin.ext (by simp only [laneOf, colOf, headAt]; omega)
  have e2 : (⟨(laneOf p (colOf x l)).val % 128, by omega⟩ : Fin 128) = l := Fin.ext (by simp only [laneOf, colOf]; omega)
  rw [e1, e2]

theorem pair_lane (r : FVec Ideal S8x4096 .f32) (p : Fin 2) (x : Fin 4) (i : Fin 8) (b : Fin 512) :
    pairsOf r (ix4 (pairAt p (pairOf x)) i (subOf x) b) = r (ix2 (headAt p x) (rowOf i b)) := by
  rw [pairsOf_at _ _ _ _ _ (by simp only [subOf]; omega)]
  refine congrArg r ?_
  congr 1
  · exact Fin.ext (by simp only [pairAt, pairOf, subOf, headAt]; omega)
  · exact Fin.ext (by simp only [rowOf]; omega)

section
variable (wk wv wq wc : FVec Ideal S8x4096x128 .f32) (r : FVec Ideal S8x4096 .f32)
  (hwk : ∀ h t l, wk (ix3 h t l) = ((kLanes K F h t l : ℝ) : EReal)) (hwv : ∀ h t l, wv (ix3 h t l) = ((vLanes V h t l : ℝ) : EReal))
  (hwq : ∀ h t l, wq (ix3 h t l) = ((qLanes Q h t l : ℝ) : EReal)) (hwc : ∀ h t l, wc (ix3 h t l) = ((cLanes Q K V C F h t l : ℝ) : EReal))
  (hr : ∀ h t, r (ix2 h t) = ((Real.log (sm Q K F h t) : ℝ) : EReal))
include hwk hwv hwq hwc hr

/-- The probability of a pair of rows. -/
theorem PP_real (p : Fin 2) (j i : Fin 8) (x : Fin 4) (a b : Fin 512) :
    PP (kTile (flatOf wk) p j) (kFull (flatOf wq) p) (kRow (pairsOf r) p) j i x a b = ((pr Q K F (headAt p x) (rowOf i b) (rowOf j a) : ℝ) : EReal) := by
  unfold PP
  by_cases e : rowOf j a ≤ rowOf i b
  · have e' : 512 * j.val + a.val ≤ 512 * i.val + b.val := e
    rw [if_pos e', pr_log _ _ _ _ _ _ e]
    have hL : LG (kTile (flatOf wk) p j) (kFull (flatOf wq) p) (kRow (pairsOf r) p) i x a b
        = ((lg Q K F (headAt p x) (rowOf i b) (rowOf j a) - Real.log (sm Q K F (headAt p x) (rowOf i b)) : ℝ) : EReal) := by
      unfold LG
      have h1 : ∀ l, kTile (flatOf wk) p j (ix2 a (colOf x l)) = ((kLanes K F (headAt p x) (rowOf j a) l : ℝ) : EReal) :=
        fun l => (flat_lane wk p x (rowOf j a) l).trans (hwk _ _ _)
      have h2 : ∀ l, kFull (flatOf wq) p (ix2 (rowOf i b) (colOf x l)) = ((qLanes Q (headAt p x) (rowOf i b) l : ℝ) : EReal) :=
        fun l => (flat_lane wq p x (rowOf i b) l).trans (hwq _ _ _)
      have h3 : kRow (pairsOf r) p (ix4 (pairOf x) i (subOf x) b) = ((Real.log (sm Q K F (headAt p x) (rowOf i b)) : ℝ) : EReal) :=
        (pair_lane r p x i b).trans (hr _ _)
      simp only [h1, h2, h3, ← EReal.coe_mul, coe_sum, lanes_lg, ← EReal.coe_sub]
    rw [hL, Ideal.exp_coe]
  · have e' : ¬ 512 * j.val + a.val ≤ 512 * i.val + b.val := e
    rw [if_neg e', pr_late _ _ _ _ _ _ e]
    rfl

/-- The gradient of a pair's logit. -/
theorem DD_real (p : Fin 2) (j i : Fin 8) (x : Fin 4) (a b : Fin 512) :
    DD (kTile (flatOf wk) p j) (kTile (flatOf wv) p j) (kFull (flatOf wq) p) (kFull (flatOf wc) p) (kRow (pairsOf r) p) j i x a b
      = ((ds Q K V C F (headAt p x) (rowOf i b) (rowOf j a) : ℝ) : EReal) := by
  unfold DD
  rw [PP_real Q K V C F wk wv wq wc r hwk hwv hwq hwc hr]
  have h1 : ∀ l, kTile (flatOf wv) p j (ix2 a (colOf x l)) = ((vLanes V (headAt p x) (rowOf j a) l : ℝ) : EReal) :=
    fun l => (flat_lane wv p x (rowOf j a) l).trans (hwv _ _ _)
  have h2 : ∀ l, kFull (flatOf wc) p (ix2 (rowOf i b) (colOf x l)) = ((cLanes Q K V C F (headAt p x) (rowOf i b) l : ℝ) : EReal) :=
    fun l => (flat_lane wc p x (rowOf i b) l).trans (hwc _ _ _)
  simp only [h1, h2, ← EReal.coe_mul, coe_sum, lanes_dp]
  rfl

end

/-- A sum over the tiles from `j` on whose earlier tiles would add nothing. -/
theorem upTo_full (g : Fin 8 → ℝ) (j : ℕ) (hg : ∀ i : Fin 8, i.val < j → g i = 0) : upTo (fun i => ((g i : ℝ) : EReal)) j 8 = ((∑ i, g i : ℝ) : EReal) := by
  unfold upTo
  rw [coe_sum]
  congr 1
  refine Finset.sum_subset (Finset.subset_univ _) fun i _ hi => hg i ?_
  simp only [Finset.mem_filter, Finset.mem_univ, true_and, not_and, not_lt] at hi
  by_contra e
  have := hi (by omega)
  omega

end Cert.KernelIdeal.Values
-- ==== Proof.Body.KernelEnd.lean ====
module

public import proofs.«01_k».proof.Proof.Body.KernelReals

/-! # The kernel's results, in real numbers -/

@[expose] public section

set_option maxRecDepth 16384

noncomputable section

namespace Cert.KernelIdeal.Values

open Idealize.ShloMosaic Idealize.ShloMosaic.TcCoe
open Cert.KernelIdeal Cert.KernelIdeal.Gen Cert.KernelIdeal.Body Cert.KernelIdeal.Prep Cert.KernelIdeal.Tail Cert.Reals

variable (Q K V C : Fin 8 → Fin 4096 → Fin 64 → ℝ) (F : Fin 8 → Fin 4096 → ℝ)
variable (wk wv wq wc : FVec Ideal S8x4096x128 .f32) (r : FVec Ideal S8x4096 .f32)
  (hwk : ∀ h t l, wk (ix3 h t l) = ((kLanes K F h t l : ℝ) : EReal)) (hwv : ∀ h t l, wv (ix3 h t l) = ((vLanes V h t l : ℝ) : EReal))
  (hwq : ∀ h t l, wq (ix3 h t l) = ((qLanes Q h t l : ℝ) : EReal)) (hwc : ∀ h t l, wc (ix3 h t l) = ((cLanes Q K V C F h t l : ℝ) : EReal))
  (hr : ∀ h t, r (ix2 h t) = ((Real.log (sm Q K F h t) : ℝ) : EReal))

theorem late_row (j i : Fin 8) (a b : Fin 512) (e : i.val < j.val) : ¬ rowOf j a ≤ rowOf i b := by
  intro e'
  have : 512 * j.val + a.val ≤ 512 * i.val + b.val := e'
  omega

/-- Where a lane of a head lies. -/
def place (h : Fin 8) (l : Fin 128) : Fin 1024 := ⟨h.val * 128 + l.val, by omega⟩
theorem place_head (h : Fin 8) (l : Fin 128) : headAt (groupIn (place h l)) (headIn (withinGroup (place h l))) = h :=
  Fin.ext (by simp only [headAt, groupIn, headIn, withinGroup, place]; omega)
theorem place_lane (h : Fin 8) (l : Fin 128) : laneIn (withinGroup (place h l)) = l :=
  Fin.ext (by simp only [laneIn, withinGroup, place]; omega)

section
include hwk hwv hwq hwc hr

/-- The values' result. -/
theorem V_real (h : Fin 8) (s : Fin 4096) (l : Fin 128) :
    backOf (allV (flatOf wk) (flatOf wq) (flatOf wc) (pairsOf r)) (ix3 h s l) = ((∑ t, pr Q K F h t s * cLanes Q K V C F h t l : ℝ) : EReal) := by
  rw [backOf_at]
  change upTo (fun i => TV (kTile (flatOf wk) (groupIn (place h l)) (tileIn s)) (kFull (flatOf wq) (groupIn (place h l))) (kFull (flatOf wc) (groupIn (place h l)))
    (kRow (pairsOf r) (groupIn (place h l))) (tileIn s) i (headIn (withinGroup (place h l))) (rowIn s) (laneIn (withinGroup (place h l)))) (tileIn s).val 8 = _
  have e : ∀ i : Fin 8, TV (kTile (flatOf wk) (groupIn (place h l)) (tileIn s)) (kFull (flatOf wq) (groupIn (place h l))) (kFull (flatOf wc) (groupIn (place h l)))
      (kRow (pairsOf r) (groupIn (place h l))) (tileIn s) i (headIn (withinGroup (place h l))) (rowIn s) (laneIn (withinGroup (place h l)))
      = ((∑ b : Fin 512, pr Q K F h (rowOf i b) s * cLanes Q K V C F h (rowOf i b) l : ℝ) : EReal) := by
    intro i
    unfold TV
    have h2 : ∀ b, kFull (flatOf wc) (groupIn (place h l)) (ix2 (rowOf i b) (colOf (headIn (withinGroup (place h l))) (laneIn (withinGroup (place h l)))))
        = ((cLanes Q K V C F h (rowOf i b) l : ℝ) : EReal) := fun b => by
      refine (flat_lane wc (groupIn (place h l)) (headIn (withinGroup (place h l))) (rowOf i b) (laneIn (withinGroup (place h l)))).trans ?_
      rw [hwc, place_head, place_lane]
    simp only [PP_real Q K V C F wk wv wq wc r hwk hwv hwq hwc hr, h2, place_head, rowOf_in, ← EReal.coe_mul, coe_sum]
  rw [funext e, upTo_full]
  · rw [sum_tiles (fun t => pr Q K F h t s * cLanes Q K V C F h t l)]
  · intro i hi
    refine Finset.sum_eq_zero fun b _ => ?_
    rw [pr_late, zero_mul]
    have := late_row (tileIn s) i (rowIn s) b hi
    rwa [rowOf_in] at this

/-- The keys' result. -/
theorem K_real (h : Fin 8) (s : Fin 4096) (l : Fin 128) :
    backOf (allK (flatOf wk) (flatOf wv) (flatOf wq) (flatOf wc) (pairsOf r)) (ix3 h s l) = ((∑ t, ds Q K V C F h t s * qLanes Q h t l : ℝ) : EReal) := by
  rw [backOf_at]
  change upTo (fun i => TK (kTile (flatOf wk) (groupIn (place h l)) (tileIn s)) (kTile (flatOf wv) (groupIn (place h l)) (tileIn s)) (kFull (flatOf wq) (groupIn (place h l)))
    (kFull (flatOf wc) (groupIn (place h l)))
    (kRow (pairsOf r) (groupIn (place h l))) (tileIn s) i (headIn (withinGroup (place h l))) (rowIn s) (laneIn (withinGroup (place h l)))) (tileIn s).val 8 = _
  have e : ∀ i : Fin 8, TK (kTile (flatOf wk) (groupIn (place h l)) (tileIn s)) (kTile (flatOf wv) (groupIn (place h l)) (tileIn s)) (kFull (flatOf wq) (groupIn (place h l)))
      (kFull (flatOf wc) (groupIn (place h l)))
      (kRow (pairsOf r) (groupIn (place h l))) (tileIn s) i (headIn (withinGroup (place h l))) (rowIn s) (laneIn (withinGroup (place h l)))
      = ((∑ b : Fin 512, ds Q K V C F h (rowOf i b) s * qLanes Q h (rowOf i b) l : ℝ) : EReal) := by
    intro i
    unfold TK
    have h2 : ∀ b, kFull (flatOf wq) (groupIn (place h l)) (ix2 (rowOf i b) (colOf (headIn (withinGroup (place h l))) (laneIn (withinGroup (place h l)))))
        = ((qLanes Q h (rowOf i b) l : ℝ) : EReal) := fun b => by
      refine (flat_lane wq (groupIn (place h l)) (headIn (withinGroup (place h l))) (rowOf i b) (laneIn (withinGroup (place h l)))).trans ?_
      rw [hwq, place_head, place_lane]
    simp only [DD_real Q K V C F wk wv wq wc r hwk hwv hwq hwc hr, h2, place_head, rowOf_in, ← EReal.coe_mul, coe_sum]
  rw [funext e, upTo_full]
  · rw [sum_tiles (fun t => ds Q K V C F h t s * qLanes Q h t l)]
  · intro i hi
    refine Finset.sum_eq_zero fun b _ => ?_
    rw [ds_late, zero_mul]
    have := late_row (tileIn s) i (rowIn s) b hi
    rwa [rowOf_in] at this

/-- The queries' result. -/
theorem Q_real (h : Fin 8) (t : Fin 4096) (l : Fin 128) :
    backOf (allQ (flatOf wk) (flatOf wv) (flatOf wq) (flatOf wc) (pairsOf r)) (ix3 h t l) = ((∑ s, ds Q K V C F h t s * kLanes K F h s l : ℝ) : EReal) := by
  rw [backOf_at]
  change upTo (fun j => if j.val ≤ (tileIn t).val then TQ (kTile (flatOf wk) (groupIn (place h l)) j) (kTile (flatOf wv) (groupIn (place h l)) j) (kFull (flatOf wq) (groupIn (place h l)))
    (kFull (flatOf wc) (groupIn (place h l)))
    (kRow (pairsOf r) (groupIn (place h l))) j (tileIn t) (headIn (withinGroup (place h l))) (rowIn t) (laneIn (withinGroup (place h l))) else 0) 0 8 = _
  have e : ∀ j : Fin 8, (if j.val ≤ (tileIn t).val then TQ (kTile (flatOf wk) (groupIn (place h l)) j) (kTile (flatOf wv) (groupIn (place h l)) j) (kFull (flatOf wq) (groupIn (place h l)))
      (kFull (flatOf wc) (groupIn (place h l)))
      (kRow (pairsOf r) (groupIn (place h l))) j (tileIn t) (headIn (withinGroup (place h l))) (rowIn t) (laneIn (withinGroup (place h l))) else 0)
      = ((∑ a : Fin 512, ds Q K V C F h t (rowOf j a) * kLanes K F h (rowOf j a) l : ℝ) : EReal) := by
    intro j
    have h2 : ∀ a, kTile (flatOf wk) (groupIn (place h l)) j (ix2 a (colOf (headIn (withinGroup (place h l))) (laneIn (withinGroup (place h l)))))
        = ((kLanes K F h (rowOf j a) l : ℝ) : EReal) := fun a => by
      refine (flat_lane wk (groupIn (place h l)) (headIn (withinGroup (place h l))) (rowOf j a) (laneIn (withinGroup (place h l)))).trans ?_
      rw [hwk, place_head, place_lane]
    split
    · unfold TQ
      simp only [DD_real Q K V C F wk wv wq wc r hwk hwv hwq hwc hr, h2, place_head, rowOf_in, ← EReal.coe_mul, coe_sum]
    · rename_i hj
      rw [Finset.sum_eq_zero (s := Finset.univ) (f := fun a : Fin 512 => ds Q K V C F h t (rowOf j a) * kLanes K F h (rowOf j a) l)]
      · rfl
      · intro a _
        rw [ds_late, zero_mul]
        have := late_row j (tileIn t) a (rowIn t) (by omega)
        rwa [rowOf_in] at this
  rw [funext e, upTo_full]
  · rw [sum_tiles (fun s => ds Q K V C F h t s * kLanes K F h s l)]
  · intro i hi
    omega

/-- The gradient of the values. -/
theorem dv_real (h : Fin 8) (s : Fin 4096) (d : Fin 64) :
    lowOf (backOf (allV (flatOf wk) (flatOf wq) (flatOf wc) (pairsOf r))) (ix4 0 h s d) = ((∑ t, pr Q K F h t s * C h t d : ℝ) : EReal) := by
  rw [lowOf_at, V_real Q K V C F wk wv wq wc r hwk hwv hwq hwc hr]
  congr 1
  refine Finset.sum_congr rfl fun t _ => ?_
  rw [cLanes, dif_pos d.isLt]
/-- The gradient of the keys. -/
theorem dk_real (h : Fin 8) (s : Fin 4096) (d : Fin 64) :
    lowOf (backOf (allK (flatOf wk) (flatOf wv) (flatOf wq) (flatOf wc) (pairsOf r))) (ix4 0 h s d) = ((∑ t, ds Q K V C F h t s * (1 / 8) * Q h t d : ℝ) : EReal) := by
  rw [lowOf_at, K_real Q K V C F wk wv wq wc r hwk hwv hwq hwc hr]
  congr 1
  refine Finset.sum_congr rfl fun t _ => ?_
  rw [qLanes, dif_pos d.isLt]
  ring
/-- The gradient of the queries. -/
theorem dq_real (h : Fin 8) (t : Fin 4096) (d : Fin 64) :
    lowScaled (backOf (allQ (flatOf wk) (flatOf wv) (flatOf wq) (flatOf wc) (pairsOf r))) (ix4 0 h t d) = ((∑ s, ds Q K V C F h t s * (1 / 8) * K h s d : ℝ) : EReal) := by
  rw [lowScaled_at, Q_real Q K V C F wk wv wq wc r hwk hwv hwq hwc hr, ← EReal.coe_mul, Finset.sum_mul]
  congr 1
  refine Finset.sum_congr rfl fun s _ => ?_
  rw [kLanes, dif_pos d.isLt]
  ring
/-- The gradient of the gates' running sums. -/
theorem gate_real (h : Fin 8) (t : Fin 4096) :
    gateOf (backOf (allQ (flatOf wk) (flatOf wv) (flatOf wq) (flatOf wc) (pairsOf r))) (backOf (allK (flatOf wk) (flatOf wv) (flatOf wq) (flatOf wc) (pairsOf r))) (ix2 h t)
      = (((∑ s, ds Q K V C F h t s) - ∑ s, ds Q K V C F h s t : ℝ) : EReal) := by
  rw [gateOf_at]
  simp only [Q_real Q K V C F wk wv wq wc r hwk hwv hwq hwc hr, K_real Q K V C F wk wv wq wc r hwk hwv hwq hwc hr, coe_sum, ← EReal.coe_sub]
  congr 2
  · refine (Finset.sum_eq_single h (fun x _ hx => ?_) (fun hx => absurd (Finset.mem_univ _) hx)).trans ?_
    · refine Finset.sum_eq_zero fun s _ => ?_
      have : x.val ≠ h.val := fun e => hx (Fin.ext e)
      rw [kLanes, dif_neg (by dsimp only; omega), if_neg (by dsimp only; omega), if_neg (by dsimp only; omega), mul_zero]
    · refine Finset.sum_congr rfl fun s _ => ?_
      rw [kLanes, dif_neg (by dsimp only; omega), if_pos rfl, mul_one]
  · refine (Finset.sum_eq_single h (fun x _ hx => ?_) (fun hx => absurd (Finset.mem_univ _) hx)).trans ?_
    · refine Finset.sum_eq_zero fun s _ => ?_
      have : x.val ≠ h.val := fun e => hx (Fin.ext e)
      rw [qLanes, dif_neg (by dsimp only; omega), if_neg (by dsimp only; omega), if_neg (by dsimp only; omega), mul_zero]
    · refine Finset.sum_congr rfl fun s _ => ?_
      rw [qLanes, dif_neg (by dsimp only; omega), if_pos rfl, mul_one]

end

end Cert.KernelIdeal.Values
-- ==== Proof.Body.RefReals.lean ====
module

public import proofs.«01_k».proof.Proof.Body.Reals
public import proofs.«01_k».proof.Proof.Body.StepsAt

/-! # What the reference holds, in real numbers -/

@[expose] public section

set_option maxRecDepth 16384

noncomputable section

namespace Cert.ReferenceIdeal.Values

open Idealize.ShloMosaic Idealize.ShloMosaic.TcCoe
open Cert.ReferenceIdeal Cert.ReferenceIdeal.Gen Cert.ReferenceIdeal.Steps Cert.Reals

variable (q k v ct : FVec Ideal S1x8x4096x64 .f32) (f : FVec Ideal S1x8x4096 .f32)
variable (Q K V C : Fin 8 → Fin 4096 → Fin 64 → ℝ) (F : Fin 8 → Fin 4096 → ℝ)

/-- The logits. -/
theorem logits_real (hq : ∀ h t d, q (ix4 0 h t d) = (Q h t d : EReal)) (hk : ∀ h t d, k (ix4 0 h t d) = (K h t d : EReal)) (hf : ∀ h t, f (ix3 0 h t) = (F h t : EReal))
    (h : Fin 8) (t s : Fin 4096) : logitsR q k f (ix4 0 h t s) = if s ≤ t then ((lg Q K F h t s + F h t : ℝ) : EReal) else ⊥ := by
  rw [logitsR_at]
  by_cases e : s ≤ t
  · rw [if_pos e, if_pos e, hf, hf]
    simp only [hq, hk, ← EReal.coe_mul, coe_sum, ← EReal.coe_sub, ← EReal.coe_add]
    congr 1
    unfold lg
    ring
  · rw [if_neg e, if_neg e]

/-- The largest logit of a query. -/
theorem max_real (l : FVec Ideal S1x8x4096x4096 .f32) (hl : ∀ h t s, l (ix4 0 h t s) = if s ≤ t then ((lg Q K F h t s + F h t : ℝ) : EReal) else ⊥) :
    ∃ M : Fin 8 → Fin 4096 → ℝ, ∀ h t, maxR (topR l) (ix3 0 h t) = (M h t : EReal) := by
  have : ∀ h t, ∃ r : ℝ, maxR (topR l) (ix3 0 h t) = (r : EReal) := by
    intro h t
    rw [maxR_at, topR_at]
    obtain ⟨r, hr⟩ := fold_real (fun x => l (ix4 0 h t x)) (fun x => by
      rw [hl]
      split
      · exact Or.inr ⟨_, rfl⟩
      · exact Or.inl rfl) t (by rw [hl, if_pos le_rfl]; exact EReal.coe_ne_bot _)
    exact ⟨r, (congrArg (max ⊥) hr).trans (max_eq_right bot_le)⟩
  choose M hM using this
  exact ⟨M, hM⟩

variable (M : Fin 8 → Fin 4096 → ℝ)

/-- The exponentials. -/
theorem exp_real (l : FVec Ideal S1x8x4096x4096 .f32) (mx : FVec Ideal S1x8x4096 .f32) (hl : ∀ h t s, l (ix4 0 h t s) = if s ≤ t then ((lg Q K F h t s + F h t : ℝ) : EReal) else ⊥)
    (hM : ∀ h t, mx (ix3 0 h t) = (M h t : EReal)) (h : Fin 8) (t s : Fin 4096) :
    expR l mx (ix4 0 h t s) = ((wt Q K F h t s * Real.exp (F h t - M h t) : ℝ) : EReal) := by
  rw [expR_at, hl, hM]
  by_cases e : s ≤ t
  · rw [if_pos e, wt, if_pos e, ← EReal.coe_sub, Ideal.exp_coe, ← Real.exp_add, add_sub_assoc]
  · rw [if_neg e, wt, if_neg e, zero_mul, sub_eq_add_neg, EReal.bot_add, Ideal.exp_bot]
    rfl

variable (e : FVec Ideal S1x8x4096x4096 .f32) (z : FVec Ideal S1x8x4096x1 .f32)

/-- Their sum. -/
theorem sum_real (he : ∀ h t s, e (ix4 0 h t s) = ((wt Q K F h t s * Real.exp (F h t - M h t) : ℝ) : EReal)) (h : Fin 8) (t : Fin 4096) :
    sumR e (ix4 0 h t 0) = ((sm Q K F h t * Real.exp (F h t - M h t) : ℝ) : EReal) := by
  rw [sumR_at]
  simp only [he, coe_sum]
  rw [← Finset.sum_mul]; rfl

section
variable (he : ∀ h t s, e (ix4 0 h t s) = ((wt Q K F h t s * Real.exp (F h t - M h t) : ℝ) : EReal))
  (hz : ∀ h t, z (ix4 0 h t 0) = ((sm Q K F h t * Real.exp (F h t - M h t) : ℝ) : EReal))
include he hz

/-- The probabilities. -/
theorem prob_real (h : Fin 8) (t s : Fin 4096) : probR e z (ix4 0 h t s) = ((pr Q K F h t s : ℝ) : EReal) := by
  have h1 := sm_pos Q K F h t
  have h2 := Real.exp_pos (F h t - M h t)
  rw [probR_at, he, hz, Ideal.div_coe (mul_pos h1 h2).ne', ← EReal.coe_mul]
  congr 1
  unfold pr
  field_simp

/-- The mean of a query's gradients, over its sum. -/
theorem mean_real (D : FVec Ideal S1x8x4096x4096 .f32) (hD : ∀ h t s, D (ix4 0 h t s) = ((dp V C h t s : ℝ) : EReal)) (h : Fin 8) (t : Fin 4096) :
    columnR (negR (dlR D (invR z) e)) (ix2 h t) = ((-(dl Q K V C F h t / (sm Q K F h t * Real.exp (F h t - M h t))) : ℝ) : EReal) := by
  have h1 := sm_pos Q K F h t
  have h2 := Real.exp_pos (F h t - M h t)
  have h3 := mul_pos h1 h2
  have hinv : invR z (ix4 0 h t 0) = ((1 / ((sm Q K F h t * Real.exp (F h t - M h t)) * (sm Q K F h t * Real.exp (F h t - M h t))) : ℝ) : EReal) := by
    rw [invR_at, hz, ← EReal.coe_mul, Ideal.div_coe (mul_pos h3 h3).ne', one_mul]
  rw [columnR_at, negR_at, dlR_at]
  simp only [hD, he, hinv, ← EReal.coe_mul, coe_sum, ← EReal.coe_neg]
  congr 2
  unfold dl pr
  rw [Finset.sum_div]
  refine Finset.sum_congr rfl fun s _ => ?_
  field_simp

/-- The gradient of the logits. -/
theorem ds_real (D : FVec Ideal S1x8x4096x4096 .f32) (hD : ∀ h t s, D (ix4 0 h t s) = ((dp V C h t s : ℝ) : EReal)) (h : Fin 8) (t s : Fin 4096) :
    dsR D z (columnR (negR (dlR D (invR z) e))) e (ix4 0 h t s) = ((ds Q K V C F h t s : ℝ) : EReal) := by
  have h1 := sm_pos Q K F h t
  have h2 := Real.exp_pos (F h t - M h t)
  have h3 := mul_pos h1 h2
  rw [dsR_at]
  by_cases c : s ≤ t
  · rw [if_pos c, hD, hz, he, mean_real Q K V C F M e z he hz D hD, Ideal.div_coe h3.ne', ← EReal.coe_mul, ← EReal.coe_add, ← EReal.coe_mul]
    congr 1
    unfold ds pr
    field_simp
    ring
  · rw [if_neg c, ds_late _ _ _ _ _ _ _ _ c]
    rfl

end

/-- The gradients of the probabilities. -/
theorem dp_real (hv : ∀ h t d, v (ix4 0 h t d) = (V h t d : EReal)) (hc : ∀ h t d, ct (ix4 0 h t d) = (C h t d : EReal)) (h : Fin 8) (t s : Fin 4096) :
    dpR ct v (ix4 0 h t s) = ((dp V C h t s : ℝ) : EReal) := by
  rw [dpR_at]
  simp only [hv, hc, ← EReal.coe_mul, coe_sum]
  rfl
/-- The gradient of the values. -/
theorem dv_real (p : FVec Ideal S1x8x4096x4096 .f32) (hp : ∀ h t s, p (ix4 0 h t s) = ((pr Q K F h t s : ℝ) : EReal)) (hc : ∀ h t d, ct (ix4 0 h t d) = (C h t d : EReal))
    (h : Fin 8) (s : Fin 4096) (d : Fin 64) : dvR ct p (ix4 0 h s d) = ((∑ t, pr Q K F h t s * C h t d : ℝ) : EReal) := by
  rw [dvR_at]
  simp only [hp, hc, ← EReal.coe_mul, coe_sum]
  congr 1
  exact Finset.sum_congr rfl fun t _ => mul_comm _ _

variable (D : FVec Ideal S1x8x4096x4096 .f32) (hD : ∀ h t s, D (ix4 0 h t s) = ((ds Q K V C F h t s : ℝ) : EReal))
include hD

/-- The gradient of the keys. -/
theorem dk_real (hq : ∀ h t d, q (ix4 0 h t d) = (Q h t d : EReal)) (h : Fin 8) (s : Fin 4096) (d : Fin 64) :
    dkR D q (ix4 0 h s d) = ((∑ t, ds Q K V C F h t s * (1 / 8) * Q h t d : ℝ) : EReal) := by
  rw [dkR_at]
  simp only [hD, hq, ← EReal.coe_mul, coe_sum]
/-- The gradient of the queries. -/
theorem dq_real (hk : ∀ h t d, k (ix4 0 h t d) = (K h t d : EReal)) (h : Fin 8) (t : Fin 4096) (d : Fin 64) :
    dqR D k (ix4 0 h t d) = ((∑ s, ds Q K V C F h t s * (1 / 8) * K h s d : ℝ) : EReal) := by
  rw [dqR_at]
  simp only [hD, hk, ← EReal.coe_mul, coe_sum]
/-- The gradient of the gates' running sums. -/
theorem gate_real (h : Fin 8) (t : Fin 4096) :
    gateR (rowR (keySumR D)) (columnR (querySumR D)) (ix3 0 h t) = (((∑ s, ds Q K V C F h t s) - ∑ s, ds Q K V C F h s t : ℝ) : EReal) := by
  rw [gateR_at, rowR_at, columnR_at, keySumR_at, querySumR_at]
  simp only [hD, ← EReal.coe_neg, coe_sum, ← EReal.coe_add]
  congr 1
  rw [Finset.sum_neg_distrib]
  ring

end Cert.ReferenceIdeal.Values
-- ==== Proof.Body.Final.lean ====
module

public import proofs.«01_k».proof.Defs
public import proofs.«01_k».proof.Proof.Gen.Pre_finite
public import proofs.«01_k».proof.Proof.Gen.ReferenceIdeal.Run
public import proofs.«01_k».proof.Proof.Body.Finite
public import proofs.«01_k».proof.Proof.Body.Running
public import proofs.«01_k».proof.Proof.Body.KernelEnd
public import proofs.«01_k».proof.Proof.Body.RefReals

/-! # The results are equal

On real arguments the four results of the kernel's program and of the reference are the same real numbers. -/

@[expose] public section

set_option maxRecDepth 16384

noncomputable section

namespace Cert.Final

open Idealize.ShloMosaic Idealize.ShloMosaic.TcCoe Idealize.SL.Sem
open Cert.Reals

/-- An index of the four-axis arrays by its coordinates. -/
theorem eta4 (y : (⟨4, ![1, 8, 4096, 64]⟩ : Shape).Idx) : y = ix4 (0 : Fin 1) (y 1 : Fin 8) (y 2 : Fin 4096) (y 3 : Fin 64) := by
  funext a
  match a with
  | ⟨0, _⟩ => exact Subsingleton.elim (α := Fin 1) _ _
  | ⟨1, _⟩ => rfl
  | ⟨2, _⟩ => rfl
  | ⟨3, _⟩ => rfl
/-- An index of the three-axis arrays by its coordinates. -/
theorem eta3 (y : (⟨3, ![1, 8, 4096]⟩ : Shape).Idx) : y = ix3 (0 : Fin 1) (y 1 : Fin 8) (y 2 : Fin 4096) := by
  funext a
  match a with
  | ⟨0, _⟩ => exact Subsingleton.elim (α := Fin 1) _ _
  | ⟨1, _⟩ => rfl
  | ⟨2, _⟩ => rfl

section Kernel

open Cert.KernelIdeal Cert.KernelIdeal.Gen Cert.KernelIdeal.Body Cert.KernelIdeal.Prep Cert.KernelIdeal.Tail Cert.KernelIdeal.Values

variable (q k v ct : FVec Ideal Cert.KernelIdeal.S1x8x4096x64 .f32) (f : FVec Ideal Cert.KernelIdeal.S1x8x4096 .f32)

theorem drop4 (x : FVec Ideal Cert.KernelIdeal.S1x8x4096x64 .f32) (h : Fin 8) (t : Fin 4096) (d : Fin 64) :
    shapeCast Cert.KernelIdeal.S8x4096x64 x shapeCasts_S1x8x4096x64_S8x4096x64 (ix3 h t d) = x (ix4 0 h t d) := by
  pointwise []
theorem drop3 (x : FVec Ideal Cert.KernelIdeal.S1x8x4096 .f32) (h : Fin 8) (t : Fin 4096) :
    shapeCast Cert.KernelIdeal.S8x4096 x shapeCasts_S1x8x4096_S8x4096 (ix2 h t) = x (ix3 0 h t) := by
  pointwise []

variable (m : (ℓ : Loc Cert.KernelIdeal.nD Cert.KernelIdeal.τ Cert.KernelIdeal.sig) → Buf (Elt Ideal) ℓ) (c : Dev Cert.KernelIdeal.nD)

/-- What the kernel's program leaves in a buffer. -/
abbrev kEnd (b : Ref Cert.KernelIdeal.sig .tc) := Pipeline.afterTail₀ cfgs (dats m) 0 (V0 m) [hostOps1, hostOps1_1, hostOps1_2] c b

variable (Q K V C : Fin 8 → Fin 4096 → Fin 64 → ℝ) (F : Fin 8 → Fin 4096 → ℝ)

/-- The kernel's results in real numbers. -/
theorem kernel_values
    (hq : ∀ h t d, argQ m c (ix3 h t d) = (Q h t d : EReal)) (hk : ∀ h t d, argK m c (ix3 h t d) = (K h t d : EReal))
    (hv : ∀ h t d, argV m c (ix3 h t d) = (V h t d : EReal)) (hc : ∀ h t d, argC m c (ix3 h t d) = (C h t d : EReal))
    (hf : ∀ h t, cumF (argF m c) (ix2 h t) = (F h t : EReal)) :
    (∀ h t d, (kEnd m c main_v136 : FVec Ideal Cert.KernelIdeal.S1x8x4096x64 .f32) (ix4 0 h t d) = ((∑ s, ds Q K V C F h t s * (1 / 8) * K h s d : ℝ) : EReal))
    ∧ (∀ h s d, (kEnd m c main_v138 : FVec Ideal Cert.KernelIdeal.S1x8x4096x64 .f32) (ix4 0 h s d) = ((∑ t, ds Q K V C F h t s * (1 / 8) * Q h t d : ℝ) : EReal))
    ∧ (∀ h s d, (kEnd m c main_v140 : FVec Ideal Cert.KernelIdeal.S1x8x4096x64 .f32) (ix4 0 h s d) = ((∑ t, pr Q K F h t s * C h t d : ℝ) : EReal))
    ∧ (∀ h t, (kEnd m c main_v148 : FVec Ideal Cert.KernelIdeal.S1x8x4096 .f32) (ix3 0 h t)
        = Cert.Running.runs 0 (fun s => (((∑ r, ds Q K V C F h s r) - ∑ r, ds Q K V C F h r s : ℝ) : EReal)) t) := by
  have hl := logits_real _ _ _ Q K F hq hk hf
  obtain ⟨M, hM⟩ := max_real Q K F _ hl
  have he := exp_real Q K F M _ _ hl hM
  have hz := sum_real Q K F M _ he
  have hs := logSum_real Q K F M _ _ hM hz
  have ho := out_real _ Q K V F M _ _ he hz hv
  have hd := delta_real _ Q K V C F _ ho hc
  have lk := ks_real _ _ K F hk hf
  have lq := qs_real _ Q hq
  have lv := vs_real _ V hv
  have lc := cs_real _ Q K V C F _ hc hd
  refine ⟨fun h t d => ?_, fun h s d => ?_, fun h s d => ?_, fun h t => ?_⟩
  · rw [kEnd, tail_eq, opsT_v136, atEnd_Q, A0, A1, A2, A3, A4, V_v55, V_v87, V_v94, V_v122, V_v125]
    exact dq_real Q K V C F _ _ _ _ _ lk lv lq lc hs h t d
  · rw [kEnd, tail_eq, opsT_v138, atEnd_K, A0, A1, A2, A3, A4, V_v55, V_v87, V_v94, V_v122, V_v125]
    exact dk_real Q K V C F _ _ _ _ _ lk lv lq lc hs h s d
  · rw [kEnd, tail_eq, opsT_v140, atEnd_V, A0, A2, A3, A4, V_v55, V_v87, V_v122, V_v125]
    exact dv_real Q K V C F _ _ _ _ _ lk lv lq lc hs h s d
  · rw [kEnd, tail_eq, opsT_v148, atEnd_Q, atEnd_K, A0, A1, A2, A3, A4, V_v55, V_v87, V_v94, V_v122, V_v125, Cert.Running.backward_at]
    exact congrArg (fun g => Cert.Running.runs 0 g t) (funext fun s => gate_real Q K V C F _ _ _ _ _ lk lv lq lc hs h s)

end Kernel

section Reference

open Cert.ReferenceIdeal Cert.ReferenceIdeal.Steps Cert.ReferenceIdeal.Values

variable (m : (ℓ : Loc Cert.ReferenceIdeal.nD Cert.ReferenceIdeal.τ Cert.ReferenceIdeal.sig) → Buf (Elt Ideal) ℓ) (c : Dev Cert.ReferenceIdeal.nD)
variable (Q K V C : Fin 8 → Fin 4096 → Fin 64 → ℝ) (F : Fin 8 → Fin 4096 → ℝ)

/-- The reference's results in real numbers. -/
theorem reference_values
    (hq : ∀ h t d, (m ((c : Thread nD τ).loc main_arg0) : FVec Ideal S1x8x4096x64 .f32) (ix4 0 h t d) = (Q h t d : EReal))
    (hk : ∀ h t d, (m ((c : Thread nD τ).loc main_arg1) : FVec Ideal S1x8x4096x64 .f32) (ix4 0 h t d) = (K h t d : EReal))
    (hv : ∀ h t d, (m ((c : Thread nD τ).loc main_arg2) : FVec Ideal S1x8x4096x64 .f32) (ix4 0 h t d) = (V h t d : EReal))
    (hc : ∀ h t d, (m ((c : Thread nD τ).loc main_arg4) : FVec Ideal S1x8x4096x64 .f32) (ix4 0 h t d) = (C h t d : EReal))
    (hf : ∀ h t, cumR (m ((c : Thread nD τ).loc main_arg3)) (ix3 0 h t) = (F h t : EReal)) :
    (∀ h t d, Cert.ReferenceIdeal.Value.res_out0 m c (ix4 0 h t d) = ((∑ s, ds Q K V C F h t s * (1 / 8) * K h s d : ℝ) : EReal))
    ∧ (∀ h s d, Cert.ReferenceIdeal.Value.res_out1 m c (ix4 0 h s d) = ((∑ t, ds Q K V C F h t s * (1 / 8) * Q h t d : ℝ) : EReal))
    ∧ (∀ h s d, Cert.ReferenceIdeal.Value.res_out2 m c (ix4 0 h s d) = ((∑ t, pr Q K F h t s * C h t d : ℝ) : EReal))
    ∧ (∀ h t, Cert.ReferenceIdeal.Value.res_out3 m c (ix3 0 h t)
        = Cert.Running.runs 0 (fun s => (((∑ r, ds Q K V C F h s r) - ∑ r, ds Q K V C F h r s : ℝ) : EReal)) t) := by
  have hl := logits_real _ _ _ Q K F hq hk hf
  obtain ⟨M, hM⟩ := max_real Q K F _ hl
  have he := exp_real Q K F M _ _ hl hM
  have hz := sum_real Q K F M _ he
  have hp := prob_real Q K F M _ _ he hz
  have hdp := dp_real _ _ V C hv hc
  have hd := ds_real Q K V C F M _ _ he hz _ hdp
  refine ⟨fun h t d => ?_, fun h s d => ?_, fun h s d => ?_, fun h t => ?_⟩
  · rw [out0]; exact dq_real _ Q K V C F _ hd hk h t d
  · rw [out1]; exact dk_real _ Q K V C F _ hd hq h s d
  · rw [out2]; exact dv_real _ Q K C F _ hp hc h s d
  · rw [out3, Cert.Running.backR_at]
    exact congrArg (fun g => Cert.Running.runs 0 g t) (funext fun s => gate_real Q K V C F _ hd h s)

end Reference

/-- On real arguments the kernel's program and the reference leave the same gradients. -/
theorem results_equal : Cert.algebraic_KernelIdeal_ReferenceIdeal_pre_finite := by
  intro m g m' g' hpre hargs
  have key : ∀ c : Dev Cert.KernelIdeal.nD,
      (kEnd m c Cert.KernelIdeal.main_v136 : FVec Ideal Cert.KernelIdeal.S1x8x4096x64 .f32) = Cert.ReferenceIdeal.Value.res_out0 m' c
      ∧ (kEnd m c Cert.KernelIdeal.main_v138 : FVec Ideal Cert.KernelIdeal.S1x8x4096x64 .f32) = Cert.ReferenceIdeal.Value.res_out1 m' c
      ∧ (kEnd m c Cert.KernelIdeal.main_v140 : FVec Ideal Cert.KernelIdeal.S1x8x4096x64 .f32) = Cert.ReferenceIdeal.Value.res_out2 m' c
      ∧ (kEnd m c Cert.KernelIdeal.main_v148 : FVec Ideal Cert.KernelIdeal.S1x8x4096 .f32) = Cert.ReferenceIdeal.Value.res_out3 m' c := by
    intro c
    obtain ⟨Q, K, V, C, f, hQ, hK, hV, hC, hf⟩ := Cert.Finite.reals _ _ _ _ _ (hpre c)
    obtain ⟨e0, e1, e2, e3, e4⟩ := hargs c
    choose F hF using fun h t => Cert.Running.runs_real 4095 (f h) t
    obtain ⟨k0, k1, k2, k3⟩ := kernel_values m c Q K V C F (fun h t d => (drop4 _ h t d).trans (hQ h t d)) (fun h t d => (drop4 _ h t d).trans (hK h t d))
      (fun h t d => (drop4 _ h t d).trans (hV h t d)) (fun h t d => (drop4 _ h t d).trans (hC h t d))
      (fun h t => by
        rw [Cert.Running.cumF_at, ← hF]
        exact congrArg (fun x => Cert.Running.runs 4095 x t) (funext fun s => (drop3 _ h s).trans (hf h s)))
    obtain ⟨r0, r1, r2, r3⟩ := reference_values m' c Q K V C F (fun h t d => (congrFun e0 _).trans (hQ h t d)) (fun h t d => (congrFun e1 _).trans (hK h t d))
      (fun h t d => (congrFun e2 _).trans (hV h t d)) (fun h t d => (congrFun e4 _).trans (hC h t d))
      (fun h t => by
        rw [Cert.Running.cumR_at, ← hF]
        exact congrArg (fun x => Cert.Running.runs 4095 x t) (funext fun s => (congrFun e3 _).trans (hf h s)))
    refine ⟨funext fun y => ?_, funext fun y => ?_, funext fun y => ?_, funext fun y => ?_⟩
    · rw [eta4 y]; exact (k0 _ _ _).trans (r0 _ _ _).symm
    · rw [eta4 y]; exact (k1 _ _ _).trans (r1 _ _ _).symm
    · rw [eta4 y]; exact (k2 _ _ _).trans (r2 _ _ _).symm
    · rw [eta3 y]; exact (k3 _ _).trans (r3 _ _).symm
  refine ⟨fun c => Cert.ReferenceIdeal.Value.res_out0 m' c, fun c => Cert.ReferenceIdeal.Value.res_out1 m' c,
    fun c => Cert.ReferenceIdeal.Value.res_out2 m' c, fun c => Cert.ReferenceIdeal.Value.res_out3 m' c, ?_, Cert.ReferenceIdeal.Value.run m' g'⟩
  refine (θ_run Cert.KernelIdeal.defs _ _).mono (fun r h c => ?_) (θ_run_and (Cert.KernelIdeal.Body.whole_run m g) (Cert.KernelIdeal.Body.ends_unchanged m g))
  refine ⟨(h.1.1.rest_eq c Cert.KernelIdeal.main_v136 (by decide)).trans (key c).1, (h.1.1.rest_eq c Cert.KernelIdeal.main_v138 (by decide)).trans (key c).2.1,
    (h.1.1.rest_eq c Cert.KernelIdeal.main_v140 (by decide)).trans (key c).2.2.1, (h.1.1.rest_eq c Cert.KernelIdeal.main_v148 (by decide)).trans (key c).2.2.2, h.2.1 c⟩

end Cert.Final
-- ==== Proof.Head.Plain.lean ====
module

public import proofs.«01_k».proof.Proof.Gen.Reference2Ideal.Run
public import Idealize.ShloMosaic.Lib.Claim
public import Idealize.ShloMosaic.Lib.Pointwise
public import Idealize.ShloMosaic.Lib.IdealHost
public import Idealize.ShloMosaic.Lib.Quiescent

/-! # What the reference of the loss head computes -/

@[expose] public section

set_option maxRecDepth 16384

noncomputable section

namespace Cert.Reference2Ideal.Plain

open Idealize.ShloMosaic Idealize.ShloMosaic.TcCoe Idealize.ShloMosaic.StableHlo Idealize.SL.Sem
open Cert.Reference2Ideal Cert.Reference2Ideal.Gen

/-! ## In steps -/

def sigmoid (g : FVec Ideal S1x4096x512 .f32) : FVec Ideal S1x4096x512 .f32 :=
  Host.divf (broadcastInDim S1x4096x512 ![] bcast_S_S1x4096x512 (constant S_ .f32 0x3F800000#32)) (addf (broadcastInDim S1x4096x512 ![] bcast_S_S1x4096x512 (constant S_ .f32 0x3F800000#32)) (Host.exp (Host.negf g)))
/-- The mixer's outputs side by side. -/
def mixed (a : FVec Ideal S1x4096x256 .f32) (b : FVec Ideal S1x4096x512 .f32) (d : FVec Ideal S1x4096x256 .f32) : FVec Ideal S1x4096x1024 .f32 :=
  concatenate S1x4096x1024 2 [⟨S1x4096x256, (a : (⟨S1x4096x256, .f32⟩ : BufTy).Contents (Elt Ideal))⟩, ⟨S1x4096x512, (b : (⟨S1x4096x512, .f32⟩ : BufTy).Contents (Elt Ideal))⟩, ⟨S1x4096x256, (d : (⟨S1x4096x256, .f32⟩ : BufTy).Contents (Elt Ideal))⟩] concatenates_S1x4096x256_S1x4096x512_S1x4096x256_S1x4096x1024_d2
def flatW (w : FVec Ideal S1x1024x1024 .f32) : FVec Ideal S1024x1024 .f32 := shapeCast _ w shapeCasts_S1x1024x1024_S1024x1024
def err (x : FVec Ideal S1x4096x1024 .f32) (u : FVec Ideal S1x4096x1024 .f32) (w : FVec Ideal S1024x1024 .f32) (t : FVec Ideal S1x4096x1024 .f32) : FVec Ideal S1x4096x1024 .f32 :=
  subf (addf x (Host.dotGeneral dot_S1x4096x1024_S1024x1024_S1x4096x1024_2_0_01_1_n_n none u w)) t
def loss (e : FVec Ideal S1x4096x1024 .f32) : FVec Ideal S_ .f32 :=
  mulf (constant S_ .f32 0x3F000000#32) (Host.reduceAdd (Host.divf (Host.reduceAdd (mulf e e) (constant S_ .f32 0x00000000#32) reducesTo_S1x4096x1024_S1x4096_d2 h_S_) (broadcastInDim S1x4096 ![] bcast_S_S1x4096 (constant S_ .f32 0x44800000#32))) (constant S_ .f32 0x00000000#32) reducesTo_S1x4096_S_d0_1 h_S_)
/-- The gradient of the error. -/
def dErr (e : FVec Ideal S1x4096x1024 .f32) : FVec Ideal S1x4096x1024 .f32 :=
  mulf (broadcastInDim S1x4096x1024 ![0, 1] bcast_S1x4096_S1x4096x1024_0_1 (Host.divf (broadcastInDim S1x4096 ![] bcast_S_S1x4096 (mulf (constant S_ .f32 0x3F000000#32) (constant S_ .f32 0x3F800000#32))) (broadcastInDim S1x4096 ![] bcast_S_S1x4096 (constant S_ .f32 0x44800000#32)))) (mulf (broadcastInDim S1x4096x1024 ![] bcast_S_S1x4096x1024 (constant S_ .f32 0x40000000#32)) e)
/-- The gradient of the mixer's outputs. -/
def dMixed (y : FVec Ideal S1x4096x1024 .f32) (w : FVec Ideal S1024x1024 .f32) : FVec Ideal S1x4096x1024 .f32 :=
  Host.dotGeneral dot_S1x4096x1024_S1024x1024_S1x4096x1024_2_1_01_0_n_n none y w
def dWeight (y u : FVec Ideal S1x4096x1024 .f32) : FVec Ideal S1x1024x1024 .f32 :=
  broadcastInDim S1x1024x1024 ![1, 2] bcast_S1024x1024_S1x1024x1024_1_2 (transpose S1024x1024 [1, 0] (Host.dotGeneral dot_S1x4096x1024_S1x4096x1024_S1024x1024_01_01_2_2_n_n none y u) transposes_S1024x1024_S1024x1024_1_0)
def part0 (u : FVec Ideal S1x4096x1024 .f32) : FVec Ideal S1x4096x256 .f32 := extractStridedSlice S1x4096x256 ![0, 0, 0] u slices_S1x4096x1024_S1x4096x256_0_0_0
def part1 (u : FVec Ideal S1x4096x1024 .f32) : FVec Ideal S1x4096x512 .f32 := extractStridedSlice S1x4096x512 ![0, 0, 256] u slices_S1x4096x1024_S1x4096x512_0_0_256
def part2 (u : FVec Ideal S1x4096x1024 .f32) : FVec Ideal S1x4096x256 .f32 := extractStridedSlice S1x4096x256 ![0, 0, 768] u slices_S1x4096x1024_S1x4096x256_0_0_768
/-- The gradient of the gate. -/
def dGate (v : FVec Ideal S1x4096x512 .f32) (g s : FVec Ideal S1x4096x512 .f32) : FVec Ideal S1x4096x512 .f32 :=
  addf (mulf v s) (mulf (mulf g v) (mulf s (subf (broadcastInDim S1x4096x512 ![] bcast_S_S1x4096x512 (constant S_ .f32 0x3F800000#32)) s)))

theorem c_half : Ideal.ofBits .f32 1056964608#32 = (((1 : ℝ) / 2 : ℝ) : EReal) := by
  simp [Ideal.ofBits, Ideal.ieee, -EReal.coe_mul]; norm_num
theorem c_two : Ideal.ofBits .f32 1073741824#32 = ((2 : ℝ) : EReal) := by
  simp [Ideal.ofBits, Ideal.ieee, -EReal.coe_mul]; norm_num
theorem c_many : Ideal.ofBits .f32 1149239296#32 = ((1024 : ℝ) : EReal) := by
  simp [Ideal.ofBits, Ideal.ieee, -EReal.coe_mul]; norm_num

theorem sigmoid_at (g) (s : Fin 4096) (k : Fin 512) : sigmoid g (ix3 0 s k) = Ideal.div 1 (1 + Ideal.exp (-g (ix3 0 s k))) := by
  pointwise [sigmoid]
theorem mixed_at (a b d) (s : Fin 4096) (e : Fin 1024) : mixed a b d (ix3 0 s e)
    = if h : e.val < 256 then a (ix3 0 s ⟨e.val, h⟩) else if h' : e.val < 768 then b (ix3 0 s ⟨e.val - 256, by omega⟩) else d (ix3 0 s ⟨e.val - 768, by omega⟩) := by
  pointwise [mixed]
  by_cases h : e.val < 256
  · rw [dif_pos h, dif_pos h]
  · rw [dif_neg h, dif_neg h]
    by_cases h' : e.val < 768
    · rw [dif_pos h', dif_pos (by omega)]
    · rw [dif_neg h', dif_neg (by omega)]
      exact congrArg (fun z => d (ix3 0 s z)) (Fin.ext (by dsimp only; omega))
theorem flatW_at (w) (e d : Fin 1024) : flatW w (ix2 e d) = w (ix3 0 e d) := by
  pointwise [flatW]
theorem err_at (x u w t) (s : Fin 4096) (d : Fin 1024) : err x u w t (ix3 0 s d) = x (ix3 0 s d) + (∑ e : Fin 1024, u (ix3 0 s e) * w (ix2 e d)) - t (ix3 0 s d) := by
  pointwise [err]
theorem loss_at (e) (j) : loss e j = (((1 : ℝ) / 2 : ℝ) : EReal) * ∑ s : Fin 4096, Ideal.div (∑ d : Fin 1024, e (ix3 0 s d) * e (ix3 0 s d)) ((1024 : ℝ) : EReal) := by
  pointwise [loss]
  rw [c_half, c_many, Fin.sum_univ_one]
theorem dErr_at (e) (s : Fin 4096) (d : Fin 1024) : dErr e (ix3 0 s d) = Ideal.div ((((1 : ℝ) / 2 : ℝ) : EReal) * 1) ((1024 : ℝ) : EReal) * (((2 : ℝ) : EReal) * e (ix3 0 s d)) := by
  pointwise [dErr]
  rw [c_half, c_many, c_two]
theorem dMixed_at (y w) (s : Fin 4096) (e : Fin 1024) : dMixed y w (ix3 0 s e) = ∑ d : Fin 1024, y (ix3 0 s d) * w (ix2 e d) := by
  pointwise [dMixed]
theorem dWeight_at (y u) (e d : Fin 1024) : dWeight y u (ix3 0 e d) = ∑ s : Fin 4096, y (ix3 0 s d) * u (ix3 0 s e) := by
  pointwise [dWeight]
  rw [Fin.sum_univ_one]
theorem part0_at (u) (s : Fin 4096) (k : Fin 256) : part0 u (ix3 0 s k) = u (ix3 0 s ⟨k.val, by omega⟩) := by
  pointwise [part0]
theorem part1_at (u) (s : Fin 4096) (k : Fin 512) : part1 u (ix3 0 s k) = u (ix3 0 s ⟨256 + k.val, by omega⟩) := by
  pointwise [part1]
theorem part2_at (u) (s : Fin 4096) (k : Fin 256) : part2 u (ix3 0 s k) = u (ix3 0 s ⟨768 + k.val, by omega⟩) := by
  pointwise [part2]
theorem dGate_at (v g t) (s : Fin 4096) (k : Fin 512) : dGate v g t (ix3 0 s k) = v (ix3 0 s k) * t (ix3 0 s k) + g (ix3 0 s k) * v (ix3 0 s k) * (t (ix3 0 s k) * (1 - t (ix3 0 s k))) := by
  pointwise [dGate]

/-! ## The results in these steps -/

section
variable (x : FVec Ideal S1x4096x1024 .f32) (a : FVec Ideal S1x4096x256 .f32) (y g : FVec Ideal S1x4096x512 .f32) (d : FVec Ideal S1x4096x256 .f32)
  (w : FVec Ideal S1x1024x1024 .f32) (t : FVec Ideal S1x4096x1024 .f32)

abbrev silu : FVec Ideal S1x4096x512 .f32 := mulf g (sigmoid g)
abbrev wholeMix : FVec Ideal S1x4096x1024 .f32 := mixed a (mulf y (silu g)) d
abbrev wholeErr : FVec Ideal S1x4096x1024 .f32 := err x (wholeMix a y g d) (flatW w) t
abbrev wholeDm : FVec Ideal S1x4096x1024 .f32 := dMixed (dErr (wholeErr x a y g d w t)) (flatW w)
def rLoss : FVec Ideal S_ .f32 := loss (wholeErr x a y g d w t)
def rDx : FVec Ideal S1x4096x1024 .f32 := dErr (wholeErr x a y g d w t)
def rDma : FVec Ideal S1x4096x256 .f32 := part0 (wholeDm x a y g d w t)
def rDyb : FVec Ideal S1x4096x512 .f32 := mulf (part1 (wholeDm x a y g d w t)) (silu g)
def rDgb : FVec Ideal S1x4096x512 .f32 := dGate (mulf y (part1 (wholeDm x a y g d w t))) g (sigmoid g)
def rDmm : FVec Ideal S1x4096x256 .f32 := part2 (wholeDm x a y g d w t)
def rDw : FVec Ideal S1x1024x1024 .f32 := dWeight (dErr (wholeErr x a y g d w t)) (wholeMix a y g d)
end

variable (m : (ℓ : Loc nD τ sig) → Buf (Elt Ideal) ℓ)

abbrev aX (c : Dev nD) : FVec Ideal S1x4096x1024 .f32 := m ((c.tc : Thread nD τ).loc main_arg0)
abbrev aA (c : Dev nD) : FVec Ideal S1x4096x256 .f32 := m ((c.tc : Thread nD τ).loc main_arg1)
abbrev aY (c : Dev nD) : FVec Ideal S1x4096x512 .f32 := m ((c.tc : Thread nD τ).loc main_arg2)
abbrev aG (c : Dev nD) : FVec Ideal S1x4096x512 .f32 := m ((c.tc : Thread nD τ).loc main_arg3)
abbrev aM (c : Dev nD) : FVec Ideal S1x4096x256 .f32 := m ((c.tc : Thread nD τ).loc main_arg4)
abbrev aW (c : Dev nD) : FVec Ideal S1x1024x1024 .f32 := m ((c.tc : Thread nD τ).loc main_arg5)
abbrev aT (c : Dev nD) : FVec Ideal S1x4096x1024 .f32 := m ((c.tc : Thread nD τ).loc main_arg6)

/-- The reference runs to its end, leaves these results and its arguments unchanged. -/
theorem run_steps (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = rLoss (aX m c) (aA m c) (aY m c) (aG m c) (aM m c) (aW m c) (aT m c)
      ∧ r.2.mem ((c.tc : Thread nD τ).loc main_v20) = rDx (aX m c) (aA m c) (aY m c) (aG m c) (aM m c) (aW m c) (aT m c)
      ∧ r.2.mem ((c.tc : Thread nD τ).loc main_v25) = rDma (aX m c) (aA m c) (aY m c) (aG m c) (aM m c) (aW m c) (aT m c)
      ∧ r.2.mem ((c.tc : Thread nD τ).loc main_v29) = rDyb (aX m c) (aA m c) (aY m c) (aG m c) (aM m c) (aW m c) (aT m c)
      ∧ r.2.mem ((c.tc : Thread nD τ).loc main_v30) = rDgb (aX m c) (aA m c) (aY m c) (aG m c) (aM m c) (aW m c) (aT m c)
      ∧ r.2.mem ((c.tc : Thread nD τ).loc main_v27) = rDmm (aX m c) (aA m c) (aY m c) (aG m c) (aM m c) (aW m c) (aT m c)
      ∧ r.2.mem ((c.tc : Thread nD τ).loc main_v24) = rDw (aX m c) (aA m c) (aY m c) (aG m c) (aM m c) (aW m c) (aT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun r h c => ⟨(h c).1.trans rfl, (h c).2.1.trans rfl, (h c).2.2.1.trans rfl, (h c).2.2.2.1.trans rfl,
      (h c).2.2.2.2.1.trans (by unfold Cert.Reference2Ideal.Value.res_main_v30; rfl), (h c).2.2.2.2.2.1.trans rfl, (h c).2.2.2.2.2.2.1.trans rfl, (h c).2.2.2.2.2.2.2⟩)
    (Cert.Reference2Ideal.Value.run m ρ)

/-- It ends with its arguments unchanged and every counter at zero: it declares no semaphore. -/
theorem ends (g : Dev nD → PrngReg) :
    θ_run (defs (F := Ideal)) (onTc (τ := τ) (main (F := Ideal))) ⟨m, fun _ => 0, g⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
        ∧ r.2.sem = fun _ => 0) :=
  (θ_run defs _ _).mono (fun r h => ⟨fun c => (h c).2.2.2.2.2.2.2, sem_eq_zero_of_no_sems (by decide) r.2⟩) (Cert.Reference2Ideal.Value.run m g)

end Cert.Reference2Ideal.Plain
-- ==== Proof.Head.Payloads.lean ====
module

public import proofs.«01_k».proof.Proof.Gen.Kernel2Ideal.Skeleton
public import Idealize.ShloMosaic.Lib.Pipeline.Value
public import Idealize.ShloMosaic.Lib.Pointwise
public import Idealize.ShloMosaic.Lib.IdealHost
public import Idealize.ShloMosaic.Lib.WordCmp
public import Idealize.ShloMosaic.PureOps.Ideal

/-! # The loss head's tile, element by element

What one tile of 512 rows computes, from its blocks of the operands. -/

@[expose] public section

set_option maxRecDepth 16384

noncomputable section

namespace Cert.Kernel2Ideal.Head

open Idealize.ShloMosaic Idealize.ShloMosaic.TcCoe
open Cert.Kernel2Ideal Cert.Kernel2Ideal.Gen

/-- The constant 1/1024. -/
theorem thousandth : Ideal.ofBits .f32 981467136#32 = (((1 : ℝ) / 1024 : ℝ) : EReal) := by
  simp [Ideal.ofBits, Ideal.ieee, -EReal.coe_mul]; norm_num
/-- The constant one half. -/
theorem half : Ideal.ofBits .f32 1056964608#32 = (((1 : ℝ) / 2 : ℝ) : EReal) := by
  simp [Ideal.ofBits, Ideal.ieee, -EReal.coe_mul]; norm_num
/-- The constant one. -/
theorem one_word : Ideal.ofBits .f32 1065353216#32 = (1 : EReal) := by
  simp [Ideal.ofBits, Ideal.ieee, -EReal.coe_mul]; norm_num

/-- The logistic function. -/
def sg (x : EReal) : EReal := Ideal.div 1 (1 + Ideal.exp (0 - x))

section
variable (mix : Vec Ideal S512x1024 .bf16) (x t : Vec Ideal S512x1024 .f32) (w : Vec Ideal S1024x1024 .bf16)
  (err D : FVec Ideal S512x1024 .f32)

theorem err_at (r : Fin 512) (d : Fin 1024) :
    k0_pay7 mix x w t (ix2 r d) = x (ix2 r d) + (∑ e : Fin 1024, mix (ix2 r e) * w (ix2 e d)) - t (ix2 r d) := by
  pointwise [k0_pay7]

theorem dy_at (r : Fin 512) (d : Fin 1024) : k0_pay10 err (ix2 r d) = err (ix2 r d) * (((1 : ℝ) / 1024 : ℝ) : EReal) := by
  pointwise [k0_pay10]
  rw [thousandth]

theorem dmix_at (r : Fin 512) (e : Fin 1024) :
    k0_pay12 err w (ix2 r e) = ∑ d : Fin 1024, k0_pay10 err (ix2 r d) * w (ix2 e d) := by
  pointwise [k0_pay12, k0_pay11]

theorem dma_at (r : Fin 512) (e : Fin 256) : k0_pay13 err w (ix2 r e) = k0_pay12 err w (ix2 r ⟨e.val, by omega⟩) := by
  pointwise [k0_pay13]

theorem dmm_at (r : Fin 512) (e : Fin 256) : k0_pay14 err w (ix2 r e) = k0_pay12 err w (ix2 r ⟨768 + e.val, by omega⟩) := by
  pointwise [k0_pay14]

theorem dw_at (acc : Vec Ideal S1024x1024 .f32) (e d : Fin 1024) :
    k0_pay15 mix err acc (ix2 e d) = acc (ix2 e d) + ∑ r : Fin 512, mix (ix2 r e) * k0_pay10 err (ix2 r d) := by
  pointwise [k0_pay15, k0_pay11]

theorem dw_zero (e d : Fin 1024) : (k0_pay2 : FVec Ideal S1024x1024 .f32) (ix2 e d) = 0 := by
  pointwise [k0_pay2]

theorem rows_at (r : Fin 512) : k0_pay8 mix x w t (ix2 r (0 : Fin 1)) = ∑ d : Fin 1024, k0_pay7 mix x w t (ix2 r d) * k0_pay7 mix x w t (ix2 r d) := by
  pointwise [k0_pay8]

theorem loss_at (q : FVec Ideal S512x1 .f32) (acc : Vec Ideal S1x128 .f32) (l : Fin 128) :
    k0_pay9 q acc (ix2 (0 : Fin 1) l) = acc (ix2 (0 : Fin 1) l) + (((1 : ℝ) / 2 : ℝ) : EReal) * ∑ r : Fin 512, q (ix2 r (0 : Fin 1)) * (((1 : ℝ) / 1024 : ℝ) : EReal) := by
  pointwise [k0_pay9]
  rw [thousandth, half]

theorem loss_zero (l : Fin 128) : (k0_pay3 : FVec Ideal S1x128 .f32) (ix2 (0 : Fin 1) l) = 0 := by
  pointwise [k0_pay3]

end

/-! ## The gates' gradients, pair by pair -/

/-- The gate's gradient at one place, from the mix's gradient, the gate and the output. -/
def gateGrad (m g o : EReal) : EReal := m * o * (sg g * (1 + g * (1 - sg g)))
/-- The output's gradient at one place, from the mix's gradient and the gate. -/
def outGrad (m g : EReal) : EReal := m * (g * sg g)

section
variable (D : FVec Ideal S512x1024 .f32) (g o : Vec Ideal S512x128 .f32) (r : Fin 512) (l : Fin 128)

theorem gate0 : k0_pay23 D g o (ix2 r l) = gateGrad (D (ix2 r ⟨256 + l.val, by omega⟩)) (g (ix2 r l)) (o (ix2 r l)) := by
  unfold gateGrad sg
  pointwise [k0_pay23, k0_pay20, k0_pay21, k0_pay19, k0_pay18]
theorem gate1 : k0_pay35 D g o (ix2 r l) = gateGrad (D (ix2 r ⟨384 + l.val, by omega⟩)) (g (ix2 r l)) (o (ix2 r l)) := by
  unfold gateGrad sg
  pointwise [k0_pay35, k0_pay32, k0_pay33, k0_pay31, k0_pay30]
theorem gate2 : k0_pay49 (k0_pay42 g) (k0_pay46 D o) (k0_pay47 g) k0_pay48 (ix2 r l) = gateGrad (D (ix2 r ⟨512 + l.val, by omega⟩)) (g (ix2 r l)) (o (ix2 r l)) := by
  unfold gateGrad sg
  pointwise [k0_pay49, k0_pay46, k0_pay47, k0_pay48, k0_pay44, k0_pay43, k0_pay42, k0_pay41]

theorem out0 : k0_pay22 D g (ix2 r l) = outGrad (D (ix2 r ⟨256 + l.val, by omega⟩)) (g (ix2 r l)) := by
  unfold outGrad sg
  pointwise [k0_pay22, k0_pay20, k0_pay19, k0_pay18]
theorem out1 : k0_pay34 D g (ix2 r l) = outGrad (D (ix2 r ⟨384 + l.val, by omega⟩)) (g (ix2 r l)) := by
  unfold outGrad sg
  pointwise [k0_pay34, k0_pay32, k0_pay31, k0_pay30]
theorem out2 : k0_pay45 D g (ix2 r l) = outGrad (D (ix2 r ⟨512 + l.val, by omega⟩)) (g (ix2 r l)) := by
  unfold outGrad sg
  pointwise [k0_pay45, k0_pay43, k0_pay42, k0_pay41]
theorem gate3 : k0_pay58 D (k0_pay52 g) (k0_pay53 g) (Scalar.ofBits .f32 0x3F800000#32) o (ix2 r l) = gateGrad (D (ix2 r ⟨640 + l.val, by omega⟩)) (g (ix2 r l)) (o (ix2 r l)) := by
  unfold gateGrad sg
  pointwise [k0_pay58, k0_pay56, k0_pay55, k0_pay54, k0_pay53, k0_pay52]
theorem out3 : k0_pay57 D (k0_pay52 g) (k0_pay53 g) (Scalar.ofBits .f32 0x3F800000#32) (ix2 r l) = outGrad (D (ix2 r ⟨640 + l.val, by omega⟩)) (g (ix2 r l)) := by
  unfold outGrad sg
  pointwise [k0_pay57, k0_pay55, k0_pay54, k0_pay53, k0_pay52]
end

/-! ## The heads' blocks: the first 64 lanes -/

/-- The choice of the first 64 lanes. -/
theorem choose_low (l : Fin 128) (h : l.val < 64) (x y : EReal) :
    Scalar.select (IntOp.cmpi CmpIPredicate.slt (BitVec.ofNat 32 l.val) 64#32) x y = x := by
  have hc : IntOp.cmpi CmpIPredicate.slt (BitVec.ofNat 32 l.val) 64#32 = 1#1 := by
    word_cmp
  rw [hc]; rfl

section
variable (a y : FVec Ideal S512x128 .f32) (u : FVec Ideal S512x128 .bf16) (v : FVec Ideal S512x1024 .f32) (z : FVec Ideal S128x1024 .bf16)
  (r : Fin 512) (l : Fin 128) (h : l.val < 64)
include h

theorem low70 : k0_pay70 k0_pay16 a u v z (ix2 r l) = a (ix2 r l) := by
  pointwise [k0_pay70, k0_pay16]
  rw [choose_low l h]
theorem low71 : k0_pay71 k0_pay16 a u v z (ix2 r l) = a (ix2 r ⟨l.val + 64, by omega⟩) := by
  pointwise [k0_pay71, k0_pay16]
  rw [choose_low l h]
  exact congrArg (fun k => a (ix2 r k)) (Fin.ext (by show (l.val + 128 - 64) % 128 = l.val + 64; omega))
theorem low72 : k0_pay72 k0_pay16 a u v z (ix2 r l) = a (ix2 r l) := by
  pointwise [k0_pay72, k0_pay16]
  rw [choose_low l h]
theorem low73 : k0_pay73 k0_pay16 a u v z (ix2 r l) = a (ix2 r ⟨l.val + 64, by omega⟩) := by
  pointwise [k0_pay73, k0_pay16]
  rw [choose_low l h]
  exact congrArg (fun k => a (ix2 r k)) (Fin.ext (by show (l.val + 128 - 64) % 128 = l.val + 64; omega))
theorem low74 : k0_pay74 k0_pay16 a u v z (ix2 r l) = a (ix2 r l) := by
  pointwise [k0_pay74, k0_pay16]
  rw [choose_low l h]
theorem low75 : k0_pay75 k0_pay16 a u v z (ix2 r l) = a (ix2 r ⟨l.val + 64, by omega⟩) := by
  pointwise [k0_pay75, k0_pay16]
  rw [choose_low l h]
  exact congrArg (fun k => a (ix2 r k)) (Fin.ext (by show (l.val + 128 - 64) % 128 = l.val + 64; omega))
theorem low76 : k0_pay76 k0_pay16 a u v z (ix2 r l) = a (ix2 r l) := by
  pointwise [k0_pay76, k0_pay16]
  rw [choose_low l h]
theorem low1 : k0_pay1 k0_pay16 a y 64#32 (ix2 r l) = a (ix2 r ⟨l.val + 64, by omega⟩) := by
  pointwise [k0_pay1, k0_pay16]
  rw [choose_low l h]
  exact congrArg (fun k => a (ix2 r k)) (Fin.ext (by show (l.val + 128 - 64) % 128 = l.val + 64; omega))
end

end Cert.Kernel2Ideal.Head
-- ==== Proof.Head.Mix.lean ====
module

public import proofs.«01_k».proof.Proof.Gen.Kernel2Ideal.Skeleton
public import Idealize.ShloMosaic.Lib.Pipeline.ValueKit.Tiles
public import Idealize.ShloMosaic.Lib.Ring
public import Idealize.ShloMosaic.Lib.Tactic
public import proofs.«01_k».proof.Proof.Head.Payloads

/-! # The tile's operands side by side, and its stores read back -/

@[expose] public section

set_option maxRecDepth 16384

noncomputable section

namespace Cert.Kernel2Ideal.Head

open Idealize.ShloMosaic Idealize.ShloMosaic.TcCoe Idealize.SL.Sem
open Cert.Kernel2Ideal Cert.Kernel2Ideal.Gen

theorem hz2 : (![0, 0] : Fin 2 → Nat) = fun _ => 0 := by decide

/-- A load of a whole two-axis buffer. -/
theorem ld_zero {n k : Nat} {e : EltTy} (inb) (X : (⟨2, ![n, k]⟩ : Shape).Idx → Elt Ideal e) :
    View.ld X (Rect.unit (s := ⟨2, ![n, k]⟩) ![0, 0] ![n, k] inb) = X := View.ld_unit_zero hz2 inb X
/-- A store of a whole two-axis buffer, read back. -/
theorem readCov_zero {n k : Nat} {e : EltTy} (v : View sig .tc .vmem ⟨2, ![n, k]⟩ e) (inb) (X : (⟨2, ![n, k]⟩ : Shape).Idx → Elt Ideal e) :
    v.readCov (Val := Elt Ideal) [⟨Rect.unit (s := ⟨2, ![n, k]⟩) ![0, 0] ![n, k] inb, X⟩] (Rect.unit (s := ⟨2, ![n, k]⟩) ![0, 0] ![n, k] inb).toLoadRect = X :=
  View.readCov_unit_zero v hz2 inb X
/-- The last store of a whole two-axis buffer is what it holds. -/
theorem canon_zero {n k : Nat} {e : EltTy} (inb) (X : (⟨2, ![n, k]⟩ : Shape).Idx → Elt Ideal e) (L : List (View.Piece (Elt Ideal) ⟨2, ![n, k]⟩ e)) :
    View.canon ((⟨Rect.unit (s := ⟨2, ![n, k]⟩) ![0, 0] ![n, k] inb, X⟩ : View.Piece (Elt Ideal) ⟨2, ![n, k]⟩ e) :: L) = X :=
  View.canon_cons_unit_zero hz2 inb X L

/-- A piece of a two-axis buffer of 512 rows, at the place it holds. -/
theorem tile_at {C n c0 : Nat} {e : EltTy} (r : Fin 512) (k : Fin C) (w : (⟨2, ![512, n]⟩ : Shape).Idx → Elt Ideal e) (v : Elt Ideal e)
    (h : ∀ l : Fin n, k.val = c0 + l.val → w (ix2 r l) = v) :
    View.TileAt (S := ⟨2, ![512, C]⟩) (ix2 r k) ![0, c0] ![512, n] w v := by
  intro x hx
  have h0 : r.val = 0 + (x 0).val := hx 0
  have h1 : k.val = c0 + (x 1).val := hx 1
  have hx' : x = ix2 r (x 1) := by
    funext a
    apply Fin.ext
    match a with
    | ⟨0, _⟩ => exact (h0.trans (Nat.zero_add _)).symm
    | ⟨1, _⟩ => rfl
  rw [hx']
  exact h (x 1) h1

/-- A column of a load of 128 columns. -/
theorem load_at (X : Vec Ideal S512x512 .f32) (c0 : Nat) (inb) (r : Fin 512) (k : Fin 512) (l : Fin 128) (hk : k.val = c0 + l.val) :
    View.ld X (Rect.unit (s := S512x512) ![0, c0] ![512, 128] inb) (ix2 r l) = X (ix2 r k) := by
  refine View.ld_unit_apply_of X _ _ _ _ (ix2 r k) fun a => ?_
  match a with
  | ⟨0, _⟩ => exact (Nat.zero_add _).symm
  | ⟨1, _⟩ => exact hk

/-- The three operands of the projection, side by side. -/
def mixOf (x2 : Vec Ideal S512x256 .bf16) (x3 : Vec Ideal S512x512 .bf16) (x4 : Vec Ideal S512x256 .bf16) : Vec Ideal S512x1024 .bf16 := fun j =>
  if h : (j 1).val < 256 then x2 (ix2 (j 0) ⟨(j 1).val, h⟩)
  else if h' : (j 1).val < 768 then x3 (ix2 (j 0) ⟨(j 1).val - 256, by omega⟩)
  else x4 (ix2 (j 0) ⟨(j 1).val - 768, by have : (j 1).val < 1024 := (j 1).isLt; omega⟩)

theorem mix_low (x2 x3 x4) (r : Fin 512) (k : Fin 1024) (l : Fin 256) (hk : k.val = 0 + l.val) : mixOf x2 x3 x4 (ix2 r k) = x2 (ix2 r l) := by
  have h : k.val < 256 := by omega
  refine (dif_pos h).trans ?_
  exact congrArg (fun z => x2 (ix2 r z)) (Fin.ext (hk.trans (Nat.zero_add _)))
theorem mix_mid (x2 x3 x4) (r : Fin 512) (k : Fin 1024) (l : Fin 512) (hk : k.val = 256 + l.val) : mixOf x2 x3 x4 (ix2 r k) = x3 (ix2 r l) := by
  have h : ¬ k.val < 256 := by omega
  have h' : k.val < 768 := by omega
  refine (dif_neg h).trans ((dif_pos h').trans ?_)
  exact congrArg (fun z => x3 (ix2 r z)) (Fin.ext (by show k.val - 256 = l.val; omega))
theorem mix_high (x2 x3 x4) (r : Fin 512) (k : Fin 1024) (l : Fin 256) (hk : k.val = 768 + l.val) : mixOf x2 x3 x4 (ix2 r k) = x4 (ix2 r l) := by
  have h : ¬ k.val < 256 := by omega
  have h' : ¬ k.val < 768 := by omega
  refine (dif_neg h).trans ((dif_neg h').trans ?_)
  exact congrArg (fun z => x4 (ix2 r z)) (Fin.ext (by show k.val - 768 = l.val; omega))

/-- The three stores into the scratch, read back. -/
theorem mix_read (v : View sig .tc .vmem S512x1024 .bf16) (x2 : Vec Ideal S512x256 .bf16) (x3 : Vec Ideal S512x512 .bf16) (x4 : Vec Ideal S512x256 .bf16) :
    v.readCov (Val := Elt Ideal) [⟨Rect.unit ![0, 768] ![512, 256] inb_S512x1024_S512x256_0_768, k0_pay6 x4⟩,
      ⟨Rect.unit ![0, 256] ![512, 512] inb_S512x1024_S512x512_0_256, k0_pay5 x3⟩,
      ⟨Rect.unit ![0, 0] ![512, 256] inb_S512x1024_S512x256_0_0, k0_pay4 x2⟩]
      (Rect.unit ![0, 0] ![512, 1024] inb_S512x1024_S512x1024_0_0).toLoadRect = mixOf x2 x3 x4 := by
  have hc := View.cover_of_tiledBy (Val := Elt Ideal) (s := S512x1024) (e := .bf16) [⟨Rect.unit ![0, 768] ![512, 256] inb_S512x1024_S512x256_0_768, k0_pay6 x4⟩,
      ⟨Rect.unit ![0, 256] ![512, 512] inb_S512x1024_S512x512_0_256, k0_pay5 x3⟩,
      ⟨Rect.unit ![0, 0] ![512, 256] inb_S512x1024_S512x256_0_0, k0_pay4 x2⟩] ![512, 256] (by sl_kernel_rfl)
  refine (View.readCov_eq_canon_ld v _ _ hc).trans ((View.ld_unit_zero hz2 _ _).trans ?_)
  funext y
  obtain ⟨r, k, rfl⟩ : ∃ (r : Fin 512) (k : Fin 1024), y = ix2 r k := ⟨y 0, y 1, by funext a; match a with | ⟨0, _⟩ => rfl | ⟨1, _⟩ => rfl⟩
  refine View.canon_eq_of_allAt _ _ _ (hc _) ?_
  refine View.allAt_cons_unit _ _ _ _ _ (tile_at r k _ _ fun l hl => ?_) ?_
  · rw [mix_high x2 x3 x4 r k l hl]
    unfold k0_pay6
    simp only [shapeCast_self]
  refine View.allAt_cons_unit _ _ _ _ _ (tile_at r k _ _ fun l hl => ?_) ?_
  · rw [mix_mid x2 x3 x4 r k l hl]
    unfold k0_pay5
    simp only [shapeCast_self]
  refine View.allAt_cons_unit _ _ _ _ _ (tile_at r k _ _ fun l hl => ?_) (View.allAt_nil _ _)
  · rw [mix_low x2 x3 x4 r k l hl]
    unfold k0_pay4
    simp only [shapeCast_self]

/-- The tile's errors. -/
def errOf (x0 x1 : Vec Ideal S512x1024 .f32) (x2 : Vec Ideal S512x256 .bf16) (x3 : Vec Ideal S512x512 .bf16) (x4 : Vec Ideal S512x256 .bf16)
    (x5 : Vec Ideal S1024x1024 .bf16) : FVec Ideal S512x1024 .f32 := k0_pay7 (mixOf x2 x3 x4) x0 x5 x1

end Cert.Kernel2Ideal.Head
-- ==== Proof.Head.First.lean ====
module

public import proofs.«01_k».proof.Proof.Gen.Kernel2Ideal.Frame
public import proofs.«01_k».proof.Proof.Head.Mix

/-! # What the first tile leaves in the outputs' buffers -/

@[expose] public section

set_option maxRecDepth 16384

noncomputable section

namespace Cert.Kernel2Ideal.Head

open Idealize.ShloMosaic Idealize.ShloMosaic.TcCoe Idealize.SL.Sem
open Cert.Kernel2Ideal Cert.Kernel2Ideal.Gen

variable (c : Dev nD) (i : grid0.Coords)
  (a1 : Memref sig .tc .vmem S512x1024 .f32) (h1 : a1.IsWhole)
  (a2 : Memref sig .tc .vmem S512x1024 .f32) (h2 : a2.IsWhole)
  (a3 : Memref sig .tc .vmem S512x256 .bf16) (h3 : a3.IsWhole)
  (a4 : Memref sig .tc .vmem S512x512 .bf16) (h4 : a4.IsWhole)
  (a5 : Memref sig .tc .vmem S512x256 .bf16) (h5 : a5.IsWhole)
  (a6 : Memref sig .tc .vmem S1024x1024 .bf16) (h6 : a6.IsWhole)
  (a7 : Memref sig .tc .vmem S512x512 .f32) (h7 : a7.IsWhole)
  (a8 : Memref sig .tc .vmem S512x512 .f32) (h8 : a8.IsWhole)
  (a9 : Memref sig .tc .vmem S4x512x128 .f32) (h9 : a9.IsWhole)
  (a10 : Memref sig .tc .vmem S512x1024 .f32) (h10 : a10.IsWhole)
  (a11 : Memref sig .tc .vmem S512x256 .f32) (h11 : a11.IsWhole)
  (a12 : Memref sig .tc .vmem S512x256 .f32) (h12 : a12.IsWhole)
  (a13 : Memref sig .tc .vmem S1024x1024 .f32) (h13 : a13.IsWhole)
  (a14 : Memref sig .tc .vmem S1x128 .f32) (h14 : a14.IsWhole)
  (a15 : Memref sig .tc .vmem S512x1024 .bf16) (h15 : a15.IsWhole)
  (a16 : Memref sig .tc .vmem S512x512 .bf16) (h16 : a16.IsWhole)
  (a17 : Memref sig .tc .vmem S4x1x8x512 .f32) (h17 : a17.IsWhole)
  (a18 : Memref sig .tc .vmem S512x1024 .bf16) (h18 : a18.IsWhole)
  (hc : cond0_0 i)
  (x0 : Vec Ideal S512x1024 .f32) (x1 : Vec Ideal S512x1024 .f32) (x2 : Vec Ideal S512x256 .bf16) (x3 : Vec Ideal S512x512 .bf16) (x4 : Vec Ideal S512x256 .bf16) (x5 : Vec Ideal S1024x1024 .bf16) (x6 : Vec Ideal S512x512 .f32) (x7 : Vec Ideal S512x512 .f32) (x8 : Vec Ideal S4x512x128 .f32)

theorem oA9 : out0_A_9 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 = k0_pay10 (errOf x0 x1 x2 x3 x4 x5) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread, h13.read_unread, h14.read_unread,
    ld_zero, mix_read, readCov_zero, canon_zero]
  try rfl

theorem oA10 : out0_A_10 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 = k0_pay13 (errOf x0 x1 x2 x3 x4 x5) x5 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread, h13.read_unread, h14.read_unread,
    ld_zero, mix_read, readCov_zero, canon_zero]
  try rfl

theorem oA11 : out0_A_11 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 = k0_pay14 (errOf x0 x1 x2 x3 x4 x5) x5 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread, h13.read_unread, h14.read_unread,
    ld_zero, mix_read, readCov_zero, canon_zero]
  try rfl

theorem oA12 : out0_A_12 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 = k0_pay15 (mixOf x2 x3 x4) (errOf x0 x1 x2 x3 x4 x5) (k0_pay2 : FVec Ideal S1024x1024 .f32) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread, h13.read_unread, h14.read_unread,
    ld_zero, mix_read, readCov_zero, canon_zero]
  try rfl

theorem oA13 : out0_A_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 = k0_pay9 (k0_pay8 (mixOf x2 x3 x4) x0 x5 x1) (k0_pay3 : FVec Ideal S1x128 .f32) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread, h13.read_unread, h14.read_unread,
    ld_zero, mix_read, readCov_zero, canon_zero]
  try rfl

theorem oA15 (r k : Fin 512) : out0_A_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 (ix2 r k)
    = gateGrad ((k0_pay12 (errOf x0 x1 x2 x3 x4 x5) x5) (ix2 r ⟨256 + k.val, by omega⟩)) (x6 (ix2 r k)) (x7 (ix2 r k)) := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8)]
  refine View.canon_eq_of_allAt _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 _) ?_
  unfold kernelRun0_A
  dsimp only
  sl_unfold_words
  simp only [View.readAt_eq_ld, h1.read_unread, h2.read_unread, h3.read_unread, h4.read_unread, h5.read_unread, h6.read_unread, h7.read_unread, h8.read_unread, h9.read_unread, h13.read_unread, h14.read_unread,
    ld_zero, mix_read, readCov_zero]
  refine View.allAt_cons_unit _ _ _ _ _ (tile_at r k _ _ fun l hl => ?_) ?_
  · refine (gate3 (k0_pay12 (errOf x0 x1 x2 x3 x4 x5) x5) _ _ r l).trans ?_
    rw [load_at x6 384 _ r k l hl, load_at x7 384 _ r k l hl]
    exact congrArg (fun z => gateGrad ((k0_pay12 (errOf x0 x1 x2 x3 x4 x5) x5) (ix2 r z)) _ _) (Fin.ext (by show 640 + l.val = 256 + k.val; omega))
  refine View.allAt_cons_unit _ _ _ _ _ (tile_at r k _ _ fun l hl => ?_) ?_
  · refine (gate2 (k0_pay12 (errOf x0 x1 x2 x3 x4 x5) x5) _ _ r l).trans ?_
    rw [load_at x6 256 _ r k l hl, load_at x7 256 _ r k l hl]
    exact congrArg (fun z => gateGrad ((k0_pay12 (errOf x0 x1 x2 x3 x4 x5) x5) (ix2 r z)) _ _) (Fin.ext (by show 512 + l.val = 256 + k.val; omega))
  refine View.allAt_cons_unit _ _ _ _ _ (tile_at r k _ _ fun l hl => ?_) ?_
  · refine (gate1 (k0_pay12 (errOf x0 x1 x2 x3 x4 x5) x5) _ _ r l).trans ?_
    rw [load_at x6 128 _ r k l hl, load_at x7 128 _ r k l hl]
    exact congrArg (fun z => gateGrad ((k0_pay12 (errOf x0 x1 x2 x3 x4 x5) x5) (ix2 r z)) _ _) (Fin.ext (by show 384 + l.val = 256 + k.val; omega))
  refine View.allAt_cons_unit _ _ _ _ _ (tile_at r k _ _ fun l hl => ?_) ?_
  · refine (gate0 (k0_pay12 (errOf x0 x1 x2 x3 x4 x5) x5) _ _ r l).trans ?_
    rw [load_at x6 0 _ r k l hl, load_at x7 0 _ r k l hl]
    exact congrArg (fun z => gateGrad ((k0_pay12 (errOf x0 x1 x2 x3 x4 x5) x5) (ix2 r z)) _ _) (Fin.ext (by show 256 + l.val = 256 + k.val; omega))
  exact View.allAt_nil _ _

theorem oA14 (r : Fin 512) (k : Fin 1024) (n : Fin 512) (hn : n.val = k.val / 128 * 64 + k.val % 128) (hk : k.val % 128 < 64) : out0_A_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 (ix2 r k)
    = outGrad ((k0_pay12 (errOf x0 x1 x2 x3 x4 x5) x5) (ix2 r ⟨256 + n.val, by omega⟩)) (x6 (ix2 r n)) := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8)]
  refine View.canon_eq_of_allAt _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 _) ?_
  unfold kernelRun0_A
  dsimp only
  sl_unfold_words
  simp only [View.readAt_eq_ld, h1.read_unread, h2.read_unread, h3.read_unread, h4.read_unread, h5.read_unread, h6.read_unread, h7.read_unread, h8.read_unread, h9.read_unread, h13.read_unread, h14.read_unread,
    ld_zero, mix_read, readCov_zero]
  refine View.allAt_cons_unit _ _ _ _ _ (tile_at r k _ _ fun l hl => ?_) ?_
  · have hl64 : l.val < 64 := by omega
    refine (low1 _ _ r l hl64).trans ((out3 (k0_pay12 (errOf x0 x1 x2 x3 x4 x5) x5) _ r ⟨l.val + 64, by omega⟩).trans ?_)
    rw [load_at x6 384 _ r n ⟨l.val + 64, by omega⟩ (by show n.val = 384 + (l.val + 64); omega)]
    exact congrArg (fun z => outGrad ((k0_pay12 (errOf x0 x1 x2 x3 x4 x5) x5) (ix2 r z)) _) (Fin.ext (by show 640 + (l.val + 64) = 256 + n.val; omega))
  refine View.allAt_cons_unit _ _ _ _ _ (tile_at r k _ _ fun l hl => ?_) ?_
  · have hl64 : l.val < 64 := by omega
    refine (low76 _ _ _ _ r l hl64).trans ((out3 (k0_pay12 (errOf x0 x1 x2 x3 x4 x5) x5) _ r l).trans ?_)
    rw [load_at x6 384 _ r n l (by show n.val = 384 + l.val; omega)]
    exact congrArg (fun z => outGrad ((k0_pay12 (errOf x0 x1 x2 x3 x4 x5) x5) (ix2 r z)) _) (Fin.ext (by show 640 + l.val = 256 + n.val; omega))
  refine View.allAt_cons_unit _ _ _ _ _ (tile_at r k _ _ fun l hl => ?_) ?_
  · have hl64 : l.val < 64 := by omega
    refine (low75 _ _ _ _ r l hl64).trans ((out2 (k0_pay12 (errOf x0 x1 x2 x3 x4 x5) x5) _ r ⟨l.val + 64, by omega⟩).trans ?_)
    rw [load_at x6 256 _ r n ⟨l.val + 64, by omega⟩ (by show n.val = 256 + (l.val + 64); omega)]
    exact congrArg (fun z => outGrad ((k0_pay12 (errOf x0 x1 x2 x3 x4 x5) x5) (ix2 r z)) _) (Fin.ext (by show 512 + (l.val + 64) = 256 + n.val; omega))
  refine View.allAt_cons_unit _ _ _ _ _ (tile_at r k _ _ fun l hl => ?_) ?_
  · have hl64 : l.val < 64 := by omega
    refine (low74 _ _ _ _ r l hl64).trans ((out2 (k0_pay12 (errOf x0 x1 x2 x3 x4 x5) x5) _ r l).trans ?_)
    rw [load_at x6 256 _ r n l (by show n.val = 256 + l.val; omega)]
    exact congrArg (fun z => outGrad ((k0_pay12 (errOf x0 x1 x2 x3 x4 x5) x5) (ix2 r z)) _) (Fin.ext (by show 512 + l.val = 256 + n.val; omega))
  refine View.allAt_cons_unit _ _ _ _ _ (tile_at r k _ _ fun l hl => ?_) ?_
  · have hl64 : l.val < 64 := by omega
    refine (low73 _ _ _ _ r l hl64).trans ((out1 (k0_pay12 (errOf x0 x1 x2 x3 x4 x5) x5) _ r ⟨l.val + 64, by omega⟩).trans ?_)
    rw [load_at x6 128 _ r n ⟨l.val + 64, by omega⟩ (by show n.val = 128 + (l.val + 64); omega)]
    exact congrArg (fun z => outGrad ((k0_pay12 (errOf x0 x1 x2 x3 x4 x5) x5) (ix2 r z)) _) (Fin.ext (by show 384 + (l.val + 64) = 256 + n.val; omega))
  refine View.allAt_cons_unit _ _ _ _ _ (tile_at r k _ _ fun l hl => ?_) ?_
  · have hl64 : l.val < 64 := by omega
    refine (low72 _ _ _ _ r l hl64).trans ((out1 (k0_pay12 (errOf x0 x1 x2 x3 x4 x5) x5) _ r l).trans ?_)
    rw [load_at x6 128 _ r n l (by show n.val = 128 + l.val; omega)]
    exact congrArg (fun z => outGrad ((k0_pay12 (errOf x0 x1 x2 x3 x4 x5) x5) (ix2 r z)) _) (Fin.ext (by show 384 + l.val = 256 + n.val; omega))
  refine View.allAt_cons_unit _ _ _ _ _ (tile_at r k _ _ fun l hl => ?_) ?_
  · have hl64 : l.val < 64 := by omega
    refine (low71 _ _ _ _ r l hl64).trans ((out0 (k0_pay12 (errOf x0 x1 x2 x3 x4 x5) x5) _ r ⟨l.val + 64, by omega⟩).trans ?_)
    rw [load_at x6 0 _ r n ⟨l.val + 64, by omega⟩ (by show n.val = 0 + (l.val + 64); omega)]
    exact congrArg (fun z => outGrad ((k0_pay12 (errOf x0 x1 x2 x3 x4 x5) x5) (ix2 r z)) _) (Fin.ext (by show 256 + (l.val + 64) = 256 + n.val; omega))
  refine View.allAt_cons_unit _ _ _ _ _ (tile_at r k _ _ fun l hl => ?_) ?_
  · have hl64 : l.val < 64 := by omega
    refine (low70 _ _ _ _ r l hl64).trans ((out0 (k0_pay12 (errOf x0 x1 x2 x3 x4 x5) x5) _ r l).trans ?_)
    rw [load_at x6 0 _ r n l (by show n.val = 0 + l.val; omega)]
    exact congrArg (fun z => outGrad ((k0_pay12 (errOf x0 x1 x2 x3 x4 x5) x5) (ix2 r z)) _) (Fin.ext (by show 256 + l.val = 256 + n.val; omega))
  exact View.allAt_nil _ _

end Cert.Kernel2Ideal.Head
-- ==== Proof.Head.Later.lean ====
module

public import proofs.«01_k».proof.Proof.Gen.Kernel2Ideal.Frame
public import proofs.«01_k».proof.Proof.Head.Mix

/-! # What the later tiles leave in the outputs' buffers -/

@[expose] public section

set_option maxRecDepth 16384

noncomputable section

namespace Cert.Kernel2Ideal.Head

open Idealize.ShloMosaic Idealize.ShloMosaic.TcCoe Idealize.SL.Sem
open Cert.Kernel2Ideal Cert.Kernel2Ideal.Gen

variable (c : Dev nD) (i : grid0.Coords)
  (a1 : Memref sig .tc .vmem S512x1024 .f32) (h1 : a1.IsWhole)
  (a2 : Memref sig .tc .vmem S512x1024 .f32) (h2 : a2.IsWhole)
  (a3 : Memref sig .tc .vmem S512x256 .bf16) (h3 : a3.IsWhole)
  (a4 : Memref sig .tc .vmem S512x512 .bf16) (h4 : a4.IsWhole)
  (a5 : Memref sig .tc .vmem S512x256 .bf16) (h5 : a5.IsWhole)
  (a6 : Memref sig .tc .vmem S1024x1024 .bf16) (h6 : a6.IsWhole)
  (a7 : Memref sig .tc .vmem S512x512 .f32) (h7 : a7.IsWhole)
  (a8 : Memref sig .tc .vmem S512x512 .f32) (h8 : a8.IsWhole)
  (a9 : Memref sig .tc .vmem S4x512x128 .f32) (h9 : a9.IsWhole)
  (a10 : Memref sig .tc .vmem S512x1024 .f32) (h10 : a10.IsWhole)
  (a11 : Memref sig .tc .vmem S512x256 .f32) (h11 : a11.IsWhole)
  (a12 : Memref sig .tc .vmem S512x256 .f32) (h12 : a12.IsWhole)
  (a13 : Memref sig .tc .vmem S1024x1024 .f32) (h13 : a13.IsWhole)
  (a14 : Memref sig .tc .vmem S1x128 .f32) (h14 : a14.IsWhole)
  (a15 : Memref sig .tc .vmem S512x1024 .bf16) (h15 : a15.IsWhole)
  (a16 : Memref sig .tc .vmem S512x512 .bf16) (h16 : a16.IsWhole)
  (a17 : Memref sig .tc .vmem S4x1x8x512 .f32) (h17 : a17.IsWhole)
  (a18 : Memref sig .tc .vmem S512x1024 .bf16) (h18 : a18.IsWhole)
  (hc : ¬cond0_0 i)
  (x0 : Vec Ideal S512x1024 .f32) (x1 : Vec Ideal S512x1024 .f32) (x2 : Vec Ideal S512x256 .bf16) (x3 : Vec Ideal S512x512 .bf16) (x4 : Vec Ideal S512x256 .bf16) (x5 : Vec Ideal S1024x1024 .bf16) (x6 : Vec Ideal S512x512 .f32) (x7 : Vec Ideal S512x512 .f32) (x8 : Vec Ideal S4x512x128 .f32) (y12 : Vec Ideal S1024x1024 .f32) (y13 : Vec Ideal S1x128 .f32)

theorem oB9 : out0_B_9 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 y12 y13 = k0_pay10 (errOf x0 x1 x2 x3 x4 x5) := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 y12 y13)]
  unfold kernelRun0_B
  dsimp only
  sl_unfold_words
  simp only [View.readAt_eq_ld, h1.read_unread, h2.read_unread, h3.read_unread, h4.read_unread, h5.read_unread, h6.read_unread, h7.read_unread, h8.read_unread, h9.read_unread, h13.read_unread, h14.read_unread,
    ld_zero, mix_read, readCov_zero, canon_zero]
  try rfl

theorem oB10 : out0_B_10 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 y12 y13 = k0_pay13 (errOf x0 x1 x2 x3 x4 x5) x5 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 y12 y13)]
  unfold kernelRun0_B
  dsimp only
  sl_unfold_words
  simp only [View.readAt_eq_ld, h1.read_unread, h2.read_unread, h3.read_unread, h4.read_unread, h5.read_unread, h6.read_unread, h7.read_unread, h8.read_unread, h9.read_unread, h13.read_unread, h14.read_unread,
    ld_zero, mix_read, readCov_zero, canon_zero]
  try rfl

theorem oB11 : out0_B_11 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 y12 y13 = k0_pay14 (errOf x0 x1 x2 x3 x4 x5) x5 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 y12 y13)]
  unfold kernelRun0_B
  dsimp only
  sl_unfold_words
  simp only [View.readAt_eq_ld, h1.read_unread, h2.read_unread, h3.read_unread, h4.read_unread, h5.read_unread, h6.read_unread, h7.read_unread, h8.read_unread, h9.read_unread, h13.read_unread, h14.read_unread,
    ld_zero, mix_read, readCov_zero, canon_zero]
  try rfl

theorem oB12 : out0_B_12 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 y12 y13 = k0_pay15 (mixOf x2 x3 x4) (errOf x0 x1 x2 x3 x4 x5) y12 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 y12 y13)]
  unfold kernelRun0_B
  dsimp only
  sl_unfold_words
  simp only [View.readAt_eq_ld, h1.read_unread, h2.read_unread, h3.read_unread, h4.read_unread, h5.read_unread, h6.read_unread, h7.read_unread, h8.read_unread, h9.read_unread, h13.read_unread, h14.read_unread,
    ld_zero, mix_read, readCov_zero, canon_zero]
  try rfl

theorem oB13 : out0_B_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 y12 y13 = k0_pay9 (k0_pay8 (mixOf x2 x3 x4) x0 x5 x1) y13 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 y12 y13)]
  unfold kernelRun0_B
  dsimp only
  sl_unfold_words
  simp only [View.readAt_eq_ld, h1.read_unread, h2.read_unread, h3.read_unread, h4.read_unread, h5.read_unread, h6.read_unread, h7.read_unread, h8.read_unread, h9.read_unread, h13.read_unread, h14.read_unread,
    ld_zero, mix_read, readCov_zero, canon_zero]
  try rfl

theorem oB15 (r k : Fin 512) : out0_B_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 y12 y13 (ix2 r k)
    = gateGrad ((k0_pay12 (errOf x0 x1 x2 x3 x4 x5) x5) (ix2 r ⟨256 + k.val, by omega⟩)) (x6 (ix2 r k)) (x7 (ix2 r k)) := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 y12 y13)]
  refine View.canon_eq_of_allAt _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 y12 y13 _) ?_
  unfold kernelRun0_B
  dsimp only
  sl_unfold_words
  simp only [View.readAt_eq_ld, h1.read_unread, h2.read_unread, h3.read_unread, h4.read_unread, h5.read_unread, h6.read_unread, h7.read_unread, h8.read_unread, h9.read_unread, h13.read_unread, h14.read_unread,
    ld_zero, mix_read, readCov_zero]
  refine View.allAt_cons_unit _ _ _ _ _ (tile_at r k _ _ fun l hl => ?_) ?_
  · refine (gate3 (k0_pay12 (errOf x0 x1 x2 x3 x4 x5) x5) _ _ r l).trans ?_
    rw [load_at x6 384 _ r k l hl, load_at x7 384 _ r k l hl]
    exact congrArg (fun z => gateGrad ((k0_pay12 (errOf x0 x1 x2 x3 x4 x5) x5) (ix2 r z)) _ _) (Fin.ext (by show 640 + l.val = 256 + k.val; omega))
  refine View.allAt_cons_unit _ _ _ _ _ (tile_at r k _ _ fun l hl => ?_) ?_
  · refine (gate2 (k0_pay12 (errOf x0 x1 x2 x3 x4 x5) x5) _ _ r l).trans ?_
    rw [load_at x6 256 _ r k l hl, load_at x7 256 _ r k l hl]
    exact congrArg (fun z => gateGrad ((k0_pay12 (errOf x0 x1 x2 x3 x4 x5) x5) (ix2 r z)) _ _) (Fin.ext (by show 512 + l.val = 256 + k.val; omega))
  refine View.allAt_cons_unit _ _ _ _ _ (tile_at r k _ _ fun l hl => ?_) ?_
  · refine (gate1 (k0_pay12 (errOf x0 x1 x2 x3 x4 x5) x5) _ _ r l).trans ?_
    rw [load_at x6 128 _ r k l hl, load_at x7 128 _ r k l hl]
    exact congrArg (fun z => gateGrad ((k0_pay12 (errOf x0 x1 x2 x3 x4 x5) x5) (ix2 r z)) _ _) (Fin.ext (by show 384 + l.val = 256 + k.val; omega))
  refine View.allAt_cons_unit _ _ _ _ _ (tile_at r k _ _ fun l hl => ?_) ?_
  · refine (gate0 (k0_pay12 (errOf x0 x1 x2 x3 x4 x5) x5) _ _ r l).trans ?_
    rw [load_at x6 0 _ r k l hl, load_at x7 0 _ r k l hl]
    exact congrArg (fun z => gateGrad ((k0_pay12 (errOf x0 x1 x2 x3 x4 x5) x5) (ix2 r z)) _ _) (Fin.ext (by show 256 + l.val = 256 + k.val; omega))
  exact View.allAt_nil _ _

theorem oB14 (r : Fin 512) (k : Fin 1024) (n : Fin 512) (hn : n.val = k.val / 128 * 64 + k.val % 128) (hk : k.val % 128 < 64) : out0_B_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 y12 y13 (ix2 r k)
    = outGrad ((k0_pay12 (errOf x0 x1 x2 x3 x4 x5) x5) (ix2 r ⟨256 + n.val, by omega⟩)) (x6 (ix2 r n)) := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 y12 y13)]
  refine View.canon_eq_of_allAt _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 y12 y13 _) ?_
  unfold kernelRun0_B
  dsimp only
  sl_unfold_words
  simp only [View.readAt_eq_ld, h1.read_unread, h2.read_unread, h3.read_unread, h4.read_unread, h5.read_unread, h6.read_unread, h7.read_unread, h8.read_unread, h9.read_unread, h13.read_unread, h14.read_unread,
    ld_zero, mix_read, readCov_zero]
  refine View.allAt_cons_unit _ _ _ _ _ (tile_at r k _ _ fun l hl => ?_) ?_
  · have hl64 : l.val < 64 := by omega
    refine (low1 _ _ r l hl64).trans ((out3 (k0_pay12 (errOf x0 x1 x2 x3 x4 x5) x5) _ r ⟨l.val + 64, by omega⟩).trans ?_)
    rw [load_at x6 384 _ r n ⟨l.val + 64, by omega⟩ (by show n.val = 384 + (l.val + 64); omega)]
    exact congrArg (fun z => outGrad ((k0_pay12 (errOf x0 x1 x2 x3 x4 x5) x5) (ix2 r z)) _) (Fin.ext (by show 640 + (l.val + 64) = 256 + n.val; omega))
  refine View.allAt_cons_unit _ _ _ _ _ (tile_at r k _ _ fun l hl => ?_) ?_
  · have hl64 : l.val < 64 := by omega
    refine (low76 _ _ _ _ r l hl64).trans ((out3 (k0_pay12 (errOf x0 x1 x2 x3 x4 x5) x5) _ r l).trans ?_)
    rw [load_at x6 384 _ r n l (by show n.val = 384 + l.val; omega)]
    exact congrArg (fun z => outGrad ((k0_pay12 (errOf x0 x1 x2 x3 x4 x5) x5) (ix2 r z)) _) (Fin.ext (by show 640 + l.val = 256 + n.val; omega))
  refine View.allAt_cons_unit _ _ _ _ _ (tile_at r k _ _ fun l hl => ?_) ?_
  · have hl64 : l.val < 64 := by omega
    refine (low75 _ _ _ _ r l hl64).trans ((out2 (k0_pay12 (errOf x0 x1 x2 x3 x4 x5) x5) _ r ⟨l.val + 64, by omega⟩).trans ?_)
    rw [load_at x6 256 _ r n ⟨l.val + 64, by omega⟩ (by show n.val = 256 + (l.val + 64); omega)]
    exact congrArg (fun z => outGrad ((k0_pay12 (errOf x0 x1 x2 x3 x4 x5) x5) (ix2 r z)) _) (Fin.ext (by show 512 + (l.val + 64) = 256 + n.val; omega))
  refine View.allAt_cons_unit _ _ _ _ _ (tile_at r k _ _ fun l hl => ?_) ?_
  · have hl64 : l.val < 64 := by omega
    refine (low74 _ _ _ _ r l hl64).trans ((out2 (k0_pay12 (errOf x0 x1 x2 x3 x4 x5) x5) _ r l).trans ?_)
    rw [load_at x6 256 _ r n l (by show n.val = 256 + l.val; omega)]
    exact congrArg (fun z => outGrad ((k0_pay12 (errOf x0 x1 x2 x3 x4 x5) x5) (ix2 r z)) _) (Fin.ext (by show 512 + l.val = 256 + n.val; omega))
  refine View.allAt_cons_unit _ _ _ _ _ (tile_at r k _ _ fun l hl => ?_) ?_
  · have hl64 : l.val < 64 := by omega
    refine (low73 _ _ _ _ r l hl64).trans ((out1 (k0_pay12 (errOf x0 x1 x2 x3 x4 x5) x5) _ r ⟨l.val + 64, by omega⟩).trans ?_)
    rw [load_at x6 128 _ r n ⟨l.val + 64, by omega⟩ (by show n.val = 128 + (l.val + 64); omega)]
    exact congrArg (fun z => outGrad ((k0_pay12 (errOf x0 x1 x2 x3 x4 x5) x5) (ix2 r z)) _) (Fin.ext (by show 384 + (l.val + 64) = 256 + n.val; omega))
  refine View.allAt_cons_unit _ _ _ _ _ (tile_at r k _ _ fun l hl => ?_) ?_
  · have hl64 : l.val < 64 := by omega
    refine (low72 _ _ _ _ r l hl64).trans ((out1 (k0_pay12 (errOf x0 x1 x2 x3 x4 x5) x5) _ r l).trans ?_)
    rw [load_at x6 128 _ r n l (by show n.val = 128 + l.val; omega)]
    exact congrArg (fun z => outGrad ((k0_pay12 (errOf x0 x1 x2 x3 x4 x5) x5) (ix2 r z)) _) (Fin.ext (by show 384 + l.val = 256 + n.val; omega))
  refine View.allAt_cons_unit _ _ _ _ _ (tile_at r k _ _ fun l hl => ?_) ?_
  · have hl64 : l.val < 64 := by omega
    refine (low71 _ _ _ _ r l hl64).trans ((out0 (k0_pay12 (errOf x0 x1 x2 x3 x4 x5) x5) _ r ⟨l.val + 64, by omega⟩).trans ?_)
    rw [load_at x6 0 _ r n ⟨l.val + 64, by omega⟩ (by show n.val = 0 + (l.val + 64); omega)]
    exact congrArg (fun z => outGrad ((k0_pay12 (errOf x0 x1 x2 x3 x4 x5) x5) (ix2 r z)) _) (Fin.ext (by show 256 + (l.val + 64) = 256 + n.val; omega))
  refine View.allAt_cons_unit _ _ _ _ _ (tile_at r k _ _ fun l hl => ?_) ?_
  · have hl64 : l.val < 64 := by omega
    refine (low70 _ _ _ _ r l hl64).trans ((out0 (k0_pay12 (errOf x0 x1 x2 x3 x4 x5) x5) _ r l).trans ?_)
    rw [load_at x6 0 _ r n l (by show n.val = 0 + l.val; omega)]
    exact congrArg (fun z => outGrad ((k0_pay12 (errOf x0 x1 x2 x3 x4 x5) x5) (ix2 r z)) _) (Fin.ext (by show 256 + l.val = 256 + n.val; omega))
  exact View.allAt_nil _ _

end Cert.Kernel2Ideal.Head
-- ==== Proof.Head.Arrays.lean ====
module

public import proofs.«01_k».proof.Proof.Head.First
public import proofs.«01_k».proof.Proof.Head.Later
public import Idealize.ShloMosaic.Lib.Pipeline.ValueKit.Geometry
public import Idealize.ShloMosaic.Lib.Pipeline.ValueKit.Point

/-! # What the loss head's results hold at its end -/

@[expose] public section

set_option maxRecDepth 16384

noncomputable section

namespace Cert.Kernel2Ideal.Head

open Idealize.ShloMosaic Idealize.ShloMosaic.TcCoe Idealize.SL.Sem
open Idealize.ShloMosaic.Pipeline (Dat Cfg Window)
open Cert.Kernel2Ideal Cert.Kernel2Ideal.Gen

/-! ## The mathematics over whole arrays -/

/-- A tile's row. -/
def row (i : Fin 8) (r : Fin 512) : Fin 4096 := ⟨i.val * 512 + r.val, by omega⟩

section
variable (X T : FVec Ideal S4096x1024 .f32) (MA : FVec Ideal S4096x256 .bf16) (MB : FVec Ideal S4096x512 .bf16) (MM : FVec Ideal S4096x256 .bf16)
  (Wt : FVec Ideal S1024x1024 .bf16) (G O : FVec Ideal S4096x512 .f32)

def mixA (s : Fin 4096) (e : Fin 1024) : EReal :=
  if h : e.val < 256 then MA (ix2 s ⟨e.val, h⟩)
  else if h' : e.val < 768 then MB (ix2 s ⟨e.val - 256, by omega⟩)
  else MM (ix2 s ⟨e.val - 768, by omega⟩)
def errA (s : Fin 4096) (d : Fin 1024) : EReal := X (ix2 s d) + (∑ e : Fin 1024, mixA MA MB MM s e * Wt (ix2 e d)) - T (ix2 s d)
def dyA (s : Fin 4096) (d : Fin 1024) : EReal := errA X T MA MB MM Wt s d * (((1 : ℝ) / 1024 : ℝ) : EReal)
def dmixA (s : Fin 4096) (e : Fin 1024) : EReal := ∑ d : Fin 1024, dyA X T MA MB MM Wt s d * Wt (ix2 e d)
/-- A tile's part of the weight's gradient, -/
def partW (i : Fin 8) (e d : Fin 1024) : EReal := ∑ r : Fin 512, mixA MA MB MM (row i r) e * dyA X T MA MB MM Wt (row i r) d
/-- and of the loss. -/
def partL (i : Fin 8) : EReal :=
  (((1 : ℝ) / 2 : ℝ) : EReal) * ∑ r : Fin 512, (∑ d : Fin 1024, errA X T MA MB MM Wt (row i r) d * errA X T MA MB MM Wt (row i r) d) * (((1 : ℝ) / 1024 : ℝ) : EReal)
end

/-- The sum of the first tiles' parts. -/
def firstSum (p : Fin 8 → EReal) (n : ℕ) : EReal := ∑ i ∈ Finset.range n, if h : i < 8 then p ⟨i, h⟩ else 0
theorem firstSum_succ (p : Fin 8 → EReal) (i : Fin 8) : firstSum p (i.val + 1) = firstSum p i.val + p i := by
  unfold firstSum
  rw [Finset.sum_range_succ, dif_pos i.isLt]
theorem firstSum_zero (p : Fin 8 → EReal) : firstSum p 0 = 0 := rfl
theorem firstSum_all (p : Fin 8 → EReal) : firstSum p 8 = ∑ i, p i := by
  unfold firstSum
  rw [Finset.sum_range]
  exact Finset.sum_congr rfl fun i _ => dif_pos i.isLt

/-! ## The blocks -/

variable (m : (ℓ : Loc nD τ sig) → Buf (Elt Ideal) ℓ) (c : Dev nD)

/-- The tile of a grid point. -/
def tOf (t : Fin cfg0.N) : Fin 8 := ⟨t.val, Nat.lt_of_lt_of_eq t.isLt N_0⟩

theorem coord_val (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  exact e0.trans (by omega)

/-- The index maps. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_9.index t = ![t.val, 0] ∧ win0_10.index t = ![t.val, 0] ∧ win0_11.index t = ![t.val, 0]
    ∧ win0_12.index t = ![0, 0] ∧ win0_13.index t = ![0, 0] ∧ win0_14.index t = ![t.val, 0] ∧ win0_15.index t = ![t.val, 0] :=
  (by decide +kernel : ∀ t : Fin grid0.N, _)

abbrev X : FVec Ideal S4096x1024 .f32 := V m c main_v0
abbrev T : FVec Ideal S4096x1024 .f32 := V m c main_v5
abbrev MA : FVec Ideal S4096x256 .bf16 := V m c main_v10
abbrev MB : FVec Ideal S4096x512 .bf16 := V m c main_v8
abbrev MM : FVec Ideal S4096x256 .bf16 := V m c main_v11
abbrev Wt : FVec Ideal S1024x1024 .bf16 := V m c main_v13
abbrev G : FVec Ideal S4096x512 .f32 := V m c main_v3
abbrev O : FVec Ideal S4096x512 .f32 := V m c main_v2

theorem block0 (t : Fin cfg0.N) (r : Fin 512) (k : Fin 1024) : iblk m c 0 t (ix2 r k) = X m c (ix2 (row (tOf t) r) k) := by
  blk_ext [iblk, idx t]
  all_goals (simp only [row, tOf])
theorem block1 (t : Fin cfg0.N) (r : Fin 512) (k : Fin 1024) : iblk m c 1 t (ix2 r k) = T m c (ix2 (row (tOf t) r) k) := by
  blk_ext [iblk, idx t]
  all_goals (simp only [row, tOf])
theorem block2 (t : Fin cfg0.N) (r : Fin 512) (k : Fin 256) : iblk m c 2 t (ix2 r k) = MA m c (ix2 (row (tOf t) r) k) := by
  blk_ext [iblk, idx t]
  all_goals (simp only [row, tOf])
theorem block3 (t : Fin cfg0.N) (r : Fin 512) (k : Fin 512) : iblk m c 3 t (ix2 r k) = MB m c (ix2 (row (tOf t) r) k) := by
  blk_ext [iblk, idx t]
  all_goals (simp only [row, tOf])
theorem block4 (t : Fin cfg0.N) (r : Fin 512) (k : Fin 256) : iblk m c 4 t (ix2 r k) = MM m c (ix2 (row (tOf t) r) k) := by
  blk_ext [iblk, idx t]
  all_goals (simp only [row, tOf])
theorem block6 (t : Fin cfg0.N) (r : Fin 512) (k : Fin 512) : iblk m c 6 t (ix2 r k) = G m c (ix2 (row (tOf t) r) k) := by
  blk_ext [iblk, idx t]
  all_goals (simp only [row, tOf])
theorem block7 (t : Fin cfg0.N) (r : Fin 512) (k : Fin 512) : iblk m c 7 t (ix2 r k) = O m c (ix2 (row (tOf t) r) k) := by
  blk_ext [iblk, idx t]
  all_goals (simp only [row, tOf])
theorem block5 (t : Fin cfg0.N) : iblk m c 5 t = Wt m c := by
  funext y
  show iblk m c 5 t y = V m c main_v13 _
  blk_ext [iblk, idx t]

/-! ## What a grid point writes -/

abbrev mixT (t : Fin cfg0.N) := mixOf (iblk m c 2 t) (iblk m c 3 t) (iblk m c 4 t)
abbrev errT (t : Fin cfg0.N) := errOf (iblk m c 0 t) (iblk m c 1 t) (iblk m c 2 t) (iblk m c 3 t) (iblk m c 4 t) (iblk m c 5 t)

theorem mix_eq (t : Fin cfg0.N) (r : Fin 512) (e : Fin 1024) : mixT m c t (ix2 r e) = mixA (MA m c) (MB m c) (MM m c) (row (tOf t) r) e := by
  unfold mixA
  split
  case isTrue h => exact (mix_low _ _ _ r e ⟨e.val, h⟩ (Nat.zero_add _).symm).trans (block2 m c t r _)
  case isFalse h =>
    split
    case isTrue h' => exact (mix_mid _ _ _ r e ⟨e.val - 256, by omega⟩ (by dsimp only; omega)).trans (block3 m c t r _)
    case isFalse h' => exact (mix_high _ _ _ r e ⟨e.val - 768, by omega⟩ (by dsimp only; omega)).trans (block4 m c t r _)

theorem err_eq (t : Fin cfg0.N) (r : Fin 512) (d : Fin 1024) :
    errT m c t (ix2 r d) = errA (X m c) (T m c) (MA m c) (MB m c) (MM m c) (Wt m c) (row (tOf t) r) d := by
  refine (err_at (mixT m c t) (iblk m c 0 t) (iblk m c 1 t) (iblk m c 5 t) r d).trans ?_
  unfold errA
  rw [block0, block1, block5]
  simp only [mix_eq]

theorem dy_eq (t : Fin cfg0.N) (r : Fin 512) (d : Fin 1024) :
    k0_pay10 (errT m c t) (ix2 r d) = dyA (X m c) (T m c) (MA m c) (MB m c) (MM m c) (Wt m c) (row (tOf t) r) d := by
  refine (dy_at _ r d).trans ?_
  unfold dyA
  rw [err_eq]

theorem dmix_eq (t : Fin cfg0.N) (r : Fin 512) (e : Fin 1024) :
    k0_pay12 (errT m c t) (iblk m c 5 t) (ix2 r e) = dmixA (X m c) (T m c) (MA m c) (MB m c) (MM m c) (Wt m c) (row (tOf t) r) e := by
  refine (dmix_at _ _ r e).trans ?_
  unfold dmixA
  rw [block5]
  simp only [dy_eq]

theorem point9 (t : Fin cfg0.N) : (outsAt0 m c t.val t.isLt).1 = k0_pay10 (errT m c t) := by
  by_cases h : t.val % 8 = 0
  · rw [outsAt0_A m c t h]
    dsimp only
    rw [oA9]
  · rw [outsAt0_B m c t h]
    dsimp only
    rw [oB9]
theorem point10 (t : Fin cfg0.N) : (outsAt0 m c t.val t.isLt).2.1 = k0_pay13 (errT m c t) (iblk m c 5 t) := by
  by_cases h : t.val % 8 = 0
  · rw [outsAt0_A m c t h]
    dsimp only
    rw [oA10]
  · rw [outsAt0_B m c t h]
    dsimp only
    rw [oB10]
theorem point11 (t : Fin cfg0.N) : (outsAt0 m c t.val t.isLt).2.2.1 = k0_pay14 (errT m c t) (iblk m c 5 t) := by
  by_cases h : t.val % 8 = 0
  · rw [outsAt0_A m c t h]
    dsimp only
    rw [oA11]
  · rw [outsAt0_B m c t h]
    dsimp only
    rw [oB11]
theorem point15 (t : Fin cfg0.N) (r k : Fin 512) : (outsAt0 m c t.val t.isLt).2.2.2.2.2.2.1 (ix2 r k)
    = gateGrad (dmixA (X m c) (T m c) (MA m c) (MB m c) (MM m c) (Wt m c) (row (tOf t) r) ⟨256 + k.val, by omega⟩) (G m c (ix2 (row (tOf t) r) k)) (O m c (ix2 (row (tOf t) r) k)) := by
  rw [← dmix_eq, ← block6, ← block7]
  by_cases h : t.val % 8 = 0
  · rw [outsAt0_A m c t h]
    dsimp only
    rw [oA15]
  · rw [outsAt0_B m c t h]
    dsimp only
    rw [oB15]
theorem point14 (t : Fin cfg0.N) (r : Fin 512) (k : Fin 1024) (n : Fin 512) (hn : n.val = k.val / 128 * 64 + k.val % 128) (hk : k.val % 128 < 64) :
    (outsAt0 m c t.val t.isLt).2.2.2.2.2.1 (ix2 r k)
    = outGrad (dmixA (X m c) (T m c) (MA m c) (MB m c) (MM m c) (Wt m c) (row (tOf t) r) ⟨256 + n.val, by omega⟩) (G m c (ix2 (row (tOf t) r) n)) := by
  rw [← dmix_eq, ← block6]
  by_cases h : t.val % 8 = 0
  · rw [outsAt0_A m c t h]
    dsimp only
    rw [oA14 (hn := hn) (hk := hk)]
  · rw [outsAt0_B m c t h]
    dsimp only
    rw [oB14 (hn := hn) (hk := hk)]

theorem point12_first (t : Fin cfg0.N) (h : t.val % 8 = 0) : (outsAt0 m c t.val t.isLt).2.2.2.1
    = k0_pay15 (mixT m c t) (errT m c t) (k0_pay2 : FVec Ideal S1024x1024 .f32) := by
  rw [outsAt0_A m c t h]
  dsimp only
  rw [oA12]
theorem point12_later (t : Fin cfg0.N) (h : ¬t.val % 8 = 0) : (outsAt0 m c t.val t.isLt).2.2.2.1
    = k0_pay15 (mixT m c t) (errT m c t) (outsAt0 m c (t.val - 1) (by have := t.isLt; omega)).2.2.2.1 := by
  rw [outsAt0_B m c t h]
  dsimp only
  rw [oB12]
theorem point13_first (t : Fin cfg0.N) (h : t.val % 8 = 0) : (outsAt0 m c t.val t.isLt).2.2.2.2.1
    = k0_pay9 (k0_pay8 (mixT m c t) (iblk m c 0 t) (iblk m c 5 t) (iblk m c 1 t)) (k0_pay3 : FVec Ideal S1x128 .f32) := by
  rw [outsAt0_A m c t h]
  dsimp only
  rw [oA13]
theorem point13_later (t : Fin cfg0.N) (h : ¬t.val % 8 = 0) : (outsAt0 m c t.val t.isLt).2.2.2.2.1
    = k0_pay9 (k0_pay8 (mixT m c t) (iblk m c 0 t) (iblk m c 5 t) (iblk m c 1 t)) (outsAt0 m c (t.val - 1) (by have := t.isLt; omega)).2.2.2.2.1 := by
  rw [outsAt0_B m c t h]
  dsimp only
  rw [oB13]

/-! ## The two running sums -/

abbrev PW (e d : Fin 1024) (i : Fin 8) : EReal := partW (X m c) (T m c) (MA m c) (MB m c) (MM m c) (Wt m c) i e d
abbrev PL (i : Fin 8) : EReal := partL (X m c) (T m c) (MA m c) (MB m c) (MM m c) (Wt m c) i

theorem addW (t : Fin cfg0.N) (acc : Vec Ideal S1024x1024 .f32) (e d : Fin 1024) :
    k0_pay15 (mixT m c t) (errT m c t) acc (ix2 e d) = acc (ix2 e d) + PW m c e d (tOf t) := by
  refine (dw_at _ _ _ e d).trans ?_
  unfold PW partW
  simp only [mix_eq, dy_eq]

theorem addL (t : Fin cfg0.N) (acc : Vec Ideal S1x128 .f32) (l : Fin 128) :
    k0_pay9 (k0_pay8 (mixT m c t) (iblk m c 0 t) (iblk m c 5 t) (iblk m c 1 t)) acc (ix2 0 l) = acc (ix2 0 l) + PL m c (tOf t) := by
  refine (loss_at _ _ l).trans ?_
  unfold PL partL
  simp only [rows_at]
  simp only [show ∀ r d, k0_pay7 (mixT m c t) (iblk m c 0 t) (iblk m c 5 t) (iblk m c 1 t) (ix2 r d) = _ from err_eq m c t]

theorem sumW (e d : Fin 1024) : ∀ (n : ℕ) (h : n < cfg0.N), (outsAt0 m c n h).2.2.2.1 (ix2 e d) = firstSum (PW m c e d) (n + 1)
  | 0, h => by
    refine (congrFun (point12_first m c ⟨0, h⟩ rfl) _).trans ((addW m c ⟨0, h⟩ _ e d).trans ?_)
    rw [show (0 : ℕ) + 1 = (tOf ⟨0, h⟩).val + 1 from rfl, firstSum_succ]
    exact congrArg (· + _) (dw_zero e d)
  | n + 1, h => by
    have hn : n + 1 < 8 := Nat.lt_of_lt_of_eq h N_0
    refine (congrFun (point12_later m c ⟨n + 1, h⟩ (by dsimp only; omega)) _).trans ((addW m c ⟨n + 1, h⟩ _ e d).trans ?_)
    rw [show (n + 1 : ℕ) + 1 = (tOf ⟨n + 1, h⟩).val + 1 from rfl, firstSum_succ]
    exact congrArg (· + _) (sumW e d n (by omega))

theorem sumL (l : Fin 128) : ∀ (n : ℕ) (h : n < cfg0.N), (outsAt0 m c n h).2.2.2.2.1 (ix2 0 l) = firstSum (PL m c) (n + 1)
  | 0, h => by
    refine (congrFun (point13_first m c ⟨0, h⟩ rfl) _).trans ((addL m c ⟨0, h⟩ _ l).trans ?_)
    rw [show (0 : ℕ) + 1 = (tOf ⟨0, h⟩).val + 1 from rfl, firstSum_succ]
    exact congrArg (· + _) (loss_zero l)
  | n + 1, h => by
    have hn : n + 1 < 8 := Nat.lt_of_lt_of_eq h N_0
    refine (congrFun (point13_later m c ⟨n + 1, h⟩ (by dsimp only; omega)) _).trans ((addL m c ⟨n + 1, h⟩ _ l).trans ?_)
    rw [show (n + 1 : ℕ) + 1 = (tOf ⟨n + 1, h⟩).val + 1 from rfl, firstSum_succ]
    exact congrArg (· + _) (sumL l n (by omega))

end Cert.Kernel2Ideal.Head
-- ==== Proof.Head.Results.lean ====
module

public import proofs.«01_k».proof.Proof.Head.Arrays
public import Idealize.ShloMosaic.Lib.Claim
public import Idealize.ShloMosaic.Lib.IdealHost

/-! # What the loss head's program ends with -/

@[expose] public section

set_option maxRecDepth 16384

noncomputable section

namespace Cert.Kernel2Ideal.Head

open Idealize.ShloMosaic Idealize.ShloMosaic.TcCoe Idealize.ShloMosaic.StableHlo Idealize.SL.Sem
open Cert.Kernel2Ideal Cert.Kernel2Ideal.Gen

variable (m : (ℓ : Loc nD τ sig) → Buf (Elt Ideal) ℓ) (c : Dev nD)

/-- The grid point of a row, -/
def pt (s : Fin 4096) : Fin cfg0.N := ⟨s.val / 512, by rw [show cfg0.N = 8 from N_0]; omega⟩
/-- and the row within its tile. -/
def inTile (s : Fin 4096) : Fin 512 := ⟨s.val % 512, by omega⟩
theorem row_pt (s : Fin 4096) : row (tOf (pt s)) (inTile s) = s := Fin.ext (by simp only [row, tOf, pt, inTile]; omega)

theorem last_lt : 7 < cfg0.N := Nat.lt_of_lt_of_eq (by decide : 7 < 8) N_0.symm

/-! ## The arrays -/

theorem arr9 : (dats m 0 c).arrAt 9 cfg0.N = fun y => (outsAt0 m c (pt (y 0)).val (pt (y 0)).isLt).1 (ix2 (inTile (y 0)) (y 1)) := by
  refine (dats m 0 c).arrAt_eq_of_covers 9 _ (by decide +kernel) fun t hf y => ?_
  blk_simp
  rw [after0_9]
  have h0 : ((win0_9.blk t).view.emb y 0).val = t.val * 512 + (y 0).val := by blk_simp [idx t]
  have h1 : ((win0_9.blk t).view.emb y 1).val = (y 1).val := by blk_simp [idx t]
  idx_bounds y
  have e1 : pt ((win0_9.blk t).view.emb y 0) = t := Fin.ext ((congrArg (· / 512) h0).trans (by dsimp only; omega))
  have e2 : inTile ((win0_9.blk t).view.emb y 0) = y 0 := Fin.ext ((congrArg (· % 512) h0).trans (by dsimp only; omega))
  have e3 : (win0_9.blk t).view.emb y 1 = y 1 := Fin.ext h1
  rw [e1, e2, e3]
  refine congrArg _ ?_
  funext a
  fin_cases a <;> rfl

theorem arr10 : (dats m 0 c).arrAt 10 cfg0.N = fun y => (outsAt0 m c (pt (y 0)).val (pt (y 0)).isLt).2.1 (ix2 (inTile (y 0)) (y 1)) := by
  refine (dats m 0 c).arrAt_eq_of_covers 10 _ (by decide +kernel) fun t hf y => ?_
  blk_simp
  rw [after0_10]
  have h0 : ((win0_10.blk t).view.emb y 0).val = t.val * 512 + (y 0).val := by blk_simp [idx t]
  have h1 : ((win0_10.blk t).view.emb y 1).val = (y 1).val := by blk_simp [idx t]
  idx_bounds y
  have e1 : pt ((win0_10.blk t).view.emb y 0) = t := Fin.ext ((congrArg (· / 512) h0).trans (by dsimp only; omega))
  have e2 : inTile ((win0_10.blk t).view.emb y 0) = y 0 := Fin.ext ((congrArg (· % 512) h0).trans (by dsimp only; omega))
  have e3 : (win0_10.blk t).view.emb y 1 = y 1 := Fin.ext h1
  rw [e1, e2, e3]
  refine congrArg _ ?_
  funext a
  fin_cases a <;> rfl

theorem arr11 : (dats m 0 c).arrAt 11 cfg0.N = fun y => (outsAt0 m c (pt (y 0)).val (pt (y 0)).isLt).2.2.1 (ix2 (inTile (y 0)) (y 1)) := by
  refine (dats m 0 c).arrAt_eq_of_covers 11 _ (by decide +kernel) fun t hf y => ?_
  blk_simp
  rw [after0_11]
  have h0 : ((win0_11.blk t).view.emb y 0).val = t.val * 512 + (y 0).val := by blk_simp [idx t]
  have h1 : ((win0_11.blk t).view.emb y 1).val = (y 1).val := by blk_simp [idx t]
  idx_bounds y
  have e1 : pt ((win0_11.blk t).view.emb y 0) = t := Fin.ext ((congrArg (· / 512) h0).trans (by dsimp only; omega))
  have e2 : inTile ((win0_11.blk t).view.emb y 0) = y 0 := Fin.ext ((congrArg (· % 512) h0).trans (by dsimp only; omega))
  have e3 : (win0_11.blk t).view.emb y 1 = y 1 := Fin.ext h1
  rw [e1, e2, e3]
  refine congrArg _ ?_
  funext a
  fin_cases a <;> rfl

theorem arr14 : (dats m 0 c).arrAt 14 cfg0.N = fun y => (outsAt0 m c (pt (y 0)).val (pt (y 0)).isLt).2.2.2.2.2.1 (ix2 (inTile (y 0)) (y 1)) := by
  refine (dats m 0 c).arrAt_eq_of_covers 14 _ (by decide +kernel) fun t hf y => ?_
  blk_simp
  rw [after0_14]
  have h0 : ((win0_14.blk t).view.emb y 0).val = t.val * 512 + (y 0).val := by blk_simp [idx t]
  have h1 : ((win0_14.blk t).view.emb y 1).val = (y 1).val := by blk_simp [idx t]
  idx_bounds y
  have e1 : pt ((win0_14.blk t).view.emb y 0) = t := Fin.ext ((congrArg (· / 512) h0).trans (by dsimp only; omega))
  have e2 : inTile ((win0_14.blk t).view.emb y 0) = y 0 := Fin.ext ((congrArg (· % 512) h0).trans (by dsimp only; omega))
  have e3 : (win0_14.blk t).view.emb y 1 = y 1 := Fin.ext h1
  rw [e1, e2, e3]
  refine congrArg _ ?_
  funext a
  fin_cases a <;> rfl

theorem arr15 : (dats m 0 c).arrAt 15 cfg0.N = fun y => (outsAt0 m c (pt (y 0)).val (pt (y 0)).isLt).2.2.2.2.2.2.1 (ix2 (inTile (y 0)) (y 1)) := by
  refine (dats m 0 c).arrAt_eq_of_covers 15 _ (by decide +kernel) fun t hf y => ?_
  blk_simp
  rw [after0_15]
  have h0 : ((win0_15.blk t).view.emb y 0).val = t.val * 512 + (y 0).val := by blk_simp [idx t]
  have h1 : ((win0_15.blk t).view.emb y 1).val = (y 1).val := by blk_simp [idx t]
  idx_bounds y
  have e1 : pt ((win0_15.blk t).view.emb y 0) = t := Fin.ext ((congrArg (· / 512) h0).trans (by dsimp only; omega))
  have e2 : inTile ((win0_15.blk t).view.emb y 0) = y 0 := Fin.ext ((congrArg (· % 512) h0).trans (by dsimp only; omega))
  have e3 : (win0_15.blk t).view.emb y 1 = y 1 := Fin.ext h1
  rw [e1, e2, e3]
  refine congrArg _ ?_
  funext a
  fin_cases a <;> rfl

theorem arr12 : (dats m 0 c).arrAt 12 cfg0.N = (outsAt0 m c 7 last_lt).2.2.2.1 := by
  refine (dats m 0 c).arrAt_eq_of_covers 12 _ (by decide +kernel) fun t hf y => ?_
  have ht := (flush0_12 t).mp hf
  have ht' : t.val < 8 := Nat.lt_of_lt_of_eq t.isLt N_0
  blk_simp
  rw [after0_12]
  have h0 : ((win0_12.blk t).view.emb y 0).val = (y 0).val := by blk_simp [idx t]
  have h1 : ((win0_12.blk t).view.emb y 1).val = (y 1).val := by blk_simp [idx t]
  have e : t = ⟨7, last_lt⟩ := Fin.ext (by dsimp only; omega)
  subst e
  refine congrArg _ ?_
  funext a
  fin_cases a
  · exact Fin.ext h0.symm
  · exact Fin.ext h1.symm

theorem arr13 : (dats m 0 c).arrAt 13 cfg0.N = (outsAt0 m c 7 last_lt).2.2.2.2.1 := by
  refine (dats m 0 c).arrAt_eq_of_covers 13 _ (by decide +kernel) fun t hf y => ?_
  have ht := (flush0_13 t).mp hf
  have ht' : t.val < 8 := Nat.lt_of_lt_of_eq t.isLt N_0
  blk_simp
  rw [after0_13]
  have h0 : ((win0_13.blk t).view.emb y 0).val = (y 0).val := by blk_simp [idx t]
  have h1 : ((win0_13.blk t).view.emb y 1).val = (y 1).val := by blk_simp [idx t]
  have e : t = ⟨7, last_lt⟩ := Fin.ext (by dsimp only; omega)
  subst e
  refine congrArg _ ?_
  funext a
  fin_cases a
  · exact Fin.ext h0.symm
  · exact Fin.ext h1.symm

/-! ## Their elements -/

theorem fin_dy (s : Fin 4096) (d : Fin 1024) : (dats m 0 c).arrAt 9 cfg0.N (ix2 s d) = dyA (X m c) (T m c) (MA m c) (MB m c) (MM m c) (Wt m c) s d := by
  refine (congrFun (arr9 m c) _).trans ((congrFun (point9 m c (pt s)) _).trans ((dy_eq m c (pt s) (inTile s) d).trans ?_))
  rw [row_pt]
theorem fin_dma (s : Fin 4096) (e : Fin 256) : (dats m 0 c).arrAt 10 cfg0.N (ix2 s e) = dmixA (X m c) (T m c) (MA m c) (MB m c) (MM m c) (Wt m c) s ⟨e.val, by omega⟩ := by
  refine (congrFun (arr10 m c) _).trans ((congrFun (point10 m c (pt s)) _).trans ((dma_at _ _ (inTile s) e).trans ((dmix_eq m c (pt s) (inTile s) _).trans ?_)))
  rw [row_pt]
theorem fin_dmm (s : Fin 4096) (e : Fin 256) : (dats m 0 c).arrAt 11 cfg0.N (ix2 s e) = dmixA (X m c) (T m c) (MA m c) (MB m c) (MM m c) (Wt m c) s ⟨768 + e.val, by omega⟩ := by
  refine (congrFun (arr11 m c) _).trans ((congrFun (point11 m c (pt s)) _).trans ((dmm_at _ _ (inTile s) e).trans ((dmix_eq m c (pt s) (inTile s) _).trans ?_)))
  rw [row_pt]
theorem fin_dw (e d : Fin 1024) : (dats m 0 c).arrAt 12 cfg0.N (ix2 e d) = ∑ i : Fin 8, PW m c e d i :=
  (congrFun (arr12 m c) _).trans ((sumW m c e d 7 last_lt).trans (firstSum_all _))
theorem fin_loss (l : Fin 128) : (dats m 0 c).arrAt 13 cfg0.N (ix2 0 l) = ∑ i : Fin 8, PL m c i :=
  (congrFun (arr13 m c) _).trans ((sumL m c l 7 last_lt).trans (firstSum_all _))
theorem fin_doa (s : Fin 4096) (k : Fin 1024) (n : Fin 512) (hn : n.val = k.val / 128 * 64 + k.val % 128) (hk : k.val % 128 < 64) :
    (dats m 0 c).arrAt 14 cfg0.N (ix2 s k) = outGrad (dmixA (X m c) (T m c) (MA m c) (MB m c) (MM m c) (Wt m c) s ⟨256 + n.val, by omega⟩) (G m c (ix2 s n)) := by
  refine (congrFun (arr14 m c) _).trans ((point14 m c (pt s) (inTile s) k n hn hk).trans ?_)
  rw [row_pt]
theorem fin_dgb (s : Fin 4096) (k : Fin 512) : (dats m 0 c).arrAt 15 cfg0.N (ix2 s k)
    = gateGrad (dmixA (X m c) (T m c) (MA m c) (MB m c) (MM m c) (Wt m c) s ⟨256 + k.val, by omega⟩) (G m c (ix2 s k)) (O m c (ix2 s k)) := by
  refine (congrFun (arr15 m c) _).trans ((point15 m c (pt s) (inTile s) k).trans ?_)
  rw [row_pt]

/-! ## The host operations after the kernel -/

/-- The first 64 lanes of each head, side by side. -/
def unpack (w : FVec Ideal S4096x1024 .bf16) : FVec Ideal S1x4096x512 .f32 :=
  broadcastInDim S1x4096x512 ![1, 2] bcast_S4096x512_S1x4096x512_1_2 (shapeCast S4096x512 (extractStridedSlice S4096x8x64 ![0, 0, 0] (shapeCast S4096x8x128 (extf .f32 w bitsLt_bf16_f32) shapeCasts_S4096x1024_S4096x8x128) slices_S4096x8x128_S4096x8x64_0_0_0) shapeCasts_S4096x8x64_S4096x512)
/-- The loss. -/
def lossOf (l : FVec Ideal S1x128 .f32) : FVec Ideal S_ .f32 :=
  shapeCast S_ (extractStridedSlice S1x1 ![0, 0] l slices_S1x128_S1x1_0_0) shapeCasts_S1x1_S_

variable (W : Valuation τ sig (Elt Ideal))
theorem ops_v20 : after hostOps1 W (Proc.devRef .tc main_v20) = lossOf (W (Proc.devRef .tc main_v14_4)) := by
  simp only [hostOps1]
  after_results_simp
  try rfl
theorem ops_v21 : after hostOps1 W (Proc.devRef .tc main_v21) = (broadcastInDim S1x4096x1024 ![1, 2] bcast_S4096x1024_S1x4096x1024_1_2 (W (Proc.devRef .tc main_v14_0)) : FVec Ideal S1x4096x1024 .f32) := by
  simp only [hostOps1]
  after_results_simp
  try rfl
theorem ops_v22 : after hostOps1 W (Proc.devRef .tc main_v22) = (broadcastInDim S1x4096x256 ![1, 2] bcast_S4096x256_S1x4096x256_1_2 (W (Proc.devRef .tc main_v14_1)) : FVec Ideal S1x4096x256 .f32) := by
  simp only [hostOps1]
  after_results_simp
  try rfl
theorem ops_v23 : after hostOps1 W (Proc.devRef .tc main_v23) = unpack (W (Proc.devRef .tc main_v14_5)) := by
  simp only [hostOps1]
  after_results_simp
  try rfl
theorem ops_v25 : after hostOps1 W (Proc.devRef .tc main_v25) = (broadcastInDim S1x4096x512 ![1, 2] bcast_S4096x512_S1x4096x512_1_2 (extf .f32 (W (Proc.devRef .tc main_v14_6) : FVec Ideal S4096x512 .bf16) bitsLt_bf16_f32) : FVec Ideal S1x4096x512 .f32) := by
  simp only [hostOps1]
  after_results_simp
  try rfl
theorem ops_v26 : after hostOps1 W (Proc.devRef .tc main_v26) = (broadcastInDim S1x4096x256 ![1, 2] bcast_S4096x256_S1x4096x256_1_2 (W (Proc.devRef .tc main_v14_2)) : FVec Ideal S1x4096x256 .f32) := by
  simp only [hostOps1]
  after_results_simp
  try rfl
theorem ops_v27 : after hostOps1 W (Proc.devRef .tc main_v27) = (broadcastInDim S1x1024x1024 ![1, 2] bcast_S1024x1024_S1x1024x1024_1_2 (W (Proc.devRef .tc main_v14_3)) : FVec Ideal S1x1024x1024 .f32) := by
  simp only [hostOps1]
  after_results_simp
  try rfl

theorem lossOf_at (l) (j) : lossOf l j = l (ix2 0 0) := by
  pointwise [lossOf]
theorem unpack_at (w) (s : Fin 4096) (n : Fin 512) : unpack w (ix3 0 s n) = w (ix2 s ⟨n.val / 64 * 128 + n.val % 64, by omega⟩) := by
  pointwise [unpack]

/-- The buffers when the kernel has ended. -/
abbrev atEnd : Valuation τ sig (Elt Ideal) := Pipeline.withArrays (cfgs 0).spec c (V0 m c) fun w => (dats m 0 c).arrAt w (cfgs 0).N

theorem tail_eq (b : Ref sig .tc) : Pipeline.afterTail₀ cfgs (dats m) 0 (V0 m) [hostOps1] c b = after hostOps1 (atEnd m c) (Proc.devRef .tc b) := by
  unfold Pipeline.afterTail₀
  simp only [List.flatten_cons, List.flatten_nil, List.append_nil]
theorem atEnd_0 : atEnd m c (Proc.devRef .tc main_v14_0) = (dats m 0 c).arrAt 9 cfg0.N :=
  Pipeline.withArrays_arr (cfgs 0).spec (by decide) c (V0 m c) (fun w => (dats m 0 c).arrAt w (cfgs 0).N) 9
theorem atEnd_1 : atEnd m c (Proc.devRef .tc main_v14_1) = (dats m 0 c).arrAt 10 cfg0.N :=
  Pipeline.withArrays_arr (cfgs 0).spec (by decide) c (V0 m c) (fun w => (dats m 0 c).arrAt w (cfgs 0).N) 10
theorem atEnd_2 : atEnd m c (Proc.devRef .tc main_v14_2) = (dats m 0 c).arrAt 11 cfg0.N :=
  Pipeline.withArrays_arr (cfgs 0).spec (by decide) c (V0 m c) (fun w => (dats m 0 c).arrAt w (cfgs 0).N) 11
theorem atEnd_3 : atEnd m c (Proc.devRef .tc main_v14_3) = (dats m 0 c).arrAt 12 cfg0.N :=
  Pipeline.withArrays_arr (cfgs 0).spec (by decide) c (V0 m c) (fun w => (dats m 0 c).arrAt w (cfgs 0).N) 12
theorem atEnd_4 : atEnd m c (Proc.devRef .tc main_v14_4) = (dats m 0 c).arrAt 13 cfg0.N :=
  Pipeline.withArrays_arr (cfgs 0).spec (by decide) c (V0 m c) (fun w => (dats m 0 c).arrAt w (cfgs 0).N) 13
theorem atEnd_5 : atEnd m c (Proc.devRef .tc main_v14_5) = (dats m 0 c).arrAt 14 cfg0.N :=
  Pipeline.withArrays_arr (cfgs 0).spec (by decide) c (V0 m c) (fun w => (dats m 0 c).arrAt w (cfgs 0).N) 14
theorem atEnd_6 : atEnd m c (Proc.devRef .tc main_v14_6) = (dats m 0 c).arrAt 15 cfg0.N :=
  Pipeline.withArrays_arr (cfgs 0).spec (by decide) c (V0 m c) (fun w => (dats m 0 c).arrAt w (cfgs 0).N) 15

/-! ## The results, element by element -/

/-- A result of the whole program. -/
abbrev res (b : Ref sig .tc) := after hostOps1 (atEnd m c) (Proc.devRef .tc b)

theorem res_loss (j) : (res m c main_v20 : FVec Ideal S_ .f32) j = ∑ i : Fin 8, PL m c i := by
  refine (congrFun (ops_v20 (atEnd m c)) j).trans ((lossOf_at _ j).trans ?_)
  rw [atEnd_4]
  exact fin_loss m c 0
theorem res_dx (s : Fin 4096) (d : Fin 1024) : (res m c main_v21 : FVec Ideal S1x4096x1024 .f32) (ix3 0 s d) = dyA (X m c) (T m c) (MA m c) (MB m c) (MM m c) (Wt m c) s d := by
  refine (congrFun (ops_v21 (atEnd m c)) _).trans ?_
  rw [atEnd_0, ← fin_dy]
  pointwise []
theorem res_dma (s : Fin 4096) (e : Fin 256) : (res m c main_v22 : FVec Ideal S1x4096x256 .f32) (ix3 0 s e) = dmixA (X m c) (T m c) (MA m c) (MB m c) (MM m c) (Wt m c) s ⟨e.val, by omega⟩ := by
  refine (congrFun (ops_v22 (atEnd m c)) _).trans ?_
  rw [atEnd_1, ← fin_dma]
  pointwise []
theorem res_dmm (s : Fin 4096) (e : Fin 256) : (res m c main_v26 : FVec Ideal S1x4096x256 .f32) (ix3 0 s e) = dmixA (X m c) (T m c) (MA m c) (MB m c) (MM m c) (Wt m c) s ⟨768 + e.val, by omega⟩ := by
  refine (congrFun (ops_v26 (atEnd m c)) _).trans ?_
  rw [atEnd_2, ← fin_dmm]
  pointwise []
theorem res_dw (e d : Fin 1024) : (res m c main_v27 : FVec Ideal S1x1024x1024 .f32) (ix3 0 e d) = ∑ i : Fin 8, PW m c e d i := by
  refine (congrFun (ops_v27 (atEnd m c)) _).trans ?_
  rw [atEnd_3, ← fin_dw]
  pointwise []
theorem res_dyb (s : Fin 4096) (n : Fin 512) : (res m c main_v23 : FVec Ideal S1x4096x512 .f32) (ix3 0 s n)
    = outGrad (dmixA (X m c) (T m c) (MA m c) (MB m c) (MM m c) (Wt m c) s ⟨256 + n.val, by omega⟩) (G m c (ix2 s n)) := by
  refine (congrFun (ops_v23 (atEnd m c)) _).trans ((unpack_at _ s n).trans ?_)
  rw [atEnd_5]
  exact fin_doa m c s _ n (by dsimp only; omega) (by dsimp only; omega)
theorem res_dgb (s : Fin 4096) (k : Fin 512) : (res m c main_v25 : FVec Ideal S1x4096x512 .f32) (ix3 0 s k)
    = gateGrad (dmixA (X m c) (T m c) (MA m c) (MB m c) (MM m c) (Wt m c) s ⟨256 + k.val, by omega⟩) (G m c (ix2 s k)) (O m c (ix2 s k)) := by
  refine (congrFun (ops_v25 (atEnd m c)) _).trans ?_
  rw [atEnd_6, ← fin_dgb]
  pointwise []

end Cert.Kernel2Ideal.Head
-- ==== Proof.Head.Found.lean ====
module

public import proofs.«01_k».proof.Proof.Head.Results

/-! # What the loss head's kernel finds in its operands -/

@[expose] public section

set_option maxRecDepth 16384

noncomputable section

namespace Cert.Kernel2Ideal.Head

open Idealize.ShloMosaic Idealize.ShloMosaic.TcCoe Idealize.ShloMosaic.StableHlo Idealize.SL.Sem
open Cert.Kernel2Ideal Cert.Kernel2Ideal.Gen

/-- The host operations before the kernel. -/
abbrev opsP : List (HloOp τ sig (Elt Ideal)) := hostOps0 ++ (hostOps0_1 ++ hostOps0_2)

/-- The gate's activation. -/
def siluOf (g : FVec Ideal S4096x512 .f32) : FVec Ideal S4096x512 .f32 :=
  mulf g (Host.divf (broadcastInDim S4096x512 ![] bcast_S_S4096x512 (constant S_ .f32 0x3F800000#32)) (addf (broadcastInDim S4096x512 ![] bcast_S_S4096x512 (constant S_ .f32 0x3F800000#32)) (Host.exp (Host.negf g))))

theorem siluOf_at (g) (s : Fin 4096) (k : Fin 512) : siluOf g (ix2 s k) = g (ix2 s k) * Ideal.div 1 (1 + Ideal.exp (-g (ix2 s k))) := by
  pointwise [siluOf]

section
variable (W : Valuation τ sig (Elt Ideal))

theorem pre_v0 : after opsP W (Proc.devRef .tc main_v0) = shapeCast S4096x1024 (W (Proc.devRef .tc main_arg0) : FVec Ideal S1x4096x1024 .f32) shapeCasts_S1x4096x1024_S4096x1024 := by
  simp only [opsP, hostOps0, hostOps0_1, hostOps0_2, List.cons_append, List.nil_append]
  after_results_simp
  try rfl
theorem pre_v5 : after opsP W (Proc.devRef .tc main_v5) = shapeCast S4096x1024 (W (Proc.devRef .tc main_arg6) : FVec Ideal S1x4096x1024 .f32) shapeCasts_S1x4096x1024_S4096x1024 := by
  simp only [opsP, hostOps0, hostOps0_1, hostOps0_2, List.cons_append, List.nil_append]
  after_results_simp
  try rfl
theorem pre_v10 : after opsP W (Proc.devRef .tc main_v10) = (truncf .bf16 (shapeCast S4096x256 (W (Proc.devRef .tc main_arg1) : FVec Ideal S1x4096x256 .f32) shapeCasts_S1x4096x256_S4096x256) bitsLt_bf16_f32 : FVec Ideal S4096x256 .bf16) := by
  simp only [opsP, hostOps0, hostOps0_1, hostOps0_2, List.cons_append, List.nil_append]
  after_results_simp
  try rfl
theorem pre_v11 : after opsP W (Proc.devRef .tc main_v11) = (truncf .bf16 (shapeCast S4096x256 (W (Proc.devRef .tc main_arg4) : FVec Ideal S1x4096x256 .f32) shapeCasts_S1x4096x256_S4096x256) bitsLt_bf16_f32 : FVec Ideal S4096x256 .bf16) := by
  simp only [opsP, hostOps0, hostOps0_1, hostOps0_2, List.cons_append, List.nil_append]
  after_results_simp
  try rfl
theorem pre_v13 : after opsP W (Proc.devRef .tc main_v13) = (truncf .bf16 (shapeCast S1024x1024 (W (Proc.devRef .tc main_arg5) : FVec Ideal S1x1024x1024 .f32) shapeCasts_S1x1024x1024_S1024x1024) bitsLt_bf16_f32 : FVec Ideal S1024x1024 .bf16) := by
  simp only [opsP, hostOps0, hostOps0_1, hostOps0_2, List.cons_append, List.nil_append]
  after_results_simp
  try rfl
theorem pre_v3 : after opsP W (Proc.devRef .tc main_v3) = shapeCast S4096x512 (W (Proc.devRef .tc main_arg3) : FVec Ideal S1x4096x512 .f32) shapeCasts_S1x4096x512_S4096x512 := by
  simp only [opsP, hostOps0, hostOps0_1, hostOps0_2, List.cons_append, List.nil_append]
  after_results_simp
  try rfl
theorem pre_v2 : after opsP W (Proc.devRef .tc main_v2) = shapeCast S4096x512 (W (Proc.devRef .tc main_arg2) : FVec Ideal S1x4096x512 .f32) shapeCasts_S1x4096x512_S4096x512 := by
  simp only [opsP, hostOps0, hostOps0_1, hostOps0_2, List.cons_append, List.nil_append]
  after_results_simp
  try rfl
theorem pre_v8 : after opsP W (Proc.devRef .tc main_v8) = (truncf .bf16 (mulf (shapeCast S4096x512 (W (Proc.devRef .tc main_arg2) : FVec Ideal S1x4096x512 .f32) shapeCasts_S1x4096x512_S4096x512)
    (siluOf (shapeCast S4096x512 (W (Proc.devRef .tc main_arg3) : FVec Ideal S1x4096x512 .f32) shapeCasts_S1x4096x512_S4096x512))) bitsLt_bf16_f32 : FVec Ideal S4096x512 .bf16) := by
  simp only [opsP, hostOps0, hostOps0_1, hostOps0_2, List.cons_append, List.nil_append]
  after_results_simp
  try rfl
end

variable (m : (ℓ : Loc nD τ sig) → Buf (Elt Ideal) ℓ) (c : Dev nD)

theorem found (b : Ref sig .tc) : V m c b = after opsP (fun b => m (c, b)) (Proc.devRef .tc b) := rfl

/-! ## The arguments -/

abbrev gX : FVec Ideal S1x4096x1024 .f32 := m ((c : Thread nD τ).loc main_arg0)
abbrev gA : FVec Ideal S1x4096x256 .f32 := m ((c : Thread nD τ).loc main_arg1)
abbrev gY : FVec Ideal S1x4096x512 .f32 := m ((c : Thread nD τ).loc main_arg2)
abbrev gG : FVec Ideal S1x4096x512 .f32 := m ((c : Thread nD τ).loc main_arg3)
abbrev gM : FVec Ideal S1x4096x256 .f32 := m ((c : Thread nD τ).loc main_arg4)
abbrev gW : FVec Ideal S1x1024x1024 .f32 := m ((c : Thread nD τ).loc main_arg5)
abbrev gT : FVec Ideal S1x4096x1024 .f32 := m ((c : Thread nD τ).loc main_arg6)

theorem X_at (s : Fin 4096) (d : Fin 1024) : X m c (ix2 s d) = gX m c (ix3 0 s d) := by
  refine (congrFun ((found m c main_v0).trans (pre_v0 _)) _).trans ?_
  pointwise []
theorem T_at (s : Fin 4096) (d : Fin 1024) : T m c (ix2 s d) = gT m c (ix3 0 s d) := by
  refine (congrFun ((found m c main_v5).trans (pre_v5 _)) _).trans ?_
  pointwise []
theorem MA_at (s : Fin 4096) (k : Fin 256) : MA m c (ix2 s k) = gA m c (ix3 0 s k) := by
  refine (congrFun ((found m c main_v10).trans (pre_v10 _)) _).trans ?_
  pointwise []
theorem MM_at (s : Fin 4096) (k : Fin 256) : MM m c (ix2 s k) = gM m c (ix3 0 s k) := by
  refine (congrFun ((found m c main_v11).trans (pre_v11 _)) _).trans ?_
  pointwise []
theorem Wt_at (e d : Fin 1024) : Wt m c (ix2 e d) = gW m c (ix3 0 e d) := by
  refine (congrFun ((found m c main_v13).trans (pre_v13 _)) _).trans ?_
  pointwise []
theorem G_at (s : Fin 4096) (k : Fin 512) : G m c (ix2 s k) = gG m c (ix3 0 s k) := by
  refine (congrFun ((found m c main_v3).trans (pre_v3 _)) _).trans ?_
  pointwise []
theorem O_at (s : Fin 4096) (k : Fin 512) : O m c (ix2 s k) = gY m c (ix3 0 s k) := by
  refine (congrFun ((found m c main_v2).trans (pre_v2 _)) _).trans ?_
  pointwise []
theorem MB_at (s : Fin 4096) (k : Fin 512) : MB m c (ix2 s k) = gY m c (ix3 0 s k) * (gG m c (ix3 0 s k) * Ideal.div 1 (1 + Ideal.exp (-gG m c (ix3 0 s k)))) := by
  refine (congrFun ((found m c main_v8).trans (pre_v8 _)) _).trans ?_
  pointwise [siluOf]

end Cert.Kernel2Ideal.Head
-- ==== Proof.Head.Close.lean ====
module

public import proofs.«01_k».proof.Proof.Head.Found
public import proofs.«01_k».proof.Proof.Head.Plain
public import proofs.«01_k».proof.Proof.Body.Finite
public import proofs.«01_k».proof.Proof.Body.Reals
public import proofs.«01_k».proof.Proof.Gen.Pre_finite2
public import proofs.«01_k».proof.Defs
public import Idealize.ShloMosaic.Lib.ReduceAll

/-! # The loss head and its reference leave the same results -/

@[expose] public section

set_option maxRecDepth 16384

noncomputable section

namespace Cert.HeadFinal

open Idealize.ShloMosaic Idealize.ShloMosaic.TcCoe Idealize.SL.Sem
open Cert.Reals (coe_sum)

/-! ## The mathematics over the real numbers -/

section
variable (X T : Fin 4096 → Fin 1024 → ℝ) (A M : Fin 4096 → Fin 256 → ℝ) (Y G : Fin 4096 → Fin 512 → ℝ) (W : Fin 1024 → Fin 1024 → ℝ)

/-- The logistic function. -/
def lo (g : ℝ) : ℝ := 1 / (1 + Real.exp (-g))
def mix (s : Fin 4096) (e : Fin 1024) : ℝ :=
  if h : e.val < 256 then A s ⟨e.val, h⟩
  else if h' : e.val < 768 then Y s ⟨e.val - 256, by omega⟩ * (G s ⟨e.val - 256, by omega⟩ * lo (G s ⟨e.val - 256, by omega⟩))
  else M s ⟨e.val - 768, by omega⟩
def er (s : Fin 4096) (d : Fin 1024) : ℝ := X s d + (∑ e, mix A M Y G s e * W e d) - T s d
def dy (s : Fin 4096) (d : Fin 1024) : ℝ := er X T A M Y G W s d * (1 / 1024)
def dm (s : Fin 4096) (e : Fin 1024) : ℝ := ∑ d, dy X T A M Y G W s d * W e d
def dw (e d : Fin 1024) : ℝ := ∑ s, mix A M Y G s e * dy X T A M Y G W s d
/-- A row's part of the loss. -/
def rowLoss (s : Fin 4096) : ℝ := 1 / 2 * ((∑ d, er X T A M Y G W s d * er X T A M Y G W s d) * (1 / 1024))
def total : ℝ := ∑ s, rowLoss X T A M Y G W s
def dgate (s : Fin 4096) (k : Fin 512) : ℝ :=
  dm X T A M Y G W s ⟨256 + k.val, by omega⟩ * Y s k * (lo (G s k) * (1 + G s k * (1 - lo (G s k))))
def dout (s : Fin 4096) (k : Fin 512) : ℝ := dm X T A M Y G W s ⟨256 + k.val, by omega⟩ * (G s k * lo (G s k))
end

theorem lo_coe (g : ℝ) : Ideal.div 1 (1 + Ideal.exp (-(g : EReal))) = (lo g : EReal) := by
  rw [← EReal.coe_neg, Ideal.exp_coe, ← EReal.coe_one, ← EReal.coe_add, Ideal.div_coe (by positivity), ← EReal.coe_mul, one_mul]
  rfl

/-! ## The kernel's program -/

section Kernel

open Cert.Kernel2Ideal Cert.Kernel2Ideal.Gen Cert.Kernel2Ideal.Head

theorem sg_coe (g : ℝ) : sg (g : EReal) = (lo g : EReal) := by
  unfold sg
  rw [zero_sub, lo_coe]

/-- A sum over the row tiles and the rows of each is the sum over all rows. -/
theorem sum_rows (f : Fin 4096 → ℝ) : ∑ i : Fin 8, ∑ r : Fin 512, f (row i r) = ∑ s, f s := by
  rw [← Cert.Reals.sum_tiles f]
  refine Finset.sum_congr rfl fun i _ => Finset.sum_congr rfl fun r _ => congrArg f (Fin.ext ?_)
  show i.val * 512 + r.val = 512 * i.val + r.val
  omega

variable (m : (ℓ : Loc nD τ sig) → Buf (Elt Ideal) ℓ) (c : Dev nD)
variable (X T : Fin 4096 → Fin 1024 → ℝ) (A M : Fin 4096 → Fin 256 → ℝ) (Y G : Fin 4096 → Fin 512 → ℝ) (W : Fin 1024 → Fin 1024 → ℝ)

/-- The program's arguments are these real numbers. -/
structure Args : Prop where
  x : ∀ s d, gX m c (ix3 0 s d) = (X s d : EReal)
  a : ∀ s d, gA m c (ix3 0 s d) = (A s d : EReal)
  y : ∀ s d, gY m c (ix3 0 s d) = (Y s d : EReal)
  g : ∀ s d, gG m c (ix3 0 s d) = (G s d : EReal)
  mm : ∀ s d, gM m c (ix3 0 s d) = (M s d : EReal)
  w : ∀ s d, gW m c (ix3 0 s d) = (W s d : EReal)
  t : ∀ s d, gT m c (ix3 0 s d) = (T s d : EReal)

variable {m c X T A M Y G W} (h : Args m c X T A M Y G W)
include h

theorem mix_real (s : Fin 4096) (e : Fin 1024) : mixA (MA m c) (MB m c) (MM m c) s e = (mix A M Y G s e : EReal) := by
  unfold mixA mix
  split
  · rw [MA_at, h.a]
  · split
    · rw [MB_at, h.y, h.g, lo_coe, ← EReal.coe_mul, ← EReal.coe_mul]
    · rw [MM_at, h.mm]
theorem er_real (s : Fin 4096) (d : Fin 1024) : errA (Head.X m c) (Head.T m c) (MA m c) (MB m c) (MM m c) (Wt m c) s d = (er X T A M Y G W s d : EReal) := by
  unfold errA er
  rw [X_at, T_at, h.x, h.t, Finset.sum_congr rfl fun e _ => show _ = ((mix A M Y G s e * W e d : ℝ) : EReal) by rw [mix_real h, Wt_at, h.w, ← EReal.coe_mul],
    coe_sum, ← EReal.coe_add, ← EReal.coe_sub]
theorem dy_real (s : Fin 4096) (d : Fin 1024) : dyA (Head.X m c) (Head.T m c) (MA m c) (MB m c) (MM m c) (Wt m c) s d = (dy X T A M Y G W s d : EReal) := by
  unfold dyA dy
  rw [er_real h, ← EReal.coe_mul]
theorem dm_real (s : Fin 4096) (e : Fin 1024) : dmixA (Head.X m c) (Head.T m c) (MA m c) (MB m c) (MM m c) (Wt m c) s e = (dm X T A M Y G W s e : EReal) := by
  unfold dmixA dm
  rw [Finset.sum_congr rfl fun d _ => show _ = ((dy X T A M Y G W s d * W e d : ℝ) : EReal) by rw [dy_real h, Wt_at, h.w, ← EReal.coe_mul], coe_sum]
theorem dw_real (e d : Fin 1024) : ∑ i : Fin 8, PW m c e d i = (dw X T A M Y G W e d : EReal) := by
  unfold PW partW dw
  simp only [mix_real h, dy_real h, ← EReal.coe_mul, coe_sum]
  rw [sum_rows fun s => mix A M Y G s e * dy X T A M Y G W s d]
theorem total_real : ∑ i : Fin 8, PL m c i = (total X T A M Y G W : EReal) := by
  unfold total
  rw [← sum_rows, ← coe_sum]
  refine Finset.sum_congr rfl fun i _ => ?_
  unfold PL partL rowLoss
  simp only [er_real h, ← EReal.coe_mul, coe_sum]
  rw [Finset.mul_sum]
theorem dgate_real (s : Fin 4096) (k : Fin 512) :
    gateGrad (dmixA (Head.X m c) (Head.T m c) (MA m c) (MB m c) (MM m c) (Wt m c) s ⟨256 + k.val, by omega⟩) (Head.G m c (ix2 s k)) (O m c (ix2 s k)) = (dgate X T A M Y G W s k : EReal) := by
  unfold gateGrad dgate
  rw [dm_real h, G_at, O_at, h.g, h.y, sg_coe]
  simp only [← EReal.coe_one, ← EReal.coe_mul, ← EReal.coe_add, ← EReal.coe_sub]
theorem dout_real (s : Fin 4096) (k : Fin 512) :
    outGrad (dmixA (Head.X m c) (Head.T m c) (MA m c) (MB m c) (MM m c) (Wt m c) s ⟨256 + k.val, by omega⟩) (Head.G m c (ix2 s k)) = (dout X T A M Y G W s k : EReal) := by
  unfold outGrad dout
  rw [dm_real h, G_at, h.g, sg_coe]
  simp only [← EReal.coe_mul]

end Kernel

/-! ## The reference -/

section Reference

open Cert.Reference2Ideal Cert.Reference2Ideal.Plain

variable {X T : Fin 4096 → Fin 1024 → ℝ} {A M : Fin 4096 → Fin 256 → ℝ} {Y G : Fin 4096 → Fin 512 → ℝ} {W : Fin 1024 → Fin 1024 → ℝ}
variable {x : FVec Ideal S1x4096x1024 .f32} {a : FVec Ideal S1x4096x256 .f32} {y g : FVec Ideal S1x4096x512 .f32} {d : FVec Ideal S1x4096x256 .f32}
  {w : FVec Ideal S1x1024x1024 .f32} {t : FVec Ideal S1x4096x1024 .f32}

theorem silu_real (hg : ∀ s k, g (ix3 0 s k) = (G s k : EReal)) (s : Fin 4096) (k : Fin 512) : silu g (ix3 0 s k) = ((G s k * lo (G s k) : ℝ) : EReal) := by
  show g (ix3 0 s k) * sigmoid g (ix3 0 s k) = _
  rw [sigmoid_at, hg, lo_coe, ← EReal.coe_mul]
theorem rmix_real (ha : ∀ s k, a (ix3 0 s k) = (A s k : EReal)) (hy : ∀ s k, y (ix3 0 s k) = (Y s k : EReal)) (hg : ∀ s k, g (ix3 0 s k) = (G s k : EReal))
    (hd : ∀ s k, d (ix3 0 s k) = (M s k : EReal)) (s : Fin 4096) (e : Fin 1024) : wholeMix a y g d (ix3 0 s e) = (mix A M Y G s e : EReal) := by
  unfold wholeMix
  rw [mixed_at]
  unfold mix
  split
  · rw [ha]
  · split
    · show y _ * silu g _ = _
      rw [hy, silu_real hg, ← EReal.coe_mul]
    · rw [hd]

variable (hx : ∀ s k, x (ix3 0 s k) = (X s k : EReal)) (ha : ∀ s k, a (ix3 0 s k) = (A s k : EReal)) (hy : ∀ s k, y (ix3 0 s k) = (Y s k : EReal))
  (hg : ∀ s k, g (ix3 0 s k) = (G s k : EReal)) (hd : ∀ s k, d (ix3 0 s k) = (M s k : EReal)) (hw : ∀ s k, w (ix3 0 s k) = (W s k : EReal))
  (ht : ∀ s k, t (ix3 0 s k) = (T s k : EReal))
include hx ha hy hg hd hw ht

theorem rer_real (s : Fin 4096) (k : Fin 1024) : wholeErr x a y g d w t (ix3 0 s k) = (er X T A M Y G W s k : EReal) := by
  unfold wholeErr
  rw [err_at, hx, ht]
  unfold er
  simp only [rmix_real ha hy hg hd, flatW_at, hw, ← EReal.coe_mul, coe_sum, ← EReal.coe_add, ← EReal.coe_sub]
theorem rdy_real (s : Fin 4096) (k : Fin 1024) : rDx x a y g d w t (ix3 0 s k) = (dy X T A M Y G W s k : EReal) := by
  unfold rDx
  rw [dErr_at, rer_real hx ha hy hg hd hw ht, mul_one, Ideal.div_coe (by norm_num)]
  unfold dy
  simp only [← EReal.coe_mul]
  exact congrArg _ (by ring)
theorem rdm_real (s : Fin 4096) (e : Fin 1024) : wholeDm x a y g d w t (ix3 0 s e) = (dm X T A M Y G W s e : EReal) := by
  unfold wholeDm
  rw [dMixed_at]
  unfold dm
  simp only [show ∀ k, dErr (wholeErr x a y g d w t) (ix3 0 s k) = _ from rdy_real hx ha hy hg hd hw ht s, flatW_at, hw, ← EReal.coe_mul, coe_sum]
theorem rdw_real (e k : Fin 1024) : rDw x a y g d w t (ix3 0 e k) = (dw X T A M Y G W e k : EReal) := by
  unfold rDw
  rw [dWeight_at]
  unfold dw
  simp only [show ∀ s, dErr (wholeErr x a y g d w t) (ix3 0 s k) = _ from fun s => rdy_real hx ha hy hg hd hw ht s k, rmix_real ha hy hg hd, ← EReal.coe_mul, coe_sum]
  exact congrArg _ (Finset.sum_congr rfl fun s _ => mul_comm _ _)
theorem rtotal_real (j) : rLoss x a y g d w t j = (total X T A M Y G W : EReal) := by
  unfold rLoss
  rw [loss_at]
  unfold total rowLoss
  simp only [rer_real hx ha hy hg hd hw ht, Ideal.div_coe (show (1024 : ℝ) ≠ 0 by norm_num), ← EReal.coe_mul, coe_sum, Finset.mul_sum]
theorem rdgate_real (s : Fin 4096) (k : Fin 512) : rDgb x a y g d w t (ix3 0 s k) = (dgate X T A M Y G W s k : EReal) := by
  unfold rDgb
  rw [dGate_at, sigmoid_at, hg, lo_coe]
  rw [show mulf y (part1 (wholeDm x a y g d w t)) (ix3 0 s k) = y (ix3 0 s k) * part1 (wholeDm x a y g d w t) (ix3 0 s k) from rfl,
    part1_at, rdm_real hx ha hy hg hd hw ht, hy]
  unfold dgate
  simp only [← EReal.coe_one, ← EReal.coe_mul, ← EReal.coe_add, ← EReal.coe_sub]
  exact congrArg _ (by ring)
theorem rdout_real (s : Fin 4096) (k : Fin 512) : rDyb x a y g d w t (ix3 0 s k) = (dout X T A M Y G W s k : EReal) := by
  unfold rDyb
  rw [show mulf (part1 (wholeDm x a y g d w t)) (silu g) (ix3 0 s k) = part1 (wholeDm x a y g d w t) (ix3 0 s k) * silu g (ix3 0 s k) from rfl,
    part1_at, rdm_real hx ha hy hg hd hw ht, silu_real hg, ← EReal.coe_mul]
  rfl
theorem rdma_real (s : Fin 4096) (k : Fin 256) : rDma x a y g d w t (ix3 0 s k) = (dm X T A M Y G W s ⟨k.val, by omega⟩ : EReal) := by
  unfold rDma
  rw [part0_at, rdm_real hx ha hy hg hd hw ht]
theorem rdmm_real (s : Fin 4096) (k : Fin 256) : rDmm x a y g d w t (ix3 0 s k) = (dm X T A M Y G W s ⟨768 + k.val, by omega⟩ : EReal) := by
  unfold rDmm
  rw [part2_at, rdm_real hx ha hy hg hd hw ht]

end Reference

/-! ## The precondition -/

section Precondition

open Cert.Pre_finite2

/-- What the precondition says of the arguments: every element of each is a real number. -/
theorem reals [Facts] (x : FVec Ideal S1x4096x1024 .f32) (a : FVec Ideal S1x4096x256 .f32) (y g : FVec Ideal S1x4096x512 .f32) (d : FVec Ideal S1x4096x256 .f32)
    (w : FVec Ideal S1x1024x1024 .f32) (t : FVec Ideal S1x4096x1024 .f32) (e : fn (F := Ideal) x a y g d w t = fun _ => 1#1) :
    (∀ i, ∃ r : ℝ, x i = (r : EReal)) ∧ (∀ i, ∃ r : ℝ, a i = (r : EReal)) ∧ (∀ i, ∃ r : ℝ, y i = (r : EReal)) ∧ (∀ i, ∃ r : ℝ, g i = (r : EReal))
    ∧ (∀ i, ∃ r : ℝ, d i = (r : EReal)) ∧ (∀ i, ∃ r : ℝ, w i = (r : EReal)) ∧ (∀ i, ∃ r : ℝ, t i = (r : EReal)) := by
  have e0 : fn (F := Ideal) x a y g d w t ix0 = 1#1 := congrFun e ix0
  unfold fn fn_part1 at e0
  dsimp only at e0
  obtain ⟨e1, et⟩ := Cert.Finite.both _ _ e0
  obtain ⟨e2, ew⟩ := Cert.Finite.both _ _ e1
  obtain ⟨e3, ed⟩ := Cert.Finite.both _ _ e2
  obtain ⟨e4, eg⟩ := Cert.Finite.both _ _ e3
  obtain ⟨e5, ey⟩ := Cert.Finite.both _ _ e4
  obtain ⟨ex, ea⟩ := Cert.Finite.both _ _ e5
  exact ⟨fun i => Cert.Finite.real_of_below _ (Host.reduce_andi_all _ _ _ _ _ ex i), fun i => Cert.Finite.real_of_below _ (Host.reduce_andi_all _ _ _ _ _ ea i),
    fun i => Cert.Finite.real_of_below _ (Host.reduce_andi_all _ _ _ _ _ ey i), fun i => Cert.Finite.real_of_below _ (Host.reduce_andi_all _ _ _ _ _ eg i),
    fun i => Cert.Finite.real_of_below _ (Host.reduce_andi_all _ _ _ _ _ ed i), fun i => Cert.Finite.real_of_below _ (Host.reduce_andi_all _ _ _ _ _ ew i),
    fun i => Cert.Finite.real_of_below _ (Host.reduce_andi_all _ _ _ _ _ et i)⟩

end Precondition

/-! ## Together -/

section

open Cert.Kernel2Ideal Cert.Kernel2Ideal.Gen Cert.Kernel2Ideal.Head

/-- What the kernel's program leaves in a buffer. -/
abbrev kEnd (m : (ℓ : Loc nD τ sig) → Buf (Elt Ideal) ℓ) (c : Dev nD) (b : Ref sig .tc) := Pipeline.afterTail₀ cfgs (dats m) 0 (V0 m) [hostOps1] c b

theorem lead1 {n k : ℕ} (y : Shape.Idx ⟨3, ![1, n, k]⟩) : y = ix3 0 (y 1) (y 2) := by
  funext i
  fin_cases i
  · exact Subsingleton.elim (α := Fin 1) _ _
  · rfl
  · rfl

open Cert.Reference2Ideal.Plain in
/-- On real arguments the kernel's program and the reference leave the same loss and gradients. -/
theorem results_equal : Cert.algebraic_Kernel2Ideal_Reference2Ideal_pre_finite2 := by
  intro m g m' g' hpre hargs
  have key : ∀ c : Dev nD,
      (kEnd m c main_v20 : FVec Ideal S_ .f32) = rLoss (aX m' c) (aA m' c) (aY m' c) (aG m' c) (aM m' c) (aW m' c) (aT m' c)
      ∧ (kEnd m c main_v21 : FVec Ideal S1x4096x1024 .f32) = rDx (aX m' c) (aA m' c) (aY m' c) (aG m' c) (aM m' c) (aW m' c) (aT m' c)
      ∧ (kEnd m c main_v22 : FVec Ideal S1x4096x256 .f32) = rDma (aX m' c) (aA m' c) (aY m' c) (aG m' c) (aM m' c) (aW m' c) (aT m' c)
      ∧ (kEnd m c main_v23 : FVec Ideal S1x4096x512 .f32) = rDyb (aX m' c) (aA m' c) (aY m' c) (aG m' c) (aM m' c) (aW m' c) (aT m' c)
      ∧ (kEnd m c main_v25 : FVec Ideal S1x4096x512 .f32) = rDgb (aX m' c) (aA m' c) (aY m' c) (aG m' c) (aM m' c) (aW m' c) (aT m' c)
      ∧ (kEnd m c main_v26 : FVec Ideal S1x4096x256 .f32) = rDmm (aX m' c) (aA m' c) (aY m' c) (aG m' c) (aM m' c) (aW m' c) (aT m' c)
      ∧ (kEnd m c main_v27 : FVec Ideal S1x1024x1024 .f32) = rDw (aX m' c) (aA m' c) (aY m' c) (aG m' c) (aM m' c) (aW m' c) (aT m' c) := by
    intro c
    obtain ⟨hx, ha, hy, hg, hd, hw, ht⟩ := reals _ _ _ _ _ _ _ (hpre c)
    obtain ⟨e0, e1, e2, e3, e4, e5, e6⟩ := hargs c
    choose X hX using fun s k => hx (ix3 0 s k)
    choose A hA using fun s k => ha (ix3 0 s k)
    choose Y hY using fun s k => hy (ix3 0 s k)
    choose G hG using fun s k => hg (ix3 0 s k)
    choose M hM using fun s k => hd (ix3 0 s k)
    choose W hW using fun s k => hw (ix3 0 s k)
    choose T hT using fun s k => ht (ix3 0 s k)
    have h : Args m c X T A M Y G W := ⟨hX, hA, hY, hG, hM, hW, hT⟩
    have r0 : ∀ s k, aX m' c (ix3 0 s k) = (X s k : EReal) := fun s k => (congrFun e0 _).trans (hX s k)
    have r1 : ∀ s k, aA m' c (ix3 0 s k) = (A s k : EReal) := fun s k => (congrFun e1 _).trans (hA s k)
    have r2 : ∀ s k, aY m' c (ix3 0 s k) = (Y s k : EReal) := fun s k => (congrFun e2 _).trans (hY s k)
    have r3 : ∀ s k, aG m' c (ix3 0 s k) = (G s k : EReal) := fun s k => (congrFun e3 _).trans (hG s k)
    have r4 : ∀ s k, aM m' c (ix3 0 s k) = (M s k : EReal) := fun s k => (congrFun e4 _).trans (hM s k)
    have r5 : ∀ s k, aW m' c (ix3 0 s k) = (W s k : EReal) := fun s k => (congrFun e5 _).trans (hW s k)
    have r6 : ∀ s k, aT m' c (ix3 0 s k) = (T s k : EReal) := fun s k => (congrFun e6 _).trans (hT s k)
    refine ⟨funext fun j => ?_, funext fun j => ?_, funext fun j => ?_, funext fun j => ?_, funext fun j => ?_, funext fun j => ?_, funext fun j => ?_⟩
    · exact (congrFun (tail_eq m c _) j).trans ((res_loss m c j).trans ((total_real h).trans (rtotal_real r0 r1 r2 r3 r4 r5 r6 j).symm))
    · rw [lead1 j]
      exact (congrFun (tail_eq m c _) _).trans ((res_dx m c _ _).trans ((dy_real h _ _).trans (rdy_real r0 r1 r2 r3 r4 r5 r6 _ _).symm))
    · rw [lead1 j]
      exact (congrFun (tail_eq m c _) _).trans ((res_dma m c _ _).trans ((dm_real h _ _).trans (rdma_real r0 r1 r2 r3 r4 r5 r6 _ _).symm))
    · rw [lead1 j]
      exact (congrFun (tail_eq m c _) _).trans ((res_dyb m c _ _).trans ((dout_real h _ _).trans (rdout_real r0 r1 r2 r3 r4 r5 r6 _ _).symm))
    · rw [lead1 j]
      exact (congrFun (tail_eq m c _) _).trans ((res_dgb m c _ _).trans ((dgate_real h _ _).trans (rdgate_real r0 r1 r2 r3 r4 r5 r6 _ _).symm))
    · rw [lead1 j]
      exact (congrFun (tail_eq m c _) _).trans ((res_dmm m c _ _).trans ((dm_real h _ _).trans (rdmm_real r0 r1 r2 r3 r4 r5 r6 _ _).symm))
    · rw [lead1 j]
      exact (congrFun (tail_eq m c _) _).trans ((res_dw m c _ _).trans ((dw_real h _ _).trans (rdw_real r0 r1 r2 r3 r4 r5 r6 _ _).symm))
  refine ⟨fun c => rLoss (aX m' c) (aA m' c) (aY m' c) (aG m' c) (aM m' c) (aW m' c) (aT m' c), fun c => rDx (aX m' c) (aA m' c) (aY m' c) (aG m' c) (aM m' c) (aW m' c) (aT m' c),
    fun c => rDma (aX m' c) (aA m' c) (aY m' c) (aG m' c) (aM m' c) (aW m' c) (aT m' c), fun c => rDyb (aX m' c) (aA m' c) (aY m' c) (aG m' c) (aM m' c) (aW m' c) (aT m' c),
    fun c => rDgb (aX m' c) (aA m' c) (aY m' c) (aG m' c) (aM m' c) (aW m' c) (aT m' c), fun c => rDmm (aX m' c) (aA m' c) (aY m' c) (aG m' c) (aM m' c) (aW m' c) (aT m' c),
    fun c => rDw (aX m' c) (aA m' c) (aY m' c) (aG m' c) (aM m' c) (aW m' c) (aT m' c), ?_, run_steps m' g'⟩
  refine (θ_run Cert.Kernel2Ideal.defs _ _).mono (fun r h c => ?_) (θ_run_and (run_main m g) (Cert.Kernel2Ideal.Gen.frame m g))
  refine ⟨(h.1.rest_eq c main_v20 (by decide)).trans (key c).1, (h.1.rest_eq c main_v21 (by decide)).trans (key c).2.1,
    (h.1.rest_eq c main_v22 (by decide)).trans (key c).2.2.1, (h.1.rest_eq c main_v23 (by decide)).trans (key c).2.2.2.1,
    (h.1.rest_eq c main_v25 (by decide)).trans (key c).2.2.2.2.1, (h.1.rest_eq c main_v26 (by decide)).trans (key c).2.2.2.2.2.1,
    (h.1.rest_eq c main_v27 (by decide)).trans (key c).2.2.2.2.2.2, h.2.1 c⟩

end

end Cert.HeadFinal
-- ==== Proof.Fwd.Plain.lean ====
module

public import proofs.«01_k».proof.Proof.Gen.Reference3Ideal.Run
public import proofs.«01_k».proof.Proof.Body.RefReals
public import Idealize.ShloMosaic.Lib.Quiescent
public import Idealize.ShloMosaic.Lib.Claim
public import Idealize.ShloMosaic.Lib.Pointwise

/-! # The forward pass's reference

Its probabilities are those of the backward pass's reference; what is new is their product with the values,
the heads side by side, and the gate. -/

@[expose] public section

set_option maxRecDepth 16384

noncomputable section

namespace Cert.Reference3Ideal.Plain

open Idealize.ShloMosaic Idealize.ShloMosaic.TcCoe Idealize.ShloMosaic.StableHlo Idealize.SL.Sem
open Cert.Reference3Ideal Cert.Reference3Ideal.Gen
open Cert.ReferenceIdeal.Steps (cumR logitsR topR maxR expR sumR probR)
open Cert.ReferenceIdeal.Steps (maxR_at sumR_at)

/-- Each head's probabilities times its values, a row of the probabilities for a query. -/
def weighted (p : FVec Ideal S1x8x4096x4096 .f32) (v : FVec Ideal S1x8x4096x64 .f32) : FVec Ideal S1x8x4096x64 .f32 :=
  Host.dotGeneral dot_S1x8x4096x4096_S1x8x4096x64_S1x8x4096x64_3_2_2_3_01_01 none p v
/-- The heads side by side. -/
def beside (x : FVec Ideal S1x8x4096x64 .f32) : FVec Ideal S1x4096x512 .f32 :=
  shapeCast _ (transpose S1x4096x8x64 [0, 2, 1, 3] x transposes_S1x8x4096x64_S1x4096x8x64_0_2_1_3) shapeCasts_S1x4096x8x64_S1x4096x512
/-- The gate's activation. -/
def silu (g : FVec Ideal S1x4096x512 .f32) : FVec Ideal S1x4096x512 .f32 :=
  mulf g (Host.divf (broadcastInDim S1x4096x512 ![] bcast_S_S1x4096x512 (constant S_ .f32 0x3F800000#32))
    (addf (broadcastInDim S1x4096x512 ![] bcast_S_S1x4096x512 (constant S_ .f32 0x3F800000#32)) (Host.exp (Host.negf g))))

/-- The exponentials and the probabilities. -/
def exps (q k : FVec Ideal S1x8x4096x64 .f32) (f : FVec Ideal S1x8x4096 .f32) : FVec Ideal S1x8x4096x4096 .f32 :=
  expR (logitsR q k (cumR f)) (maxR (topR (logitsR q k (cumR f))))
def probs (q k : FVec Ideal S1x8x4096x64 .f32) (f : FVec Ideal S1x8x4096 .f32) : FVec Ideal S1x8x4096x4096 .f32 :=
  probR (exps q k f) (sumR (exps q k f))

/-- The sum of each query's exponentials. -/
def rowSums (e : FVec Ideal S1x8x4096x4096 .f32) : FVec Ideal S1x8x4096 .f32 :=
  Host.reduceAdd e (constant S_ .f32 0x00000000#32) reducesTo_S1x8x4096x4096_S1x8x4096_d3 h_S_
/-- A maximum, the logarithm of a sum against it, less a query's own term. -/
def against (x s z : FVec Ideal S1x8x4096 .f32) : FVec Ideal S1x8x4096 .f32 := subf (addf x (Host.log s)) z
/-- Each query's log-sum: its largest logit, the logarithm of the sum of the exponentials against it, less the query's own running sum of the gates. -/
def logSums (q k : FVec Ideal S1x8x4096x64 .f32) (f : FVec Ideal S1x8x4096 .f32) : FVec Ideal S1x8x4096 .f32 :=
  against (topR (logitsR q k (cumR f))) (rowSums (expR (logitsR q k (cumR f)) (topR (logitsR q k (cumR f))))) (cumR f)

variable (m : (ℓ : Loc nD τ sig) → Buf (Elt Ideal) ℓ) (c : Dev nD)

theorem out0 : Cert.Reference3Ideal.Value.res_out0 m c
    = beside (weighted (probs (m ((c.tc : Thread nD τ).loc main_arg0)) (m ((c.tc : Thread nD τ).loc main_arg1)) (m ((c.tc : Thread nD τ).loc main_arg3))) (m ((c.tc : Thread nD τ).loc main_arg2))) := by
  unfold Cert.Reference3Ideal.Value.res_out0 Cert.Reference3Ideal.Value.res_main_v31
  rfl
theorem out1 : Cert.Reference3Ideal.Value.res_out1 m c
    = mulf (beside (weighted (probs (m ((c.tc : Thread nD τ).loc main_arg0)) (m ((c.tc : Thread nD τ).loc main_arg1)) (m ((c.tc : Thread nD τ).loc main_arg3))) (m ((c.tc : Thread nD τ).loc main_arg2))))
      (silu (m ((c.tc : Thread nD τ).loc main_arg4))) := by
  unfold Cert.Reference3Ideal.Value.res_out1 Cert.Reference3Ideal.Value.res_main_v60
  rfl

theorem out2 : Cert.Reference3Ideal.Value.res_out2 m c
    = logSums (m ((c.tc : Thread nD τ).loc main_arg0)) (m ((c.tc : Thread nD τ).loc main_arg1)) (m ((c.tc : Thread nD τ).loc main_arg3)) := by
  unfold Cert.Reference3Ideal.Value.res_out2 Cert.Reference3Ideal.Value.res_main_v58
  rfl

/-! ## At elements -/

theorem eta8 (y : Shape.Idx ⟨3, ![1, 8, 4096]⟩) : y = ix3 (0 : Fin 1) (y 1 : Fin 8) (y 2 : Fin 4096) := by
  funext a
  match a with
  | ⟨0, _⟩ => exact Subsingleton.elim (α := Fin 1) _ _
  | ⟨1, _⟩ => rfl
  | ⟨2, _⟩ => rfl

/-- Negative infinity is no larger than a logit. -/
theorem max_low (x : FVec Ideal S1x8x4096 .f32) : maxR x = x := by
  funext y
  rw [eta8 y]
  exact (maxR_at x (y 1) (y 2)).trans (max_eq_right bot_le)

theorem against_at (x s z : FVec Ideal S1x8x4096 .f32) (h : Fin 8) (t : Fin 4096) :
    against x s z (ix3 0 h t) = x (ix3 0 h t) + Ideal.log (s (ix3 0 h t)) - z (ix3 0 h t) := rfl

theorem rowSums_at (e : FVec Ideal S1x8x4096x4096 .f32) (h : Fin 8) (t : Fin 4096) : rowSums e (ix3 0 h t) = ∑ x, e (ix4 0 h t x) := by
  pointwise [rowSums]
theorem sumR_row (e : FVec Ideal S1x8x4096x4096 .f32) (h : Fin 8) (t : Fin 4096) : sumR e (ix4 0 h t 0) = rowSums e (ix3 0 h t) :=
  (sumR_at e h t).trans (rowSums_at e h t).symm

theorem logSums_at (q k : FVec Ideal S1x8x4096x64 .f32) (f : FVec Ideal S1x8x4096 .f32) (h : Fin 8) (t : Fin 4096) :
    logSums q k f (ix3 0 h t) = maxR (topR (logitsR q k (cumR f))) (ix3 0 h t) + Ideal.log (sumR (exps q k f) (ix4 0 h t 0)) - cumR f (ix3 0 h t) := by
  unfold logSums exps
  rw [max_low, sumR_row]
  exact against_at _ _ _ h t

theorem weighted_at (p : FVec Ideal S1x8x4096x4096 .f32) (v : FVec Ideal S1x8x4096x64 .f32) (h : Fin 8) (t : Fin 4096) (d : Fin 64) :
    weighted p v (ix4 0 h t d) = ∑ s : Fin 4096, p (ix4 0 h t s) * v (ix4 0 h s d) := by
  pointwise [weighted]

theorem beside_at (x : FVec Ideal S1x8x4096x64 .f32) (s : Fin 4096) (h : Fin 8) (d : Fin 64) (n : Fin 512) (e : n.val = 64 * h.val + d.val) :
    beside x (ix3 0 s n) = x (ix4 0 h s d) := by
  pointwise [beside]
  refine congrArg x ?_
  funext a
  refine Fin.ext ?_
  fin_cases a <;> simp <;> omega

theorem silu_at (g : FVec Ideal S1x4096x512 .f32) (s : Fin 4096) (n : Fin 512) :
    silu g (ix3 0 s n) = g (ix3 0 s n) * Ideal.div 1 (1 + Ideal.exp (-(g (ix3 0 s n)))) := by
  pointwise [silu]

/-- It ends with its arguments unchanged and every counter at zero: it declares no semaphore. -/
theorem ends (g : Dev nD → PrngReg) :
    θ_run (defs (F := Ideal)) (onTc (τ := τ) (main (F := Ideal))) ⟨m, fun _ => 0, g⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.sem = fun _ => 0) :=
  (θ_run defs _ _).mono (fun r h => ⟨fun c => (h c).2.2.2, sem_eq_zero_of_no_sems (by decide) r.2⟩) (Cert.Reference3Ideal.Value.run m g)

end Cert.Reference3Ideal.Plain
-- ==== Proof.Fwd.Pay.lean ====
module

public import proofs.«01_k».proof.Proof.Gen.Kernel3Ideal.Skeleton
public import Idealize.ShloMosaic.Lib.Pointwise
public import Idealize.ShloMosaic.Lib.WordCmp
public import Idealize.ShloMosaic.PureOps.Ideal

/-! # The forward kernel's steps, element by element

One step of a head takes a tile of 512 keys: the scores of the query's rows against the keys, the
new running maximum, and the running sums of the values brought to the new maximum. -/

@[expose] public section

set_option maxRecDepth 16384

noncomputable section

namespace Cert.Kernel3Ideal.Fwd

open Idealize.ShloMosaic Idealize.ShloMosaic.TcCoe
open Cert.Kernel3Ideal Cert.Kernel3Ideal.Gen

/-- The scores of the rows of a tile of queries against those of a tile of keys. -/
theorem score_at (q k : FVec Ideal S512x128 .bf16) (r c : Fin 512) : k0_pay3 q k (ix2 r c) = ∑ l : Fin 128, q (ix2 r l) * k (ix2 c l) := by
  pointwise [k0_pay3]

/-- The new running maximum. -/
theorem max_at (m : FVec Ideal S512x1 .f32) (s : FVec Ideal S512x512 .f32) (r : Fin 512) :
    k0_pay26 m s (ix2 r 0) = max (m (ix2 r 0)) (Finset.fold max ⊥ (fun c => s (ix2 r c)) Finset.univ) := by
  have hlow : Ideal.ofBits .f32 4286578688#32 = (⊥ : EReal) := by
    simp [Ideal.ofBits, Ideal.ieee]
  pointwise [k0_pay26, hlow]

/-- The new running sums. -/
theorem sum_at (m : FVec Ideal S512x1 .f32) (a : FVec Ideal S512x128 .f32) (s : FVec Ideal S512x512 .f32) (v : FVec Ideal S512x128 .bf16) (r : Fin 512) (l : Fin 128) :
    k0_pay27 m a s v (ix2 r l) = Ideal.exp (m (ix2 r 0) - k0_pay26 m s (ix2 r 0)) * a (ix2 r l)
      + ∑ c : Fin 512, Ideal.exp (s (ix2 r c) - k0_pay26 m s (ix2 r 0)) * v (ix2 c l) := by
  pointwise [k0_pay27]

/-- The choice between a key not after the query and one after it. -/
theorem choose_le (a b : Fin 512) (x y : EReal) :
    Scalar.select (IntOp.cmpi CmpIPredicate.sle (BitVec.ofNat 32 a.val) (BitVec.ofNat 32 b.val)) x y = if a.val ≤ b.val then x else y := by
  by_cases h : a.val ≤ b.val
  · have hc : IntOp.cmpi CmpIPredicate.sle (BitVec.ofNat 32 a.val) (BitVec.ofNat 32 b.val) = 1#1 := by
      word_cmp
    rw [hc, if_pos h]; rfl
  · have hc : IntOp.cmpi CmpIPredicate.sle (BitVec.ofNat 32 a.val) (BitVec.ofNat 32 b.val) = 0#1 := by
      word_cmp
    rw [hc, if_neg h]; rfl

/-- The scores of the last tile: only keys not after the query. -/
theorem masked_at (q k : FVec Ideal S512x128 .bf16) (r c : Fin 512) :
    (k0_pay35 q k : FVec Ideal S512x512 .f32) (ix2 r c) = if c.val ≤ r.val then ∑ l : Fin 128, q (ix2 r l) * k (ix2 c l) else ⊥ := by
  have hm : (Named.named (F := Ideal) κ "mask" (φ := .f32) 0xF149F2CA#32 : EReal) = ⊥ := rfl
  rw [← choose_le c r, ← hm]
  pointwise [k0_pay35, k0_pay18, k0_pay19]

theorem start_max (r : Fin 512) : (k0_pay23 : FVec Ideal S512x1 .f32) (ix2 r 0) = ⊥ := rfl
theorem start_sum (r : Fin 512) (l : Fin 128) : (k0_pay24 : FVec Ideal S512x128 .f32) (ix2 r l) = 0 := by
  pointwise [k0_pay24]

/-- The choice of lane 64. -/
theorem choose_64 (x : Fin 128) (a b : EReal) :
    Scalar.select (IntOp.cmpi CmpIPredicate.eq (BitVec.ofNat 32 x.val) 64#32) a b = if x = ⟨64, by decide⟩ then a else b := by
  by_cases h : x.val = 64
  · have hc : IntOp.cmpi CmpIPredicate.eq (BitVec.ofNat 32 x.val) 64#32 = 1#1 := by
      word_cmp
    rw [hc, if_pos (Fin.ext h)]; rfl
  · have hc : IntOp.cmpi CmpIPredicate.eq (BitVec.ofNat 32 x.val) 64#32 = 0#1 := by
      word_cmp
    rw [hc, if_neg (fun e => h (congrArg Fin.val e))]; rfl
/-- The choice of the first 64 lanes. -/
theorem choose_lo (x : Fin 128) (a b : EReal) :
    Scalar.select (IntOp.cmpi CmpIPredicate.slt (BitVec.ofNat 32 x.val) 64#32) a b = if x.val < 64 then a else b := by
  by_cases h : x.val < 64
  · have hc : IntOp.cmpi CmpIPredicate.slt (BitVec.ofNat 32 x.val) 64#32 = 1#1 := by
      word_cmp
    rw [hc, if_pos h]; rfl
  · have hc : IntOp.cmpi CmpIPredicate.slt (BitVec.ofNat 32 x.val) 64#32 = 0#1 := by
      word_cmp
    rw [hc, if_neg h]; rfl

/-- The lanes' numbers. -/
abbrev nums : IVec S512x128 32 := iota .tc S512x128 32 [1] iota_S512x128_d1_w32

/-- Lane 64 of the running sums. -/
theorem total_at (a : FVec Ideal S512x128 .f32) (r : Fin 512) : k0_pay50 nums a (ix2 r 0) = a (ix2 r ⟨64, by decide⟩) := by
  have e : k0_pay50 nums a (ix2 r 0) = ∑ x : Fin 128, Scalar.select (IntOp.cmpi CmpIPredicate.eq (BitVec.ofNat 32 x.val) 64#32) (a (ix2 r x)) 0 := by
    pointwise [k0_pay50]
  rw [e]
  simp only [choose_64, Finset.sum_ite_eq', Finset.mem_univ, if_true]

/-- The running sums over the one in lane 64. -/
def outH (a : FVec Ideal S512x128 .f32) (r : Fin 512) (l : Fin 128) : EReal := a (ix2 r l) * Ideal.div 1 (a (ix2 r ⟨64, by decide⟩))

theorem over_at (a : FVec Ideal S512x128 .f32) (r : Fin 512) (l : Fin 128) : k0_pay51 nums a (ix2 r l) = outH a r l := by
  unfold outH
  rw [← total_at a r]
  pointwise [k0_pay51]

/-- Two heads side by side: the first in the lower lanes, the second in the upper. -/
theorem pair_at (a b : FVec Ideal S512x128 .f32) (r : Fin 512) (l : Fin 128) :
    k0_pay54 nums k0_pay17 b (k0_pay51 nums a) 64#32 (ix2 r l) = if l.val < 64 then outH a r l else outH b r ⟨(l.val + 64) % 128, Nat.mod_lt _ (by decide)⟩ := by
  have e : k0_pay54 nums k0_pay17 b (k0_pay51 nums a) 64#32 (ix2 r l)
      = Scalar.select (IntOp.cmpi CmpIPredicate.slt (BitVec.ofNat 32 l.val) 64#32) (k0_pay51 nums a (ix2 r l)) (k0_pay51 nums b (ix2 r ⟨(l.val + 128 - 64) % 128, Nat.mod_lt _ (by decide)⟩)) := by
    pointwise [k0_pay54, k0_pay53, k0_pay17, k0_pay51, k0_pay50]
  rw [e, choose_lo, over_at, over_at]
  split
  · rfl
  · exact congrArg (outH b r) (Fin.ext (by show (l.val + 128 - 64) % 128 = (l.val + 64) % 128; omega))
theorem pair1_at (a b : FVec Ideal S512x128 .f32) (r : Fin 512) (l : Fin 128) :
    k0_pay62 nums k0_pay17 a b k0_pay58 (ix2 r l) = if l.val < 64 then outH a r l else outH b r ⟨(l.val + 64) % 128, Nat.mod_lt _ (by decide)⟩ := by
  rw [← pair_at]
  exact congrFun (rfl : k0_pay62 nums k0_pay17 a b k0_pay58 = k0_pay54 nums k0_pay17 b (k0_pay51 nums a) 64#32) _

/-- The logistic function. -/
def sg (g : EReal) : EReal := Ideal.div 1 (1 + Ideal.exp (0 - g))

/-- The gated outputs. -/
theorem gated_at (a b : FVec Ideal S512x128 .f32) (g : FVec Ideal S512x128 .f32) (r : Fin 512) (l : Fin 128) :
    k0_pay55 nums k0_pay17 b (k0_pay51 nums a) 64#32 g (ix2 r l) = k0_pay54 nums k0_pay17 b (k0_pay51 nums a) 64#32 (ix2 r l) * (g (ix2 r l) * sg (g (ix2 r l))) := by
  unfold sg
  generalize hx : k0_pay51 nums a = x
  have e : k0_pay55 nums k0_pay17 b x 64#32 g = k0_pay1 (k0_pay54 nums k0_pay17 b x 64#32) (k0_pay63 g) (k0_pay64 g) := rfl
  rw [e]
  generalize k0_pay54 nums k0_pay17 b x 64#32 = y
  pointwise [k0_pay1, k0_pay63, k0_pay64]
theorem gated1_at (y : FVec Ideal S512x128 .f32) (g : FVec Ideal S512x128 .f32) (r : Fin 512) (l : Fin 128) :
    k0_pay1 y (k0_pay63 g) (k0_pay64 g) (ix2 r l) = y (ix2 r l) * (g (ix2 r l) * sg (g (ix2 r l))) := by
  unfold sg
  pointwise [k0_pay1, k0_pay63, k0_pay64]

/-- The choice of lane 0. -/
theorem choose_0 (x : Fin 128) (a b : EReal) :
    Scalar.select (IntOp.cmpi CmpIPredicate.eq (BitVec.ofNat 32 x.val) 0#32) a b = if x.val = 0 then a else b := by
  by_cases h : x.val = 0
  · have hc : IntOp.cmpi CmpIPredicate.eq (BitVec.ofNat 32 x.val) 0#32 = 1#1 := by
      word_cmp
    rw [hc, if_pos h]; rfl
  · have hc : IntOp.cmpi CmpIPredicate.eq (BitVec.ofNat 32 x.val) 0#32 = 0#1 := by
      word_cmp
    rw [hc, if_neg h]; rfl
/-- The choice of lane 1. -/
theorem choose_1 (x : Fin 128) (a b : EReal) :
    Scalar.select (IntOp.cmpi CmpIPredicate.eq (BitVec.ofNat 32 x.val) 1#32) a b = if x.val = 1 then a else b := by
  by_cases h : x.val = 1
  · have hc : IntOp.cmpi CmpIPredicate.eq (BitVec.ofNat 32 x.val) 1#32 = 1#1 := by
      word_cmp
    rw [hc, if_pos h]; rfl
  · have hc : IntOp.cmpi CmpIPredicate.eq (BitVec.ofNat 32 x.val) 1#32 = 0#1 := by
      word_cmp
    rw [hc, if_neg h]; rfl

/-- A head's log-sum: its maximum and the logarithm of the sum in lane 64. -/
def logH (m : FVec Ideal S512x1 .f32) (a : FVec Ideal S512x128 .f32) (r : Fin 512) : EReal := m (ix2 r 0) + Ideal.log (a (ix2 r ⟨64, by decide⟩))

/-- The log-sums of two heads, the first's in lane 0 and the second's in lane 1. -/
def twoLogs (m m' : FVec Ideal S512x1 .f32) (a b : FVec Ideal S512x128 .f32) (r : Fin 512) (l : Fin 128) : EReal :=
  if l.val = 1 then logH m' b r else if l.val = 0 then logH m a r else 0

theorem logs_first (m : FVec Ideal S512x1 .f32) (a : FVec Ideal S512x128 .f32) (r : Fin 512) (l : Fin 128) :
    k0_pay52 nums m a (ix2 r l) = if l.val = 0 then logH m a r else 0 := by
  unfold logH
  rw [← choose_0, ← total_at a r]
  generalize hz : k0_pay50 nums a = z
  pointwise [k0_pay52, hz]

theorem logs_at (m m' : FVec Ideal S512x1 .f32) (a b : FVec Ideal S512x128 .f32) (r : Fin 512) (l : Fin 128) :
    k0_pay56 nums m' b (k0_pay52 nums m a) 64#32 (ix3 0 r l) = twoLogs m m' a b r l := by
  unfold twoLogs
  rw [← logs_first, ← choose_1]
  unfold logH
  rw [← total_at b r]
  generalize k0_pay52 nums m a = y
  have hz : k0_pay53 nums b 64#32 = k0_pay50 nums b := rfl
  generalize hz' : k0_pay50 nums b = z at hz ⊢
  pointwise [k0_pay56, hz]

theorem logs1_at (m m' : FVec Ideal S512x1 .f32) (a b : FVec Ideal S512x128 .f32) (r : Fin 512) (l : Fin 128) :
    k0_pay2 (k0_pay61 nums m a m' b k0_pay57 k0_pay58) (ix3 0 r l) = twoLogs m m' a b r l := by
  rw [← logs_at]
  exact congrFun (rfl : k0_pay2 (k0_pay61 nums m a m' b k0_pay57 k0_pay58) = k0_pay56 nums m' b (k0_pay52 nums m a) 64#32) _

end Cert.Kernel3Ideal.Fwd
-- ==== Proof.Fwd.Row.lean ====
module

public import proofs.«01_k».proof.Proof.Body.Reals
public import Idealize.ShloMosaic.PureOps.Ideal

/-! # One row of the running softmax, in real numbers

A row holds a running maximum and, for each lane, a sum of values weighted by exponentials against
that maximum. Whatever the maximum is, it cancels when a lane is divided by another. -/

@[expose] public section

noncomputable section

namespace Cert.Kernel3Ideal.Fwd

open Idealize.ShloMosaic Cert.Reals

/-- A row whose sums, but for the factor of its maximum, are the real numbers `A`: before the first
    tile the maximum is the lowest value and the sums are zero. -/
def Good (m : EReal) (a : Fin 128 → EReal) (A : Fin 128 → ℝ) : Prop :=
  (m = ⊥ ∧ (∀ l, a l = 0) ∧ ∀ l, A l = 0) ∨ ∃ M : ℝ, m = (M : EReal) ∧ ∀ l, a l = ((Real.exp (-M) * A l : ℝ) : EReal)

/-- One tile's step. -/
theorem Good.step {m : EReal} {a : Fin 128 → EReal} {A : Fin 128 → ℝ} (hg : Good m a A) (s : Fin 512 → EReal) (L : Fin 512 → ℝ) (P : Fin 512 → Prop) [DecidablePred P]
    (hs : ∀ c, s c = if P c then (L c : EReal) else ⊥) (c0 : Fin 512) (h0 : P c0) (v : Fin 512 → Fin 128 → EReal) (V : Fin 512 → Fin 128 → ℝ) (hv : ∀ c l, v c l = (V c l : EReal))
    (m' : EReal) (hm : m' = max m (Finset.fold max ⊥ s Finset.univ)) (a' : Fin 128 → EReal) (ha : ∀ l, a' l = Ideal.exp (m - m') * a l + ∑ c, Ideal.exp (s c - m') * v c l) :
    ∃ M : ℝ, m' = (M : EReal) ∧ ∀ l, a' l = ((Real.exp (-M) * (A l + ∑ c, (if P c then Real.exp (L c) else 0) * V c l) : ℝ) : EReal) := by
  obtain ⟨R, hR⟩ := fold_real s (fun c => by
    rw [hs]; split
    · exact Or.inr ⟨_, rfl⟩
    · exact Or.inl rfl) c0 (by rw [hs, if_pos h0]; exact EReal.coe_ne_bot _)
  rw [hR] at hm
  have hsum : ∀ (M : ℝ), m' = (M : EReal) → ∀ l, ∑ c, Ideal.exp (s c - m') * v c l = ((Real.exp (-M) * ∑ c, (if P c then Real.exp (L c) else 0) * V c l : ℝ) : EReal) := by
    intro M hM l
    rw [Finset.mul_sum, ← coe_sum]
    refine Finset.sum_congr rfl fun c _ => ?_
    rw [hs, hv, hM]
    split
    · rw [← EReal.coe_sub, Ideal.exp_coe, ← EReal.coe_mul]
      congr 1
      rw [sub_eq_add_neg, Real.exp_add]
      ring
    · rw [sub_eq_add_neg, EReal.bot_add, Ideal.exp_bot, zero_mul, zero_mul, mul_zero]
      rfl
  rcases hg with ⟨e1, e2, e3⟩ | ⟨M, e1, e2⟩
  · have hM : m' = (R : EReal) := by rw [hm, e1]; exact max_eq_right bot_le
    refine ⟨R, hM, fun l => ?_⟩
    rw [ha, e2, e3, mul_zero, zero_add, zero_add, hsum R hM]
  · have hM : m' = ((max M R : ℝ) : EReal) := by rw [hm, e1]; exact (EReal.coe_strictMono.monotone.map_max).symm
    refine ⟨max M R, hM, fun l => ?_⟩
    rw [ha, e2, hsum _ hM, e1, hM, ← EReal.coe_sub, Ideal.exp_coe, ← EReal.coe_mul, ← EReal.coe_add]
    congr 1
    rw [sub_eq_add_neg, Real.exp_add, Real.exp_neg M]
    have := (Real.exp_pos M).ne'
    field_simp
    try ring

theorem good_start (m : EReal) (a : Fin 128 → EReal) (hm : m = ⊥) (ha : ∀ l, a l = 0) : Good m a (fun _ => 0) := Or.inl ⟨hm, ha, fun _ => rfl⟩

end Cert.Kernel3Ideal.Fwd
-- ==== Proof.Fwd.Trip.lean ====
module

public import proofs.«01_k».proof.Proof.Gen.Kernel3Ideal.Frame
public import proofs.«01_k».proof.Proof.Body.Model
public import proofs.«01_k».proof.Proof.Fwd.Pay
public import proofs.«01_k».proof.Proof.Fwd.Row

/-! # The forward kernel's loop over the earlier tiles of keys -/

@[expose] public section

set_option maxRecDepth 16384

noncomputable section

namespace Cert.Kernel3Ideal.Fwd

open Idealize.ShloMosaic Idealize.ShloMosaic.TcCoe Idealize.SL.Sem
open Cert.Kernel3Ideal Cert.Kernel3Ideal.Gen
open Cert.KernelIdeal.Body (rowOf colOf)

/-- One head's lanes of one tile of 4096 rows, -/
def part (X : Vec Ideal S4096x512 .bf16) (i : Fin 8) (h : Fin 4) : FVec Ideal S512x128 .bf16 := fun j => X (ix2 (rowOf i (j 0)) (colOf h (j 1)))
/-- and of a tile of 512 rows. -/
def lanesOf (X : Vec Ideal S512x512 .bf16) (h : Fin 4) : FVec Ideal S512x128 .bf16 := fun j => X (ix2 (j 0) (colOf h (j 1)))

theorem read_part (m : Memref sig .tc .vmem S4096x512 .bf16) (hm : m.IsWhole) (X : Vec Ideal S4096x512 .bf16)
    (off : Fin S4096x512.rank → ℕ) (hin : ∀ a, off a + S512x128.size a ≤ S4096x512.size a) (i : Fin 8) (h : Fin 4) (ho : off = ![512 * i.val, 128 * h.val]) :
    View.readAt (Elt Ideal) m.view (Rect.unit off S512x128.size hin).toLoadRect (hm.unread X) = part X i h := by
  subst ho
  funext j
  refine (congrFun (hm.read_unread X) _).trans (congrArg X (funext fun d => Fin.ext ?_))
  fin_cases d
  · exact congrArg (512 * i.val + ·) (Nat.one_mul _)
  · exact congrArg (128 * h.val + ·) (Nat.one_mul _)
theorem read_lanes (m : Memref sig .tc .vmem S512x512 .bf16) (hm : m.IsWhole) (X : Vec Ideal S512x512 .bf16)
    (off : Fin S512x512.rank → ℕ) (hin : ∀ a, off a + S512x128.size a ≤ S512x512.size a) (h : Fin 4) (ho : off = ![0, 128 * h.val]) :
    View.readAt (Elt Ideal) m.view (Rect.unit off S512x128.size hin).toLoadRect (hm.unread X) = lanesOf X h := by
  subst ho
  funext j
  refine (congrFun (hm.read_unread X) _).trans (congrArg X (funext fun d => Fin.ext ?_))
  fin_cases d
  · exact (Nat.zero_add _).trans (Nat.one_mul _)
  · exact congrArg (128 * h.val + ·) (Nat.one_mul _)

theorem trips_eq : ∀ i : grid0.Coords, (k0_t1_loop i).trips = (i 1).val := by decide +kernel
theorem trips2_eq : ∀ i : grid0.Coords, (k0_t2_loop i).trips = 0 := by decide +kernel

/-- The tile of keys of trip `k`. -/
def tileOf (i : grid0.Coords) (k : Fin (k0_t1_loop i).trips) : Fin 8 :=
  ⟨k.val, by have := k.isLt; have := trips_eq i; have : (i 1).val < 8 := (i 1).isLt; omega⟩
/-- The tile of queries of a grid point. -/
def queryOf (i : grid0.Coords) : Fin 8 := ⟨(i 1).val, (i 1).isLt⟩

/-- What the loop carries: for each head the running maximum and the running sums. -/
abbrev Acc : Type := FVec Ideal S512x1 .f32 × FVec Ideal S512x128 .f32 × FVec Ideal S512x1 .f32 × FVec Ideal S512x128 .f32 × FVec Ideal S512x1 .f32 × FVec Ideal S512x128 .f32 × FVec Ideal S512x1 .f32 × FVec Ideal S512x128 .f32

/-- One head of what is carried. -/
def hd (a : Acc) : Fin 4 → FVec Ideal S512x1 .f32 × FVec Ideal S512x128 .f32
  | 0 => (a.1, a.2.1)
  | 1 => (a.2.2.1, a.2.2.2.1)
  | 2 => (a.2.2.2.2.1, a.2.2.2.2.2.1)
  | 3 => (a.2.2.2.2.2.2.1, a.2.2.2.2.2.2.2)

/-- One head's step on a tile of keys. -/
def hstep (s : FVec Ideal S512x512 .f32) (v : FVec Ideal S512x128 .bf16) (x : FVec Ideal S512x1 .f32 × FVec Ideal S512x128 .f32) : FVec Ideal S512x1 .f32 × FVec Ideal S512x128 .f32 :=
  (k0_pay26 x.1 s, k0_pay27 x.1 x.2 s v)

theorem cast_id (x : FVec Ideal S512x128 .bf16) : shapeCast S512x128 x shapeCasts_S512x128_S512x128 = x := by
  funext j
  idx_vars j
  pointwise []

variable (𝒱 : Variants) (c : Dev nD) (bd : Option 𝒱.V) (i : grid0.Coords)
  (arg2 : Memref sig .tc .vmem S512x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S512x256 .f32) (harg5 : arg5.IsWhole)
  (arg6 : Memref sig .tc .vmem S512x256 .f32) (harg6 : arg6.IsWhole)
  (arg7 : Memref sig .tc .vmem S512x256 .bf16) (harg7 : arg7.IsWhole)
  (arg8 : Memref sig .tc .vmem S2x512x128 .f32) (harg8 : arg8.IsWhole)
  (x0 : Vec Ideal S512x512 .bf16) (x1 x2 : Vec Ideal S4096x512 .bf16)

/-- What one trip yields. -/
theorem trip_yields (v6 v8 v10 v12 : Vec Ideal S512x128 .bf16) (X3 : BufTy.Contents (Elt Ideal) arg3.view.ty) (X4 : BufTy.Contents (Elt Ideal) arg4.view.ty) (k : Fin (k0_t1_loop i).trips) (acc : Acc) :
    tripR_k0_t1 (F := Ideal) 𝒱 c bd i arg2 harg2 arg3 harg3 arg4 harg4 arg5 harg5 arg6 harg6 arg7 harg7 arg8 harg8 v6 v8 v10 v12 X3 X4 k acc
      = (k0_pay26 acc.1 (k0_pay3 (k0_pay19 v6) (View.readAt (Elt Ideal) arg3.view (Rect.unit (s := S4096x512) (k0_off1 i k) S512x128.size (k0_off1_inb i k)).toLoadRect X3)),
        k0_pay27 acc.1 acc.2.1 (k0_pay3 (k0_pay19 v6) (View.readAt (Elt Ideal) arg3.view (Rect.unit (s := S4096x512) (k0_off1 i k) S512x128.size (k0_off1_inb i k)).toLoadRect X3)) (View.readAt (Elt Ideal) arg4.view (Rect.unit (s := S4096x512) (k0_off1 i k) S512x128.size (k0_off1_inb i k)).toLoadRect X4),
        k0_pay26 acc.2.2.1 (k0_pay3 (k0_pay19 v8) (View.readAt (Elt Ideal) arg3.view (Rect.unit (s := S4096x512) (k0_off2 i k) S512x128.size (k0_off2_inb i k)).toLoadRect X3)),
        k0_pay27 acc.2.2.1 acc.2.2.2.1 (k0_pay3 (k0_pay19 v8) (View.readAt (Elt Ideal) arg3.view (Rect.unit (s := S4096x512) (k0_off2 i k) S512x128.size (k0_off2_inb i k)).toLoadRect X3)) (View.readAt (Elt Ideal) arg4.view (Rect.unit (s := S4096x512) (k0_off2 i k) S512x128.size (k0_off2_inb i k)).toLoadRect X4),
        k0_pay26 acc.2.2.2.2.1 (k0_pay3 (k0_pay19 v10) (View.readAt (Elt Ideal) arg3.view (Rect.unit (s := S4096x512) (k0_off3 i k) S512x128.size (k0_off3_inb i k)).toLoadRect X3)),
        k0_pay27 acc.2.2.2.2.1 acc.2.2.2.2.2.1 (k0_pay3 (k0_pay19 v10) (View.readAt (Elt Ideal) arg3.view (Rect.unit (s := S4096x512) (k0_off3 i k) S512x128.size (k0_off3_inb i k)).toLoadRect X3)) (View.readAt (Elt Ideal) arg4.view (Rect.unit (s := S4096x512) (k0_off3 i k) S512x128.size (k0_off3_inb i k)).toLoadRect X4),
        k0_pay26 acc.2.2.2.2.2.2.1 (k0_pay3 (k0_pay19 v12) (View.readAt (Elt Ideal) arg3.view (Rect.unit (s := S4096x512) (k0_off4 i k) S512x128.size (k0_off4_inb i k)).toLoadRect X3)),
        k0_pay27 acc.2.2.2.2.2.2.1 acc.2.2.2.2.2.2.2 (k0_pay3 (k0_pay19 v12) (View.readAt (Elt Ideal) arg3.view (Rect.unit (s := S4096x512) (k0_off4 i k) S512x128.size (k0_off4_inb i k)).toLoadRect X3)) (View.readAt (Elt Ideal) arg4.view (Rect.unit (s := S4096x512) (k0_off4 i k) S512x128.size (k0_off4_inb i k)).toLoadRect X4)) := by
  unfold tripR_k0_t1 trip_k0_t1
  rfl

/-- One trip: each head's step on that trip's tile of keys. -/
theorem trip_heads (k : Fin (k0_t1_loop i).trips) (acc : Acc) (h : Fin 4) :
    hd (tripR_k0_t1 (F := Ideal) 𝒱 c bd i arg2 harg2 arg3 harg3 arg4 harg4 arg5 harg5 arg6 harg6 arg7 harg7 arg8 harg8 (lanesOf x0 0) (lanesOf x0 1) (lanesOf x0 2) (lanesOf x0 3) (harg3.unread x1) (harg4.unread x2) k acc) h
      = hstep (k0_pay3 (lanesOf x0 h) (part x1 (tileOf i k) h)) (part x2 (tileOf i k) h) (hd acc h) := by
  have e0 : k0_off1 i k = ![512 * (tileOf i k).val, 128 * (0 : Fin 4).val] := k0_off1_eq i k
  have e1 : k0_off2 i k = ![512 * (tileOf i k).val, 128 * (1 : Fin 4).val] := k0_off2_eq i k
  have e2 : k0_off3 i k = ![512 * (tileOf i k).val, 128 * (2 : Fin 4).val] := k0_off3_eq i k
  have e3 : k0_off4 i k = ![512 * (tileOf i k).val, 128 * (3 : Fin 4).val] := k0_off4_eq i k
  have c0 : ∀ x : FVec Ideal S512x128 .bf16, k0_pay19 x = x := cast_id
  rw [trip_yields]
  simp only [read_part arg3 harg3 x1 _ _ _ _ e0, read_part arg3 harg3 x1 _ _ _ _ e1, read_part arg3 harg3 x1 _ _ _ _ e2, read_part arg3 harg3 x1 _ _ _ _ e3,
    read_part arg4 harg4 x2 _ _ _ _ e0, read_part arg4 harg4 x2 _ _ _ _ e1, read_part arg4 harg4 x2 _ _ _ _ e2, read_part arg4 harg4 x2 _ _ _ _ e3, c0]
  match h with
  | 0 => rfl
  | 1 => rfl
  | 2 => rfl
  | 3 => rfl

end Cert.Kernel3Ideal.Fwd
-- ==== Proof.Fwd.Heads.lean ====
module

public import proofs.«01_k».proof.Proof.Fwd.Trip

/-! # What the forward kernel's body holds for each head at its end -/

@[expose] public section

set_option maxRecDepth 16384

noncomputable section

namespace Cert.Kernel3Ideal.Fwd

open Idealize.ShloMosaic Idealize.ShloMosaic.TcCoe Idealize.SL.Sem
open Cert.Kernel3Ideal Cert.Kernel3Ideal.Gen
open Cert.KernelIdeal.Body (rowOf colOf)

variable (c : Dev nD) (i : grid0.Coords)
  (arg2 : Memref sig .tc .vmem S512x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S512x256 .f32) (harg5 : arg5.IsWhole)
  (arg6 : Memref sig .tc .vmem S512x256 .f32) (harg6 : arg6.IsWhole)
  (arg7 : Memref sig .tc .vmem S512x256 .bf16) (harg7 : arg7.IsWhole)
  (arg8 : Memref sig .tc .vmem S2x512x128 .f32) (harg8 : arg8.IsWhole)
  (x0 : Vec Ideal S512x512 .bf16) (x1 x2 : Vec Ideal S4096x512 .bf16)

/-- What the loop starts from. -/
def start : Acc := (k0_pay23, k0_pay24, k0_pay23, k0_pay24, k0_pay23, k0_pay24, k0_pay23, k0_pay24)

/-- What the loop carries before trip `n`. -/
def carried (q0 q1 q2 q3 : Vec Ideal S512x128 .bf16) (n : ℕ) : Acc :=
  st_k0_t1 (F := Ideal) Variants.none c none i arg2 harg2 arg3 harg3 arg4 harg4 arg5 harg5 arg6 harg6 arg7 harg7 arg8 harg8 q0 q1 q2 q3 (harg3.unread x1) (harg4.unread x2) start n

/-- The second loop makes no trip. -/
theorem no_trip (q0 q1 q2 q3 : Vec Ideal S512x128 .bf16) (b : BitVec 32) (X3 : BufTy.Contents (Elt Ideal) arg3.view.ty) (X4 : BufTy.Contents (Elt Ideal) arg4.view.ty) (init : Acc) :
    st_k0_t2 (F := Ideal) Variants.none c none i arg2 harg2 arg3 harg3 arg4 harg4 arg5 harg5 arg6 harg6 arg7 harg7 arg8 harg8 q0 q1 q2 q3 b X3 X4 init
      (Scf.trips (k0_t2_loop i).lb (k0_t2_loop i).ub (k0_t2_loop i).st) = init := by
  have e : Scf.trips (k0_t2_loop i).lb (k0_t2_loop i).ub (k0_t2_loop i).st = 0 := trips2_eq i
  rw [e]
  rfl

/-- What the loop has carried to its end. -/
def last : Acc :=
  carried c i arg2 harg2 arg3 harg3 arg4 harg4 arg5 harg5 arg6 harg6 arg7 harg7 arg8 harg8 x1 x2 (lanesOf x0 0) (lanesOf x0 1) (lanesOf x0 2) (lanesOf x0 3) (Scf.trips (k0_t1_loop i).lb (k0_t1_loop i).ub (k0_t1_loop i).st)

theorem carried2 : kernelRun0_A.sl.r_2 c i arg2 harg2 arg3 harg3 arg4 harg4 arg5 harg5 arg6 harg6 arg7 harg7 arg8 harg8 x0 x1 x2 = (hd (last c i arg2 harg2 arg3 harg3 arg4 harg4 arg5 harg5 arg6 harg6 arg7 harg7 arg8 harg8 x0 x1 x2) 0).1 := by
  unfold kernelRun0_A.sl.r_2
  rw [no_trip, read_lanes arg2 harg2 x0 ![0, 0] inb_S512x512_S512x128_0_0 0 rfl, read_lanes arg2 harg2 x0 ![0, 128] inb_S512x512_S512x128_0_128 1 rfl, read_lanes arg2 harg2 x0 ![0, 256] inb_S512x512_S512x128_0_256 2 rfl, read_lanes arg2 harg2 x0 ![0, 384] inb_S512x512_S512x128_0_384 3 rfl]
  rfl

theorem carried3 : kernelRun0_A.sl.r_3 c i arg2 harg2 arg3 harg3 arg4 harg4 arg5 harg5 arg6 harg6 arg7 harg7 arg8 harg8 x0 x1 x2 = (hd (last c i arg2 harg2 arg3 harg3 arg4 harg4 arg5 harg5 arg6 harg6 arg7 harg7 arg8 harg8 x0 x1 x2) 0).2 := by
  unfold kernelRun0_A.sl.r_3
  rw [no_trip, read_lanes arg2 harg2 x0 ![0, 0] inb_S512x512_S512x128_0_0 0 rfl, read_lanes arg2 harg2 x0 ![0, 128] inb_S512x512_S512x128_0_128 1 rfl, read_lanes arg2 harg2 x0 ![0, 256] inb_S512x512_S512x128_0_256 2 rfl, read_lanes arg2 harg2 x0 ![0, 384] inb_S512x512_S512x128_0_384 3 rfl]
  rfl

theorem carried4 : kernelRun0_A.sl.r_4 c i arg2 harg2 arg3 harg3 arg4 harg4 arg5 harg5 arg6 harg6 arg7 harg7 arg8 harg8 x0 x1 x2 = (hd (last c i arg2 harg2 arg3 harg3 arg4 harg4 arg5 harg5 arg6 harg6 arg7 harg7 arg8 harg8 x0 x1 x2) 1).1 := by
  unfold kernelRun0_A.sl.r_4
  rw [no_trip, read_lanes arg2 harg2 x0 ![0, 0] inb_S512x512_S512x128_0_0 0 rfl, read_lanes arg2 harg2 x0 ![0, 128] inb_S512x512_S512x128_0_128 1 rfl, read_lanes arg2 harg2 x0 ![0, 256] inb_S512x512_S512x128_0_256 2 rfl, read_lanes arg2 harg2 x0 ![0, 384] inb_S512x512_S512x128_0_384 3 rfl]
  rfl

theorem carried5 : kernelRun0_A.sl.r_5 c i arg2 harg2 arg3 harg3 arg4 harg4 arg5 harg5 arg6 harg6 arg7 harg7 arg8 harg8 x0 x1 x2 = (hd (last c i arg2 harg2 arg3 harg3 arg4 harg4 arg5 harg5 arg6 harg6 arg7 harg7 arg8 harg8 x0 x1 x2) 1).2 := by
  unfold kernelRun0_A.sl.r_5
  rw [no_trip, read_lanes arg2 harg2 x0 ![0, 0] inb_S512x512_S512x128_0_0 0 rfl, read_lanes arg2 harg2 x0 ![0, 128] inb_S512x512_S512x128_0_128 1 rfl, read_lanes arg2 harg2 x0 ![0, 256] inb_S512x512_S512x128_0_256 2 rfl, read_lanes arg2 harg2 x0 ![0, 384] inb_S512x512_S512x128_0_384 3 rfl]
  rfl

theorem carried6 : kernelRun0_A.sl.r_6 c i arg2 harg2 arg3 harg3 arg4 harg4 arg5 harg5 arg6 harg6 arg7 harg7 arg8 harg8 x0 x1 x2 = (hd (last c i arg2 harg2 arg3 harg3 arg4 harg4 arg5 harg5 arg6 harg6 arg7 harg7 arg8 harg8 x0 x1 x2) 2).1 := by
  unfold kernelRun0_A.sl.r_6
  rw [no_trip, read_lanes arg2 harg2 x0 ![0, 0] inb_S512x512_S512x128_0_0 0 rfl, read_lanes arg2 harg2 x0 ![0, 128] inb_S512x512_S512x128_0_128 1 rfl, read_lanes arg2 harg2 x0 ![0, 256] inb_S512x512_S512x128_0_256 2 rfl, read_lanes arg2 harg2 x0 ![0, 384] inb_S512x512_S512x128_0_384 3 rfl]
  rfl

theorem carried7 : kernelRun0_A.sl.r_7 c i arg2 harg2 arg3 harg3 arg4 harg4 arg5 harg5 arg6 harg6 arg7 harg7 arg8 harg8 x0 x1 x2 = (hd (last c i arg2 harg2 arg3 harg3 arg4 harg4 arg5 harg5 arg6 harg6 arg7 harg7 arg8 harg8 x0 x1 x2) 2).2 := by
  unfold kernelRun0_A.sl.r_7
  rw [no_trip, read_lanes arg2 harg2 x0 ![0, 0] inb_S512x512_S512x128_0_0 0 rfl, read_lanes arg2 harg2 x0 ![0, 128] inb_S512x512_S512x128_0_128 1 rfl, read_lanes arg2 harg2 x0 ![0, 256] inb_S512x512_S512x128_0_256 2 rfl, read_lanes arg2 harg2 x0 ![0, 384] inb_S512x512_S512x128_0_384 3 rfl]
  rfl

theorem carried8 : kernelRun0_A.sl.r_8 c i arg2 harg2 arg3 harg3 arg4 harg4 arg5 harg5 arg6 harg6 arg7 harg7 arg8 harg8 x0 x1 x2 = (hd (last c i arg2 harg2 arg3 harg3 arg4 harg4 arg5 harg5 arg6 harg6 arg7 harg7 arg8 harg8 x0 x1 x2) 3).1 := by
  unfold kernelRun0_A.sl.r_8
  rw [no_trip, read_lanes arg2 harg2 x0 ![0, 0] inb_S512x512_S512x128_0_0 0 rfl, read_lanes arg2 harg2 x0 ![0, 128] inb_S512x512_S512x128_0_128 1 rfl, read_lanes arg2 harg2 x0 ![0, 256] inb_S512x512_S512x128_0_256 2 rfl, read_lanes arg2 harg2 x0 ![0, 384] inb_S512x512_S512x128_0_384 3 rfl]
  rfl

theorem carried9 : kernelRun0_A.sl.r_9 c i arg2 harg2 arg3 harg3 arg4 harg4 arg5 harg5 arg6 harg6 arg7 harg7 arg8 harg8 x0 x1 x2 = (hd (last c i arg2 harg2 arg3 harg3 arg4 harg4 arg5 harg5 arg6 harg6 arg7 harg7 arg8 harg8 x0 x1 x2) 3).2 := by
  unfold kernelRun0_A.sl.r_9
  rw [no_trip, read_lanes arg2 harg2 x0 ![0, 0] inb_S512x512_S512x128_0_0 0 rfl, read_lanes arg2 harg2 x0 ![0, 128] inb_S512x512_S512x128_0_128 1 rfl, read_lanes arg2 harg2 x0 ![0, 256] inb_S512x512_S512x128_0_256 2 rfl, read_lanes arg2 harg2 x0 ![0, 384] inb_S512x512_S512x128_0_384 3 rfl]
  rfl

/-- One head's sums after the last tile of keys. -/
def sums (h : Fin 4) : FVec Ideal S512x128 .f32 :=
  (hstep (k0_pay35 (lanesOf x0 h) (part x1 (queryOf i) h)) (part x2 (queryOf i) h) (hd (last c i arg2 harg2 arg3 harg3 arg4 harg4 arg5 harg5 arg6 harg6 arg7 harg7 arg8 harg8 x0 x1 x2) h)).2

theorem first0 : kernelRun0_A.sl.r_13 c i arg2 harg2 arg3 harg3 arg4 harg4 arg5 harg5 arg6 harg6 arg7 harg7 arg8 harg8 x0 x1 x2 = sums c i arg2 harg2 arg3 harg3 arg4 harg4 arg5 harg5 arg6 harg6 arg7 harg7 arg8 harg8 x0 x1 x2 0 := by
  unfold kernelRun0_A.sl.r_13
  rw [carried2, carried3]
  unfold kernelRun0_A.sl.r_10
  rw [read_lanes arg2 harg2 x0 ![0, 0] inb_S512x512_S512x128_0_0 0 rfl, read_part arg3 harg3 x1 (k0_off9 i) (k0_off9_inb i) (queryOf i) 0 (k0_off9_eq i), read_part arg4 harg4 x2 (k0_off9 i) (k0_off9_inb i) (queryOf i) 0 (k0_off9_eq i)]
  rfl

theorem head0 : kernelRun0_A.sl.r_23 c i arg2 harg2 arg3 harg3 arg4 harg4 arg5 harg5 arg6 harg6 arg7 harg7 arg8 harg8 x0 x1 x2 = k0_pay51 nums (sums c i arg2 harg2 arg3 harg3 arg4 harg4 arg5 harg5 arg6 harg6 arg7 harg7 arg8 harg8 x0 x1 x2 0) := by
  unfold kernelRun0_A.sl.r_23
  rw [first0]
  rfl

theorem head1 : kernelRun0_A.sl.r_16 c i arg2 harg2 arg3 harg3 arg4 harg4 arg5 harg5 arg6 harg6 arg7 harg7 arg8 harg8 x0 x1 x2 = sums c i arg2 harg2 arg3 harg3 arg4 harg4 arg5 harg5 arg6 harg6 arg7 harg7 arg8 harg8 x0 x1 x2 1 := by
  unfold kernelRun0_A.sl.r_16
  rw [carried4, carried5]
  unfold kernelRun0_A.sl.r_11
  rw [read_lanes arg2 harg2 x0 ![0, 128] inb_S512x512_S512x128_0_128 1 rfl, read_part arg3 harg3 x1 (k0_off10 i) (k0_off10_inb i) (queryOf i) 1 (k0_off10_eq i), read_part arg4 harg4 x2 (k0_off10 i) (k0_off10_inb i) (queryOf i) 1 (k0_off10_eq i)]
  rfl

theorem head2 : kernelRun0_A.sl.r_20 c i arg2 harg2 arg3 harg3 arg4 harg4 arg5 harg5 arg6 harg6 arg7 harg7 arg8 harg8 x0 x1 x2 = sums c i arg2 harg2 arg3 harg3 arg4 harg4 arg5 harg5 arg6 harg6 arg7 harg7 arg8 harg8 x0 x1 x2 2 := by
  unfold kernelRun0_A.sl.r_20
  rw [carried6, carried7]
  unfold kernelRun0_A.sl.r_14 kernelRun0_A.sl.r_18 kernelRun0_A.sl.r
  rw [read_lanes arg2 harg2 x0 ![0, 256] inb_S512x512_S512x128_0_256 2 rfl, read_part arg3 harg3 x1 (k0_off11 i) (k0_off11_inb i) (queryOf i) 2 (k0_off11_eq i), read_part arg4 harg4 x2 (k0_off11 i) (k0_off11_inb i) (queryOf i) 2 (k0_off11_eq i)]
  rfl

theorem head3 : kernelRun0_A.sl.r_22 c i arg2 harg2 arg3 harg3 arg4 harg4 arg5 harg5 arg6 harg6 arg7 harg7 arg8 harg8 x0 x1 x2 = sums c i arg2 harg2 arg3 harg3 arg4 harg4 arg5 harg5 arg6 harg6 arg7 harg7 arg8 harg8 x0 x1 x2 3 := by
  unfold kernelRun0_A.sl.r_22
  rw [carried8, carried9]
  unfold kernelRun0_A.sl.r_17 kernelRun0_A.sl.r_1
  rw [read_lanes arg2 harg2 x0 ![0, 384] inb_S512x512_S512x128_0_384 3 rfl, read_part arg3 harg3 x1 (k0_off12 i) (k0_off12_inb i) (queryOf i) 3 (k0_off12_eq i), read_part arg4 harg4 x2 (k0_off12 i) (k0_off12_inb i) (queryOf i) 3 (k0_off12_eq i)]
  rfl

/-- One head's maximum after the last tile of keys. -/
def tops (h : Fin 4) : FVec Ideal S512x1 .f32 :=
  (hstep (k0_pay35 (lanesOf x0 h) (part x1 (queryOf i) h)) (part x2 (queryOf i) h) (hd (last c i arg2 harg2 arg3 harg3 arg4 harg4 arg5 harg5 arg6 harg6 arg7 harg7 arg8 harg8 x0 x1 x2) h)).1

theorem top0 : kernelRun0_A.sl.r_12 c i arg2 harg2 arg3 harg3 arg4 harg4 arg5 harg5 arg6 harg6 arg7 harg7 arg8 harg8 x0 x1 x2 = tops c i arg2 harg2 arg3 harg3 arg4 harg4 arg5 harg5 arg6 harg6 arg7 harg7 arg8 harg8 x0 x1 x2 0 := by
  unfold kernelRun0_A.sl.r_12
  rw [carried2]
  unfold kernelRun0_A.sl.r_10
  rw [read_lanes arg2 harg2 x0 ![0, 0] inb_S512x512_S512x128_0_0 0 rfl, read_part arg3 harg3 x1 (k0_off9 i) (k0_off9_inb i) (queryOf i) 0 (k0_off9_eq i)]
  rfl

theorem top1 : kernelRun0_A.sl.r_15 c i arg2 harg2 arg3 harg3 arg4 harg4 arg5 harg5 arg6 harg6 arg7 harg7 arg8 harg8 x0 x1 x2 = tops c i arg2 harg2 arg3 harg3 arg4 harg4 arg5 harg5 arg6 harg6 arg7 harg7 arg8 harg8 x0 x1 x2 1 := by
  unfold kernelRun0_A.sl.r_15
  rw [carried4]
  unfold kernelRun0_A.sl.r_11
  rw [read_lanes arg2 harg2 x0 ![0, 128] inb_S512x512_S512x128_0_128 1 rfl, read_part arg3 harg3 x1 (k0_off10 i) (k0_off10_inb i) (queryOf i) 1 (k0_off10_eq i)]
  rfl

theorem top2 : kernelRun0_A.sl.r_19 c i arg2 harg2 arg3 harg3 arg4 harg4 arg5 harg5 arg6 harg6 arg7 harg7 arg8 harg8 x0 x1 x2 = tops c i arg2 harg2 arg3 harg3 arg4 harg4 arg5 harg5 arg6 harg6 arg7 harg7 arg8 harg8 x0 x1 x2 2 := by
  unfold kernelRun0_A.sl.r_19
  rw [carried6]
  unfold kernelRun0_A.sl.r_18 kernelRun0_A.sl.r
  rw [read_lanes arg2 harg2 x0 ![0, 256] inb_S512x512_S512x128_0_256 2 rfl, read_part arg3 harg3 x1 (k0_off11 i) (k0_off11_inb i) (queryOf i) 2 (k0_off11_eq i)]
  rfl

theorem top3 : kernelRun0_A.sl.r_21 c i arg2 harg2 arg3 harg3 arg4 harg4 arg5 harg5 arg6 harg6 arg7 harg7 arg8 harg8 x0 x1 x2 = tops c i arg2 harg2 arg3 harg3 arg4 harg4 arg5 harg5 arg6 harg6 arg7 harg7 arg8 harg8 x0 x1 x2 3 := by
  unfold kernelRun0_A.sl.r_21
  rw [carried8]
  unfold kernelRun0_A.sl.r_17 kernelRun0_A.sl.r_1
  rw [read_lanes arg2 harg2 x0 ![0, 384] inb_S512x512_S512x128_0_384 3 rfl, read_part arg3 harg3 x1 (k0_off12 i) (k0_off12_inb i) (queryOf i) 3 (k0_off12_eq i)]
  rfl

end Cert.Kernel3Ideal.Fwd
-- ==== Proof.Fwd.Value.lean ====
module

public import proofs.«01_k».proof.Proof.Fwd.Heads
public import proofs.«01_k».proof.Proof.Fwd.Row

/-! # The forward kernel's sums, in real numbers -/

@[expose] public section

set_option maxRecDepth 16384

noncomputable section

namespace Cert.Kernel3Ideal.Fwd

open Idealize.ShloMosaic Idealize.ShloMosaic.TcCoe Idealize.SL.Sem
open Cert.Kernel3Ideal Cert.Kernel3Ideal.Gen Cert.Reals
open Cert.KernelIdeal.Body (rowOf colOf)

/-- The last, masked step. -/
theorem masked_step (q k v : FVec Ideal S512x128 .bf16) (y : FVec Ideal S512x1 .f32 × FVec Ideal S512x128 .f32) (r : Fin 512) (A : Fin 128 → ℝ)
    (hy : Good (y.1 (ix2 r 0)) (fun l => y.2 (ix2 r l)) A) (L : Fin 512 → ℝ) (V : Fin 512 → Fin 128 → ℝ)
    (hL : ∀ b : Fin 512, ∑ l : Fin 128, q (ix2 r l) * k (ix2 b l) = (L b : EReal)) (hV : ∀ (b : Fin 512) (l : Fin 128), v (ix2 b l) = (V b l : EReal)) :
    ∃ M : ℝ, (hstep (k0_pay35 (F := Ideal) q k) v y).1 (ix2 r 0) = (M : EReal) ∧ ∀ l : Fin 128, (hstep (k0_pay35 (F := Ideal) q k) v y).2 (ix2 r l)
      = ((Real.exp (-M) * (A l + ∑ b : Fin 512, (if b.val ≤ r.val then Real.exp (L b) else 0) * V b l) : ℝ) : EReal) := by
  have hs : ∀ b : Fin 512, k0_pay35 (F := Ideal) q k (ix2 r b) = if b.val ≤ r.val then (L b : EReal) else ⊥ := fun b => by
    refine (masked_at q k r b).trans ?_
    by_cases hb : b.val ≤ r.val
    · rw [if_pos hb, if_pos hb]; exact hL b
    · rw [if_neg hb, if_neg hb]
  have hm := max_at y.1 (k0_pay35 (F := Ideal) q k) r
  have ha := fun l => sum_at y.1 y.2 (k0_pay35 (F := Ideal) q k) v r l
  show ∃ M : ℝ, k0_pay26 (F := Ideal) y.1 (k0_pay35 (F := Ideal) q k) (ix2 r 0) = (M : EReal) ∧ ∀ l : Fin 128, k0_pay27 (F := Ideal) y.1 y.2 (k0_pay35 (F := Ideal) q k) v (ix2 r l) = _
  generalize k0_pay35 (F := Ideal) q k = s at hs hm ha ⊢
  generalize k0_pay26 (F := Ideal) y.1 s (ix2 r 0) = m' at hm ha ⊢
  obtain ⟨M, h1, h2⟩ := hy.step (fun b => s (ix2 r b)) L (fun b => b.val ≤ r.val) hs r (le_refl r.val) (fun b l => v (ix2 b l)) V hV m' hm
    (fun l => k0_pay27 (F := Ideal) y.1 y.2 s v (ix2 r l)) ha
  exact ⟨M, h1, h2⟩

section
variable (L : Fin 4096 → ℝ) (V : Fin 4096 → Fin 128 → ℝ)

/-- One tile's part of a query's weighted sum. -/
def tilePart (l : Fin 128) (j : Fin 8) : ℝ := ∑ b : Fin 512, Real.exp (L (rowOf j b)) * V (rowOf j b) l
/-- The first tiles' parts. -/
def firstTiles (n : ℕ) (l : Fin 128) : ℝ := ∑ j : Fin 8, if j.val < n then tilePart L V l j else 0
/-- The weight of a key for the query `t`. -/
def weight (t s : Fin 4096) : ℝ := if s ≤ t then Real.exp (L s) else 0

theorem firstTiles_zero (l : Fin 128) : firstTiles L V 0 l = 0 := Finset.sum_eq_zero fun j _ => if_neg (Nat.not_lt_zero _)

theorem firstTiles_succ (k : Fin 8) (l : Fin 128) : firstTiles L V (k.val + 1) l = firstTiles L V k.val l + tilePart L V l k := by
  have e : tilePart L V l k = ∑ j : Fin 8, if j = k then tilePart L V l j else 0 := by
    rw [Finset.sum_ite_eq' Finset.univ k, if_pos (Finset.mem_univ _)]
  rw [e]
  unfold firstTiles
  rw [← Finset.sum_add_distrib]
  refine Finset.sum_congr rfl fun j _ => ?_
  by_cases h1 : j.val < k.val
  · rw [if_pos (by omega), if_pos h1, if_neg (fun e => by rw [e] at h1; omega), add_zero]
  · by_cases h2 : j = k
    · rw [if_pos (by rw [h2]; omega), if_neg h1, if_pos h2, zero_add]
    · rw [if_neg (fun e => h2 (Fin.ext (by omega))), if_neg h1, if_neg h2, add_zero]

/-- A query's weights have a positive sum: its own is an exponential. -/
theorem weights_pos (t : Fin 4096) : 0 < ∑ s, weight L t s := by
  have h1 : 0 < weight L t t := by unfold weight; rw [if_pos le_rfl]; exact Real.exp_pos _
  refine lt_of_lt_of_le h1 (Finset.single_le_sum (f := fun s => weight L t s) (fun s _ => ?_) (Finset.mem_univ _))
  unfold weight
  split
  · exact (Real.exp_pos _).le
  · exact le_rfl

/-- The tiles before the query's, and the part of its own tile not after it, are all a query may see. -/
theorem all_tiles (q : Fin 8) (r : Fin 512) (l : Fin 128) :
    firstTiles L V q.val l + ∑ b : Fin 512, (if b.val ≤ r.val then Real.exp (L (rowOf q b)) else 0) * V (rowOf q b) l
      = ∑ s, weight L (rowOf q r) s * V s l := by
  rw [← sum_tiles fun s => weight L (rowOf q r) s * V s l]
  have e : (∑ b : Fin 512, (if b.val ≤ r.val then Real.exp (L (rowOf q b)) else 0) * V (rowOf q b) l)
      = ∑ j : Fin 8, if j = q then ∑ b : Fin 512, (if b.val ≤ r.val then Real.exp (L (rowOf j b)) else 0) * V (rowOf j b) l else 0 := by
    rw [Finset.sum_ite_eq' Finset.univ q, if_pos (Finset.mem_univ _)]
  rw [e]
  unfold firstTiles
  rw [← Finset.sum_add_distrib]
  refine Finset.sum_congr rfl fun j _ => ?_
  have hle : ∀ b : Fin 512, rowOf j b ≤ rowOf q r ↔ 512 * j.val + b.val ≤ 512 * q.val + r.val := fun b => Iff.rfl
  by_cases h1 : j.val < q.val
  · rw [if_pos h1, if_neg (fun e => by rw [e] at h1; omega), add_zero]
    refine Finset.sum_congr rfl fun b _ => ?_
    unfold weight
    rw [if_pos ((hle b).2 (by omega))]
  · by_cases h2 : j = q
    · subst h2
      rw [if_neg h1, if_pos rfl, zero_add]
      refine Finset.sum_congr rfl fun b _ => ?_
      unfold weight
      by_cases h3 : b.val ≤ r.val
      · rw [if_pos h3, if_pos ((hle b).2 (by omega))]
      · rw [if_neg h3, if_neg (fun e => h3 (by have := (hle b).1 e; omega))]
    · rw [if_neg h1, if_neg h2, add_zero]
      refine (Finset.sum_eq_zero fun b _ => ?_).symm
      unfold weight
      rw [if_neg (fun e => h2 (Fin.ext (by have := (hle b).1 e; omega))), zero_mul]
end

variable (c : Dev nD) (i : grid0.Coords)
  (arg2 : Memref sig .tc .vmem S512x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S512x256 .f32) (harg5 : arg5.IsWhole)
  (arg6 : Memref sig .tc .vmem S512x256 .f32) (harg6 : arg6.IsWhole)
  (arg7 : Memref sig .tc .vmem S512x256 .bf16) (harg7 : arg7.IsWhole)
  (arg8 : Memref sig .tc .vmem S2x512x128 .f32) (harg8 : arg8.IsWhole)
  (x0 : Vec Ideal S512x512 .bf16) (x1 x2 : Vec Ideal S4096x512 .bf16)

section
variable (h : Fin 4) (r : Fin 512) (L : Fin 4096 → ℝ) (V : Fin 4096 → Fin 128 → ℝ)
  (hL : ∀ s, ∑ l, x0 (ix2 r (colOf h l)) * x1 (ix2 s (colOf h l)) = (L s : EReal))
  (hV : ∀ s l, x2 (ix2 s (colOf h l)) = (V s l : EReal))
include hL hV

/-- What the loop has carried before trip `n`: the first `n` tiles' parts, against some maximum. -/
theorem carried_good : ∀ n, n ≤ (k0_t1_loop i).trips →
    Good ((hd (carried c i arg2 harg2 arg3 harg3 arg4 harg4 arg5 harg5 arg6 harg6 arg7 harg7 arg8 harg8 x1 x2 (lanesOf x0 0) (lanesOf x0 1) (lanesOf x0 2) (lanesOf x0 3) n) h).1 (ix2 r 0)) (fun l => (hd (carried c i arg2 harg2 arg3 harg3 arg4 harg4 arg5 harg5 arg6 harg6 arg7 harg7 arg8 harg8 x1 x2 (lanesOf x0 0) (lanesOf x0 1) (lanesOf x0 2) (lanesOf x0 3) n) h).2 (ix2 r l)) (fun l => firstTiles L V n l)
  | 0, _ => by
    have e : (fun l => firstTiles L V 0 l) = fun _ => 0 := funext fun l => firstTiles_zero L V l
    rw [e]
    match h with
    | 0 => exact good_start _ _ (start_max r) fun l => start_sum r l
    | 1 => exact good_start _ _ (start_max r) fun l => start_sum r l
    | 2 => exact good_start _ _ (start_max r) fun l => start_sum r l
    | 3 => exact good_start _ _ (start_max r) fun l => start_sum r l
  | n + 1, hn => by
    have ih := carried_good n (by omega)
    let k : Fin (k0_t1_loop i).trips := ⟨n, hn⟩
    have e : carried c i arg2 harg2 arg3 harg3 arg4 harg4 arg5 harg5 arg6 harg6 arg7 harg7 arg8 harg8 x1 x2 (lanesOf x0 0) (lanesOf x0 1) (lanesOf x0 2) (lanesOf x0 3) (n + 1)
        = tripR_k0_t1 (F := Ideal) Variants.none c none i arg2 harg2 arg3 harg3 arg4 harg4 arg5 harg5 arg6 harg6 arg7 harg7 arg8 harg8 (lanesOf x0 0) (lanesOf x0 1) (lanesOf x0 2) (lanesOf x0 3) (harg3.unread x1) (harg4.unread x2) k (carried c i arg2 harg2 arg3 harg3 arg4 harg4 arg5 harg5 arg6 harg6 arg7 harg7 arg8 harg8 x1 x2 (lanesOf x0 0) (lanesOf x0 1) (lanesOf x0 2) (lanesOf x0 3) n) :=
      st_k0_t1_succ (F := Ideal) Variants.none c none i arg2 harg2 arg3 harg3 arg4 harg4 arg5 harg5 arg6 harg6 arg7 harg7 arg8 harg8 (lanesOf x0 0) (lanesOf x0 1) (lanesOf x0 2) (lanesOf x0 3) (harg3.unread x1) (harg4.unread x2) start k
    rw [e, trip_heads]
    obtain ⟨M, h1, h2⟩ := ih.step (fun b => k0_pay3 (lanesOf x0 h) (part x1 (tileOf i k) h) (ix2 r b)) (fun b => L (rowOf (tileOf i k) b)) (fun _ => True)
      (fun b => by rw [score_at, if_pos trivial]; exact hL _) 0 trivial (fun b l => part x2 (tileOf i k) h (ix2 b l)) (fun b l => V (rowOf (tileOf i k) b) l) (fun b l => hV _ l)
      _ (max_at _ _ r) _ (fun l => sum_at _ _ _ _ r l)
    refine Or.inr ⟨M, h1, fun l => (h2 l).trans ?_⟩
    simp only [if_true]
    show _ = ((Real.exp (-M) * firstTiles L V ((tileOf i k).val + 1) l : ℝ) : EReal)
    rw [firstTiles_succ]
    rfl

/-- What the loop leaves. -/
theorem last_good :
    Good ((hd (last c i arg2 harg2 arg3 harg3 arg4 harg4 arg5 harg5 arg6 harg6 arg7 harg7 arg8 harg8 x0 x1 x2) h).1 (ix2 r 0)) (fun l => (hd (last c i arg2 harg2 arg3 harg3 arg4 harg4 arg5 harg5 arg6 harg6 arg7 harg7 arg8 harg8 x0 x1 x2) h).2 (ix2 r l)) (fun l => firstTiles L V (queryOf i).val l) := by
  have e : Scf.trips (k0_t1_loop i).lb (k0_t1_loop i).ub (k0_t1_loop i).st = (queryOf i).val := trips_eq i
  have e' : (queryOf i).val ≤ (k0_t1_loop i).trips := (trips_eq i).ge
  unfold last
  rw [e]
  exact carried_good c i arg2 harg2 arg3 harg3 arg4 harg4 arg5 harg5 arg6 harg6 arg7 harg7 arg8 harg8 x0 x1 x2 h r L V hL hV _ e'

/-- One head's maximum and sums at its end. -/
theorem sums_real : ∃ M : ℝ, tops c i arg2 harg2 arg3 harg3 arg4 harg4 arg5 harg5 arg6 harg6 arg7 harg7 arg8 harg8 x0 x1 x2 h (ix2 r 0) = (M : EReal) ∧ ∀ l, sums c i arg2 harg2 arg3 harg3 arg4 harg4 arg5 harg5 arg6 harg6 arg7 harg7 arg8 harg8 x0 x1 x2 h (ix2 r l) = ((Real.exp (-M) * ∑ s, weight L (rowOf (queryOf i) r) s * V s l : ℝ) : EReal) := by
  obtain ⟨M, hm, hM⟩ := masked_step (lanesOf x0 h) (part x1 (queryOf i) h) (part x2 (queryOf i) h) (hd (last c i arg2 harg2 arg3 harg3 arg4 harg4 arg5 harg5 arg6 harg6 arg7 harg7 arg8 harg8 x0 x1 x2) h) r _
    (last_good c i arg2 harg2 arg3 harg3 arg4 harg4 arg5 harg5 arg6 harg6 arg7 harg7 arg8 harg8 x0 x1 x2 h r L V hL hV) (fun b => L (rowOf (queryOf i) b)) (fun b l => V (rowOf (queryOf i) b) l) (fun b => hL _) (fun b l => hV _ l)
  refine ⟨M, hm, fun l => (hM l).trans ?_⟩
  rw [all_tiles]

/-- One head's output: the mean of the values under the weights. -/
theorem out_real (h64 : ∀ s, V s ⟨64, by decide⟩ = 1) (l : Fin 128) :
    outH (sums c i arg2 harg2 arg3 harg3 arg4 harg4 arg5 harg5 arg6 harg6 arg7 harg7 arg8 harg8 x0 x1 x2 h) r l = (((∑ s, weight L (rowOf (queryOf i) r) s * V s l) / ∑ s, weight L (rowOf (queryOf i) r) s : ℝ) : EReal) := by
  obtain ⟨M, -, hM⟩ := sums_real c i arg2 harg2 arg3 harg3 arg4 harg4 arg5 harg5 arg6 harg6 arg7 harg7 arg8 harg8 x0 x1 x2 h r L V hL hV
  have hp := weights_pos L (rowOf (queryOf i) r)
  have hE := Real.exp_pos (-M)
  unfold outH
  rw [hM, hM]
  simp only [h64, mul_one]
  rw [Ideal.div_coe (mul_pos hE hp).ne', one_mul, ← EReal.coe_mul]
  congr 1
  field_simp
/-- One head's log-sum: the logarithm of the sum of the weights. -/
theorem log_real (h64 : ∀ s, V s ⟨64, by decide⟩ = 1) :
    logH (tops c i arg2 harg2 arg3 harg3 arg4 harg4 arg5 harg5 arg6 harg6 arg7 harg7 arg8 harg8 x0 x1 x2 h) (sums c i arg2 harg2 arg3 harg3 arg4 harg4 arg5 harg5 arg6 harg6 arg7 harg7 arg8 harg8 x0 x1 x2 h) r = ((Real.log (∑ s, weight L (rowOf (queryOf i) r) s) : ℝ) : EReal) := by
  obtain ⟨M, hm, hM⟩ := sums_real c i arg2 harg2 arg3 harg3 arg4 harg4 arg5 harg5 arg6 harg6 arg7 harg7 arg8 harg8 x0 x1 x2 h r L V hL hV
  have hp := weights_pos L (rowOf (queryOf i) r)
  have hE := Real.exp_pos (-M)
  unfold logH
  rw [hm, hM]
  simp only [h64, mul_one]
  rw [Ideal.log_coe, if_neg (not_le.2 (mul_pos hE hp)), Real.log_mul hE.ne' hp.ne', Real.log_exp, ← EReal.coe_add]
  congr 1
  ring

end

end Cert.Kernel3Ideal.Fwd
-- ==== Proof.Fwd.Out.lean ====
module

public import proofs.«01_k».proof.Proof.Fwd.Value
public import proofs.«01_k».proof.Proof.Fwd.Pay
public import proofs.«01_k».proof.Proof.Head.Mix

/-! # What a grid point of the forward kernel writes -/

@[expose] public section

set_option maxRecDepth 16384

noncomputable section

namespace Cert.Kernel3Ideal.Fwd

open Idealize.ShloMosaic Idealize.ShloMosaic.TcCoe Idealize.SL.Sem
open Cert.Kernel3Ideal Cert.Kernel3Ideal.Gen
open Cert.Kernel2Ideal.Head (tile_at)

/-- The head of a column among the group's four, -/
def headIn (k : Fin 256) : Fin 4 := ⟨k.val / 64, by omega⟩
/-- and its lane. -/
def laneIn (k : Fin 256) : Fin 128 := ⟨k.val % 64, by omega⟩

/-- A pair of heads side by side, read at a column. -/
theorem pair_column (w : Fin 4 → FVec Ideal S512x128 .f32) (x y : Fin 4) (n : ℕ) (hx : n = 64 * x.val) (hy : y.val = x.val + 1) (r : Fin 512) (k : Fin 256) (l : Fin 128) (hk : k.val = n + l.val) :
    (if l.val < 64 then outH (w x) r l else outH (w y) r ⟨(l.val + 64) % 128, by omega⟩) = outH (w (headIn k)) r (laneIn k) := by
  by_cases h : l.val < 64
  · rw [if_pos h]
    have e1 : headIn k = x := Fin.ext (by simp only [headIn]; omega)
    have e2 : laneIn k = l := Fin.ext (by simp only [laneIn]; omega)
    rw [e1, e2]
  · rw [if_neg h]
    have e1 : headIn k = y := Fin.ext (by simp only [headIn]; omega)
    have e2 : laneIn k = ⟨(l.val + 64) % 128, by omega⟩ := Fin.ext (by simp only [laneIn]; omega)
    rw [e1, e2]

variable (c : Dev nD) (i : grid0.Coords)
  (arg2 : Memref sig .tc .vmem S512x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S512x256 .f32) (harg5 : arg5.IsWhole)
  (arg6 : Memref sig .tc .vmem S512x256 .f32) (harg6 : arg6.IsWhole)
  (arg7 : Memref sig .tc .vmem S512x256 .bf16) (harg7 : arg7.IsWhole)
  (arg8 : Memref sig .tc .vmem S2x512x128 .f32) (harg8 : arg8.IsWhole)
  (x0 : Vec Ideal S512x512 .bf16) (x1 x2 : Vec Ideal S4096x512 .bf16)

variable (x3 : Vec Ideal S512x256 .f32)

theorem out4 (r : Fin 512) (k : Fin 256) : out0_A_4 c i arg2 harg2 arg3 harg3 arg4 harg4 arg5 harg5 arg6 harg6 arg7 harg7 arg8 harg8 x0 x1 x2 x3 (ix2 r k) = outH (sums c i arg2 harg2 arg3 harg3 arg4 harg4 arg5 harg5 arg6 harg6 arg7 harg7 arg8 harg8 x0 x1 x2 (headIn k)) r (laneIn k) := by
  unfold out0_A_4
  rw [View.read_writes_eq_canon _ _ _ (cover0_A_4 c i arg2 harg2 arg3 harg3 arg4 harg4 arg5 harg5 arg6 harg6 arg7 harg7 arg8 harg8 x0 x1 x2 x3)]
  refine View.canon_eq_of_allAt _ _ _ (cover0_A_4 c i arg2 harg2 arg3 harg3 arg4 harg4 arg5 harg5 arg6 harg6 arg7 harg7 arg8 harg8 x0 x1 x2 x3 _) ?_
  unfold kernelRun0_A
  dsimp only
  refine View.allAt_cons_unit _ _ _ _ _ (tile_at r k _ _ fun l hl => ?_) ?_
  · rw [head2, head3]
    exact (pair1_at _ _ r l).trans (pair_column (sums c i arg2 harg2 arg3 harg3 arg4 harg4 arg5 harg5 arg6 harg6 arg7 harg7 arg8 harg8 x0 x1 x2) 2 3 128 rfl rfl r k l hl)
  refine View.allAt_cons_unit _ _ _ _ _ (tile_at r k _ _ fun l hl => ?_) ?_
  · rw [head0, head1]
    exact (pair_at _ _ r l).trans (pair_column (sums c i arg2 harg2 arg3 harg3 arg4 harg4 arg5 harg5 arg6 harg6 arg7 harg7 arg8 harg8 x0 x1 x2) 0 1 0 rfl rfl r k l hl)
  exact View.allAt_nil _ _

/-- A block of the gate's columns, read at one. -/
theorem gate_block (n : ℕ) (inb : ∀ a, ![0, n] a + ![512, 128] a ≤ S512x256.size a) (r : Fin 512) (k : Fin 256) (l : Fin 128) (hk : k.val = n + l.val) :
    View.readAt (Elt Ideal) arg5.view (Rect.unit (s := S512x256) ![0, n] ![512, 128] inb).toLoadRect (harg5.unread x3) (ix2 r l) = x3 (ix2 r k) := by
  rw [View.readAt_eq_ld, harg5.read_unread]
  exact View.ld_unit_apply_of x3 _ _ _ _ (ix2 r k) fun a => match a with
    | ⟨0, _⟩ => (Nat.zero_add _).symm
    | ⟨1, _⟩ => hk

theorem out5 (r : Fin 512) (k : Fin 256) :
    out0_A_5 c i arg2 harg2 arg3 harg3 arg4 harg4 arg5 harg5 arg6 harg6 arg7 harg7 arg8 harg8 x0 x1 x2 x3 (ix2 r k) = outH (sums c i arg2 harg2 arg3 harg3 arg4 harg4 arg5 harg5 arg6 harg6 arg7 harg7 arg8 harg8 x0 x1 x2 (headIn k)) r (laneIn k) * (x3 (ix2 r k) * sg (x3 (ix2 r k))) := by
  unfold out0_A_5
  rw [View.read_writes_eq_canon _ _ _ (cover0_A_5 c i arg2 harg2 arg3 harg3 arg4 harg4 arg5 harg5 arg6 harg6 arg7 harg7 arg8 harg8 x0 x1 x2 x3)]
  refine View.canon_eq_of_allAt _ _ _ (cover0_A_5 c i arg2 harg2 arg3 harg3 arg4 harg4 arg5 harg5 arg6 harg6 arg7 harg7 arg8 harg8 x0 x1 x2 x3 _) ?_
  unfold kernelRun0_A
  dsimp only
  refine View.allAt_cons_unit _ _ _ _ _ (tile_at r k _ _ fun l hl => ?_) ?_
  · unfold kernelRun0_A.sl.r_26 kernelRun0_A.sl.r_27 kernelRun0_A.sl.r_28
    rw [head2, head3]
    refine (gated1_at _ _ r l).trans ?_
    rw [gate_block arg5 harg5 x3 128 _ r k l hl]
    exact congrArg (· * (x3 (ix2 r k) * sg (x3 (ix2 r k)))) ((pair1_at _ _ r l).trans (pair_column (sums c i arg2 harg2 arg3 harg3 arg4 harg4 arg5 harg5 arg6 harg6 arg7 harg7 arg8 harg8 x0 x1 x2) 2 3 128 rfl rfl r k l hl))
  refine View.allAt_cons_unit _ _ _ _ _ (tile_at r k _ _ fun l hl => ?_) ?_
  · rw [head0, head1]
    refine (gated_at _ _ _ r l).trans ?_
    rw [gate_block arg5 harg5 x3 0 _ r k l hl]
    exact congrArg (· * (x3 (ix2 r k) * sg (x3 (ix2 r k)))) ((pair_at _ _ r l).trans (pair_column (sums c i arg2 harg2 arg3 harg3 arg4 harg4 arg5 harg5 arg6 harg6 arg7 harg7 arg8 harg8 x0 x1 x2) 0 1 0 rfl rfl r k l hl))
  exact View.allAt_nil _ _

end Cert.Kernel3Ideal.Fwd
-- ==== Proof.Fwd.Found.lean ====
module

public import proofs.«01_k».proof.Proof.Gen.Kernel3Ideal.Frame
public import proofs.«01_k».proof.Proof.Body.Prep

/-! # What the forward kernel finds in its operands -/

@[expose] public section

set_option maxRecDepth 16384

noncomputable section

namespace Cert.Kernel3Ideal.Fwd

open Idealize.ShloMosaic Idealize.ShloMosaic.TcCoe Idealize.ShloMosaic.StableHlo Idealize.SL.Sem
open Cert.Kernel3Ideal Cert.Kernel3Ideal.Gen
open Cert.KernelIdeal.Prep (cumF lanes hds ones3 headsOf flatOf minus threeOf keysOf valuesOf)

/-- A stretch of the host operations before the kernel. -/
abbrev opsA : List (HloOp τ sig (Elt Ideal)) := hostOps0 ++ (hostOps0_1 ++ (hostOps0_2 ++ (hostOps0_3)))

/-- A stretch of the host operations before the kernel. -/
abbrev opsB : List (HloOp τ sig (Elt Ideal)) := hostOps0_4 ++ (hostOps0_5 ++ (hostOps0_6 ++ (hostOps0_7)))

/-- A stretch of the host operations before the kernel. -/
abbrev opsC : List (HloOp τ sig (Elt Ideal)) := hostOps0_8 ++ (hostOps0_9 ++ (hostOps0_10 ++ (hostOps0_11 ++ (hostOps0_12 ++ (hostOps0_13 ++ (hostOps0_14 ++ (hostOps0_15 ++ (hostOps0_16 ++ (hostOps0_17 ++ (hostOps0_18 ++ (hostOps0_19 ++ (hostOps0_20 ++ (hostOps0_21 ++ (hostOps0_22 ++ (hostOps0_23 ++ (hostOps0_24))))))))))))))))

variable (W : Valuation τ sig (Elt Ideal))

theorem opsA_v0 : after opsA W (Proc.devRef .tc main_v0) = shapeCast S8x4096x64 (W (Proc.devRef .tc main_arg0)) shapeCasts_S1x8x4096x64_S8x4096x64 := by
  simp only [opsA, hostOps0, hostOps0_1, hostOps0_2, hostOps0_3, List.cons_append, List.nil_append]
  after_results_simp
  try rfl

theorem opsA_v1 : after opsA W (Proc.devRef .tc main_v1) = shapeCast S8x4096x64 (W (Proc.devRef .tc main_arg1)) shapeCasts_S1x8x4096x64_S8x4096x64 := by
  simp only [opsA, hostOps0, hostOps0_1, hostOps0_2, hostOps0_3, List.cons_append, List.nil_append]
  after_results_simp
  try rfl

theorem opsA_v2 : after opsA W (Proc.devRef .tc main_v2) = shapeCast S8x4096x64 (W (Proc.devRef .tc main_arg2)) shapeCasts_S1x8x4096x64_S8x4096x64 := by
  simp only [opsA, hostOps0, hostOps0_1, hostOps0_2, hostOps0_3, List.cons_append, List.nil_append]
  after_results_simp
  try rfl

theorem opsA_v3 : after opsA W (Proc.devRef .tc main_v3) = shapeCast S8x4096 (W (Proc.devRef .tc main_arg3)) shapeCasts_S1x8x4096_S8x4096 := by
  simp only [opsA, hostOps0, hostOps0_1, hostOps0_2, hostOps0_3, List.cons_append, List.nil_append]
  after_results_simp
  try rfl

theorem opsA_v4 : after opsA W (Proc.devRef .tc main_v4) = shapeCast S4096x512 (W (Proc.devRef .tc main_arg4)) shapeCasts_S1x4096x512_S4096x512 := by
  simp only [opsA, hostOps0, hostOps0_1, hostOps0_2, hostOps0_3, List.cons_append, List.nil_append]
  after_results_simp
  try rfl

theorem opsA_v5 : after opsA W (Proc.devRef .tc main_v5) = cumF (shapeCast S8x4096 (W (Proc.devRef .tc main_arg3)) shapeCasts_S1x8x4096_S8x4096) := by
  simp only [opsA, hostOps0, hostOps0_1, hostOps0_2, hostOps0_3, List.cons_append, List.nil_append]
  after_results_simp
  try rfl

theorem opsA_v6 : after opsA W (Proc.devRef .tc main_v6) = lanes := by
  simp only [opsA, hostOps0, hostOps0_1, hostOps0_2, hostOps0_3, List.cons_append, List.nil_append]
  after_results_simp
  try rfl

theorem opsA_v7 : after opsA W (Proc.devRef .tc main_v7) = hds := by
  simp only [opsA, hostOps0, hostOps0_1, hostOps0_2, hostOps0_3, List.cons_append, List.nil_append]
  after_results_simp
  try rfl

theorem opsA_v13 : after opsA W (Proc.devRef .tc main_v13) = ones3 := by
  simp only [opsA, hostOps0, hostOps0_1, hostOps0_2, hostOps0_3, List.cons_append, List.nil_append]
  after_results_simp
  try rfl

theorem opsB_v0 : after opsB W (Proc.devRef .tc main_v0) = (W (Proc.devRef .tc main_v0)) := by
  simp only [opsB, hostOps0_4, hostOps0_5, hostOps0_6, hostOps0_7, List.cons_append, List.nil_append]
  after_results_simp
  try rfl

theorem opsB_v1 : after opsB W (Proc.devRef .tc main_v1) = (W (Proc.devRef .tc main_v1)) := by
  simp only [opsB, hostOps0_4, hostOps0_5, hostOps0_6, hostOps0_7, List.cons_append, List.nil_append]
  after_results_simp
  try rfl

theorem opsB_v2 : after opsB W (Proc.devRef .tc main_v2) = (W (Proc.devRef .tc main_v2)) := by
  simp only [opsB, hostOps0_4, hostOps0_5, hostOps0_6, hostOps0_7, List.cons_append, List.nil_append]
  after_results_simp
  try rfl

theorem opsB_v4 : after opsB W (Proc.devRef .tc main_v4) = (W (Proc.devRef .tc main_v4)) := by
  simp only [opsB, hostOps0_4, hostOps0_5, hostOps0_6, hostOps0_7, List.cons_append, List.nil_append]
  after_results_simp
  try rfl

theorem opsB_v6 : after opsB W (Proc.devRef .tc main_v6) = (W (Proc.devRef .tc main_v6)) := by
  simp only [opsB, hostOps0_4, hostOps0_5, hostOps0_6, hostOps0_7, List.cons_append, List.nil_append]
  after_results_simp
  try rfl

theorem opsB_v7 : after opsB W (Proc.devRef .tc main_v7) = (W (Proc.devRef .tc main_v7)) := by
  simp only [opsB, hostOps0_4, hostOps0_5, hostOps0_6, hostOps0_7, List.cons_append, List.nil_append]
  after_results_simp
  try rfl

theorem opsB_v13 : after opsB W (Proc.devRef .tc main_v13) = (W (Proc.devRef .tc main_v13)) := by
  simp only [opsB, hostOps0_4, hostOps0_5, hostOps0_6, hostOps0_7, List.cons_append, List.nil_append]
  after_results_simp
  try rfl

theorem opsB_v34 (h6 : W (Proc.devRef .tc main_v6) = lanes) : after opsB W (Proc.devRef .tc main_v34) = threeOf (minus (W (Proc.devRef .tc main_v5))) := by
  simp only [opsB, hostOps0_4, hostOps0_5, hostOps0_6, hostOps0_7, List.cons_append, List.nil_append]
  after_results_simp
  try rw [h6]
  try rw [h7]
  try rw [h13]
  try rfl

theorem opsC_v4 : after opsC W (Proc.devRef .tc main_v4) = (W (Proc.devRef .tc main_v4)) := by
  simp only [opsC, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.cons_append, List.nil_append]
  after_results_simp
  try rfl

theorem opsC_v47 (h6 : W (Proc.devRef .tc main_v6) = lanes) (h7 : W (Proc.devRef .tc main_v7) = hds) (h13 : W (Proc.devRef .tc main_v13) = ones3) : after opsC W (Proc.devRef .tc main_v47) = flatOf (headsOf (W (Proc.devRef .tc main_v0))) := by
  simp only [opsC, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.cons_append, List.nil_append]
  after_results_simp
  try rw [h6]
  try rw [h7]
  try rw [h13]
  try rfl

theorem opsC_v58 (h6 : W (Proc.devRef .tc main_v6) = lanes) (h7 : W (Proc.devRef .tc main_v7) = hds) : after opsC W (Proc.devRef .tc main_v58) = flatOf (keysOf (W (Proc.devRef .tc main_v1)) (W (Proc.devRef .tc main_v34))) := by
  simp only [opsC, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.cons_append, List.nil_append]
  after_results_simp
  try rw [h6]
  try rw [h7]
  try rw [h13]
  try rfl

theorem opsC_v65 (h6 : W (Proc.devRef .tc main_v6) = lanes) (h13 : W (Proc.devRef .tc main_v13) = ones3) : after opsC W (Proc.devRef .tc main_v65) = flatOf (valuesOf (W (Proc.devRef .tc main_v2))) := by
  simp only [opsC, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.cons_append, List.nil_append]
  after_results_simp
  try rw [h6]
  try rw [h7]
  try rw [h13]
  try rfl

/-! ## What the kernel finds -/

variable (m : (ℓ : Loc nD τ sig) → Buf (Elt Ideal) ℓ) (c : Dev nD)

/-- The host operations are the stretches, one after the other. -/
theorem V_eq (b : Ref sig .tc) : V m c b = after opsC (after opsB (after opsA (fun b => m (c, b)))) (Proc.devRef .tc b) := by
  simp only [← after_append]
  rfl

/-- An argument of the program, its leading size-one axis dropped. -/
abbrev argQ : FVec Ideal S8x4096x64 .f32 := shapeCast S8x4096x64 (m ((c : Thread nD τ).loc main_arg0)) shapeCasts_S1x8x4096x64_S8x4096x64
@[inherit_doc argQ] abbrev argK : FVec Ideal S8x4096x64 .f32 := shapeCast S8x4096x64 (m ((c : Thread nD τ).loc main_arg1)) shapeCasts_S1x8x4096x64_S8x4096x64
@[inherit_doc argQ] abbrev argV : FVec Ideal S8x4096x64 .f32 := shapeCast S8x4096x64 (m ((c : Thread nD τ).loc main_arg2)) shapeCasts_S1x8x4096x64_S8x4096x64
@[inherit_doc argQ] abbrev argF : FVec Ideal S8x4096 .f32 := shapeCast S8x4096 (m ((c : Thread nD τ).loc main_arg3)) shapeCasts_S1x8x4096_S8x4096
@[inherit_doc argQ] abbrev argG : FVec Ideal S4096x512 .f32 := shapeCast S4096x512 (m ((c : Thread nD τ).loc main_arg4)) shapeCasts_S1x4096x512_S4096x512

/-- The queries, as the kernel finds them. -/
theorem V_v47 : V m c main_v47 = flatOf (headsOf (argQ m c)) := by
  rw [V_eq, opsC_v47 _ ((opsB_v6 _).trans (opsA_v6 _)) ((opsB_v7 _).trans (opsA_v7 _)) ((opsB_v13 _).trans (opsA_v13 _)), opsB_v0, opsA_v0]
/-- The keys, as the kernel finds them. -/
theorem V_v58 : V m c main_v58 = flatOf (keysOf (argK m c) (threeOf (minus (cumF (argF m c))))) := by
  rw [V_eq, opsC_v58 _ ((opsB_v6 _).trans (opsA_v6 _)) ((opsB_v7 _).trans (opsA_v7 _)), opsB_v1, opsA_v1, opsB_v34 _ (opsA_v6 _), opsA_v5]
/-- The values, as the kernel finds them. -/
theorem V_v65 : V m c main_v65 = flatOf (valuesOf (argV m c)) := by
  rw [V_eq, opsC_v65 _ ((opsB_v6 _).trans (opsA_v6 _)) ((opsB_v13 _).trans (opsA_v13 _)), opsB_v2, opsA_v2]
/-- The gates, as the kernel finds them. -/
theorem V_v4 : V m c main_v4 = argG m c := by
  rw [V_eq, opsC_v4, opsB_v4, opsA_v4]

end Cert.Kernel3Ideal.Fwd
-- ==== Proof.Fwd.Arrays.lean ====
module

public import proofs.«01_k».proof.Proof.Fwd.Out
public import proofs.«01_k».proof.Proof.Fwd.Found
public import proofs.«01_k».proof.Proof.Body.KernelReals
public import Idealize.ShloMosaic.Lib.Pipeline.ValueKit.Geometry
public import Idealize.ShloMosaic.Lib.Pipeline.ValueKit.Point
public import Idealize.ShloMosaic.Lib.Claim
public import Idealize.ShloMosaic.Lib.IdealHost

/-! # What the forward kernel's results hold at its end -/

@[expose] public section

set_option maxRecDepth 16384

noncomputable section

namespace Cert.Kernel3Ideal.Fwd

open Idealize.ShloMosaic Idealize.ShloMosaic.TcCoe Idealize.ShloMosaic.StableHlo Idealize.SL.Sem
open Idealize.ShloMosaic.Pipeline (Dat Cfg Window)
open Cert.Kernel3Ideal Cert.Kernel3Ideal.Gen
open Cert.KernelIdeal.Body (rowOf colOf laneOf)

variable (m : (ℓ : Loc nD τ sig) → Buf (Elt Ideal) ℓ) (c : Dev nD)

/-! ## The blocks -/

theorem lt16 (t : Fin cfg0.N) : t.val < 16 := Nat.lt_of_lt_of_eq t.isLt N_0
/-- The group of heads of a grid point, -/
def gOf (t : Fin cfg0.N) : Fin 2 := ⟨t.val / 8, by have := lt16 t; omega⟩
/-- and its tile of queries. -/
def tOf (t : Fin cfg0.N) : Fin 8 := ⟨t.val % 8, by omega⟩
/-- A column of a group. -/
def colG (p : Fin 2) (k : Fin 256) : Fin 512 := ⟨256 * p.val + k.val, by omega⟩

theorem query_t (t : Fin cfg0.N) : queryOf (grid0.coords t) = tOf t := by
  have ht := lt16 t
  have e1 : (grid0.coords t 1).val = t.val / 1 % 8 := Pipeline.Grid.coords_val t 1 (by decide) rfl
  exact Fin.ext (by simp only [queryOf, tOf]; omega)

/-- The index maps. -/
theorem idx : ∀ t : Fin cfg0.N, win0_0.index t = ![t.val % 8, t.val / 8] ∧ win0_1.index t = ![0, t.val / 8] ∧ win0_2.index t = ![0, t.val / 8]
    ∧ win0_3.index t = ![t.val % 8, t.val / 8] ∧ win0_4.index t = ![t.val % 8, t.val / 8] ∧ win0_5.index t = ![t.val % 8, t.val / 8] :=
  (by decide +kernel : ∀ t : Fin grid0.N, _)

theorem block0 (t : Fin cfg0.N) (r k : Fin 512) : iblk m c 0 t (ix2 r k) = (V m c main_v47 : FVec Ideal S4096x1024 .bf16) (ix2 (rowOf (tOf t) r) (laneOf (gOf t) k)) := by
  blk_ext [iblk, idx t]
  all_goals (simp only [rowOf, laneOf, tOf, gOf]; try omega)
theorem block1 (t : Fin cfg0.N) (r : Fin 4096) (k : Fin 512) : iblk m c 1 t (ix2 r k) = (V m c main_v58 : FVec Ideal S4096x1024 .bf16) (ix2 r (laneOf (gOf t) k)) := by
  blk_ext [iblk, idx t]
  all_goals (simp only [rowOf, laneOf, tOf, gOf]; try omega)
theorem block2 (t : Fin cfg0.N) (r : Fin 4096) (k : Fin 512) : iblk m c 2 t (ix2 r k) = (V m c main_v65 : FVec Ideal S4096x1024 .bf16) (ix2 r (laneOf (gOf t) k)) := by
  blk_ext [iblk, idx t]
  all_goals (simp only [rowOf, laneOf, tOf, gOf]; try omega)
theorem block3 (t : Fin cfg0.N) (r : Fin 512) (k : Fin 256) : iblk m c 3 t (ix2 r k) = (V m c main_v4 : FVec Ideal S4096x512 .f32) (ix2 (rowOf (tOf t) r) (colG (gOf t) k)) := by
  blk_ext [iblk, idx t]
  all_goals (simp only [rowOf, colG, tOf, gOf]; try omega)

/-! ## The arrays -/

/-- The grid point of an element of a result, -/
def pt (s : Fin 4096) (k : Fin 512) : Fin cfg0.N := ⟨8 * (k.val / 256) + s.val / 512, by rw [show cfg0.N = 16 from N_0]; omega⟩
/-- its row within its tile, -/
def inTile (s : Fin 4096) : Fin 512 := ⟨s.val % 512, by omega⟩
/-- and its column within its group. -/
def inGroup (k : Fin 512) : Fin 256 := ⟨k.val % 256, by omega⟩
theorem row_pt (s : Fin 4096) (k : Fin 512) : rowOf (tOf (pt s k)) (inTile s) = s := Fin.ext (by simp only [rowOf, tOf, pt, inTile]; omega)
theorem col_pt (s : Fin 4096) (k : Fin 512) : colG (gOf (pt s k)) (inGroup k) = k := Fin.ext (by simp only [colG, gOf, pt, inGroup]; omega)

theorem pt_eq (s : Fin 4096) (k : Fin 512) (t : Fin cfg0.N) (a b : ℕ) (ha : a < 512) (hb : b < 256) (hs : s.val = t.val % 8 * 512 + a) (hk : k.val = t.val / 8 * 256 + b) : pt s k = t := by
  have ht := lt16 t
  exact Fin.ext (by show 8 * (k.val / 256) + s.val / 512 = t.val; omega)
theorem inTile_eq (s : Fin 4096) (n a : ℕ) (ha : a < 512) (hs : s.val = n * 512 + a) : (inTile s).val = a := by show s.val % 512 = a; omega
theorem inGroup_eq (k : Fin 512) (n b : ℕ) (hb : b < 256) (hk : k.val = n * 256 + b) : (inGroup k).val = b := by show k.val % 256 = b; omega

theorem arr4 : (dats m 0 c).arrAt 4 cfg0.N = fun y => (outsAt0 m c (pt (y 0) (y 1))).1 (ix2 (inTile (y 0)) (inGroup (y 1))) := by
  refine (dats m 0 c).arrAt_eq_of_covers 4 _ (by decide +kernel) fun t hf y => ?_
  have ht := lt16 t
  blk_simp
  rw [after0_4]
  have h0 : ((win0_4.blk t).view.emb y 0).val = t.val % 8 * 512 + (y 0).val := by blk_simp [idx t]
  have h1 : ((win0_4.blk t).view.emb y 1).val = t.val / 8 * 256 + (y 1).val := by blk_simp [idx t]
  idx_bounds y
  have e1 : pt ((win0_4.blk t).view.emb y 0) ((win0_4.blk t).view.emb y 1) = t := pt_eq _ _ t _ _ (y 0).isLt (y 1).isLt h0 h1
  have e2 : inTile ((win0_4.blk t).view.emb y 0) = y 0 := Fin.ext (inTile_eq _ _ _ (y 0).isLt h0)
  have e3 : inGroup ((win0_4.blk t).view.emb y 1) = y 1 := Fin.ext (inGroup_eq _ _ _ (y 1).isLt h1)
  rw [e1, e2, e3]
  refine congrArg _ ?_
  funext a
  fin_cases a <;> rfl

theorem arr5 : (dats m 0 c).arrAt 5 cfg0.N = fun y => (outsAt0 m c (pt (y 0) (y 1))).2.1 (ix2 (inTile (y 0)) (inGroup (y 1))) := by
  refine (dats m 0 c).arrAt_eq_of_covers 5 _ (by decide +kernel) fun t hf y => ?_
  have ht := lt16 t
  blk_simp
  rw [after0_5]
  have h0 : ((win0_5.blk t).view.emb y 0).val = t.val % 8 * 512 + (y 0).val := by blk_simp [idx t]
  have h1 : ((win0_5.blk t).view.emb y 1).val = t.val / 8 * 256 + (y 1).val := by blk_simp [idx t]
  idx_bounds y
  have e1 : pt ((win0_5.blk t).view.emb y 0) ((win0_5.blk t).view.emb y 1) = t := pt_eq _ _ t _ _ (y 0).isLt (y 1).isLt h0 h1
  have e2 : inTile ((win0_5.blk t).view.emb y 0) = y 0 := Fin.ext (inTile_eq _ _ _ (y 0).isLt h0)
  have e3 : inGroup ((win0_5.blk t).view.emb y 1) = y 1 := Fin.ext (inGroup_eq _ _ _ (y 1).isLt h1)
  rw [e1, e2, e3]
  refine congrArg _ ?_
  funext a
  fin_cases a <;> rfl

end Cert.Kernel3Ideal.Fwd
-- ==== Proof.Fwd.Results.lean ====
module

public import proofs.«01_k».proof.Proof.Fwd.Arrays

/-! # The forward kernel's results, in real numbers -/

@[expose] public section

set_option maxRecDepth 16384

noncomputable section

namespace Cert.Kernel3Ideal.Fwd

open Idealize.ShloMosaic Idealize.ShloMosaic.TcCoe Idealize.ShloMosaic.StableHlo Idealize.SL.Sem
open Cert.Kernel3Ideal Cert.Kernel3Ideal.Gen Cert.Reals
open Cert.KernelIdeal.Body (rowOf colOf laneOf)
open Cert.KernelIdeal.Prep (cumF headsOf flatOf minus threeOf keysOf valuesOf)
open Cert.KernelIdeal.Values (headAt flat_lane qs_real ks_real vs_real)

/-- The head of a column of a result, -/
def headN (n : Fin 512) : Fin 8 := ⟨n.val / 64, by omega⟩
/-- and its place within the head. -/
def dimN (n : Fin 512) : Fin 64 := ⟨n.val % 64, by omega⟩

variable (m : (ℓ : Loc nD τ sig) → Buf (Elt Ideal) ℓ) (c : Dev nD)

theorem head_pt (s : Fin 4096) (n : Fin 512) : headAt (gOf (pt s n)) (headIn (inGroup n)) = headN n :=
  Fin.ext (by simp only [headAt, gOf, pt, headIn, inGroup, headN]; omega)

/-! ## After the kernel -/

/-- The buffers when the kernel has ended. -/
abbrev atEnd : Valuation τ sig (Elt Ideal) := Pipeline.withArrays (cfgs 0).spec c (V0 m c) fun w => (dats m 0 c).arrAt w (cfgs 0).N

theorem tail_eq (b : Ref sig .tc) : Pipeline.afterTail₀ cfgs (dats m) 0 (V0 m) [hostOps1] c b = after hostOps1 (atEnd m c) (Proc.devRef .tc b) := by
  unfold Pipeline.afterTail₀
  simp only [List.flatten_cons, List.flatten_nil, List.append_nil]
theorem atEnd_0 : atEnd m c (Proc.devRef .tc main_v66_0) = (dats m 0 c).arrAt 4 cfg0.N :=
  Pipeline.withArrays_arr (cfgs 0).spec (by decide) c (V0 m c) (fun w => (dats m 0 c).arrAt w (cfgs 0).N) 4
theorem atEnd_1 : atEnd m c (Proc.devRef .tc main_v66_1) = (dats m 0 c).arrAt 5 cfg0.N :=
  Pipeline.withArrays_arr (cfgs 0).spec (by decide) c (V0 m c) (fun w => (dats m 0 c).arrAt w (cfgs 0).N) 5

/-- A result of the whole program. -/
abbrev res (b : Ref sig .tc) := after hostOps1 (atEnd m c) (Proc.devRef .tc b)

section
variable (W : Valuation τ sig (Elt Ideal))
theorem ops_v67 : after hostOps1 W (Proc.devRef .tc main_v67) = broadcastInDim S1x4096x512 ![1, 2] bcast_S4096x512_S1x4096x512_1_2 (W (Proc.devRef .tc main_v66_0) : FVec Ideal S4096x512 .f32) := by
  simp only [hostOps1]
  after_results_simp
  try rfl
theorem ops_v69 : after hostOps1 W (Proc.devRef .tc main_v69)
    = broadcastInDim S1x4096x512 ![1, 2] bcast_S4096x512_S1x4096x512_1_2 (extf .f32 (W (Proc.devRef .tc main_v66_1) : FVec Ideal S4096x512 .bf16) bitsLt_bf16_f32 : FVec Ideal S4096x512 .f32) := by
  simp only [hostOps1]
  after_results_simp
  try rfl
end

theorem lead (x : FVec Ideal S4096x512 .f32) (s : Fin 4096) (n : Fin 512) : broadcastInDim S1x4096x512 ![1, 2] bcast_S4096x512_S1x4096x512_1_2 x (ix3 0 s n) = x (ix2 s n) := by
  pointwise []
theorem lead' (x : FVec Ideal S4096x512 .bf16) (s : Fin 4096) (n : Fin 512) :
    broadcastInDim S1x4096x512 ![1, 2] bcast_S4096x512_S1x4096x512_1_2 (extf .f32 x bitsLt_bf16_f32) (ix3 0 s n) = x (ix2 s n) := by
  pointwise []

/-! ## At a grid point -/

/-- The blocks of the queries, the keys, the values and the gate. -/
def bq (t : Fin cfg0.N) : Vec Ideal S512x512 .bf16 := iblk m c 0 t
def bk (t : Fin cfg0.N) : Vec Ideal S4096x512 .bf16 := iblk m c 1 t
def bv (t : Fin cfg0.N) : Vec Ideal S4096x512 .bf16 := iblk m c 2 t
def bg (t : Fin cfg0.N) : Vec Ideal S512x256 .f32 := iblk m c 3 t
theorem bq_at (t : Fin cfg0.N) (r k : Fin 512) : bq m c t (ix2 r k) = (V m c main_v47 : FVec Ideal S4096x1024 .bf16) (ix2 (rowOf (tOf t) r) (laneOf (gOf t) k)) := block0 m c t r k
theorem bk_at (t : Fin cfg0.N) (r : Fin 4096) (k : Fin 512) : bk m c t (ix2 r k) = (V m c main_v58 : FVec Ideal S4096x1024 .bf16) (ix2 r (laneOf (gOf t) k)) := block1 m c t r k
theorem bv_at (t : Fin cfg0.N) (r : Fin 4096) (k : Fin 512) : bv m c t (ix2 r k) = (V m c main_v65 : FVec Ideal S4096x1024 .bf16) (ix2 r (laneOf (gOf t) k)) := block2 m c t r k
theorem bg_at (t : Fin cfg0.N) (r : Fin 512) (k : Fin 256) : bg m c t (ix2 r k) = (V m c main_v4 : FVec Ideal S4096x512 .f32) (ix2 (rowOf (tOf t) r) (colG (gOf t) k)) := block3 m c t r k

/-- A head's running sums after the last block of keys. -/
def acc (t : Fin cfg0.N) (h : Fin 4) : FVec Ideal S512x128 .f32 := sums c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (bq m c t) (bk m c t) (bv m c t) h

theorem outs_fst (t : Fin cfg0.N) : (outsAt0 m c t).1 = out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (bq m c t) (bk m c t) (bv m c t) (bg m c t) := by
  unfold outsAt0 bq bk bv bg
  rfl
theorem outs_snd (t : Fin cfg0.N) : (outsAt0 m c t).2.1 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (bq m c t) (bk m c t) (bv m c t) (bg m c t) := by
  unfold outsAt0 bq bk bv bg
  rfl
theorem at4 (t : Fin cfg0.N) (r : Fin 512) (k : Fin 256) : (outsAt0 m c t).1 (ix2 r k) = outH (acc m c t (headIn k)) r (laneIn k) := by
  rw [outs_fst, out4]
  rfl
theorem at5 (t : Fin cfg0.N) (r : Fin 512) (k : Fin 256) : (outsAt0 m c t).2.1 (ix2 r k) = outH (acc m c t (headIn k)) r (laneIn k) * (bg m c t (ix2 r k) * sg (bg m c t (ix2 r k))) := by
  rw [outs_snd, out5]
  rfl
theorem end4 (s : Fin 4096) (n : Fin 512) : (atEnd m c (Proc.devRef .tc main_v66_0) : FVec Ideal S4096x512 .f32) (ix2 s n) = (outsAt0 m c (pt s n)).1 (ix2 (inTile s) (inGroup n)) := by
  rw [atEnd_0, arr4]
  rfl
theorem end5 (s : Fin 4096) (n : Fin 512) : (atEnd m c (Proc.devRef .tc main_v66_1) : FVec Ideal S4096x512 .bf16) (ix2 s n) = (outsAt0 m c (pt s n)).2.1 (ix2 (inTile s) (inGroup n)) := by
  rw [atEnd_1, arr5]
  rfl

section
variable (Q K V' : Fin 8 → Fin 4096 → Fin 64 → ℝ) (F : Fin 8 → Fin 4096 → ℝ)
  (hq : ∀ h t d, argQ m c (ix3 h t d) = (Q h t d : EReal)) (hk : ∀ h t d, argK m c (ix3 h t d) = (K h t d : EReal))
  (hv : ∀ h t d, argV m c (ix3 h t d) = (V' h t d : EReal)) (hf : ∀ h t, cumF (argF m c) (ix2 h t) = (F h t : EReal))
include hq hk hv hf

omit hq hk hv hf in
/-- A head's output, of lanes that are these numbers. -/
theorem out_lanes (t : Fin cfg0.N) (h : Fin 4) (r : Fin 512) (H : Fin 8) (T : Fin 4096) (hT : rowOf (queryOf (grid0.coords t)) r = T)
    (x0 : Vec Ideal S512x512 .bf16) (x1 x2 : Vec Ideal S4096x512 .bf16)
    (h0 : ∀ l, x0 (ix2 r (colOf h l)) = ((qLanes Q H T l : ℝ) : EReal)) (h1 : ∀ s l, x1 (ix2 s (colOf h l)) = ((kLanes K F H s l : ℝ) : EReal))
    (h2 : ∀ s l, x2 (ix2 s (colOf h l)) = ((vLanes V' H s l : ℝ) : EReal)) (l : Fin 128) (hl : l.val < 64) :
    outH (sums c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 h) r l = ((∑ s, pr Q K F H T s * V' H s ⟨l.val, hl⟩ : ℝ) : EReal) := by
  have hL : ∀ s, ∑ l, x0 (ix2 r (colOf h l)) * x1 (ix2 s (colOf h l)) = ((lg Q K F H T s : ℝ) : EReal) := fun s => by
    rw [← lanes_lg, ← coe_sum]
    refine Finset.sum_congr rfl fun l _ => ?_
    rw [h0, h1, ← EReal.coe_mul, mul_comm]
  have h64 : ∀ s, vLanes V' H s ⟨64, by decide⟩ = 1 := fun s => by
    unfold vLanes
    rw [dif_neg (by decide), if_pos (by decide)]
  rw [out_real c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 h r (fun s => lg Q K F H T s) (fun s l => vLanes V' H s l) hL h2 h64 l, hT]
  refine congrArg (fun x : ℝ => (x : EReal)) ?_
  rw [Finset.sum_div]
  refine Finset.sum_congr rfl fun s _ => ?_
  unfold vLanes
  rw [dif_pos hl]
  unfold pr
  rw [div_mul_eq_mul_div]
  rfl

/-- One head's output at a grid point. -/
theorem head_real (t : Fin cfg0.N) (h : Fin 4) (r : Fin 512) (l : Fin 128) (hl : l.val < 64) :
    outH (acc m c t h) r l = ((∑ s, pr Q K F (headAt (gOf t) h) (rowOf (tOf t) r) s * V' (headAt (gOf t) h) s ⟨l.val, hl⟩ : ℝ) : EReal) := by
  refine out_lanes c Q K V' F t h r (headAt (gOf t) h) (rowOf (tOf t) r) (by rw [query_t]) _ _ _ (fun l => ?_) (fun s l => ?_) (fun s l => ?_) l hl
  · rw [bq_at, V_v47]
    exact (flat_lane _ _ h _ l).trans (qs_real _ Q hq _ _ _)
  · rw [bk_at, V_v58]
    exact (flat_lane _ _ h _ l).trans (ks_real _ _ K F hk hf _ _ _)
  · rw [bv_at, V_v65]
    exact (flat_lane _ _ h _ l).trans (vs_real _ V' hv _ _ _)

/-- The attention's output, at a row and a column. -/
theorem res_o (s : Fin 4096) (n : Fin 512) : (res m c main_v67 : FVec Ideal S1x4096x512 .f32) (ix3 0 s n)
    = ((∑ x, pr Q K F (headN n) s x * V' (headN n) x (dimN n) : ℝ) : EReal) := by
  refine (congrFun (ops_v67 (atEnd m c)) _).trans ((lead _ s n).trans ?_)
  refine ((end4 m c s n).trans (at4 m c (pt s n) (inTile s) (inGroup n))).trans ?_
  rw [head_real m c Q K V' F hq hk hv hf (pt s n) (headIn (inGroup n)) (inTile s) (laneIn (inGroup n)) (Nat.mod_lt _ (by decide)), head_pt, row_pt]
  have e : (⟨(laneIn (inGroup n)).val, Nat.mod_lt _ (by decide)⟩ : Fin 64) = dimN n := Fin.ext (by simp only [laneIn, inGroup, dimN]; omega)
  rw [e]

/-- Its product with the gate's activation. -/
theorem res_mb (s : Fin 4096) (n : Fin 512) : (res m c main_v69 : FVec Ideal S1x4096x512 .f32) (ix3 0 s n)
    = ((∑ x, pr Q K F (headN n) s x * V' (headN n) x (dimN n) : ℝ) : EReal) * (argG m c (ix2 s n) * sg (argG m c (ix2 s n))) := by
  refine (congrFun (ops_v69 (atEnd m c)) _).trans ((lead' _ s n).trans ?_)
  refine ((end5 m c s n).trans (at5 m c (pt s n) (inTile s) (inGroup n))).trans ?_
  rw [head_real m c Q K V' F hq hk hv hf (pt s n) (headIn (inGroup n)) (inTile s) (laneIn (inGroup n)) (Nat.mod_lt _ (by decide)), head_pt, row_pt, bg_at, V_v4, row_pt, col_pt]
  have e : (⟨(laneIn (inGroup n)).val, Nat.mod_lt _ (by decide)⟩ : Fin 64) = dimN n := Fin.ext (by simp only [laneIn, inGroup, dimN]; omega)
  rw [e]
end

end Cert.Kernel3Ideal.Fwd
-- ==== Proof.Fwd.Logs.lean ====
module

public import proofs.«01_k».proof.Proof.Fwd.Out

/-! # The log-sums a grid point of the forward kernel writes -/

@[expose] public section

set_option maxRecDepth 16384

noncomputable section

namespace Cert.Kernel3Ideal.Fwd

open Idealize.ShloMosaic Idealize.ShloMosaic.TcCoe Idealize.SL.Sem
open Cert.Kernel3Ideal Cert.Kernel3Ideal.Gen

/-- One of the two slabs, read at an element. -/
theorem slab_at {n : Nat} {e : EltTy} (p : Fin 2) (r : Fin 512) (l : Fin 128) (w : (⟨3, ![1, 512, 128]⟩ : Shape).Idx → Elt Ideal e) (v : Elt Ideal e)
    (h : p.val = n → w (ix3 0 r l) = v) :
    View.TileAt (S := ⟨3, ![2, 512, 128]⟩) (ix3 p r l) ![n, 0, 0] ![1, 512, 128] w v := by
  intro x hx
  have h0 : p.val = n + (x 0).val := hx 0
  have hz : (x 0).val < 1 := (x 0).isLt
  have hx' : x = ix3 0 r l := by
    funext a
    apply Fin.ext
    match a with
    | ⟨0, _⟩ => exact Nat.lt_one_iff.1 hz
    | ⟨1, _⟩ => exact ((hx 1).trans (Nat.zero_add _)).symm
    | ⟨2, _⟩ => exact ((hx 2).trans (Nat.zero_add _)).symm
  rw [hx']
  exact h (by omega)

/-- The first head of a slab, -/
def evenOf (p : Fin 2) : Fin 4 := ⟨2 * p.val, by omega⟩
/-- and the second. -/
def oddOf (p : Fin 2) : Fin 4 := ⟨2 * p.val + 1, by omega⟩

variable (c : Dev nD) (i : grid0.Coords)
  (arg2 : Memref sig .tc .vmem S512x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S512x256 .f32) (harg5 : arg5.IsWhole)
  (arg6 : Memref sig .tc .vmem S512x256 .f32) (harg6 : arg6.IsWhole)
  (arg7 : Memref sig .tc .vmem S512x256 .bf16) (harg7 : arg7.IsWhole)
  (arg8 : Memref sig .tc .vmem S2x512x128 .f32) (harg8 : arg8.IsWhole)
  (x0 : Vec Ideal S512x512 .bf16) (x1 x2 : Vec Ideal S4096x512 .bf16)

variable (x3 : Vec Ideal S512x256 .f32)

theorem out6 (p : Fin 2) (r : Fin 512) (l : Fin 128) : out0_A_6 c i arg2 harg2 arg3 harg3 arg4 harg4 arg5 harg5 arg6 harg6 arg7 harg7 arg8 harg8 x0 x1 x2 x3 (ix3 p r l)
    = twoLogs (tops c i arg2 harg2 arg3 harg3 arg4 harg4 arg5 harg5 arg6 harg6 arg7 harg7 arg8 harg8 x0 x1 x2 (evenOf p)) (tops c i arg2 harg2 arg3 harg3 arg4 harg4 arg5 harg5 arg6 harg6 arg7 harg7 arg8 harg8 x0 x1 x2 (oddOf p)) (sums c i arg2 harg2 arg3 harg3 arg4 harg4 arg5 harg5 arg6 harg6 arg7 harg7 arg8 harg8 x0 x1 x2 (evenOf p)) (sums c i arg2 harg2 arg3 harg3 arg4 harg4 arg5 harg5 arg6 harg6 arg7 harg7 arg8 harg8 x0 x1 x2 (oddOf p)) r l := by
  unfold out0_A_6
  rw [View.read_writes_eq_canon _ _ _ (cover0_A_6 c i arg2 harg2 arg3 harg3 arg4 harg4 arg5 harg5 arg6 harg6 arg7 harg7 arg8 harg8 x0 x1 x2 x3)]
  refine View.canon_eq_of_allAt _ _ _ (cover0_A_6 c i arg2 harg2 arg3 harg3 arg4 harg4 arg5 harg5 arg6 harg6 arg7 harg7 arg8 harg8 x0 x1 x2 x3 _) ?_
  unfold kernelRun0_A
  dsimp only
  refine View.allAt_cons_unit _ _ _ _ _ (slab_at p r l _ _ fun hp => ?_) ?_
  · obtain rfl : p = 1 := Fin.ext hp
    unfold kernelRun0_A.sl.r_25
    rw [head2, head3, top2, top3]
    exact logs1_at _ _ _ _ r l
  refine View.allAt_cons_unit _ _ _ _ _ (slab_at p r l _ _ fun hp => ?_) ?_
  · obtain rfl : p = 0 := Fin.ext hp
    unfold kernelRun0_A.sl.r_24
    rw [first0, head1, top0, top1]
    exact logs_at _ _ _ _ r l
  exact View.allAt_nil _ _

end Cert.Kernel3Ideal.Fwd
-- ==== Proof.Fwd.LogResults.lean ====
module

public import proofs.«01_k».proof.Proof.Fwd.Results
public import proofs.«01_k».proof.Proof.Fwd.Logs

/-! # The forward kernel's log-sums, in real numbers -/

@[expose] public section

set_option maxRecDepth 16384

noncomputable section

namespace Cert.Kernel3Ideal.Fwd

open Idealize.ShloMosaic Idealize.ShloMosaic.TcCoe Idealize.ShloMosaic.StableHlo Idealize.SL.Sem
open Cert.Kernel3Ideal Cert.Kernel3Ideal.Gen Cert.Reals
open Cert.KernelIdeal.Body (rowOf colOf laneOf)
open Cert.KernelIdeal.Prep (cumF headsOf flatOf minus threeOf keysOf valuesOf)
open Cert.KernelIdeal.Values (headAt flat_lane qs_real ks_real vs_real)

variable (m : (ℓ : Loc nD τ sig) → Buf (Elt Ideal) ℓ) (c : Dev nD)

/-! ## The array -/

theorem idx6 : ∀ t : Fin cfg0.N, win0_6.index t = ![t.val / 8, t.val % 8, 0] := (by decide +kernel : ∀ t : Fin grid0.N, _)

/-- The grid point of an element of the log-sums, -/
def ptL (a : Fin 4) (s : Fin 4096) : Fin cfg0.N := ⟨8 * (a.val / 2) + s.val / 512, by rw [show cfg0.N = 16 from N_0]; omega⟩
/-- and its slab within its group. -/
def inPair (a : Fin 4) : Fin 2 := ⟨a.val % 2, by omega⟩
theorem row_ptL (a : Fin 4) (s : Fin 4096) : rowOf (tOf (ptL a s)) (inTile s) = s := Fin.ext (by simp only [rowOf, tOf, ptL, inTile]; omega)

theorem ptL_eq (a : Fin 4) (s : Fin 4096) (t : Fin cfg0.N) (x y : ℕ) (hx : x < 2) (hy : y < 512) (ha : a.val = t.val / 8 * 2 + x) (hs : s.val = t.val % 8 * 512 + y) : ptL a s = t := by
  have ht := lt16 t
  exact Fin.ext (by show 8 * (a.val / 2) + s.val / 512 = t.val; omega)
theorem inPair_eq (a : Fin 4) (n x : ℕ) (hx : x < 2) (ha : a.val = n * 2 + x) : (inPair a).val = x := by show a.val % 2 = x; omega

theorem arr6 : (dats m 0 c).arrAt 6 cfg0.N = fun y => (outsAt0 m c (ptL (y 0) (y 1))).2.2 (ix3 (inPair (y 0)) (inTile (y 1)) (y 2)) := by
  refine (dats m 0 c).arrAt_eq_of_covers 6 _ (by decide +kernel) fun t hf y => ?_
  have ht := lt16 t
  blk_simp
  rw [after0_6]
  have h0 : ((win0_6.blk t).view.emb y 0).val = t.val / 8 * 2 + (y 0).val := by blk_simp [idx6 t]
  have h1 : ((win0_6.blk t).view.emb y 1).val = t.val % 8 * 512 + (y 1).val := by blk_simp [idx6 t]
  have h2 : ((win0_6.blk t).view.emb y 2).val = (y 2).val := by blk_simp [idx6 t]
  idx_bounds y
  have e1 : ptL ((win0_6.blk t).view.emb y 0) ((win0_6.blk t).view.emb y 1) = t := ptL_eq _ _ t _ _ (y 0).isLt (y 1).isLt h0 h1
  have e2 : inPair ((win0_6.blk t).view.emb y 0) = y 0 := Fin.ext (inPair_eq _ _ _ (y 0).isLt h0)
  have e3 : inTile ((win0_6.blk t).view.emb y 1) = y 1 := Fin.ext (inTile_eq _ _ _ (y 1).isLt h1)
  have e4 : (win0_6.blk t).view.emb y 2 = y 2 := Fin.ext h2
  rw [e1, e2, e3, e4]
  refine congrArg _ ?_
  funext a
  fin_cases a <;> rfl

theorem atEnd_2 : atEnd m c (Proc.devRef .tc main_v66_2) = (dats m 0 c).arrAt 6 cfg0.N :=
  Pipeline.withArrays_arr (cfgs 0).spec (by decide) c (V0 m c) (fun w => (dats m 0 c).arrAt w (cfgs 0).N) 6

/-! ## After the kernel -/

/-- The two used lanes of each pair, head after head. -/
def perHead (x : FVec Ideal S4x4096x128 .f32) : FVec Ideal S1x8x4096 .f32 :=
  broadcastInDim S1x8x4096 ![1, 2] bcast_S8x4096_S1x8x4096_1_2 (shapeCast S8x4096 (transpose S4x2x4096 [0, 2, 1] (extractStridedSlice S4x4096x2 ![0, 0, 0] x slices_S4x4096x128_S4x4096x2_0_0_0) transposes_S4x4096x2_S4x2x4096_0_2_1) shapeCasts_S4x2x4096_S8x4096)

theorem ops_v73 (W : Valuation τ sig (Elt Ideal)) : after hostOps1 W (Proc.devRef .tc main_v73) = perHead (W (Proc.devRef .tc main_v66_2) : FVec Ideal S4x4096x128 .f32) := by
  simp only [hostOps1]
  after_results_simp
  try rfl

/-- The pair of a head, -/
def pairOf (h : Fin 8) : Fin 4 := ⟨h.val / 2, by omega⟩
/-- and its lane there. -/
def whichOf (h : Fin 8) : Fin 128 := ⟨h.val % 2, by omega⟩

theorem perHead_at (x : FVec Ideal S4x4096x128 .f32) (h : Fin 8) (s : Fin 4096) : perHead x (ix3 0 h s) = x (ix3 (pairOf h) s (whichOf h)) := by
  pointwise [perHead]
  refine congrArg x ?_
  funext a
  refine Fin.ext ?_
  fin_cases a <;> simp [pairOf, whichOf] <;> omega

/-! ## At a grid point -/

/-- A head's maximum after the last block of keys. -/
def accTop (t : Fin cfg0.N) (h : Fin 4) : FVec Ideal S512x1 .f32 := tops c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (bq m c t) (bk m c t) (bv m c t) h

theorem outs_third (t : Fin cfg0.N) : (outsAt0 m c t).2.2 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (bq m c t) (bk m c t) (bv m c t) (bg m c t) := by
  unfold outsAt0 bq bk bv bg
  dsimp only
theorem at6 (t : Fin cfg0.N) (p : Fin 2) (r : Fin 512) (l : Fin 128) : (outsAt0 m c t).2.2 (ix3 p r l)
    = twoLogs (accTop m c t (evenOf p)) (accTop m c t (oddOf p)) (acc m c t (evenOf p)) (acc m c t (oddOf p)) r l := by
  rw [outs_third, out6]
  rfl
theorem end6 (a : Fin 4) (s : Fin 4096) (l : Fin 128) : (atEnd m c (Proc.devRef .tc main_v66_2) : FVec Ideal S4x4096x128 .f32) (ix3 a s l) = (outsAt0 m c (ptL a s)).2.2 (ix3 (inPair a) (inTile s) l) := by
  rw [atEnd_2, arr6]
  rfl

/-- The log-sum of a head is the one at its own place in its pair. -/
theorem two_which (M : Fin 4 → FVec Ideal S512x1 .f32) (A : Fin 4 → FVec Ideal S512x128 .f32) (h : Fin 8) (r : Fin 512) :
    twoLogs (M (evenOf (inPair (pairOf h)))) (M (oddOf (inPair (pairOf h)))) (A (evenOf (inPair (pairOf h)))) (A (oddOf (inPair (pairOf h)))) r (whichOf h)
      = logH (M ⟨h.val % 4, by omega⟩) (A ⟨h.val % 4, by omega⟩) r := by
  unfold twoLogs
  have hw : (whichOf h).val = h.val % 2 := rfl
  by_cases e : h.val % 2 = 1
  · have e1 : oddOf (inPair (pairOf h)) = ⟨h.val % 4, by omega⟩ := Fin.ext (by simp only [oddOf, inPair, pairOf]; omega)
    rw [if_pos (hw.trans e), e1]
  · have e1 : evenOf (inPair (pairOf h)) = ⟨h.val % 4, by omega⟩ := Fin.ext (by simp only [evenOf, inPair, pairOf]; omega)
    rw [if_neg (fun x => e (hw.symm.trans x)), if_pos (by rw [hw]; omega), e1]

theorem head_ptL (h : Fin 8) (s : Fin 4096) : headAt (gOf (ptL (pairOf h) s)) ⟨h.val % 4, by omega⟩ = h :=
  Fin.ext (by simp only [headAt, gOf, ptL, pairOf]; omega)

section
variable (Q K V' : Fin 8 → Fin 4096 → Fin 64 → ℝ) (F : Fin 8 → Fin 4096 → ℝ)
  (hq : ∀ h t d, argQ m c (ix3 h t d) = (Q h t d : EReal)) (hk : ∀ h t d, argK m c (ix3 h t d) = (K h t d : EReal))
  (hv : ∀ h t d, argV m c (ix3 h t d) = (V' h t d : EReal)) (hf : ∀ h t, cumF (argF m c) (ix2 h t) = (F h t : EReal))
include hq hk hv hf

omit hq hk hv hf in
/-- A head's log-sum, of lanes that are these numbers. -/
theorem log_lanes (t : Fin cfg0.N) (h : Fin 4) (r : Fin 512) (H : Fin 8) (T : Fin 4096) (hT : rowOf (queryOf (grid0.coords t)) r = T)
    (x0 : Vec Ideal S512x512 .bf16) (x1 x2 : Vec Ideal S4096x512 .bf16)
    (h0 : ∀ l, x0 (ix2 r (colOf h l)) = ((qLanes Q H T l : ℝ) : EReal)) (h1 : ∀ s l, x1 (ix2 s (colOf h l)) = ((kLanes K F H s l : ℝ) : EReal))
    (h2 : ∀ s l, x2 (ix2 s (colOf h l)) = ((vLanes V' H s l : ℝ) : EReal)) :
    logH (tops c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 h) (sums c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 h) r = ((Real.log (sm Q K F H T) : ℝ) : EReal) := by
  have hL : ∀ s, ∑ l, x0 (ix2 r (colOf h l)) * x1 (ix2 s (colOf h l)) = ((lg Q K F H T s : ℝ) : EReal) := fun s => by
    rw [← lanes_lg, ← coe_sum]
    refine Finset.sum_congr rfl fun l _ => ?_
    rw [h0, h1, ← EReal.coe_mul, mul_comm]
  have h64 : ∀ s, vLanes V' H s ⟨64, by decide⟩ = 1 := fun s => by
    unfold vLanes
    rw [dif_neg (by decide), if_pos (by decide)]
  rw [log_real c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 h r (fun s => lg Q K F H T s) (fun s l => vLanes V' H s l) hL h2 h64, hT]
  rfl

/-- One head's log-sum at a grid point. -/
theorem head_log (t : Fin cfg0.N) (h : Fin 4) (r : Fin 512) :
    logH (accTop m c t h) (acc m c t h) r = ((Real.log (sm Q K F (headAt (gOf t) h) (rowOf (tOf t) r)) : ℝ) : EReal) := by
  refine log_lanes c Q K V' F t h r (headAt (gOf t) h) (rowOf (tOf t) r) (by rw [query_t]) _ _ _ (fun l => ?_) (fun s l => ?_) (fun s l => ?_)
  · rw [bq_at, V_v47]
    exact (flat_lane _ _ h _ l).trans (qs_real _ Q hq _ _ _)
  · rw [bk_at, V_v58]
    exact (flat_lane _ _ h _ l).trans (ks_real _ _ K F hk hf _ _ _)
  · rw [bv_at, V_v65]
    exact (flat_lane _ _ h _ l).trans (vs_real _ V' hv _ _ _)

/-- The log-sums, at a head and a query. -/
theorem res_r (h : Fin 8) (s : Fin 4096) : (res m c main_v73 : FVec Ideal S1x8x4096 .f32) (ix3 0 h s) = ((Real.log (sm Q K F h s) : ℝ) : EReal) := by
  refine (congrFun (ops_v73 (atEnd m c)) _).trans ((perHead_at _ h s).trans ?_)
  refine ((end6 m c (pairOf h) s (whichOf h)).trans (at6 m c (ptL (pairOf h) s) (inPair (pairOf h)) (inTile s) (whichOf h))).trans ?_
  refine (two_which (accTop m c (ptL (pairOf h) s)) (acc m c (ptL (pairOf h) s)) h (inTile s)).trans ?_
  rw [head_log m c Q K V' F hq hk hv hf, head_ptL, row_ptL]
end

end Cert.Kernel3Ideal.Fwd
-- ==== Proof.Fwd.Close.lean ====
module

public import proofs.«01_k».proof.Proof.Fwd.LogResults
public import proofs.«01_k».proof.Proof.Fwd.Plain
public import proofs.«01_k».proof.Proof.Body.Final
public import proofs.«01_k».proof.Proof.Body.Finite
public import proofs.«01_k».proof.Proof.Gen.Pre_finite3
public import proofs.«01_k».proof.Defs
public import Idealize.ShloMosaic.Lib.ReduceAll

/-! # The forward kernel and its reference leave the same results -/

@[expose] public section

set_option maxRecDepth 16384

noncomputable section

namespace Cert.FwdFinal

open Idealize.ShloMosaic Idealize.ShloMosaic.TcCoe Idealize.SL.Sem
open Cert.Reals
open Cert.Kernel3Ideal.Fwd (headN dimN weights_pos)
open Cert.Reference3Ideal.Plain (eta8)

/-! ## The reference in real numbers -/

section Reference

open Cert.Reference3Ideal Cert.Reference3Ideal.Plain Cert.ReferenceIdeal.Values

variable (q k v : FVec Ideal S1x8x4096x64 .f32) (f : FVec Ideal S1x8x4096 .f32)
variable (Q K V : Fin 8 → Fin 4096 → Fin 64 → ℝ) (F : Fin 8 → Fin 4096 → ℝ)
  (hq : ∀ h t d, q (ix4 0 h t d) = (Q h t d : EReal)) (hk : ∀ h t d, k (ix4 0 h t d) = (K h t d : EReal))
  (hv : ∀ h t d, v (ix4 0 h t d) = (V h t d : EReal)) (hf : ∀ h t, Cert.ReferenceIdeal.Steps.cumR f (ix3 0 h t) = (F h t : EReal))
include hq hk hv hf

theorem attention_real (s : Fin 4096) (n : Fin 512) :
    beside (weighted (probs q k f) v) (ix3 0 s n) = ((∑ x, pr Q K F (headN n) s x * V (headN n) x (dimN n) : ℝ) : EReal) := by
  have hl := logits_real _ _ _ Q K F hq hk hf
  obtain ⟨M, hM⟩ := max_real Q K F _ hl
  have he := exp_real Q K F M _ _ hl hM
  have hz := sum_real Q K F M _ he
  have hp := prob_real Q K F M _ _ he hz
  rw [beside_at _ s (headN n) (dimN n) n (by simp only [headN, dimN]; omega), weighted_at, ← coe_sum]
  refine Finset.sum_congr rfl fun x _ => ?_
  rw [hv, EReal.coe_mul]
  exact congrArg (· * (V (headN n) x (dimN n) : EReal)) (hp _ _ _)

omit hv in
theorem logSums_real (h : Fin 8) (t : Fin 4096) : logSums q k f (ix3 0 h t) = ((Real.log (sm Q K F h t) : ℝ) : EReal) := by
  have hl := logits_real _ _ _ Q K F hq hk hf
  obtain ⟨M, hM⟩ := max_real Q K F _ hl
  have he := exp_real Q K F M _ _ hl hM
  have hz := sum_real Q K F M _ he
  have hp : 0 < sm Q K F h t := weights_pos (fun s => lg Q K F h t s) t
  have hE := Real.exp_pos (F h t - M h t)
  refine (logSums_at q k f h t).trans ?_
  rw [hM, hf]
  refine (congrArg (fun x => (M h t : EReal) + Ideal.log x - (F h t : EReal)) (hz h t)).trans ?_
  rw [Ideal.log_coe, if_neg (not_le.2 (mul_pos hp hE)), Real.log_mul hp.ne' hE.ne', Real.log_exp, ← EReal.coe_add, ← EReal.coe_sub]
  congr 1
  ring

end Reference

/-! ## The precondition -/

section Precondition

open Cert.Pre_finite3

/-- What the precondition says of the arguments: every element of q, k, v and the log gates is a real number. -/
theorem reals [Facts] (q k v : FVec Ideal S1x8x4096x64 .f32) (f : FVec Ideal S1x8x4096 .f32) (g : FVec Ideal S1x4096x512 .f32) (e : fn (F := Ideal) q k v f g = fun _ => 1#1) :
    (∀ i, ∃ r : ℝ, q i = (r : EReal)) ∧ (∀ i, ∃ r : ℝ, k i = (r : EReal)) ∧ (∀ i, ∃ r : ℝ, v i = (r : EReal)) ∧ (∀ i, ∃ r : ℝ, f i = (r : EReal)) := by
  have e0 : fn (F := Ideal) q k v f g ix0 = 1#1 := congrFun e ix0
  unfold fn fn_part1 at e0
  dsimp only at e0
  obtain ⟨e2, ef⟩ := Cert.Finite.both _ _ e0
  obtain ⟨e3, ev⟩ := Cert.Finite.both _ _ e2
  obtain ⟨eq, ek⟩ := Cert.Finite.both _ _ e3
  exact ⟨fun i => Cert.Finite.real_of_below _ (Host.reduce_andi_all _ _ _ _ _ eq i), fun i => Cert.Finite.real_of_below _ (Host.reduce_andi_all _ _ _ _ _ ek i),
    fun i => Cert.Finite.real_of_below _ (Host.reduce_andi_all _ _ _ _ _ ev i), fun i => Cert.Finite.real_of_below _ (Host.reduce_andi_all _ _ _ _ _ ef i)⟩

end Precondition

/-! ## Together -/

section

open Cert.Kernel3Ideal Cert.Kernel3Ideal.Gen Cert.Kernel3Ideal.Fwd

theorem drop3 (x : FVec Ideal S1x4096x512 .f32) (s : Fin 4096) (n : Fin 512) :
    shapeCast S4096x512 x shapeCasts_S1x4096x512_S4096x512 (ix2 s n) = x (ix3 0 s n) := by
  pointwise []
theorem eta (y : Shape.Idx ⟨3, ![1, 4096, 512]⟩) : y = ix3 (0 : Fin 1) (y 1 : Fin 4096) (y 2 : Fin 512) := by
  funext a
  match a with
  | ⟨0, _⟩ => exact Subsingleton.elim (α := Fin 1) _ _
  | ⟨1, _⟩ => rfl
  | ⟨2, _⟩ => rfl

/-- What the kernel's program leaves in a buffer. -/
abbrev kEnd (m : (ℓ : Loc nD τ sig) → Buf (Elt Ideal) ℓ) (c : Dev nD) (b : Ref sig .tc) := Pipeline.afterTail₀ cfgs (dats m) 0 (V0 m) [hostOps1] c b

/-- On real arguments the kernel's program and the reference leave the same output, ungated and gated, and the same log-sums. -/
theorem results_equal : Cert.algebraic_Kernel3Ideal_Reference3Ideal_pre_finite3 := by
  intro m g m' g' hpre hargs
  have key : ∀ c : Dev nD,
      (kEnd m c main_v67 : FVec Ideal S1x4096x512 .f32) = Cert.Reference3Ideal.Value.res_out0 m' c
      ∧ (kEnd m c main_v69 : FVec Ideal S1x4096x512 .f32) = Cert.Reference3Ideal.Value.res_out1 m' c
      ∧ (kEnd m c main_v73 : FVec Ideal S1x8x4096 .f32) = Cert.Reference3Ideal.Value.res_out2 m' c := by
    intro c
    obtain ⟨hq, hk, hv, hf⟩ := reals _ _ _ _ _ (hpre c)
    obtain ⟨e0, e1, e2, e3, e4⟩ := hargs c
    choose Q hQ using fun h t d => hq (ix4 0 h t d)
    choose K hK using fun h t d => hk (ix4 0 h t d)
    choose V hV using fun h t d => hv (ix4 0 h t d)
    choose f hF0 using fun h t => hf (ix3 0 h t)
    choose F hF using fun h t => Cert.Running.runs_real 4095 (f h) t
    have kq : ∀ h t d, argQ m c (ix3 h t d) = (Q h t d : EReal) := fun h t d => (Cert.Final.drop4 _ h t d).trans (hQ h t d)
    have kk : ∀ h t d, argK m c (ix3 h t d) = (K h t d : EReal) := fun h t d => (Cert.Final.drop4 _ h t d).trans (hK h t d)
    have kv : ∀ h t d, argV m c (ix3 h t d) = (V h t d : EReal) := fun h t d => (Cert.Final.drop4 _ h t d).trans (hV h t d)
    have kf : ∀ h t, Cert.KernelIdeal.Prep.cumF (argF m c) (ix2 h t) = (F h t : EReal) := fun h t => by
      rw [Cert.Running.cumF_at, ← hF]
      exact congrArg (fun x => Cert.Running.runs 4095 x t) (funext fun s => (Cert.Final.drop3 _ h s).trans (hF0 h s))
    have rf : ∀ h t, Cert.ReferenceIdeal.Steps.cumR (m' ((c.tc : Thread nD Cert.Reference3Ideal.τ).loc Cert.Reference3Ideal.main_arg3)) (ix3 0 h t) = (F h t : EReal) := fun h t => by
      rw [Cert.Running.cumR_at, ← hF]
      exact congrArg (fun x => Cert.Running.runs 4095 x t) (funext fun s => (congrFun e3 _).trans (hF0 h s))
    have ref := attention_real _ _ _ _ Q K V F (fun h t d => (congrFun e0 _).trans (hQ h t d)) (fun h t d => (congrFun e1 _).trans (hK h t d))
      (fun h t d => (congrFun e2 _).trans (hV h t d)) rf
    refine ⟨funext fun y => ?_, funext fun y => ?_, funext fun y => ?_⟩
    · rw [eta y, Cert.Reference3Ideal.Plain.out0]
      exact (congrFun (tail_eq m c _) _).trans ((res_o m c Q K V F kq kk kv kf _ _).trans (ref _ _).symm)
    · rw [eta y, Cert.Reference3Ideal.Plain.out1]
      refine (congrFun (tail_eq m c _) _).trans ((res_mb m c Q K V F kq kk kv kf _ _).trans ?_)
      refine Eq.symm ((congrArg₂ (fun a b : EReal => a * b) (ref (y 1) (y 2)) (Cert.Reference3Ideal.Plain.silu_at _ (y 1) (y 2))).trans ?_)
      rw [e4, show argG m c (ix2 (y 1 : Fin 4096) (y 2 : Fin 512)) = _ from drop3 _ _ _]
      unfold sg
      rw [zero_sub]
    · rw [eta8 y, Cert.Reference3Ideal.Plain.out2]
      exact (congrFun (tail_eq m c _) _).trans ((res_r m c Q K V F kq kk kv kf _ _).trans (logSums_real _ _ _ Q K F
        (fun h t d => (congrFun e0 _).trans (hQ h t d)) (fun h t d => (congrFun e1 _).trans (hK h t d)) rf _ _).symm)
  refine ⟨fun c => Cert.Reference3Ideal.Value.res_out0 m' c, fun c => Cert.Reference3Ideal.Value.res_out1 m' c, fun c => Cert.Reference3Ideal.Value.res_out2 m' c, ?_, Cert.Reference3Ideal.Value.run m' g'⟩
  refine (θ_run Cert.Kernel3Ideal.defs _ _).mono (fun r h c => ?_) (θ_run_and (run_main m g) (Cert.Kernel3Ideal.Gen.frame m g))
  exact ⟨(h.1.rest_eq c main_v67 (by decide)).trans (key c).1, (h.1.rest_eq c main_v69 (by decide)).trans (key c).2.1, (h.1.rest_eq c main_v73 (by decide)).trans (key c).2.2, h.2.1 c⟩

end

end Cert.FwdFinal
-- ==== Proof.lean ====
module

public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_finite2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_finite3
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Body.Machine
public import proofs.«01_k».proof.Proof.Body.Ends
public import proofs.«01_k».proof.Proof.Body.Final
public import proofs.«01_k».proof.Proof.Head.Plain
public import proofs.«01_k».proof.Proof.Head.Close
public import proofs.«01_k».proof.Proof.Fwd.Plain
public import proofs.«01_k».proof.Proof.Fwd.Close
public import Idealize.ShloMosaic.Adequacy
public import Idealize.ShloMosaic.Init

@[expose] public section

noncomputable section

namespace Cert.Proof

open Idealize.ShloMosaic Idealize.SL.Sem Cert.Kernel

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts, Cert.Pre_finite2.Gen.facts, Cert.Pre_finite3.Gen.facts,
  fun m g _ => Cert.Kernel.Body.ends_unchanged m g,
  fun m g _ => Cert.KernelIdeal.Body.ends_unchanged m g,
  fun m g _ => Cert.KernelIdeal.Body.ends_unchanged m g,
  fun m g _ => Cert.Ends.reference_ends m g,
  fun m g _ => Cert.Ends.reference_ends m g,
  fun m g _ => Cert.Kernel2.Gen.frame m g,
  fun m g _ => Cert.Kernel2Ideal.Gen.frame m g,
  fun m g _ => Cert.Kernel2Ideal.Gen.frame m g,
  fun m g _ => Cert.Reference2Ideal.Plain.ends m g,
  fun m g _ => Cert.Reference2Ideal.Plain.ends m g,
  fun m g _ => Cert.Kernel3.Gen.frame m g,
  fun m g _ => Cert.Kernel3Ideal.Gen.frame m g,
  fun m g _ => Cert.Kernel3Ideal.Gen.frame m g,
  fun m g _ => Cert.Reference3Ideal.Plain.ends m g,
  fun m g _ => Cert.Reference3Ideal.Plain.ends m g,
  IdealRules.named_const.statement Cert.KernelIdeal.κ "mask" .f32 0xF149F2CA#32 ⊥ rfl,
  Cert.Final.results_equal,
  trivial,
  Cert.HeadFinal.results_equal,
  IdealRules.named_const.statement Cert.Kernel3Ideal.κ "mask" .f32 0xF149F2CA#32 ⊥ rfl,
  Cert.FwdFinal.results_equal⟩

end Cert.Proof

end
